-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)
  ∧ IdealRules.named_const.Statement Cert.KernelIdeal.κ "scale2" .f32 0x3E0293EE#32 (((Real.sqrt 128)⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v32)) (v1 : (c : Dev Cert.Kernel2Ideal.nD) → Buf (Elt Ideal) ((c.tc : Thread Cert.Kernel2Ideal.nD Cert.Kernel2Ideal.τ).loc Cert.Kernel2Ideal.main_v33)) (v2 : (c : Dev Cert.Kernel2Ideal.nD) → Buf (Elt Ideal) ((c.tc : Thread Cert.Kernel2Ideal.nD Cert.Kernel2Ideal.τ).loc Cert.Kernel2Ideal.main_v34)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v32) = v0 c
          ∧ r.2.mem ((c.tc : Thread Cert.Kernel2Ideal.nD Cert.Kernel2Ideal.τ).loc Cert.Kernel2Ideal.main_v33) = v1 c
          ∧ r.2.mem ((c.tc : Thread Cert.Kernel2Ideal.nD Cert.Kernel2Ideal.τ).loc Cert.Kernel2Ideal.main_v34) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v113) = v0 c
          ∧ r.2.mem ((c.tc : Thread Cert.Reference2Ideal.nD Cert.Reference2Ideal.τ).loc Cert.Reference2Ideal.main_v114) = v1 c
          ∧ r.2.mem ((c.tc : Thread Cert.Reference2Ideal.nD Cert.Reference2Ideal.τ).loc Cert.Reference2Ideal.main_v115) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v62_0)) (v1 : (c : Dev Cert.Kernel3Ideal.nD) → Buf (Elt Ideal) ((c.tc : Thread Cert.Kernel3Ideal.nD Cert.Kernel3Ideal.τ).loc Cert.Kernel3Ideal.main_v62_1)) (v2 : (c : Dev Cert.Kernel3Ideal.nD) → Buf (Elt Ideal) ((c.tc : Thread Cert.Kernel3Ideal.nD Cert.Kernel3Ideal.τ).loc Cert.Kernel3Ideal.main_v63_0)) (v3 : (c : Dev Cert.Kernel3Ideal.nD) → Buf (Elt Ideal) ((c.tc : Thread Cert.Kernel3Ideal.nD Cert.Kernel3Ideal.τ).loc Cert.Kernel3Ideal.main_v67)) (v4 : (c : Dev Cert.Kernel3Ideal.nD) → Buf (Elt Ideal) ((c.tc : Thread Cert.Kernel3Ideal.nD Cert.Kernel3Ideal.τ).loc Cert.Kernel3Ideal.main_v66)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v62_0) = v0 c
          ∧ r.2.mem ((c.tc : Thread Cert.Kernel3Ideal.nD Cert.Kernel3Ideal.τ).loc Cert.Kernel3Ideal.main_v62_1) = v1 c
          ∧ r.2.mem ((c.tc : Thread Cert.Kernel3Ideal.nD Cert.Kernel3Ideal.τ).loc Cert.Kernel3Ideal.main_v63_0) = v2 c
          ∧ r.2.mem ((c.tc : Thread Cert.Kernel3Ideal.nD Cert.Kernel3Ideal.τ).loc Cert.Kernel3Ideal.main_v67) = v3 c
          ∧ r.2.mem ((c.tc : Thread Cert.Kernel3Ideal.nD Cert.Kernel3Ideal.τ).loc Cert.Kernel3Ideal.main_v66) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v48) = v0 c
          ∧ r.2.mem ((c.tc : Thread Cert.Reference3Ideal.nD Cert.Reference3Ideal.τ).loc Cert.Reference3Ideal.main_v49) = v1 c
          ∧ r.2.mem ((c.tc : Thread Cert.Reference3Ideal.nD Cert.Reference3Ideal.τ).loc Cert.Reference3Ideal.main_v50) = v2 c
          ∧ r.2.mem ((c.tc : Thread Cert.Reference3Ideal.nD Cert.Reference3Ideal.τ).loc Cert.Reference3Ideal.main_v51) = v3 c
          ∧ r.2.mem ((c.tc : Thread Cert.Reference3Ideal.nD Cert.Reference3Ideal.τ).loc Cert.Reference3Ideal.main_v52) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v9)) (v1 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_v10) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_v16) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v64_0)) (v1 : (c : Dev Cert.Kernel5Ideal.nD) → Buf (Elt Ideal) ((c.tc : Thread Cert.Kernel5Ideal.nD Cert.Kernel5Ideal.τ).loc Cert.Kernel5Ideal.main_v65)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v64_0) = v0 c
          ∧ r.2.mem ((c.tc : Thread Cert.Kernel5Ideal.nD Cert.Kernel5Ideal.τ).loc Cert.Kernel5Ideal.main_v65) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v48) = v0 c
          ∧ r.2.mem ((c.tc : Thread Cert.Reference5Ideal.nD Cert.Reference5Ideal.τ).loc Cert.Reference5Ideal.main_v47) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S2x4096x8x128 : Shape := ⟨4, ![2, 4096, 8, 128]⟩
abbrev S2x4096x2x8x128 : Shape := ⟨5, ![2, 4096, 2, 8, 128]⟩
abbrev S2x4096x8 : Shape := ⟨3, ![2, 4096, 8]⟩
abbrev S8192x8 : Shape := ⟨2, ![8192, 8]⟩
abbrev S_ : Shape := ⟨0, ![]⟩
abbrev S8192x128 : Shape := ⟨2, ![8192, 128]⟩
abbrev S2x8x4096 : Shape := ⟨3, ![2, 8, 4096]⟩
abbrev S8192x1024 : Shape := ⟨2, ![8192, 1024]⟩
abbrev S8192x2048 : Shape := ⟨2, ![8192, 2048]⟩
abbrev S512x1024 : Shape := ⟨2, ![512, 1024]⟩
abbrev S512x128 : Shape := ⟨2, ![512, 128]⟩
abbrev S1x8x512 : Shape := ⟨3, ![1, 8, 512]⟩
abbrev S8x512x128 : Shape := ⟨3, ![8, 512, 128]⟩
abbrev S512x1 : Shape := ⟨2, ![512, 1]⟩
abbrev S1x512x128 : Shape := ⟨3, ![1, 512, 128]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩

abbrev nBuf : Space → Nat
  | .hbm => 13
  | .vmem => 16
  | .smem => 0
  | _ => 0

abbrev bufTy : (tb : Table) → Fin (tcTables nBuf tb) → BufTy
  | .hbm, ⟨0, _⟩ => ⟨S2x4096x8x128, .f32⟩
  | .hbm, ⟨1, _⟩ => ⟨S2x4096x2x8x128, .f32⟩
  | .hbm, ⟨2, _⟩ => ⟨S2x4096x8, .f32⟩
  | .hbm, ⟨3, _⟩ => ⟨S8192x8, .f32⟩
  | .hbm, ⟨4, _⟩ => ⟨S_, .i32⟩
  | .hbm, ⟨5, _⟩ => ⟨S_, .f32⟩
  | .hbm, ⟨6, _⟩ => ⟨S8192x128, .f32⟩
  | .hbm, ⟨7, _⟩ => ⟨S8192x8, .f32⟩
  | .hbm, ⟨8, _⟩ => ⟨S2x4096x8, .f32⟩
  | .hbm, ⟨9, _⟩ => ⟨S2x8x4096, .f32⟩
  | .hbm, ⟨10, _⟩ => ⟨S8192x1024, .f32⟩
  | .hbm, ⟨11, _⟩ => ⟨S8192x2048, .f32⟩
  | .hbm, ⟨12, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x128, .f32⟩
  | .local _ .vmem, ⟨7, _⟩ => ⟨S512x128, .f32⟩
  | .local _ .vmem, ⟨8, _⟩ => ⟨S1x8x512, .f32⟩
  | .local _ .vmem, ⟨9, _⟩ => ⟨S1x8x512, .f32⟩
  | .local _ .vmem, ⟨10, _⟩ => ⟨S512x1024, .f32⟩
  | .local _ .vmem, ⟨11, _⟩ => ⟨S512x1024, .f32⟩
  | .local _ .vmem, ⟨12, _⟩ => ⟨S8x512x128, .f32⟩
  | .local _ .vmem, ⟨13, _⟩ => ⟨S8x512x128, .f32⟩
  | .local _ .vmem, ⟨14, _⟩ => ⟨S512x1024, .f32⟩
  | .local _ .vmem, ⟨15, _⟩ => ⟨S8x512x128, .f32⟩
  | _, _ => ⟨S2x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 8], ![false, false, false]⟩

def k0_cond4 (i : grid0.Coords) : BitVec 1 :=
  let arg2 : BitVec 32 := BitVec.ofNat 32 (i 2).val
  let arg1 : BitVec 32 := BitVec.ofNat 32 (i 1).val
  let v9 : BitVec 1 := Scalar.cmpi .eq arg2 arg1
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.minsi arg2 arg1
  let v2 : BitVec 32 := Scalar.addi v0 v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.minsi arg2 arg1
  let v2 : BitVec 32 := Scalar.addi v0 v1
  let c1_i32 : BitVec 32 := 1#32
  let c0_i32 : BitVec 32 := 0#32
  ![v2.toNat, c1_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== KernelIdeal.lean ====
variable {F : FTy → Type} [FloatOps F] [Named F]
def κ : String → Option EReal := fun
  | "log2e" => some (((Real.log 2)⁻¹ : ℝ) : EReal)
  | "mask" => some ⊥
  | "scale2" => some (((Real.sqrt 128)⁻¹ * (Real.log 2)⁻¹ : ℝ) : EReal)
  | _ => none
-- ==== ReferenceIdeal.lean ====
abbrev S2x4096x8x128 : Shape := ⟨4, ![2, 4096, 8, 128]⟩
abbrev S2x4096x2x8x128 : Shape := ⟨5, ![2, 4096, 2, 8, 128]⟩
abbrev S2x4096x8 : Shape := ⟨3, ![2, 4096, 8]⟩
abbrev S2x4096x1x8x128 : Shape := ⟨5, ![2, 4096, 1, 8, 128]⟩
abbrev S4096 : Shape := ⟨1, ![4096]⟩
abbrev S2x8x4096 : Shape := ⟨3, ![2, 8, 4096]⟩
abbrev S2x8x4096x1 : Shape := ⟨4, ![2, 8, 4096, 1]⟩
abbrev S2x8x1x4096 : Shape := ⟨4, ![2, 8, 1, 4096]⟩
abbrev S2x8x4096x4096 : Shape := ⟨4, ![2, 8, 4096, 4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S2x8x128x4096 : Shape := ⟨4, ![2, 8, 128, 4096]⟩
abbrev S8192x1024 : Shape := ⟨2, ![8192, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2x4096x8x128, .f32⟩
  | .hbm, ⟨1, _⟩ => ⟨S2x4096x2x8x128, .f32⟩
  | .hbm, ⟨2, _⟩ => ⟨S2x4096x8, .f32⟩
  | .hbm, ⟨3, _⟩ => ⟨S2x4096x1x8x128, .f32⟩
  | .hbm, ⟨4, _⟩ => ⟨S2x4096x8x128, .f32⟩
  | .hbm, ⟨5, _⟩ => ⟨S2x4096x1x8x128, .f32⟩
  | .hbm, ⟨6, _⟩ => ⟨S2x4096x8x128, .f32⟩
  | .hbm, ⟨7, _⟩ => ⟨S4096, .i32⟩
  | .hbm, ⟨8, _⟩ => ⟨S2x8x4096, .f32⟩
  | .hbm, ⟨9, _⟩ => ⟨S2x8x4096x1, .f32⟩
  | .hbm, ⟨10, _⟩ => ⟨S2x8x4096, .f32⟩
  | .hbm, ⟨11, _⟩ => ⟨S2x8x1x4096, .f32⟩
  | .hbm, ⟨12, _⟩ => ⟨S2x8x4096x4096, .f32⟩
  | .hbm, ⟨13, _⟩ => ⟨S_, .f32⟩
  | .hbm, ⟨14, _⟩ => ⟨S_, .f32⟩
  | .hbm, ⟨15, _⟩ => ⟨S2x8x4096x4096, .f32⟩
  | .hbm, ⟨16, _⟩ => ⟨S2x8x4096x4096, .f32⟩
  | .hbm, ⟨17, _⟩ => ⟨S2x8x4096x4096, .f32⟩
  | .hbm, ⟨18, _⟩ => ⟨S2x8x4096x4096, .f32⟩
  | .hbm, ⟨19, _⟩ => ⟨S2x8x4096x4096, .f32⟩
  | .hbm, ⟨20, _⟩ => ⟨S2x8x4096x4096, .f32⟩
  | .hbm, ⟨21, _⟩ => ⟨S4096x1, .i32⟩
  | .hbm, ⟨22, _⟩ => ⟨S1x4096, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S2x8x4096x4096, .i1⟩
  | .hbm, ⟨29, _⟩ => ⟨S2x8x4096x4096, .f32⟩
  | .hbm, ⟨30, _⟩ => ⟨S2x8x4096x4096, .f32⟩
  | .hbm, ⟨31, _⟩ => ⟨S_, .f32⟩
  | .hbm, ⟨32, _⟩ => ⟨S2x8x4096, .f32⟩
  | .hbm, ⟨33, _⟩ => ⟨S2x8x4096x1, .f32⟩
  | .hbm, ⟨34, _⟩ => ⟨S_, .f32⟩
  | .hbm, ⟨35, _⟩ => ⟨S2x8x4096x1, .f32⟩
  | .hbm, ⟨36, _⟩ => ⟨S2x8x4096x1, .i1⟩
  | .hbm, ⟨37, _⟩ => ⟨S_, .f32⟩
  | .hbm, ⟨38, _⟩ => ⟨S_, .f32⟩
  | .hbm, ⟨39, _⟩ => ⟨S2x8x4096x1, .f32⟩
  | .hbm, ⟨40, _⟩ => ⟨S2x8x4096x1, .f32⟩
  | .hbm, ⟨41, _⟩ => ⟨S2x8x4096x4096, .f32⟩
  | .hbm, ⟨42, _⟩ => ⟨S2x8x4096x4096, .f32⟩
  | .hbm, ⟨43, _⟩ => ⟨S2x8x4096x4096, .f32⟩
  | .hbm, ⟨44, _⟩ => ⟨S_, .f32⟩
  | .hbm, ⟨45, _⟩ => ⟨S2x8x4096, .f32⟩
  | .hbm, ⟨46, _⟩ => ⟨S2x8x4096x1, .f32⟩
  | .hbm, ⟨47, _⟩ => ⟨S_, .f32⟩
  | .hbm, ⟨48, _⟩ => ⟨S2x8x4096x1, .f32⟩
  | .hbm, ⟨49, _⟩ => ⟨S2x8x4096x1, .f32⟩
  | .hbm, ⟨50, _⟩ => ⟨S2x8x4096x4096, .f32⟩
  | .hbm, ⟨51, _⟩ => ⟨S2x8x4096x4096, .f32⟩
  | .hbm, ⟨52, _⟩ => ⟨S2x8x128x4096, .f32⟩
  | .hbm, ⟨53, _⟩ => ⟨S2x4096x8x128, .f32⟩
  | .hbm, ⟨54, _⟩ => ⟨S8192x1024, .f32⟩
  | _, _ => ⟨S2x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_call1_v0 : Ref sig .tc := ⟨.hbm, 38, rfl⟩
abbrev main_call1_v1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Kernel2.lean ====
abbrev S2x4096x2048 : Shape := ⟨3, ![2, 4096, 2048]⟩
abbrev S2048 : Shape := ⟨1, ![2048]⟩
abbrev S2048x8192 : Shape := ⟨2, ![2048, 8192]⟩
abbrev S2x128 : Shape := ⟨2, ![2, 128]⟩
abbrev S_ : Shape := ⟨0, ![]⟩
abbrev S6x128 : Shape := ⟨2, ![6, 128]⟩
abbrev S8x128 : Shape := ⟨2, ![8, 128]⟩
abbrev S2048x2048 : Shape := ⟨2, ![2048, 2048]⟩
abbrev S2048x4096 : Shape := ⟨2, ![2048, 4096]⟩
abbrev S4096 : Shape := ⟨1, ![4096]⟩
abbrev S1x4096 : Shape := ⟨2, ![1, 4096]⟩
abbrev S2x4096 : Shape := ⟨2, ![2, 4096]⟩
abbrev S8192 : Shape := ⟨1, ![8192]⟩
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S512x128 : Shape := ⟨2, ![512, 128]⟩
abbrev S1x128 : Shape := ⟨2, ![1, 128]⟩
abbrev S8192x4096 : Shape := ⟨2, ![8192, 4096]⟩

abbrev nBuf : Space → Nat
  | .hbm => 42
  | .vmem => 35
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x8192, .f32⟩
  | .hbm, ⟨3, _⟩ => ⟨S2x128, .f32⟩
  | .hbm, ⟨4, _⟩ => ⟨S_, .f32⟩
  | .hbm, ⟨5, _⟩ => ⟨S6x128, .f32⟩
  | .hbm, ⟨6, _⟩ => ⟨S8x128, .f32⟩
  | .hbm, ⟨7, _⟩ => ⟨S2048x2048, .f32⟩
  | .hbm, ⟨8, _⟩ => ⟨S2048x2048, .bf16⟩
  | .hbm, ⟨9, _⟩ => ⟨S2048x4096, .f32⟩
  | .hbm, ⟨10, _⟩ => ⟨S2048x4096, .bf16⟩
  | .hbm, ⟨11, _⟩ => ⟨S2048x2048, .f32⟩
  | .hbm, ⟨12, _⟩ => ⟨S2048x2048, .bf16⟩
  | .hbm, ⟨13, _⟩ => ⟨S4096, .i32⟩
  | .hbm, ⟨14, _⟩ => ⟨S1x4096, .i32⟩
  | .hbm, ⟨15, _⟩ => ⟨S2x4096, .i32⟩
  | .hbm, ⟨16, _⟩ => ⟨S8192, .i32⟩
  | .hbm, ⟨17, _⟩ => ⟨S8192x2048, .f32⟩
  | .hbm, ⟨18, _⟩ => ⟨S1x2048, .f32⟩
  | .hbm, ⟨19, _⟩ => ⟨S8192x2048, .bf16⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S8192, .f32⟩
  | .hbm, ⟨29, _⟩ => ⟨S8192x1, .f32⟩
  | .hbm, ⟨30, _⟩ => ⟨S1x64, .f32⟩
  | .hbm, ⟨31, _⟩ => ⟨S8192x64, .f32⟩
  | .hbm, ⟨32, _⟩ => ⟨S8192x64, .f32⟩
  | .hbm, ⟨33, _⟩ => ⟨S8192x64, .f32⟩
  | .hbm, ⟨34, _⟩ => ⟨S8192x64, .f32⟩
  | .hbm, ⟨35, _⟩ => ⟨S8192x64, .f32⟩
  | .hbm, ⟨36, _⟩ => ⟨S8192x128, .f32⟩
  | .hbm, ⟨37, _⟩ => ⟨S8192x64, .f32⟩
  | .hbm, ⟨38, _⟩ => ⟨S8192x128, .f32⟩
  | .hbm, ⟨39, _⟩ => ⟨S8192x2048, .f32⟩
  | .hbm, ⟨40, _⟩ => ⟨S8192x4096, .f32⟩
  | .hbm, ⟨41, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S2048x2048, .bf16⟩
  | .local _ .vmem, ⟨8, _⟩ => ⟨S8x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .bf16⟩
  | .local _ .vmem, ⟨17, _⟩ => ⟨S2048x2048, .bf16⟩
  | .local _ .vmem, ⟨18, _⟩ => ⟨S8x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x2048, .f32⟩
  | .local _ .vmem, ⟨24, _⟩ => ⟨S512x2048, .f32⟩
  | .local _ .vmem, ⟨25, _⟩ => ⟨S512x2048, .bf16⟩
  | .local _ .vmem, ⟨26, _⟩ => ⟨S512x2048, .bf16⟩
  | .local _ .vmem, ⟨27, _⟩ => ⟨S2048x2048, .bf16⟩
  | .local _ .vmem, ⟨28, _⟩ => ⟨S8x128, .f32⟩
  | .local _ .vmem, ⟨29, _⟩ => ⟨S512x128, .f32⟩
  | .local _ .vmem, ⟨30, _⟩ => ⟨S512x128, .f32⟩
  | .local _ .vmem, ⟨31, _⟩ => ⟨S512x128, .f32⟩
  | .local _ .vmem, ⟨32, _⟩ => ⟨S512x128, .f32⟩
  | .local _ .vmem, ⟨33, _⟩ => ⟨S512x2048, .f32⟩
  | .local _ .vmem, ⟨34, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg3_1 : Ref sig .tc := ⟨.vmem, 30, rfl⟩
abbrev cc3_stg4_0 : Ref sig .tc := ⟨.vmem, 31, rfl⟩
abbrev cc3_stg4_1 : Ref sig .tc := ⟨.vmem, 32, rfl⟩
abbrev cc3_stg5_0 : Ref sig .tc := ⟨.vmem, 33, rfl⟩
abbrev cc3_stg5_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc2_sem4_0 : DmaSem sig := 21
abbrev cc2_sem4_1 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem3_1 : DmaSem sig := 30
abbrev cc3_sem4_0 : DmaSem sig := 31
abbrev cc3_sem4_1 : DmaSem sig := 32
abbrev cc3_sem5_0 : DmaSem sig := 33
abbrev cc3_sem5_1 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![1, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S8x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![2, 16], ![false, false]⟩

def k2_cond1 (i : grid2.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_3 : BitVec 32 := 0#32
  let v7 : BitVec 1 := Scalar.cmpi .ne v6 c0_i32_3
  v7

def k2_cond2 (i : grid2.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 1 → Memref sig .tc .vmem S8x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S512x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S512x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![1, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S2048x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 1 → Memref sig .tc .vmem S8x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S512x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S512x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![false, true]

abbrev stage3_5 : Fin 2 → Memref sig .tc .vmem S512x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]
-- ==== Reference2Ideal.lean ====
abbrev S2x4096x2048 : Shape := ⟨3, ![2, 4096, 2048]⟩
abbrev S2048 : Shape := ⟨1, ![2048]⟩
abbrev S2048x8192 : Shape := ⟨2, ![2048, 8192]⟩
abbrev S2x128 : Shape := ⟨2, ![2, 128]⟩
abbrev S4096 : Shape := ⟨1, ![4096]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x8192 : Shape := ⟨3, ![2, 4096, 8192]⟩
abbrev S2x4096x16x128 : Shape := ⟨4, ![2, 4096, 16, 128]⟩
abbrev S1x128 : Shape := ⟨2, ![1, 128]⟩
abbrev S128 : Shape := ⟨1, ![128]⟩
abbrev S2x4096x16 : Shape := ⟨3, ![2, 4096, 16]⟩
abbrev S2x4096x16x1 : Shape := ⟨4, ![2, 4096, 16, 1]⟩
abbrev S1x1x1x128 : Shape := ⟨4, ![1, 1, 1, 128]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S2x4096x16x64 : Shape := ⟨4, ![2, 4096, 16, 64]⟩
abbrev S2x4096x1x16x128 : Shape := ⟨5, ![2, 4096, 1, 16, 128]⟩
abbrev S2x4096x2x16x128 : Shape := ⟨5, ![2, 4096, 2, 16, 128]⟩
abbrev S8192x2048 : Shape := ⟨2, ![8192, 2048]⟩
abbrev S8192x4096 : Shape := ⟨2, ![8192, 4096]⟩

abbrev nBuf : Space → Nat
  | .hbm => 133
  | .vmem => 0
  | .smem => 0
  | _ => 0

abbrev hbmTy0_0 (i : Nat) : BufTy := match i % 128 with
  | 0 => ⟨S2x4096x2048, .f32⟩
  | 1 => ⟨S2048, .f32⟩
  | 2 => ⟨S2048x8192, .f32⟩
  | 3 => ⟨S2x128, .f32⟩
  | 4 => ⟨S4096, .i32⟩
  | 5 => ⟨S2x4096x2048, .f32⟩
  | 6 => ⟨S_, .f32⟩
  | 7 => ⟨S2x4096, .f32⟩
  | 8 => ⟨S2x4096x1, .f32⟩
  | 9 => ⟨S_, .f32⟩
  | 10 => ⟨S2x4096x1, .f32⟩
  | 11 => ⟨S2x4096x1, .f32⟩
  | 12 => ⟨S_, .f32⟩
  | 13 => ⟨S2x4096x1, .f32⟩
  | 14 => ⟨S2x4096x1, .f32⟩
  | 15 => ⟨S2x4096x1, .f32⟩
  | 16 => ⟨S2x4096x2048, .f32⟩
  | 17 => ⟨S2x4096x2048, .f32⟩
  | 18 => ⟨S1x1x2048, .f32⟩
  | 19 => ⟨S2x4096x2048, .f32⟩
  | 20 => ⟨S2x4096x2048, .f32⟩
  | 21 => ⟨S2x4096x8192, .f32⟩
  | 22 => ⟨S2x4096x2048, .f32⟩
  | 23 => ⟨S2x4096x2048, .f32⟩
  | 24 => ⟨S2x4096x2048, .f32⟩
  | 25 => ⟨S2x4096x2048, .f32⟩
  | 26 => ⟨S2x4096x16x128, .f32⟩
  | 27 => ⟨S1x128, .f32⟩
  | 28 => ⟨S128, .f32⟩
  | 29 => ⟨S2x4096x16x128, .f32⟩
  | 30 => ⟨S_, .f32⟩
  | 31 => ⟨S2x4096x16, .f32⟩
  | 32 => ⟨S2x4096x16x1, .f32⟩
  | 33 => ⟨S_, .f32⟩
  | 34 => ⟨S2x4096x16x1, .f32⟩
  | 35 => ⟨S2x4096x16x1, .f32⟩
  | 36 => ⟨S_, .f32⟩
  | 37 => ⟨S2x4096x16x1, .f32⟩
  | 38 => ⟨S2x4096x16x1, .f32⟩
  | 39 => ⟨S2x4096x16x1, .f32⟩
  | 40 => ⟨S2x4096x16x128, .f32⟩
  | 41 => ⟨S2x4096x16x128, .f32⟩
  | 42 => ⟨S1x1x1x128, .f32⟩
  | 43 => ⟨S2x4096x16x128, .f32⟩
  | 44 => ⟨S2x4096x16x128, .f32⟩
  | 45 => ⟨S64, .f32⟩
  | 46 => ⟨S64, .f32⟩
  | 47 => ⟨S_, .f32⟩
  | 48 => ⟨S64, .f32⟩
  | 49 => ⟨S64, .f32⟩
  | 50 => ⟨S_, .f32⟩
  | 51 => ⟨S64, .f32⟩
  | 52 => ⟨S64, .f32⟩
  | 53 => ⟨S4096, .f32⟩
  | 54 => ⟨S4096x1, .f32⟩
  | 55 => ⟨S1x64, .f32⟩
  | 56 => ⟨S4096x64, .f32⟩
  | 57 => ⟨S4096x64, .f32⟩
  | 58 => ⟨S4096x64, .f32⟩
  | 59 => ⟨S4096x64, .f32⟩
  | 60 => ⟨S1x4096x1x64, .f32⟩
  | 61 => ⟨S4096x64, .f32⟩
  | 62 => ⟨S1x4096x1x64, .f32⟩
  | 63 => ⟨S2x4096x16x64, .f32⟩
  | 64 => ⟨S2x4096x16x64, .f32⟩
  | 65 => ⟨S2x4096x16x64, .f32⟩
  | 66 => ⟨S2x4096x16x64, .f32⟩
  | 67 => ⟨S2x4096x16x64, .f32⟩
  | 68 => ⟨S2x4096x16x64, .f32⟩
  | 69 => ⟨S2x4096x16x64, .f32⟩
  | 70 => ⟨S2x4096x16x64, .f32⟩
  | 71 => ⟨S2x4096x16x64, .f32⟩
  | 72 => ⟨S2x4096x16x64, .f32⟩
  | 73 => ⟨S2x4096x16x64, .f32⟩
  | 74 => ⟨S2x4096x16x64, .f32⟩
  | 75 => ⟨S2x4096x16x128, .f32⟩
  | 76 => ⟨S2x4096x16x128, .f32⟩
  | 77 => ⟨S1x128, .f32⟩
  | 78 => ⟨S128, .f32⟩
  | 79 => ⟨S2x4096x16x128, .f32⟩
  | 80 => ⟨S_, .f32⟩
  | 81 => ⟨S2x4096x16, .f32⟩
  | 82 => ⟨S2x4096x16x1, .f32⟩
  | 83 => ⟨S_, .f32⟩
  | 84 => ⟨S2x4096x16x1, .f32⟩
  | 85 => ⟨S2x4096x16x1, .f32⟩
  | 86 => ⟨S_, .f32⟩
  | 87 => ⟨S2x4096x16x1, .f32⟩
  | 88 => ⟨S2x4096x16x1, .f32⟩
  | 89 => ⟨S2x4096x16x1, .f32⟩
  | 90 => ⟨S2x4096x16x128, .f32⟩
  | 91 => ⟨S2x4096x16x128, .f32⟩
  | 92 => ⟨S1x1x1x128, .f32⟩
  | 93 => ⟨S2x4096x16x128, .f32⟩
  | 94 => ⟨S2x4096x16x128, .f32⟩
  | 95 => ⟨S64, .f32⟩
  | 96 => ⟨S64, .f32⟩
  | 97 => ⟨S_, .f32⟩
  | 98 => ⟨S64, .f32⟩
  | 99 => ⟨S64, .f32⟩
  | 100 => ⟨S_, .f32⟩
  | 101 => ⟨S64, .f32⟩
  | 102 => ⟨S64, .f32⟩
  | 103 => ⟨S4096, .f32⟩
  | 104 => ⟨S4096x1, .f32⟩
  | 105 => ⟨S1x64, .f32⟩
  | 106 => ⟨S4096x64, .f32⟩
  | 107 => ⟨S4096x64, .f32⟩
  | 108 => ⟨S4096x64, .f32⟩
  | 109 => ⟨S4096x64, .f32⟩
  | 110 => ⟨S1x4096x1x64, .f32⟩
  | 111 => ⟨S4096x64, .f32⟩
  | 112 => ⟨S1x4096x1x64, .f32⟩
  | 113 => ⟨S2x4096x16x64, .f32⟩
  | 114 => ⟨S2x4096x16x64, .f32⟩
  | 115 => ⟨S2x4096x16x64, .f32⟩
  | 116 => ⟨S2x4096x16x64, .f32⟩
  | 117 => ⟨S2x4096x16x64, .f32⟩
  | 118 => ⟨S2x4096x16x64, .f32⟩
  | 119 => ⟨S2x4096x16x64, .f32⟩
  | 120 => ⟨S2x4096x16x64, .f32⟩
  | 121 => ⟨S2x4096x16x64, .f32⟩
  | 122 => ⟨S2x4096x16x64, .f32⟩
  | 123 => ⟨S2x4096x16x64, .f32⟩
  | 124 => ⟨S2x4096x16x64, .f32⟩
  | 125 => ⟨S2x4096x16x128, .f32⟩
  | 126 => ⟨S2x4096x16x128, .f32⟩
  | 127 => ⟨S2x4096x1x16x128, .f32⟩
  | _ => ⟨S2x4096x2048, .f32⟩

abbrev hbmTy0_1 (i : Nat) : BufTy := match i % 128 with
  | 0 => ⟨S2x4096x1x16x128, .f32⟩
  | 1 => ⟨S2x4096x2x16x128, .f32⟩
  | 2 => ⟨S8192x2048, .f32⟩
  | 3 => ⟨S8192x4096, .f32⟩
  | 4 => ⟨S8192x2048, .f32⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_7 : Ref sig .tc := ⟨.hbm, 80, rfl⟩
abbrev main_v68 : Ref sig .tc := ⟨.hbm, 81, rfl⟩
abbrev main_v69 : Ref sig .tc := ⟨.hbm, 82, rfl⟩
abbrev main_cst_8 : Ref sig .tc := ⟨.hbm, 83, rfl⟩
abbrev main_v70 : Ref sig .tc := ⟨.hbm, 84, rfl⟩
abbrev main_v71 : Ref sig .tc := ⟨.hbm, 85, rfl⟩
abbrev main_cst_9 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_cst_10 : Ref sig .tc := ⟨.hbm, 97, rfl⟩
abbrev main_v82 : Ref sig .tc := ⟨.hbm, 98, rfl⟩
abbrev main_v83 : Ref sig .tc := ⟨.hbm, 99, rfl⟩
abbrev main_cst_11 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩

abbrev nD : Nat := 1
abbrev τ : Topo := Topo.v7x

variable {F : FTy → Type} [FloatOps F]
-- ==== Kernel3.lean ====
abbrev S2x4096x2048 : Shape := ⟨3, ![2, 4096, 2048]⟩
abbrev S2048 : Shape := ⟨1, ![2048]⟩
abbrev S2048x7712 : Shape := ⟨2, ![2048, 7712]⟩
abbrev S8 : Shape := ⟨1, ![8]⟩
abbrev S4x128 : Shape := ⟨2, ![4, 128]⟩
abbrev S2x128 : Shape := ⟨2, ![2, 128]⟩
abbrev S2048x24 : Shape := ⟨2, ![2048, 24]⟩
abbrev S2048x8 : Shape := ⟨2, ![2048, 8]⟩
abbrev S_ : Shape := ⟨0, ![]⟩
abbrev S2048x128 : Shape := ⟨2, ![2048, 128]⟩
abbrev S2048x12 : Shape := ⟨2, ![2048, 12]⟩
abbrev S1x128 : Shape := ⟨2, ![1, 128]⟩
abbrev S128 : Shape := ⟨1, ![128]⟩
abbrev S8x128 : Shape := ⟨2, ![8, 128]⟩
abbrev S2048x2560 : Shape := ⟨2, ![2048, 2560]⟩
abbrev S2048x2048 : Shape := ⟨2, ![2048, 2048]⟩
abbrev S2048x1024 : Shape := ⟨2, ![2048, 1024]⟩
abbrev S2048x1408 : Shape := ⟨2, ![2048, 1408]⟩
abbrev S4096 : Shape := ⟨1, ![4096]⟩
abbrev S1x4096 : Shape := ⟨2, ![1, 4096]⟩
abbrev S2x4096 : Shape := ⟨2, ![2, 4096]⟩
abbrev S8192 : Shape := ⟨1, ![8192]⟩
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S8192x1024 : Shape := ⟨2, ![8192, 1024]⟩
abbrev S512x128 : Shape := ⟨2, ![512, 128]⟩
abbrev S512x1024 : Shape := ⟨2, ![512, 1024]⟩
abbrev S8192x256 : Shape := ⟨2, ![8192, 256]⟩
abbrev S512x256 : Shape := ⟨2, ![512, 256]⟩
abbrev S512x1408 : Shape := ⟨2, ![512, 1408]⟩
abbrev S8192x12 : Shape := ⟨2, ![8192, 12]⟩
abbrev S8192x24 : Shape := ⟨2, ![8192, 24]⟩
abbrev S8192x8 : Shape := ⟨2, ![8192, 8]⟩

abbrev nBuf : Space → Nat
  | .hbm => 89
  | .vmem => 31
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x7712, .f32⟩
  | .hbm, ⟨3, _⟩ => ⟨S8, .f32⟩
  | .hbm, ⟨4, _⟩ => ⟨S4x128, .f32⟩
  | .hbm, ⟨5, _⟩ => ⟨S2x128, .f32⟩
  | .hbm, ⟨6, _⟩ => ⟨S2048x24, .f32⟩
  | .hbm, ⟨7, _⟩ => ⟨S2048x8, .f32⟩
  | .hbm, ⟨8, _⟩ => ⟨S_, .i32⟩
  | .hbm, ⟨9, _⟩ => ⟨S_, .f32⟩
  | .hbm, ⟨10, _⟩ => ⟨S2048x128, .f32⟩
  | .hbm, ⟨11, _⟩ => ⟨S2048x12, .f32⟩
  | .hbm, ⟨12, _⟩ => ⟨S_, .i32⟩
  | .hbm, ⟨13, _⟩ => ⟨S_, .f32⟩
  | .hbm, ⟨14, _⟩ => ⟨S2048x128, .f32⟩
  | .hbm, ⟨15, _⟩ => ⟨S2048x12, .f32⟩
  | .hbm, ⟨16, _⟩ => ⟨S_, .i32⟩
  | .hbm, ⟨17, _⟩ => ⟨S_, .f32⟩
  | .hbm, ⟨18, _⟩ => ⟨S2048x128, .f32⟩
  | .hbm, ⟨19, _⟩ => ⟨S1x128, .f32⟩
  | .hbm, ⟨20, _⟩ => ⟨S128, .f32⟩
  | .hbm, ⟨21, _⟩ => ⟨S1x128, .f32⟩
  | .hbm, ⟨22, _⟩ => ⟨S128, .f32⟩
  | .hbm, ⟨23, _⟩ => ⟨S1x128, .f32⟩
  | .hbm, ⟨24, _⟩ => ⟨S128, .f32⟩
  | .hbm, ⟨25, _⟩ => ⟨S1x128, .f32⟩
  | .hbm, ⟨26, _⟩ => ⟨S128, .f32⟩
  | .hbm, ⟨27, _⟩ => ⟨S1x128, .f32⟩
  | .hbm, ⟨28, _⟩ => ⟨S128, .f32⟩
  | .hbm, ⟨29, _⟩ => ⟨S_, .i32⟩
  | .hbm, ⟨30, _⟩ => ⟨S_, .f32⟩
  | .hbm, ⟨31, _⟩ => ⟨S128, .f32⟩
  | .hbm, ⟨32, _⟩ => ⟨S_, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S8x128, .f32⟩
  | .hbm, ⟨45, _⟩ => ⟨S2048x2560, .f32⟩
  | .hbm, ⟨46, _⟩ => ⟨S2048x2560, .bf16⟩
  | .hbm, ⟨47, _⟩ => ⟨S2048x2048, .f32⟩
  | .hbm, ⟨48, _⟩ => ⟨S2048x2048, .bf16⟩
  | .hbm, ⟨49, _⟩ => ⟨S2048x2048, .f32⟩
  | .hbm, ⟨50, _⟩ => ⟨S2048x2048, .bf16⟩
  | .hbm, ⟨51, _⟩ => ⟨S2048x1024, .f32⟩
  | .hbm, ⟨52, _⟩ => ⟨S2048x1408, .f32⟩
  | .hbm, ⟨53, _⟩ => ⟨S2048x1408, .bf16⟩
  | .hbm, ⟨54, _⟩ => ⟨S4096, .i32⟩
  | .hbm, ⟨55, _⟩ => ⟨S1x4096, .i32⟩
  | .hbm, ⟨56, _⟩ => ⟨S2x4096, .i32⟩
  | .hbm, ⟨57, _⟩ => ⟨S8192, .i32⟩
  | .hbm, ⟨58, _⟩ => ⟨S8192x2048, .f32⟩
  | .hbm, ⟨59, _⟩ => ⟨S1x2048, .f32⟩
  | .hbm, ⟨60, _⟩ => ⟨S8192x2048, .bf16⟩
  | .hbm, ⟨61, _⟩ => ⟨S64, .f32⟩
  | .hbm, ⟨62, _⟩ => ⟨S64, .f32⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S8192, .f32⟩
  | .hbm, ⟨70, _⟩ => ⟨S8192x1, .f32⟩
  | .hbm, ⟨71, _⟩ => ⟨S1x64, .f32⟩
  | .hbm, ⟨72, _⟩ => ⟨S8192x64, .f32⟩
  | .hbm, ⟨73, _⟩ => ⟨S8192x64, .f32⟩
  | .hbm, ⟨74, _⟩ => ⟨S8192x64, .f32⟩
  | .hbm, ⟨75, _⟩ => ⟨S8192x64, .f32⟩
  | .hbm, ⟨76, _⟩ => ⟨S8192x64, .f32⟩
  | .hbm, ⟨77, _⟩ => ⟨S8192x128, .f32⟩
  | .hbm, ⟨78, _⟩ => ⟨S8192x64, .f32⟩
  | .hbm, ⟨79, _⟩ => ⟨S8192x128, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x128, .f32⟩
  | .hbm, ⟨84, _⟩ => ⟨S8192x256, .f32⟩
  | .hbm, ⟨85, _⟩ => ⟨S8192x12, .f32⟩
  | .hbm, ⟨86, _⟩ => ⟨S8192x12, .f32⟩
  | .hbm, ⟨87, _⟩ => ⟨S8192x24, .f32⟩
  | .hbm, ⟨88, _⟩ => ⟨S8192x8, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S2048x2048, .bf16⟩
  | .local _ .vmem, ⟨8, _⟩ => ⟨S8x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x2048, .bf16⟩
  | .local _ .vmem, ⟨18, _⟩ => ⟨S512x2048, .bf16⟩
  | .local _ .vmem, ⟨19, _⟩ => ⟨S2048x1408, .bf16⟩
  | .local _ .vmem, ⟨20, _⟩ => ⟨S8x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x1024, .f32⟩
  | .local _ .vmem, ⟨26, _⟩ => ⟨S512x1024, .f32⟩
  | .local _ .vmem, ⟨27, _⟩ => ⟨S512x128, .f32⟩
  | .local _ .vmem, ⟨28, _⟩ => ⟨S512x128, .f32⟩
  | .local _ .vmem, ⟨29, _⟩ => ⟨S512x256, .f32⟩
  | .local _ .vmem, ⟨30, _⟩ => ⟨S512x256, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_call2_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_call3_v0 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_4 : Ref sig .tc := ⟨.hbm, 63, rfl⟩
abbrev main_v47 : Ref sig .tc := ⟨.hbm, 64, rfl⟩
abbrev main_v48 : Ref sig .tc := ⟨.hbm, 65, rfl⟩
abbrev main_cst_5 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62_0 : Ref sig .tc := ⟨.hbm, 80, rfl⟩
abbrev main_v62_1 : Ref sig .tc := ⟨.hbm, 81, rfl⟩
abbrev main_v63_0 : Ref sig .tc := ⟨.hbm, 82, rfl⟩
abbrev main_v63_1 : Ref sig .tc := ⟨.hbm, 83, rfl⟩
abbrev main_v63_2 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg6_1 : Ref sig .tc := ⟨.vmem, 28, rfl⟩
abbrev cc2_stg7_0 : Ref sig .tc := ⟨.vmem, 29, rfl⟩
abbrev cc2_stg7_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22
abbrev cc2_sem4_0 : DmaSem sig := 23
abbrev cc2_sem4_1 : DmaSem sig := 24
abbrev cc2_sem5_0 : DmaSem sig := 25
abbrev cc2_sem5_1 : DmaSem sig := 26
abbrev cc2_sem6_0 : DmaSem sig := 27
abbrev cc2_sem6_1 : DmaSem sig := 28
abbrev cc2_sem7_0 : DmaSem sig := 29
abbrev cc2_sem7_1 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![1, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S8x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![1, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S2048x1408 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 1 → Memref sig .tc .vmem S8x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S512x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S512x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S512x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]
-- ==== Reference3Ideal.lean ====
abbrev S2x4096x2048 : Shape := ⟨3, ![2, 4096, 2048]⟩
abbrev S2048 : Shape := ⟨1, ![2048]⟩
abbrev S2048x7712 : Shape := ⟨2, ![2048, 7712]⟩
abbrev S8 : Shape := ⟨1, ![8]⟩
abbrev S4x128 : Shape := ⟨2, ![4, 128]⟩
abbrev S2x128 : Shape := ⟨2, ![2, 128]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x7712 : Shape := ⟨3, ![2, 4096, 7712]⟩
abbrev S2x4096x1024 : Shape := ⟨3, ![2, 4096, 1024]⟩
abbrev S2x4096x256 : Shape := ⟨3, ![2, 4096, 256]⟩
abbrev S2x4096x24 : Shape := ⟨3, ![2, 4096, 24]⟩
abbrev S2x4096x8 : Shape := ⟨3, ![2, 4096, 8]⟩
abbrev S2x4096x8x128 : Shape := ⟨4, ![2, 4096, 8, 128]⟩
abbrev S1x128 : Shape := ⟨2, ![1, 128]⟩
abbrev S128 : Shape := ⟨1, ![128]⟩
abbrev S2x4096x8x1 : Shape := ⟨4, ![2, 4096, 8, 1]⟩
abbrev S1x1x1x128 : Shape := ⟨4, ![1, 1, 1, 128]⟩
abbrev S1x1x8 : Shape := ⟨3, ![1, 1, 8]⟩
abbrev S8192x1024 : Shape := ⟨2, ![8192, 1024]⟩
abbrev S8192x8 : Shape := ⟨2, ![8192, 8]⟩
abbrev S8192x24 : Shape := ⟨2, ![8192, 24]⟩

abbrev nBuf : Space → Nat
  | .hbm => 80
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x7712, .f32⟩
  | .hbm, ⟨3, _⟩ => ⟨S8, .f32⟩
  | .hbm, ⟨4, _⟩ => ⟨S4x128, .f32⟩
  | .hbm, ⟨5, _⟩ => ⟨S2x128, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S2x4096x7712, .f32⟩
  | .hbm, ⟨23, _⟩ => ⟨S2x4096x1024, .f32⟩
  | .hbm, ⟨24, _⟩ => ⟨S2x4096x256, .f32⟩
  | .hbm, ⟨25, _⟩ => ⟨S2x4096x256, .f32⟩
  | .hbm, ⟨26, _⟩ => ⟨S2x4096x256, .f32⟩
  | .hbm, ⟨27, _⟩ => ⟨S2x4096x256, .f32⟩
  | .hbm, ⟨28, _⟩ => ⟨S2x4096x256, .f32⟩
  | .hbm, ⟨29, _⟩ => ⟨S2x4096x256, .f32⟩
  | .hbm, ⟨30, _⟩ => ⟨S2x4096x24, .f32⟩
  | .hbm, ⟨31, _⟩ => ⟨S2x4096x1024, .f32⟩
  | .hbm, ⟨32, _⟩ => ⟨S2x4096x1024, .f32⟩
  | .hbm, ⟨33, _⟩ => ⟨S2x4096x1024, .f32⟩
  | .hbm, ⟨34, _⟩ => ⟨S2x4096x1024, .f32⟩
  | .hbm, ⟨35, _⟩ => ⟨S2x4096x8, .f32⟩
  | .hbm, ⟨36, _⟩ => ⟨S2x4096x1024, .f32⟩
  | .hbm, ⟨37, _⟩ => ⟨S2x4096x8x128, .f32⟩
  | .hbm, ⟨38, _⟩ => ⟨S1x128, .f32⟩
  | .hbm, ⟨39, _⟩ => ⟨S128, .f32⟩
  | .hbm, ⟨40, _⟩ => ⟨S2x4096x8x128, .f32⟩
  | .hbm, ⟨41, _⟩ => ⟨S_, .f32⟩
  | .hbm, ⟨42, _⟩ => ⟨S2x4096x8, .f32⟩
  | .hbm, ⟨43, _⟩ => ⟨S2x4096x8x1, .f32⟩
  | .hbm, ⟨44, _⟩ => ⟨S_, .f32⟩
  | .hbm, ⟨45, _⟩ => ⟨S2x4096x8x1, .f32⟩
  | .hbm, ⟨46, _⟩ => ⟨S2x4096x8x1, .f32⟩
  | .hbm, ⟨47, _⟩ => ⟨S_, .f32⟩
  | .hbm, ⟨48, _⟩ => ⟨S2x4096x8x1, .f32⟩
  | .hbm, ⟨49, _⟩ => ⟨S2x4096x8x1, .f32⟩
  | .hbm, ⟨50, _⟩ => ⟨S2x4096x8x1, .f32⟩
  | .hbm, ⟨51, _⟩ => ⟨S2x4096x8x128, .f32⟩
  | .hbm, ⟨52, _⟩ => ⟨S2x4096x8x128, .f32⟩
  | .hbm, ⟨53, _⟩ => ⟨S1x1x1x128, .f32⟩
  | .hbm, ⟨54, _⟩ => ⟨S2x4096x8x128, .f32⟩
  | .hbm, ⟨55, _⟩ => ⟨S2x4096x8x128, .f32⟩
  | .hbm, ⟨56, _⟩ => ⟨S1x1x8, .f32⟩
  | .hbm, ⟨57, _⟩ => ⟨S2x4096x8, .f32⟩
  | .hbm, ⟨58, _⟩ => ⟨S2x4096x8, .f32⟩
  | .hbm, ⟨59, _⟩ => ⟨S2x4096x8, .f32⟩
  | .hbm, ⟨60, _⟩ => ⟨S_, .f32⟩
  | .hbm, ⟨61, _⟩ => ⟨S2x4096x8, .f32⟩
  | .hbm, ⟨62, _⟩ => ⟨S2x4096x8, .f32⟩
  | .hbm, ⟨63, _⟩ => ⟨S2x4096x8, .f32⟩
  | .hbm, ⟨64, _⟩ => ⟨S2x4096x8, .f32⟩
  | .hbm, ⟨65, _⟩ => ⟨S2x4096x8, .i1⟩
  | .hbm, ⟨66, _⟩ => ⟨S2x4096x8, .f32⟩
  | .hbm, ⟨67, _⟩ => ⟨S2x4096x8, .f32⟩
  | .hbm, ⟨68, _⟩ => ⟨S2x4096x8, .f32⟩
  | .hbm, ⟨69, _⟩ => ⟨S2x4096x8, .f32⟩
  | .hbm, ⟨70, _⟩ => ⟨S2x4096x8, .f32⟩
  | .hbm, ⟨71, _⟩ => ⟨S2x4096x8, .f32⟩
  | .hbm, ⟨72, _⟩ => ⟨S2x4096x8, .f32⟩
  | .hbm, ⟨73, _⟩ => ⟨S2x4096x8, .f32⟩
  | .hbm, ⟨74, _⟩ => ⟨S2x4096x8, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x8, .f32⟩
  | .hbm, ⟨79, _⟩ => ⟨S8192x24, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_call0_v0 : Ref sig .tc := ⟨.hbm, 59, rfl⟩
abbrev main_call0_call0_cst : Ref sig .tc := ⟨.hbm, 60, rfl⟩
abbrev main_call0_call0_v0 : Ref sig .tc := ⟨.hbm, 61, rfl⟩
abbrev main_call0_call0_v1 : Ref sig .tc := ⟨.hbm, 62, rfl⟩
abbrev main_call0_call0_v2 : Ref sig .tc := ⟨.hbm, 63, rfl⟩
abbrev main_call0_call0_v3 : Ref sig .tc := ⟨.hbm, 64, rfl⟩
abbrev main_call0_call0_v4 : Ref sig .tc := ⟨.hbm, 65, rfl⟩
abbrev main_call0_call0_v5 : Ref sig .tc := ⟨.hbm, 66, rfl⟩
abbrev main_call0_call0_v6 : Ref sig .tc := ⟨.hbm, 67, rfl⟩
abbrev main_call0_call0_v7 : Ref sig .tc := ⟨.hbm, 68, rfl⟩
abbrev main_call0_call0_v8 : Ref sig .tc := ⟨.hbm, 69, rfl⟩
abbrev main_call0_call0_v9 : Ref sig .tc := ⟨.hbm, 70, rfl⟩
abbrev main_call0_call0_v10 : Ref sig .tc := ⟨.hbm, 71, rfl⟩
abbrev main_call0_call0_v11 : Ref sig .tc := ⟨.hbm, 72, rfl⟩
abbrev main_call0_v1 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩

abbrev nD : Nat := 1
abbrev τ : Topo := Topo.v7x

variable {F : FTy → Type} [FloatOps F]
-- ==== Kernel4.lean ====
abbrev S2x4096x2048 : Shape := ⟨3, ![2, 4096, 2048]⟩
abbrev S8192x1024 : Shape := ⟨2, ![8192, 1024]⟩
abbrev S2048x2048 : Shape := ⟨2, ![2048, 2048]⟩
abbrev S8192x2048 : Shape := ⟨2, ![8192, 2048]⟩
abbrev S1024x2048 : Shape := ⟨2, ![1024, 2048]⟩
abbrev S512x2048 : Shape := ⟨2, ![512, 2048]⟩
abbrev S512x1024 : Shape := ⟨2, ![512, 1024]⟩

abbrev nBuf : Space → Nat
  | .hbm => 21
  | .vmem => 23
  | .smem => 0
  | _ => 0

abbrev bufTy : (tb : Table) → Fin (tcTables nBuf tb) → BufTy
  | .hbm, ⟨0, _⟩ => ⟨S2x4096x2048, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S2048x2048, .f32⟩
  | .hbm, ⟨6, _⟩ => ⟨S2x4096x2048, .f32⟩
  | .hbm, ⟨7, _⟩ => ⟨S8192x2048, .f32⟩
  | .hbm, ⟨8, _⟩ => ⟨S8192x2048, .f32⟩
  | .hbm, ⟨9, _⟩ => ⟨S2048x2048, .f32⟩
  | .hbm, ⟨10, _⟩ => ⟨S8192x2048, .f32⟩
  | .hbm, ⟨11, _⟩ => ⟨S1024x2048, .f32⟩
  | .hbm, ⟨12, _⟩ => ⟨S1024x2048, .bf16⟩
  | .hbm, ⟨13, _⟩ => ⟨S1024x2048, .f32⟩
  | .hbm, ⟨14, _⟩ => ⟨S1024x2048, .bf16⟩
  | .hbm, ⟨15, _⟩ => ⟨S8192x2048, .f32⟩
  | .hbm, ⟨16, _⟩ => ⟨S8192x2048, .f32⟩
  | .hbm, ⟨17, _⟩ => ⟨S2048x2048, .bf16⟩
  | .hbm, ⟨18, _⟩ => ⟨S8192x2048, .f32⟩
  | .hbm, ⟨19, _⟩ => ⟨S2x4096x2048, .f32⟩
  | .hbm, ⟨20, _⟩ => ⟨S2x4096x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1024x2048, .bf16⟩
  | .local _ .vmem, ⟨11, _⟩ => ⟨S1024x2048, .bf16⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .f32⟩
  | .local _ .vmem, ⟨20, _⟩ => ⟨S2048x2048, .bf16⟩
  | .local _ .vmem, ⟨21, _⟩ => ⟨S512x2048, .f32⟩
  | .local _ .vmem, ⟨22, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg4_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem4_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2048x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== Reference4Ideal.lean ====
abbrev S2x4096x2048 : Shape := ⟨3, ![2, 4096, 2048]⟩
abbrev S8192x1024 : Shape := ⟨2, ![8192, 1024]⟩
abbrev S2048x2048 : Shape := ⟨2, ![2048, 2048]⟩
abbrev S8192x2048 : Shape := ⟨2, ![8192, 2048]⟩
abbrev S2x4096x1024 : Shape := ⟨3, ![2, 4096, 1024]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S2048x2048, .f32⟩
  | .hbm, ⟨6, _⟩ => ⟨S2x4096x2048, .f32⟩
  | .hbm, ⟨7, _⟩ => ⟨S8192x2048, .f32⟩
  | .hbm, ⟨8, _⟩ => ⟨S8192x2048, .f32⟩
  | .hbm, ⟨9, _⟩ => ⟨S2048x2048, .f32⟩
  | .hbm, ⟨10, _⟩ => ⟨S2x4096x1024, .f32⟩
  | .hbm, ⟨11, _⟩ => ⟨S2x4096x1024, .f32⟩
  | .hbm, ⟨12, _⟩ => ⟨S2x4096x1024, .f32⟩
  | .hbm, ⟨13, _⟩ => ⟨S2x4096x1024, .f32⟩
  | .hbm, ⟨14, _⟩ => ⟨S_, .f32⟩
  | .hbm, ⟨15, _⟩ => ⟨S2x4096x1024, .f32⟩
  | .hbm, ⟨16, _⟩ => ⟨S2x4096x1024, .f32⟩
  | .hbm, ⟨17, _⟩ => ⟨S_, .f32⟩
  | .hbm, ⟨18, _⟩ => ⟨S2x4096x1024, .f32⟩
  | .hbm, ⟨19, _⟩ => ⟨S2x4096x1024, .f32⟩
  | .hbm, ⟨20, _⟩ => ⟨S2x4096x1024, .f32⟩
  | .hbm, ⟨21, _⟩ => ⟨S2x4096x1024, .f32⟩
  | .hbm, ⟨22, _⟩ => ⟨S2x4096x1024, .f32⟩
  | .hbm, ⟨23, _⟩ => ⟨S2x4096x1024, .f32⟩
  | .hbm, ⟨24, _⟩ => ⟨S2x4096x1024, .f32⟩
  | .hbm, ⟨25, _⟩ => ⟨S2x4096x1024, .f32⟩
  | .hbm, ⟨26, _⟩ => ⟨S_, .f32⟩
  | .hbm, ⟨27, _⟩ => ⟨S2x4096x1024, .f32⟩
  | .hbm, ⟨28, _⟩ => ⟨S2x4096x1024, .f32⟩
  | .hbm, ⟨29, _⟩ => ⟨S_, .f32⟩
  | .hbm, ⟨30, _⟩ => ⟨S2x4096x1024, .f32⟩
  | .hbm, ⟨31, _⟩ => ⟨S2x4096x1024, .f32⟩
  | .hbm, ⟨32, _⟩ => ⟨S2x4096x1024, .f32⟩
  | .hbm, ⟨33, _⟩ => ⟨S2x4096x1024, .f32⟩
  | .hbm, ⟨34, _⟩ => ⟨S2x4096x2048, .f32⟩
  | .hbm, ⟨35, _⟩ => ⟨S2x4096x2048, .f32⟩
  | .hbm, ⟨36, _⟩ => ⟨S2x4096x2048, .f32⟩
  | .hbm, ⟨37, _⟩ => ⟨S2x4096x2048, .f32⟩
  | .hbm, ⟨38, _⟩ => ⟨S2x4096x2048, .f32⟩
  | .hbm, ⟨39, _⟩ => ⟨S2x4096x2048, .f32⟩
  | .hbm, ⟨40, _⟩ => ⟨S2x4096x2048, .f32⟩
  | .hbm, ⟨41, _⟩ => ⟨S_, .f32⟩
  | .hbm, ⟨42, _⟩ => ⟨S2x4096x2048, .f32⟩
  | .hbm, ⟨43, _⟩ => ⟨S2x4096x2048, .f32⟩
  | .hbm, ⟨44, _⟩ => ⟨S_, .f32⟩
  | .hbm, ⟨45, _⟩ => ⟨S2x4096x2048, .f32⟩
  | .hbm, ⟨46, _⟩ => ⟨S2x4096x2048, .f32⟩
  | .hbm, ⟨47, _⟩ => ⟨S2x4096x2048, .f32⟩
  | .hbm, ⟨48, _⟩ => ⟨S2x4096x2048, .f32⟩
  | .hbm, ⟨49, _⟩ => ⟨S2x4096x2048, .f32⟩
  | .hbm, ⟨50, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_call2_v0 : Ref sig .tc := ⟨.hbm, 39, rfl⟩
abbrev main_call2_v1 : Ref sig .tc := ⟨.hbm, 40, rfl⟩
abbrev main_call2_cst : Ref sig .tc := ⟨.hbm, 41, rfl⟩
abbrev main_call2_v2 : Ref sig .tc := ⟨.hbm, 42, rfl⟩
abbrev main_call2_v3 : Ref sig .tc := ⟨.hbm, 43, rfl⟩
abbrev main_call2_cst_0 : Ref sig .tc := ⟨.hbm, 44, rfl⟩
abbrev main_call2_v4 : Ref sig .tc := ⟨.hbm, 45, rfl⟩
abbrev main_call2_v5 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩

abbrev nD : Nat := 1
abbrev τ : Topo := Topo.v7x

variable {F : FTy → Type} [FloatOps F]
-- ==== Kernel5.lean ====
abbrev S2x4096x2048 : Shape := ⟨3, ![2, 4096, 2048]⟩
abbrev S2048 : Shape := ⟨1, ![2048]⟩
abbrev S2048x7712 : Shape := ⟨2, ![2048, 7712]⟩
abbrev S2x128 : Shape := ⟨2, ![2, 128]⟩
abbrev S_ : Shape := ⟨0, ![]⟩
abbrev S8 : Shape := ⟨1, ![8]⟩
abbrev S4x128 : Shape := ⟨2, ![4, 128]⟩
abbrev S2048x24 : Shape := ⟨2, ![2048, 24]⟩
abbrev S2048x8 : Shape := ⟨2, ![2048, 8]⟩
abbrev S2048x128 : Shape := ⟨2, ![2048, 128]⟩
abbrev S2048x12 : Shape := ⟨2, ![2048, 12]⟩
abbrev S1x128 : Shape := ⟨2, ![1, 128]⟩
abbrev S128 : Shape := ⟨1, ![128]⟩
abbrev S8x128 : Shape := ⟨2, ![8, 128]⟩
abbrev S2048x2560 : Shape := ⟨2, ![2048, 2560]⟩
abbrev S2048x2048 : Shape := ⟨2, ![2048, 2048]⟩
abbrev S2048x1024 : Shape := ⟨2, ![2048, 1024]⟩
abbrev S2048x1408 : Shape := ⟨2, ![2048, 1408]⟩
abbrev S4096 : Shape := ⟨1, ![4096]⟩
abbrev S1x4096 : Shape := ⟨2, ![1, 4096]⟩
abbrev S2x4096 : Shape := ⟨2, ![2, 4096]⟩
abbrev S8192 : Shape := ⟨1, ![8192]⟩
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S131072x128 : Shape := ⟨2, ![131072, 128]⟩
abbrev S512x128 : Shape := ⟨2, ![512, 128]⟩
abbrev S2x4096x2x8x128 : Shape := ⟨5, ![2, 4096, 2, 8, 128]⟩

abbrev nBuf : Space → Nat
  | .hbm => 85
  | .vmem => 17
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x7712, .f32⟩
  | .hbm, ⟨3, _⟩ => ⟨S2x128, .f32⟩
  | .hbm, ⟨4, _⟩ => ⟨S_, .f32⟩
  | .hbm, ⟨5, _⟩ => ⟨S8, .f32⟩
  | .hbm, ⟨6, _⟩ => ⟨S_, .f32⟩
  | .hbm, ⟨7, _⟩ => ⟨S4x128, .f32⟩
  | .hbm, ⟨8, _⟩ => ⟨S2048x24, .f32⟩
  | .hbm, ⟨9, _⟩ => ⟨S2048x8, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S2048x12, .f32⟩
  | .hbm, ⟨14, _⟩ => ⟨S_, .i32⟩
  | .hbm, ⟨15, _⟩ => ⟨S_, .f32⟩
  | .hbm, ⟨16, _⟩ => ⟨S2048x128, .f32⟩
  | .hbm, ⟨17, _⟩ => ⟨S2048x12, .f32⟩
  | .hbm, ⟨18, _⟩ => ⟨S_, .i32⟩
  | .hbm, ⟨19, _⟩ => ⟨S_, .f32⟩
  | .hbm, ⟨20, _⟩ => ⟨S2048x128, .f32⟩
  | .hbm, ⟨21, _⟩ => ⟨S1x128, .f32⟩
  | .hbm, ⟨22, _⟩ => ⟨S128, .f32⟩
  | .hbm, ⟨23, _⟩ => ⟨S1x128, .f32⟩
  | .hbm, ⟨24, _⟩ => ⟨S128, .f32⟩
  | .hbm, ⟨25, _⟩ => ⟨S1x128, .f32⟩
  | .hbm, ⟨26, _⟩ => ⟨S128, .f32⟩
  | .hbm, ⟨27, _⟩ => ⟨S1x128, .f32⟩
  | .hbm, ⟨28, _⟩ => ⟨S128, .f32⟩
  | .hbm, ⟨29, _⟩ => ⟨S1x128, .f32⟩
  | .hbm, ⟨30, _⟩ => ⟨S128, .f32⟩
  | .hbm, ⟨31, _⟩ => ⟨S_, .i32⟩
  | .hbm, ⟨32, _⟩ => ⟨S_, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S_, .f32⟩
  | .hbm, ⟨37, _⟩ => ⟨S128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S8x128, .f32⟩
  | .hbm, ⟨47, _⟩ => ⟨S2048x2560, .f32⟩
  | .hbm, ⟨48, _⟩ => ⟨S2048x2560, .bf16⟩
  | .hbm, ⟨49, _⟩ => ⟨S2048x2048, .f32⟩
  | .hbm, ⟨50, _⟩ => ⟨S2048x2048, .bf16⟩
  | .hbm, ⟨51, _⟩ => ⟨S2048x2048, .f32⟩
  | .hbm, ⟨52, _⟩ => ⟨S2048x2048, .bf16⟩
  | .hbm, ⟨53, _⟩ => ⟨S2048x1024, .f32⟩
  | .hbm, ⟨54, _⟩ => ⟨S2048x1408, .f32⟩
  | .hbm, ⟨55, _⟩ => ⟨S2048x1408, .bf16⟩
  | .hbm, ⟨56, _⟩ => ⟨S4096, .i32⟩
  | .hbm, ⟨57, _⟩ => ⟨S1x4096, .i32⟩
  | .hbm, ⟨58, _⟩ => ⟨S2x4096, .i32⟩
  | .hbm, ⟨59, _⟩ => ⟨S8192, .i32⟩
  | .hbm, ⟨60, _⟩ => ⟨S8192x2048, .f32⟩
  | .hbm, ⟨61, _⟩ => ⟨S1x2048, .f32⟩
  | .hbm, ⟨62, _⟩ => ⟨S8192x2048, .bf16⟩
  | .hbm, ⟨63, _⟩ => ⟨S64, .f32⟩
  | .hbm, ⟨64, _⟩ => ⟨S64, .f32⟩
  | .hbm, ⟨65, _⟩ => ⟨S_, .f32⟩
  | .hbm, ⟨66, _⟩ => ⟨S64, .f32⟩
  | .hbm, ⟨67, _⟩ => ⟨S64, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S8192, .f32⟩
  | .hbm, ⟨72, _⟩ => ⟨S8192x1, .f32⟩
  | .hbm, ⟨73, _⟩ => ⟨S1x64, .f32⟩
  | .hbm, ⟨74, _⟩ => ⟨S8192x64, .f32⟩
  | .hbm, ⟨75, _⟩ => ⟨S8192x64, .f32⟩
  | .hbm, ⟨76, _⟩ => ⟨S8192x64, .f32⟩
  | .hbm, ⟨77, _⟩ => ⟨S8192x64, .f32⟩
  | .hbm, ⟨78, _⟩ => ⟨S8192x64, .f32⟩
  | .hbm, ⟨79, _⟩ => ⟨S8192x128, .f32⟩
  | .hbm, ⟨80, _⟩ => ⟨S8192x64, .f32⟩
  | .hbm, ⟨81, _⟩ => ⟨S8192x128, .f32⟩
  | .hbm, ⟨82, _⟩ => ⟨S8192x2048, .f32⟩
  | .hbm, ⟨83, _⟩ => ⟨S131072x128, .f32⟩
  | .hbm, ⟨84, _⟩ => ⟨S2x4096x2x8x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S2048x2048, .bf16⟩
  | .local _ .vmem, ⟨8, _⟩ => ⟨S8x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x2048, .f32⟩
  | .local _ .vmem, ⟨14, _⟩ => ⟨S512x2048, .f32⟩
  | .local _ .vmem, ⟨15, _⟩ => ⟨S8192x128, .f32⟩
  | .local _ .vmem, ⟨16, _⟩ => ⟨S8192x128, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_call1_v0 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_call2_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_call3_v0 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_v50 : Ref sig .tc := ⟨.hbm, 67, rfl⟩
abbrev main_cst_7 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64_0 : Ref sig .tc := ⟨.hbm, 82, rfl⟩
abbrev main_v64_1 : Ref sig .tc := ⟨.hbm, 83, rfl⟩
abbrev main_v65 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![1, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S8x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S8192x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]
-- ==== Reference5Ideal.lean ====
abbrev S2x4096x2048 : Shape := ⟨3, ![2, 4096, 2048]⟩
abbrev S2048 : Shape := ⟨1, ![2048]⟩
abbrev S2048x7712 : Shape := ⟨2, ![2048, 7712]⟩
abbrev S2x128 : Shape := ⟨2, ![2, 128]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x7712 : Shape := ⟨3, ![2, 4096, 7712]⟩
abbrev S2x4096x1024 : Shape := ⟨3, ![2, 4096, 1024]⟩
abbrev S2x4096x256 : Shape := ⟨3, ![2, 4096, 256]⟩
abbrev S2x4096x24 : Shape := ⟨3, ![2, 4096, 24]⟩
abbrev S2x4096x8 : Shape := ⟨3, ![2, 4096, 8]⟩
abbrev S2x4096x8x128 : Shape := ⟨4, ![2, 4096, 8, 128]⟩
abbrev S1x128 : Shape := ⟨2, ![1, 128]⟩
abbrev S128 : Shape := ⟨1, ![128]⟩
abbrev S2x4096x8x1 : Shape := ⟨4, ![2, 4096, 8, 1]⟩
abbrev S1x1x1x128 : Shape := ⟨4, ![1, 1, 1, 128]⟩
abbrev S2x4096x1x8x128 : Shape := ⟨5, ![2, 4096, 1, 8, 128]⟩
abbrev S2x4096x2x8x128 : Shape := ⟨5, ![2, 4096, 2, 8, 128]⟩
abbrev S8192x2048 : Shape := ⟨2, ![8192, 2048]⟩

abbrev nBuf : Space → Nat
  | .hbm => 59
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x7712, .f32⟩
  | .hbm, ⟨3, _⟩ => ⟨S2x128, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S1x1x2048, .f32⟩
  | .hbm, ⟨18, _⟩ => ⟨S2x4096x2048, .f32⟩
  | .hbm, ⟨19, _⟩ => ⟨S2x4096x2048, .f32⟩
  | .hbm, ⟨20, _⟩ => ⟨S2x4096x7712, .f32⟩
  | .hbm, ⟨21, _⟩ => ⟨S2x4096x1024, .f32⟩
  | .hbm, ⟨22, _⟩ => ⟨S2x4096x256, .f32⟩
  | .hbm, ⟨23, _⟩ => ⟨S2x4096x256, .f32⟩
  | .hbm, ⟨24, _⟩ => ⟨S2x4096x256, .f32⟩
  | .hbm, ⟨25, _⟩ => ⟨S2x4096x256, .f32⟩
  | .hbm, ⟨26, _⟩ => ⟨S2x4096x256, .f32⟩
  | .hbm, ⟨27, _⟩ => ⟨S2x4096x256, .f32⟩
  | .hbm, ⟨28, _⟩ => ⟨S2x4096x24, .f32⟩
  | .hbm, ⟨29, _⟩ => ⟨S2x4096x1024, .f32⟩
  | .hbm, ⟨30, _⟩ => ⟨S2x4096x1024, .f32⟩
  | .hbm, ⟨31, _⟩ => ⟨S2x4096x1024, .f32⟩
  | .hbm, ⟨32, _⟩ => ⟨S2x4096x1024, .f32⟩
  | .hbm, ⟨33, _⟩ => ⟨S2x4096x8, .f32⟩
  | .hbm, ⟨34, _⟩ => ⟨S2x4096x1024, .f32⟩
  | .hbm, ⟨35, _⟩ => ⟨S2x4096x8x128, .f32⟩
  | .hbm, ⟨36, _⟩ => ⟨S1x128, .f32⟩
  | .hbm, ⟨37, _⟩ => ⟨S128, .f32⟩
  | .hbm, ⟨38, _⟩ => ⟨S2x4096x8x128, .f32⟩
  | .hbm, ⟨39, _⟩ => ⟨S_, .f32⟩
  | .hbm, ⟨40, _⟩ => ⟨S2x4096x8, .f32⟩
  | .hbm, ⟨41, _⟩ => ⟨S2x4096x8x1, .f32⟩
  | .hbm, ⟨42, _⟩ => ⟨S_, .f32⟩
  | .hbm, ⟨43, _⟩ => ⟨S2x4096x8x1, .f32⟩
  | .hbm, ⟨44, _⟩ => ⟨S2x4096x8x1, .f32⟩
  | .hbm, ⟨45, _⟩ => ⟨S_, .f32⟩
  | .hbm, ⟨46, _⟩ => ⟨S2x4096x8x1, .f32⟩
  | .hbm, ⟨47, _⟩ => ⟨S2x4096x8x1, .f32⟩
  | .hbm, ⟨48, _⟩ => ⟨S2x4096x8x1, .f32⟩
  | .hbm, ⟨49, _⟩ => ⟨S2x4096x8x128, .f32⟩
  | .hbm, ⟨50, _⟩ => ⟨S2x4096x8x128, .f32⟩
  | .hbm, ⟨51, _⟩ => ⟨S1x1x1x128, .f32⟩
  | .hbm, ⟨52, _⟩ => ⟨S2x4096x8x128, .f32⟩
  | .hbm, ⟨53, _⟩ => ⟨S2x4096x8x128, .f32⟩
  | .hbm, ⟨54, _⟩ => ⟨S2x4096x8x128, .f32⟩
  | .hbm, ⟨55, _⟩ => ⟨S2x4096x1x8x128, .f32⟩
  | .hbm, ⟨56, _⟩ => ⟨S2x4096x1x8x128, .f32⟩
  | .hbm, ⟨57, _⟩ => ⟨S2x4096x2x8x128, .f32⟩
  | .hbm, ⟨58, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩

abbrev nD : Nat := 1
abbrev τ : Topo := Topo.v7x

variable {F : FTy → Type} [FloatOps F]
-- ==== Proof.Heads.lean ====
/-
One grid point of the attention kernel, head by head.

The kernel keeps four scratch arrays: the running maximum, the running sum of weights, the running
weighted sum of values, and the query rows' cumulative log forget gate (times log₂ e). The first, second and
fourth hold one [512, 128] slab per head, the third holds its heads side by side, 128 columns each. This file
writes down what a grid point does to one head, and how the eight heads are put together.
-/
module

public import proofs.«01_k».proof.Proof.Gen.KernelIdeal.Skeleton
public import Idealize.ShloMosaic.Lib.ValueIdx
public import Idealize.ShloMosaic.Lib.Pipeline.ReadBack

@[expose] public section

noncomputable section

namespace Cert.KernelIdeal.Fox

open Idealize.ShloMosaic Idealize.ShloMosaic.ValueIdx Idealize.SL.Sem
open Cert.KernelIdeal Cert.KernelIdeal.Gen

variable {F : FTy → Type} [FloatOps F] [Named F]

/-! ## The parts of a block that belong to a head -/

/-- The 128 columns of head `h`. -/
def cut (x : Vec F S512x1024 .f32) (h : Fin 8) : FVec F S512x128 .f32 :=
  View.ld x (Rect.unit (s := S512x1024) ![0, 128 * h.val] S512x128.size
    (show ∀ a : Fin 2, _ from Fin.forall_fin_two.mpr
      ⟨by show 0 + 512 ≤ 512; omega, by have := h.isLt; show 128 * h.val + 128 ≤ 1024; omega⟩))

/-- The slab of head `h`, kept with its leading axis of one. -/
def slab (x : Vec F S8x512x128 .f32) (h : Fin 8) : FVec F S1x512x128 .f32 :=
  View.ld x (Rect.unit (s := S8x512x128) ![h.val, 0, 0] S1x512x128.size
    (show ∀ a : Fin 3, _ from fun a => match a with
      | ⟨0, _⟩ => by have := h.isLt; show h.val + 1 ≤ 8; omega
      | ⟨1, _⟩ => by show 0 + 512 ≤ 512; omega
      | ⟨2, _⟩ => by show 0 + 128 ≤ 128; omega))

/-- The row of head `h`, kept with its leading axes of one. -/
def row (x : Vec F S1x8x512 .f32) (h : Fin 8) : FVec F S1x1x512 .f32 :=
  View.ld x (Rect.unit (s := S1x8x512) ![0, h.val, 0] S1x1x512.size
    (show ∀ a : Fin 3, _ from fun a => match a with
      | ⟨0, _⟩ => by show 0 + 1 ≤ 1; omega
      | ⟨1, _⟩ => by have := h.isLt; show h.val + 1 ≤ 8; omega
      | ⟨2, _⟩ => by show 0 + 512 ≤ 512; omega))

/-- The column of head `h` in a block whose lanes are heads. -/
def col (x : Vec F S512x128 .f32) (h : Fin 8) : FVec F S512x1 .f32 :=
  View.ld x (Rect.unit (s := S512x128) ![0, h.val] S512x1.size
    (show ∀ a : Fin 2, _ from Fin.forall_fin_two.mpr
      ⟨by show 0 + 512 ≤ 512; omega, by have := h.isLt; show h.val + 1 ≤ 128; omega⟩))

/-- Eight slabs stacked. -/
def stack (g : Fin 8 → FVec F S512x128 .f32) : Vec F S8x512x128 .f32 := fun y => g (y 0) (ix2 (y 1) (y 2))

/-- Eight groups of 128 columns side by side. -/
def beside (g : Fin 8 → FVec F S512x128 .f32) : Vec F S512x1024 .f32 :=
  fun y => g ⟨(y 1).val / 128, by have := idx2_lt1 y; omega⟩ (ix2 (y 0) ⟨(y 1).val % 128, Nat.mod_lt _ (by omega)⟩)

/-! ## One head -/

/-- The scores in base two: `q · k · (1/√128) · log₂ e`, less the key's cumulative log gate times `log₂ e`. -/
def scores (q k : FVec F S512x128 .f32) (ck : FVec F S1x1x512 .f32) : FVec F S512x512 .f32 :=
  subf
    (mulf
      (matmul dot_S512x128_S512x128_S512x512_1_1_0_0_n_n none
        (truncf .bf16 (shapeCast S512x128 q shapeCasts_S512x128_S512x128) bitsLt_bf16_f32)
        (truncf .bf16 (shapeCast S512x128 k shapeCasts_S512x128_S512x128) bitsLt_bf16_f32)
        (constant S512x512 .f32 0x00000000#32))
      (broadcast S512x512 (Named.named κ "scale2" 0x3E0293EE#32)))
    (broadcastTo S512x512
      (mulf (shapeCast S1x512 ck shapeCasts_S1x1x512_S1x512)
        (broadcast S1x512 (Named.named κ "log2e" 0x3FB8AA3B#32)))
      broadcasts_S1x512_S512x512)

/-- On the diagonal tile the keys after the query are masked. -/
def causal (u : FVec F S512x512 .f32) : FVec F S512x512 .f32 :=
  select (cmpi .sge (iota .tc S512x512 32 [0] iota_S512x512_d0_w32) (iota .tc S512x512 32 [1] iota_S512x512_d1_w32)) u
    (broadcast S512x512 (Named.named κ "mask" 0xF149F2CA#32))

/-- The scores of a tile, masked when the tile lies on the diagonal. -/
def tileScores (diag : Bool) (q k : FVec F S512x128 .f32) (ck : FVec F S1x1x512 .f32) : FVec F S512x512 .f32 :=
  match diag with
  | true => causal (scores q k ck)
  | false => scores q k ck

/-- A value per row, repeated over the lanes. -/
def spread (v : FVec F S512 .f32) : FVec F S512x128 .f32 :=
  broadcastTo S512x128 (shapeCast S512x1 (shapeCast S512x1 v shapeCasts_S512_S512x1) shapeCasts_S512x1_S512x1)
    broadcasts_S512x1_S512x128

/-- A slab without its leading axis. -/
def flat (v : FVec F S1x512x128 .f32) : FVec F S512x128 .f32 := shapeCast S512x128 v shapeCasts_S1x512x128_S512x128

/-- A slab given its leading axis of one. -/
def unflat (v : FVec F S512x128 .f32) : FVec F S1x512x128 .f32 := shapeCast S1x512x128 v shapeCasts_S512x128_S1x512x128

/-- The running maximum after a tile. -/
def newMax (u : FVec F S512x512 .f32) (cq m : FVec F S1x512x128 .f32) : FVec F S512x128 .f32 :=
  maximumf (flat m)
    (addf (spread (multiReduction .maximumf [1] S512 u 0xFF800000#32 reduces_S512x512_S512 (.inl rfl) rfl)) (flat cq))

/-- The weights of a tile's keys against the new maximum. -/
def weights (u : FVec F S512x512 .f32) (cq m : FVec F S1x512x128 .f32) : FVec F S512x512 .f32 :=
  exp2 (subf u (concatenate S512x512 1
    [⟨S512x128, subf (newMax u cq m) (flat cq)⟩, ⟨S512x128, subf (newMax u cq m) (flat cq)⟩,
      ⟨S512x128, subf (newMax u cq m) (flat cq)⟩, ⟨S512x128, subf (newMax u cq m) (flat cq)⟩]
    concatenates_S512x128_S512x128_S512x128_S512x128_S512x512_d1))

/-- The factor that rescales what was accumulated against the old maximum. -/
def decay (u : FVec F S512x512 .f32) (cq m : FVec F S1x512x128 .f32) : FVec F S512x128 .f32 :=
  exp2 (subf (flat m) (newMax u cq m))

/-- The running sum of weights after a tile. -/
def newSum (u : FVec F S512x512 .f32) (cq m l : FVec F S1x512x128 .f32) : FVec F S512x128 .f32 :=
  addf (mulf (decay u cq m) (flat l))
    (spread (multiReduction .add [1] S512 (weights u cq m) 0x00000000#32 reduces_S512x512_S512 (.inl rfl) rfl))

/-- The running weighted sum of values after a tile. -/
def newAcc (u : FVec F S512x512 .f32) (cq m : FVec F S1x512x128 .f32) (acc v : FVec F S512x128 .f32) : FVec F S512x128 .f32 :=
  shapeCast S512x128
    (addf (mulf (decay u cq m) acc)
      (matmul dot_S512x512_S512x128_S512x128_1_0_0_1_n_n none (truncf .bf16 (weights u cq m) bitsLt_bf16_f32)
        (truncf .bf16 (shapeCast S512x128 v shapeCasts_S512x128_S512x128) bitsLt_bf16_f32)
        (constant S512x128 .f32 0x00000000#32)))
    shapeCasts_S512x128_S512x128

/-- The result of a head: the weighted sum over the sum of weights, the latter kept away from zero. -/
def quot (acc : FVec F S512x128 .f32) (l : FVec F S1x512x128 .f32) : FVec F S512x128 .f32 :=
  divf acc (maximumf (flat l) (broadcast S512x128 (Scalar.ofBits .f32 0x0DA24260#32)))

/-- A query block's cumulative log gate, times `log₂ e`, repeated over the lanes. -/
def gate (c : FVec F S512x1 .f32) : FVec F S512x128 .f32 :=
  broadcastTo S512x128
    (shapeCast S512x1
      (mulf (shapeCast S512x1 c shapeCasts_S512x1_S512x1) (broadcast S512x1 (Named.named κ "log2e" 0x3FB8AA3B#32)))
      shapeCasts_S512x1_S512x1)
    broadcasts_S512x1_S512x128

/-! ## All heads -/

/-- What the scratch arrays hold between grid points. -/
structure State (F : FTy → Type) where
  /-- the running maximum -/
  m : Vec F S8x512x128 .f32
  /-- the running sum of weights -/
  l : Vec F S8x512x128 .f32
  /-- the running weighted sum of values -/
  acc : Vec F S512x1024 .f32
  /-- the query rows' cumulative log gate, times `log₂ e` -/
  cq : Vec F S8x512x128 .f32

/-- The running maximum after a tile, all heads. -/
def stepM (diag : Bool) (q k : Vec F S512x1024 .f32) (ck : Vec F S1x8x512 .f32) (s : State F) : Vec F S8x512x128 .f32 :=
  stack fun h => newMax (tileScores diag (cut q h) (cut k h) (row ck h)) (slab s.cq h) (slab s.m h)

/-- The running sum of weights after a tile, all heads. -/
def stepL (diag : Bool) (q k : Vec F S512x1024 .f32) (ck : Vec F S1x8x512 .f32) (s : State F) : Vec F S8x512x128 .f32 :=
  stack fun h => newSum (tileScores diag (cut q h) (cut k h) (row ck h)) (slab s.cq h) (slab s.m h) (slab s.l h)

/-- The running weighted sum after a tile, all heads. -/
def stepA (diag : Bool) (q k v : Vec F S512x1024 .f32) (ck : Vec F S1x8x512 .f32) (s : State F) : Vec F S512x1024 .f32 :=
  beside fun h => newAcc (tileScores diag (cut q h) (cut k h) (row ck h)) (slab s.cq h) (slab s.m h) (cut s.acc h) (cut v h)

/-- One tile. -/
def step (diag : Bool) (q k v : Vec F S512x1024 .f32) (ck : Vec F S1x8x512 .f32) (s : State F) : State F where
  m := stepM diag q k ck s
  l := stepL diag q k ck s
  acc := stepA diag q k v ck s
  cq := s.cq

/-- The state a query block starts from. -/
def start (c : Vec F S512x128 .f32) : State F where
  m := shapeCast S8x512x128 (broadcast S8x512x128 (Named.named κ "mask" 0xF149F2CA#32)) shapeCasts_S8x512x128_S8x512x128
  l := shapeCast S8x512x128 (broadcast S8x512x128 (Scalar.ofBits .f32 0x00000000#32)) shapeCasts_S8x512x128_S8x512x128
  acc := shapeCast S512x1024 (broadcast S512x1024 (Scalar.ofBits .f32 0x00000000#32)) shapeCasts_S512x1024_S512x1024
  cq := stack fun h => gate (col c h)

/-- The block of results a state stands for. -/
def result (s : State F) : Vec F S512x1024 .f32 := beside fun h => quot (cut s.acc h) (slab s.l h)

theorem step_m (diag : Bool) (q k v : Vec F S512x1024 .f32) (ck : Vec F S1x8x512 .f32) (s : State F) :
    (step diag q k v ck s).m = stack fun h =>
      newMax (tileScores diag (cut q h) (cut k h) (row ck h)) (slab s.cq h) (slab s.m h) := rfl

theorem step_l (diag : Bool) (q k v : Vec F S512x1024 .f32) (ck : Vec F S1x8x512 .f32) (s : State F) :
    (step diag q k v ck s).l = stack fun h =>
      newSum (tileScores diag (cut q h) (cut k h) (row ck h)) (slab s.cq h) (slab s.m h) (slab s.l h) := rfl

theorem step_acc (diag : Bool) (q k v : Vec F S512x1024 .f32) (ck : Vec F S1x8x512 .f32) (s : State F) :
    (step diag q k v ck s).acc = beside fun h =>
      newAcc (tileScores diag (cut q h) (cut k h) (row ck h)) (slab s.cq h) (slab s.m h) (cut s.acc h) (cut v h) := rfl

theorem step_cq (diag : Bool) (q k v : Vec F S512x1024 .f32) (ck : Vec F S1x8x512 .f32) (s : State F) :
    (step diag q k v ck s).cq = s.cq := rfl

theorem start_cq (c : Vec F S512x128 .f32) : (start c).cq = stack fun h => gate (col c h) := rfl

/-! ## Loads and stores of one head's part -/

theorem cut_apply (x : Vec F S512x1024 .f32) (h : Fin 8) (y : S512x128.Idx) :
    cut x h y = x (ix2 (y 0) ⟨128 * h.val + (y 1).val, by have := idx2_lt1 y; omega⟩) := by
  refine congrArg x (funext fun a => Fin.ext ?_)
  match a with
  | ⟨0, _⟩ => show 0 + 1 * (y 0).val = (y 0).val; omega
  | ⟨1, _⟩ => show 128 * h.val + 1 * (y 1).val = 128 * h.val + (y 1).val; omega

theorem slab_apply (x : Vec F S8x512x128 .f32) (h : Fin 8) (y : S1x512x128.Idx) : slab x h y = x (ix3 h (y 1) (y 2)) := by
  refine congrArg x (funext fun a => Fin.ext ?_)
  match a with
  | ⟨0, _⟩ =>
    have : (y 0).val < 1 := (y 0).isLt
    show h.val + 1 * (y 0).val = h.val; omega
  | ⟨1, _⟩ => show 0 + 1 * (y 1).val = (y 1).val; omega
  | ⟨2, _⟩ => show 0 + 1 * (y 2).val = (y 2).val; omega

theorem row_apply (x : Vec F S1x8x512 .f32) (h : Fin 8) (y : S1x1x512.Idx) : row x h y = x (ix3 (y 0) h (y 2)) := by
  refine congrArg x (funext fun a => Fin.ext ?_)
  match a with
  | ⟨0, _⟩ => show 0 + 1 * (y 0).val = (y 0).val; omega
  | ⟨1, _⟩ =>
    have : (y 1).val < 1 := (y 1).isLt
    show h.val + 1 * (y 1).val = h.val; omega
  | ⟨2, _⟩ => show 0 + 1 * (y 2).val = (y 2).val; omega

theorem col_apply (x : Vec F S512x128 .f32) (h : Fin 8) (y : S512x1.Idx) :
    col x h y = x (ix2 (y 0) ⟨h.val, by omega⟩) := by
  refine congrArg x (funext fun a => Fin.ext ?_)
  match a with
  | ⟨0, _⟩ => show 0 + 1 * (y 0).val = (y 0).val; omega
  | ⟨1, _⟩ =>
    have : (y 1).val < 1 := (y 1).isLt
    show h.val + 1 * (y 1).val = h.val; omega

theorem unflat_apply (v : FVec F S512x128 .f32) (y : S1x512x128.Idx) : unflat v y = v (ix2 (y 1) (y 2)) := by
  refine (shapeCast_addUnit_apply (n := 2) ![512, 128] v shapeCasts_S512x128_S1x512x128 y).trans (congrArg v ?_)
  funext a
  match a with
  | ⟨0, _⟩ => rfl
  | ⟨1, _⟩ => rfl

theorem slab_stack (g : Fin 8 → FVec F S512x128 .f32) (h : Fin 8) : slab (stack g) h = unflat (g h) :=
  funext fun y => (slab_apply (stack g) h y).trans (unflat_apply (g h) y).symm

theorem cut_beside (g : Fin 8 → FVec F S512x128 .f32) (h : Fin 8) : cut (beside g) h = g h := by
  funext y
  have h1 : (y 1).val < 128 := idx2_lt1 y
  have e1 : (⟨(128 * h.val + (y 1).val) / 128, by omega⟩ : Fin 8) = h := Fin.ext (by show (128 * h.val + (y 1).val) / 128 = h.val; omega)
  have e2 : (⟨(128 * h.val + (y 1).val) % 128, Nat.mod_lt _ (by omega)⟩ : Fin 128) = y 1 :=
    Fin.ext (by show (128 * h.val + (y 1).val) % 128 = (y 1).val; omega)
  rw [cut_apply]
  show g ⟨(128 * h.val + (y 1).val) / 128, _⟩ (ix2 (y 0) ⟨(128 * h.val + (y 1).val) % 128, _⟩) = g h y
  rw [e1, e2]
  exact congrArg (g h) (eq_ix2 y).symm

/-- A stored slab is its part of the stack. -/
theorem stack_piece (g : Fin 8 → FVec F S512x128 .f32) (h : Fin 8) {n : ℕ} (hn : n = h.val)
    (inb : ∀ a, (![n, 0, 0] : Fin 3 → ℕ) a + S1x512x128.size a ≤ S8x512x128.size a)
    (p : FVec F S1x512x128 .f32) (e : p = unflat (g h)) :
    ∀ x : (Rect.unit (s := S8x512x128) ![n, 0, 0] S1x512x128.size inb).shape.Idx,
      p x = stack g ((Rect.unit (s := S8x512x128) ![n, 0, 0] S1x512x128.size inb).emb x) := fun x => by
  subst hn; rw [e, ← slab_stack g h]; rfl

/-- A stored group of columns is its part of the row of groups. -/
theorem beside_piece (g : Fin 8 → FVec F S512x128 .f32) (h : Fin 8) {n : ℕ} (hn : n = 128 * h.val)
    (inb : ∀ a, (![0, n] : Fin 2 → ℕ) a + S512x128.size a ≤ S512x1024.size a)
    (p : FVec F S512x128 .f32) (e : p = g h) :
    ∀ x : (Rect.unit (s := S512x1024) ![0, n] S512x128.size inb).shape.Idx,
      p x = beside g ((Rect.unit (s := S512x1024) ![0, n] S512x128.size inb).emb x) := fun x => by
  subst hn; rw [e, ← cut_beside g h]; rfl

end Cert.KernelIdeal.Fox

end
-- ==== Proof.Conds.lean ====
/-
The four tests a grid point of the kernel makes.
-/
module

public import proofs.«01_k».proof.Proof.Gen.KernelIdeal.Frame

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The first of a query block's grid points: no key block done. -/
abbrev cond0_0 (i : grid0.Coords) : Prop := (Scalar.cmpi .ne (Scalar.extui (Scalar.cmpi .eq (BitVec.ofNat 32 (i 2).val) 0#32)) 0#32) = 1#1
/-- The key block lies before the query block. -/
abbrev cond0_1 (i : grid0.Coords) : Prop := (Scalar.cmpi .ne (Scalar.extui (Scalar.cmpi .slt (BitVec.ofNat 32 (i 2).val) (BitVec.ofNat 32 (i 1).val))) 0#32) = 1#1
/-- The key block is the query block's own. -/
abbrev cond0_2 (i : grid0.Coords) : Prop := (Scalar.cmpi .ne (Scalar.extui (Scalar.cmpi .eq (BitVec.ofNat 32 (i 2).val) (BitVec.ofNat 32 (i 1).val))) 0#32) = 1#1
/-- The results are written. -/
abbrev cond0_3 (i : grid0.Coords) : Prop := k0_cond4 i = 1#1

end Cert.KernelIdeal.Fox

end
-- ==== Proof.CaseA.lean ====
/-
The kernel body at a grid point of case A: what it leaves in the scratch arrays and in the result block.
-/
module

public import proofs.«01_k».proof.Proof.Heads
public import proofs.«01_k».proof.Proof.Conds

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

set_option maxHeartbeats 1600000 in
/-- The first query block against its own key block: the state is started, one masked tile is taken, the result is written. -/
theorem run_A (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : cond0_0 i) (hc1 : ¬cond0_1 i) (hc2 : cond0_2 i) (hc3 : cond0_3 i)
    (x0 x1 x2 : Vec F S512x1024 .f32) (x3 : Vec F S512x128 .f32) (x4 : Vec F S1x8x512 .f32) (E : Set ℕ) (K : PUnit → sProp 𝕄) :
    iprop(owns (c : Thread nD τ) arg3 fullShare x0
      ∗ owns (c : Thread nD τ) arg4 fullShare x1
      ∗ owns (c : Thread nD τ) arg5 fullShare x2
      ∗ owns (c : Thread nD τ) arg6 fullShare x3
      ∗ owns (c : Thread nD τ) arg7 fullShare x4
      ∗ (∃ v, owns (c : Thread nD τ) arg8 fullShare v)
      ∗ (∃ v, owns (c : Thread nD τ) arg9 fullShare v)
      ∗ (∃ v, owns (c : Thread nD τ) arg10 fullShare v)
      ∗ (∃ v, owns (c : Thread nD τ) arg11 fullShare v)
      ∗ (∃ v, owns (c : Thread nD τ) arg12 fullShare v)
      ∗ (iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ owns (c : Thread nD τ) arg8 fullShare (result (step true x0 x1 x2 x4 (start x3)))
        ∗ owns (c : Thread nD τ) arg9 fullShare (step true x0 x1 x2 x4 (start x3)).m
        ∗ owns (c : Thread nD τ) arg10 fullShare (step true x0 x1 x2 x4 (start x3)).l
        ∗ owns (c : Thread nD τ) arg11 fullShare (step true x0 x1 x2 x4 (start x3)).acc
        ∗ owns (c : Thread nD τ) arg12 fullShare (step true x0 x1 x2 x4 (start x3)).cq) -∗ K ⟨⟩))
      ⊢ wp frame (wpE (defs₀ (F := F)) Variants.none c none) E (cc0_fox_prompt i arg3 harg3 arg4 harg4 arg5 harg5 arg6 harg6 arg7 harg7 arg8 harg8 arg9 harg9 arg10 harg10 arg11 harg11 arg12 harg12) K := by
  simp only [cc0_fox_prompt_eq_skeleton]; unfold cc0_fox_prompt_skel
  simp only [k0_part1_eq_skeleton, k0_part2_eq_skeleton, k0_part27_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part28_eq_skeleton, k0_part29_eq_skeleton]
  unfold owns
  iintro ⟨⟨%f0, %hf0, H0⟩, ⟨%f1, %hf1, H1⟩, ⟨%f2, %hf2, H2⟩, ⟨%f3, %hf3, H3⟩, ⟨%f4, %hf4, H4⟩, ⟨%vf5, %f5, %hf5, H5⟩, ⟨%vfs0, %fs0, %hfs0, HS0⟩, ⟨%vfs1, %fs1, %hfs1, HS1⟩, ⟨%vfs2, %fs2, %hfs2, HS2⟩, ⟨%vfs3, %fs3, %hfs3, HS3⟩, Hk⟩
  obtain rfl := hf0; obtain rfl := hf1; obtain rfl := hf2; obtain rfl := hf3; obtain rfl := hf4; obtain rfl := hf5; obtain rfl := hfs0; obtain rfl := hfs1; obtain rfl := hfs2; obtain rfl := hfs3
  (set_option sl_exec.stopBefore "k0_part27" in
    sl_exec (disch := first | sl_exact hc0 | sl_exact hc1 | sl_exact hc2 | sl_exact hc3))
  generalize hg0 : arg9.view.writes (Elt F) fs0 _ = g0
  generalize hg1 : arg10.view.writes (Elt F) fs1 _ = g1
  generalize hg2 : arg11.view.writes (Elt F) fs2 _ = g2
  generalize hg3 : arg12.view.writes (Elt F) fs3 _ = g3
  have hr0 : View.read (Elt F) arg9.view g0 = (start (View.read (Elt F) arg6.view f3)).m := by
    rw [← hg0]
    exact (View.read_writes_eq_canon _ _ _ (View.cover_of_tiledL _ S8x512x128.size (by sl_kernel_rfl))).trans (View.canon_unit_zero (by decide) _ _)
  clear hg0
  have hr1 : View.read (Elt F) arg10.view g1 = (start (View.read (Elt F) arg6.view f3)).l := by
    rw [← hg1]
    exact (View.read_writes_eq_canon _ _ _ (View.cover_of_tiledL _ S8x512x128.size (by sl_kernel_rfl))).trans (View.canon_unit_zero (by decide) _ _)
  clear hg1
  have hr2 : View.read (Elt F) arg11.view g2 = (start (View.read (Elt F) arg6.view f3)).acc := by
    rw [← hg2]
    exact (View.read_writes_eq_canon _ _ _ (View.cover_of_tiledL _ S512x1024.size (by sl_kernel_rfl))).trans (View.canon_unit_zero (by decide) _ _)
  clear hg2
  have hr3 : View.read (Elt F) arg12.view g3 = (start (View.read (Elt F) arg6.view f3)).cq := by
    rw [← hg3]
    refine (View.read_writes_eq_canon _ _ _ ?_).trans ?_
    · exact View.cover_of_tiledL _ S1x512x128.size (by sl_kernel_rfl)
    refine funext fun y => View.canon_apply_of_pieces _ _ (View.PiecesOf.mem ?_) y ?_
    · rw [start_cq]
      refine ⟨stack_piece _ 7 rfl inb_S8x512x128_S1x512x128_7_0_0 _ ?_, stack_piece _ 6 rfl inb_S8x512x128_S1x512x128_6_0_0 _ ?_, stack_piece _ 5 rfl inb_S8x512x128_S1x512x128_5_0_0 _ ?_, stack_piece _ 4 rfl inb_S8x512x128_S1x512x128_4_0_0 _ ?_, stack_piece _ 3 rfl inb_S8x512x128_S1x512x128_3_0_0 _ ?_, stack_piece _ 2 rfl inb_S8x512x128_S1x512x128_2_0_0 _ ?_, stack_piece _ 1 rfl inb_S8x512x128_S1x512x128_1_0_0 _ ?_, stack_piece _ 0 rfl inb_S8x512x128_S1x512x128_0_0_0 _ ?_, trivial⟩ <;> rfl
    · revert y; exact View.cover_of_tiledL _ S1x512x128.size (by sl_kernel_rfl)
  clear hg3
  have hs : (start (View.read (Elt F) arg6.view f3)) = ⟨View.read (Elt F) arg9.view g0, View.read (Elt F) arg10.view g1, View.read (Elt F) arg11.view g2, View.read (Elt F) arg12.view g3⟩ := by rw [hr0, hr1, hr2, hr3]
  rw [hs]
  clear hs hr0 hr1 hr2 hr3
  (set_option sl_exec.stopBefore "k0_part28" in
    sl_exec (disch := first | sl_exact hc0 | sl_exact hc1 | sl_exact hc2 | sl_exact hc3))
  generalize hg0 : arg9.view.writes (Elt F) g0 _ = a0
  generalize hg1 : arg10.view.writes (Elt F) g1 _ = a1
  generalize hg2 : arg11.view.writes (Elt F) g2 _ = a2
  have hr0 : View.read (Elt F) arg9.view a0 = (step true (View.read (Elt F) arg3.view f0) (View.read (Elt F) arg4.view f1) (View.read (Elt F) arg5.view f2) (View.read (Elt F) arg7.view f4) ⟨View.read (Elt F) arg9.view g0, View.read (Elt F) arg10.view g1, View.read (Elt F) arg11.view g2, View.read (Elt F) arg12.view g3⟩).m := by
    rw [← hg0]
    refine (View.read_writes_eq_canon _ _ _ ?_).trans ?_
    · exact View.cover_of_tiledL _ S1x512x128.size (by sl_kernel_rfl)
    refine funext fun y => View.canon_apply_of_pieces _ _ (View.PiecesOf.mem ?_) y ?_
    · rw [step_m]
      refine ⟨stack_piece _ 7 rfl inb_S8x512x128_S1x512x128_7_0_0 _ ?_, stack_piece _ 6 rfl inb_S8x512x128_S1x512x128_6_0_0 _ ?_, stack_piece _ 5 rfl inb_S8x512x128_S1x512x128_5_0_0 _ ?_, stack_piece _ 4 rfl inb_S8x512x128_S1x512x128_4_0_0 _ ?_, stack_piece _ 3 rfl inb_S8x512x128_S1x512x128_3_0_0 _ ?_, stack_piece _ 2 rfl inb_S8x512x128_S1x512x128_2_0_0 _ ?_, stack_piece _ 1 rfl inb_S8x512x128_S1x512x128_1_0_0 _ ?_, stack_piece _ 0 rfl inb_S8x512x128_S1x512x128_0_0_0 _ ?_, trivial⟩ <;> rfl
    · revert y; exact View.cover_of_tiledL _ S1x512x128.size (by sl_kernel_rfl)
  clear hg0
  have hr1 : View.read (Elt F) arg10.view a1 = (step true (View.read (Elt F) arg3.view f0) (View.read (Elt F) arg4.view f1) (View.read (Elt F) arg5.view f2) (View.read (Elt F) arg7.view f4) ⟨View.read (Elt F) arg9.view g0, View.read (Elt F) arg10.view g1, View.read (Elt F) arg11.view g2, View.read (Elt F) arg12.view g3⟩).l := by
    rw [← hg1]
    refine (View.read_writes_eq_canon _ _ _ ?_).trans ?_
    · exact View.cover_of_tiledL _ S1x512x128.size (by sl_kernel_rfl)
    refine funext fun y => View.canon_apply_of_pieces _ _ (View.PiecesOf.mem ?_) y ?_
    · rw [step_l]
      refine ⟨stack_piece _ 7 rfl inb_S8x512x128_S1x512x128_7_0_0 _ ?_, stack_piece _ 6 rfl inb_S8x512x128_S1x512x128_6_0_0 _ ?_, stack_piece _ 5 rfl inb_S8x512x128_S1x512x128_5_0_0 _ ?_, stack_piece _ 4 rfl inb_S8x512x128_S1x512x128_4_0_0 _ ?_, stack_piece _ 3 rfl inb_S8x512x128_S1x512x128_3_0_0 _ ?_, stack_piece _ 2 rfl inb_S8x512x128_S1x512x128_2_0_0 _ ?_, stack_piece _ 1 rfl inb_S8x512x128_S1x512x128_1_0_0 _ ?_, stack_piece _ 0 rfl inb_S8x512x128_S1x512x128_0_0_0 _ ?_, trivial⟩ <;> rfl
    · revert y; exact View.cover_of_tiledL _ S1x512x128.size (by sl_kernel_rfl)
  clear hg1
  have hr2 : View.read (Elt F) arg11.view a2 = (step true (View.read (Elt F) arg3.view f0) (View.read (Elt F) arg4.view f1) (View.read (Elt F) arg5.view f2) (View.read (Elt F) arg7.view f4) ⟨View.read (Elt F) arg9.view g0, View.read (Elt F) arg10.view g1, View.read (Elt F) arg11.view g2, View.read (Elt F) arg12.view g3⟩).acc := by
    rw [← hg2]
    refine (View.read_writes_eq_canon _ _ _ ?_).trans ?_
    · exact View.cover_of_tiledL _ S512x128.size (by sl_kernel_rfl)
    refine funext fun y => View.canon_apply_of_pieces _ _ (View.PiecesOf.mem ?_) y ?_
    · rw [step_acc]
      refine ⟨beside_piece _ 7 rfl inb_S512x1024_S512x128_0_896 _ ?_, beside_piece _ 6 rfl inb_S512x1024_S512x128_0_768 _ ?_, beside_piece _ 5 rfl inb_S512x1024_S512x128_0_640 _ ?_, beside_piece _ 4 rfl inb_S512x1024_S512x128_0_512 _ ?_, beside_piece _ 3 rfl inb_S512x1024_S512x128_0_384 _ ?_, beside_piece _ 2 rfl inb_S512x1024_S512x128_0_256 _ ?_, beside_piece _ 1 rfl inb_S512x1024_S512x128_0_128 _ ?_, beside_piece _ 0 rfl inb_S512x1024_S512x128_0_0 _ ?_, trivial⟩ <;> rfl
    · revert y; exact View.cover_of_tiledL _ S512x128.size (by sl_kernel_rfl)
  clear hg2
  have hs : (step true (View.read (Elt F) arg3.view f0) (View.read (Elt F) arg4.view f1) (View.read (Elt F) arg5.view f2) (View.read (Elt F) arg7.view f4) ⟨View.read (Elt F) arg9.view g0, View.read (Elt F) arg10.view g1, View.read (Elt F) arg11.view g2, View.read (Elt F) arg12.view g3⟩) = ⟨View.read (Elt F) arg9.view a0, View.read (Elt F) arg10.view a1, View.read (Elt F) arg11.view a2, View.read (Elt F) arg12.view g3⟩ := by rw [hr0, hr1, hr2]; rfl
  rw [hs]
  clear hs hr0 hr1 hr2
  sl_exec (disch := first | sl_exact hc0 | sl_exact hc1 | sl_exact hc2 | sl_exact hc3)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro
    refine (View.read_writes_eq_canon _ _ _ ?_).trans ?_
    · exact View.cover_of_tiledL _ S512x128.size (by sl_kernel_rfl)
    refine funext fun y => View.canon_apply_of_pieces _ _ (View.PiecesOf.mem ?_) y ?_
    · rw [result]
      refine ⟨beside_piece _ 7 rfl inb_S512x1024_S512x128_0_896 _ ?_, beside_piece _ 6 rfl inb_S512x1024_S512x128_0_768 _ ?_, beside_piece _ 5 rfl inb_S512x1024_S512x128_0_640 _ ?_, beside_piece _ 4 rfl inb_S512x1024_S512x128_0_512 _ ?_, beside_piece _ 3 rfl inb_S512x1024_S512x128_0_384 _ ?_, beside_piece _ 2 rfl inb_S512x1024_S512x128_0_256 _ ?_, beside_piece _ 1 rfl inb_S512x1024_S512x128_0_128 _ ?_, beside_piece _ 0 rfl inb_S512x1024_S512x128_0_0 _ ?_, trivial⟩ <;> rfl
    · revert y; exact View.cover_of_tiledL _ S512x128.size (by sl_kernel_rfl)
  isplitl [HS0]
  · iexists _; isplitr; · ipureintro; rfl
    iexact HS0
  isplitl [HS1]
  · iexists _; isplitr; · ipureintro; rfl
    iexact HS1
  isplitl [HS2]
  · iexists _; isplitr; · ipureintro; rfl
    iexact HS2
  iexists _; isplitr; · ipureintro; rfl
  iexact HS3

end Cert.KernelIdeal.Fox

end
-- ==== Proof.CaseB.lean ====
/-
The kernel body at a grid point past the diagonal: it does nothing.
-/
module

public import proofs.«01_k».proof.Proof.Heads
public import proofs.«01_k».proof.Proof.Conds

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- Past the diagonal the body does nothing. -/
theorem run_B (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : ¬cond0_0 i) (hc1 : ¬cond0_1 i) (hc2 : ¬cond0_2 i) (hc3 : ¬cond0_3 i)
    (E : Set ℕ) (K : PUnit → sProp 𝕄) :
    K ⟨⟩ ⊢ wp frame (wpE (defs₀ (F := F)) Variants.none c none) E (cc0_fox_prompt i arg3 harg3 arg4 harg4 arg5 harg5 arg6 harg6 arg7 harg7 arg8 harg8 arg9 harg9 arg10 harg10 arg11 harg11 arg12 harg12) K := by
  simp only [cc0_fox_prompt_eq_skeleton]; unfold cc0_fox_prompt_skel
  iintro Hk
  sl_exec (disch := first | sl_exact hc0 | sl_exact hc1 | sl_exact hc2 | sl_exact hc3)
  sl_step
  iexact Hk

end Cert.KernelIdeal.Fox

end
-- ==== Proof.CaseC.lean ====
/-
The kernel body at a grid point of case C: what it leaves in the scratch arrays and in the result block.
-/
module

public import proofs.«01_k».proof.Proof.Heads
public import proofs.«01_k».proof.Proof.Conds

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

set_option maxHeartbeats 1600000 in
/-- The first key block of a later query block: the state is started and one unmasked tile is taken. -/
theorem run_C (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : cond0_0 i) (hc1 : cond0_1 i) (hc2 : ¬cond0_2 i) (hc3 : ¬cond0_3 i)
    (x0 x1 x2 : Vec F S512x1024 .f32) (x3 : Vec F S512x128 .f32) (x4 : Vec F S1x8x512 .f32) (E : Set ℕ) (K : PUnit → sProp 𝕄) :
    iprop(owns (c : Thread nD τ) arg3 fullShare x0
      ∗ owns (c : Thread nD τ) arg4 fullShare x1
      ∗ owns (c : Thread nD τ) arg5 fullShare x2
      ∗ owns (c : Thread nD τ) arg6 fullShare x3
      ∗ owns (c : Thread nD τ) arg7 fullShare x4
      ∗ (∃ v, owns (c : Thread nD τ) arg9 fullShare v)
      ∗ (∃ v, owns (c : Thread nD τ) arg10 fullShare v)
      ∗ (∃ v, owns (c : Thread nD τ) arg11 fullShare v)
      ∗ (∃ v, owns (c : Thread nD τ) arg12 fullShare v)
      ∗ (iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ owns (c : Thread nD τ) arg9 fullShare (step false x0 x1 x2 x4 (start x3)).m
        ∗ owns (c : Thread nD τ) arg10 fullShare (step false x0 x1 x2 x4 (start x3)).l
        ∗ owns (c : Thread nD τ) arg11 fullShare (step false x0 x1 x2 x4 (start x3)).acc
        ∗ owns (c : Thread nD τ) arg12 fullShare (step false x0 x1 x2 x4 (start x3)).cq) -∗ K ⟨⟩))
      ⊢ wp frame (wpE (defs₀ (F := F)) Variants.none c none) E (cc0_fox_prompt i arg3 harg3 arg4 harg4 arg5 harg5 arg6 harg6 arg7 harg7 arg8 harg8 arg9 harg9 arg10 harg10 arg11 harg11 arg12 harg12) K := by
  simp only [cc0_fox_prompt_eq_skeleton]; unfold cc0_fox_prompt_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%vfs0, %fs0, %hfs0, HS0⟩, ⟨%vfs1, %fs1, %hfs1, HS1⟩, ⟨%vfs2, %fs2, %hfs2, HS2⟩, ⟨%vfs3, %fs3, %hfs3, HS3⟩, Hk⟩
  obtain rfl := hf0; obtain rfl := hf1; obtain rfl := hf2; obtain rfl := hf3; obtain rfl := hf4; obtain rfl := hfs0; obtain rfl := hfs1; obtain rfl := hfs2; obtain rfl := hfs3
  (set_option sl_exec.stopBefore "k0_part3" in
    sl_exec (disch := first | sl_exact hc0 | sl_exact hc1 | sl_exact hc2 | sl_exact hc3))
  generalize hg0 : arg9.view.writes (Elt F) fs0 _ = g0
  generalize hg1 : arg10.view.writes (Elt F) fs1 _ = g1
  generalize hg2 : arg11.view.writes (Elt F) fs2 _ = g2
  generalize hg3 : arg12.view.writes (Elt F) fs3 _ = g3
  have hr0 : View.read (Elt F) arg9.view g0 = (start (View.read (Elt F) arg6.view f3)).m := by
    rw [← hg0]
    exact (View.read_writes_eq_canon _ _ _ (View.cover_of_tiledL _ S8x512x128.size (by sl_kernel_rfl))).trans (View.canon_unit_zero (by decide) _ _)
  clear hg0
  have hr1 : View.read (Elt F) arg10.view g1 = (start (View.read (Elt F) arg6.view f3)).l := by
    rw [← hg1]
    exact (View.read_writes_eq_canon _ _ _ (View.cover_of_tiledL _ S8x512x128.size (by sl_kernel_rfl))).trans (View.canon_unit_zero (by decide) _ _)
  clear hg1
  have hr2 : View.read (Elt F) arg11.view g2 = (start (View.read (Elt F) arg6.view f3)).acc := by
    rw [← hg2]
    exact (View.read_writes_eq_canon _ _ _ (View.cover_of_tiledL _ S512x1024.size (by sl_kernel_rfl))).trans (View.canon_unit_zero (by decide) _ _)
  clear hg2
  have hr3 : View.read (Elt F) arg12.view g3 = (start (View.read (Elt F) arg6.view f3)).cq := by
    rw [← hg3]
    refine (View.read_writes_eq_canon _ _ _ ?_).trans ?_
    · exact View.cover_of_tiledL _ S1x512x128.size (by sl_kernel_rfl)
    refine funext fun y => View.canon_apply_of_pieces _ _ (View.PiecesOf.mem ?_) y ?_
    · rw [start_cq]
      refine ⟨stack_piece _ 7 rfl inb_S8x512x128_S1x512x128_7_0_0 _ ?_, stack_piece _ 6 rfl inb_S8x512x128_S1x512x128_6_0_0 _ ?_, stack_piece _ 5 rfl inb_S8x512x128_S1x512x128_5_0_0 _ ?_, stack_piece _ 4 rfl inb_S8x512x128_S1x512x128_4_0_0 _ ?_, stack_piece _ 3 rfl inb_S8x512x128_S1x512x128_3_0_0 _ ?_, stack_piece _ 2 rfl inb_S8x512x128_S1x512x128_2_0_0 _ ?_, stack_piece _ 1 rfl inb_S8x512x128_S1x512x128_1_0_0 _ ?_, stack_piece _ 0 rfl inb_S8x512x128_S1x512x128_0_0_0 _ ?_, trivial⟩ <;> rfl
    · revert y; exact View.cover_of_tiledL _ S1x512x128.size (by sl_kernel_rfl)
  clear hg3
  have hs : (start (View.read (Elt F) arg6.view f3)) = ⟨View.read (Elt F) arg9.view g0, View.read (Elt F) arg10.view g1, View.read (Elt F) arg11.view g2, View.read (Elt F) arg12.view g3⟩ := by rw [hr0, hr1, hr2, hr3]
  rw [hs]
  clear hs hr0 hr1 hr2 hr3
  sl_exec (disch := first | sl_exact hc0 | sl_exact hc1 | sl_exact hc2 | sl_exact hc3)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [HS0]
  · iexists _; isplitr
    swap; · iexact HS0
    ipureintro
    refine (View.read_writes_eq_canon _ _ _ ?_).trans ?_
    · exact View.cover_of_tiledL _ S1x512x128.size (by sl_kernel_rfl)
    refine funext fun y => View.canon_apply_of_pieces _ _ (View.PiecesOf.mem ?_) y ?_
    · rw [step_m]
      refine ⟨stack_piece _ 7 rfl inb_S8x512x128_S1x512x128_7_0_0 _ ?_, stack_piece _ 6 rfl inb_S8x512x128_S1x512x128_6_0_0 _ ?_, stack_piece _ 5 rfl inb_S8x512x128_S1x512x128_5_0_0 _ ?_, stack_piece _ 4 rfl inb_S8x512x128_S1x512x128_4_0_0 _ ?_, stack_piece _ 3 rfl inb_S8x512x128_S1x512x128_3_0_0 _ ?_, stack_piece _ 2 rfl inb_S8x512x128_S1x512x128_2_0_0 _ ?_, stack_piece _ 1 rfl inb_S8x512x128_S1x512x128_1_0_0 _ ?_, stack_piece _ 0 rfl inb_S8x512x128_S1x512x128_0_0_0 _ ?_, trivial⟩ <;> rfl
    · revert y; exact View.cover_of_tiledL _ S1x512x128.size (by sl_kernel_rfl)
  isplitl [HS1]
  · iexists _; isplitr
    swap; · iexact HS1
    ipureintro
    refine (View.read_writes_eq_canon _ _ _ ?_).trans ?_
    · exact View.cover_of_tiledL _ S1x512x128.size (by sl_kernel_rfl)
    refine funext fun y => View.canon_apply_of_pieces _ _ (View.PiecesOf.mem ?_) y ?_
    · rw [step_l]
      refine ⟨stack_piece _ 7 rfl inb_S8x512x128_S1x512x128_7_0_0 _ ?_, stack_piece _ 6 rfl inb_S8x512x128_S1x512x128_6_0_0 _ ?_, stack_piece _ 5 rfl inb_S8x512x128_S1x512x128_5_0_0 _ ?_, stack_piece _ 4 rfl inb_S8x512x128_S1x512x128_4_0_0 _ ?_, stack_piece _ 3 rfl inb_S8x512x128_S1x512x128_3_0_0 _ ?_, stack_piece _ 2 rfl inb_S8x512x128_S1x512x128_2_0_0 _ ?_, stack_piece _ 1 rfl inb_S8x512x128_S1x512x128_1_0_0 _ ?_, stack_piece _ 0 rfl inb_S8x512x128_S1x512x128_0_0_0 _ ?_, trivial⟩ <;> rfl
    · revert y; exact View.cover_of_tiledL _ S1x512x128.size (by sl_kernel_rfl)
  isplitl [HS2]
  · iexists _; isplitr
    swap; · iexact HS2
    ipureintro
    refine (View.read_writes_eq_canon _ _ _ ?_).trans ?_
    · exact View.cover_of_tiledL _ S512x128.size (by sl_kernel_rfl)
    refine funext fun y => View.canon_apply_of_pieces _ _ (View.PiecesOf.mem ?_) y ?_
    · rw [step_acc]
      refine ⟨beside_piece _ 7 rfl inb_S512x1024_S512x128_0_896 _ ?_, beside_piece _ 6 rfl inb_S512x1024_S512x128_0_768 _ ?_, beside_piece _ 5 rfl inb_S512x1024_S512x128_0_640 _ ?_, beside_piece _ 4 rfl inb_S512x1024_S512x128_0_512 _ ?_, beside_piece _ 3 rfl inb_S512x1024_S512x128_0_384 _ ?_, beside_piece _ 2 rfl inb_S512x1024_S512x128_0_256 _ ?_, beside_piece _ 1 rfl inb_S512x1024_S512x128_0_128 _ ?_, beside_piece _ 0 rfl inb_S512x1024_S512x128_0_0 _ ?_, trivial⟩ <;> rfl
    · revert y; exact View.cover_of_tiledL _ S512x128.size (by sl_kernel_rfl)
  iexists _; isplitr; · ipureintro; rfl
  iexact HS3

end Cert.KernelIdeal.Fox

end
-- ==== Proof.CaseD.lean ====
/-
The kernel body at a grid point of case D: what it leaves in the scratch arrays and in the result block.
-/
module

public import proofs.«01_k».proof.Proof.Heads
public import proofs.«01_k».proof.Proof.Conds

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

set_option maxHeartbeats 1600000 in
/-- A later query block against its own key block: one masked tile is taken and the result is written. -/
theorem run_D (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : ¬cond0_0 i) (hc1 : ¬cond0_1 i) (hc2 : cond0_2 i) (hc3 : cond0_3 i)
    (x0 x1 x2 : Vec F S512x1024 .f32) (x3 : Vec F S512x128 .f32) (x4 : Vec F S1x8x512 .f32) (xs0 xs1 : Vec F S8x512x128 .f32) (xs2 : Vec F S512x1024 .f32) (xs3 : Vec F S8x512x128 .f32) (E : Set ℕ) (K : PUnit → sProp 𝕄) :
    iprop(owns (c : Thread nD τ) arg3 fullShare x0
      ∗ owns (c : Thread nD τ) arg4 fullShare x1
      ∗ owns (c : Thread nD τ) arg5 fullShare x2
      ∗ owns (c : Thread nD τ) arg6 fullShare x3
      ∗ owns (c : Thread nD τ) arg7 fullShare x4
      ∗ (∃ v, owns (c : Thread nD τ) arg8 fullShare v)
      ∗ owns (c : Thread nD τ) arg9 fullShare xs0
      ∗ owns (c : Thread nD τ) arg10 fullShare xs1
      ∗ owns (c : Thread nD τ) arg11 fullShare xs2
      ∗ owns (c : Thread nD τ) arg12 fullShare xs3
      ∗ (iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ owns (c : Thread nD τ) arg8 fullShare (result (step true x0 x1 x2 x4 ⟨xs0, xs1, xs2, xs3⟩))
        ∗ owns (c : Thread nD τ) arg9 fullShare (step true x0 x1 x2 x4 ⟨xs0, xs1, xs2, xs3⟩).m
        ∗ owns (c : Thread nD τ) arg10 fullShare (step true x0 x1 x2 x4 ⟨xs0, xs1, xs2, xs3⟩).l
        ∗ owns (c : Thread nD τ) arg11 fullShare (step true x0 x1 x2 x4 ⟨xs0, xs1, xs2, xs3⟩).acc
        ∗ owns (c : Thread nD τ) arg12 fullShare (step true x0 x1 x2 x4 ⟨xs0, xs1, xs2, xs3⟩).cq) -∗ K ⟨⟩))
      ⊢ wp frame (wpE (defs₀ (F := F)) Variants.none c none) E (cc0_fox_prompt i arg3 harg3 arg4 harg4 arg5 harg5 arg6 harg6 arg7 harg7 arg8 harg8 arg9 harg9 arg10 harg10 arg11 harg11 arg12 harg12) K := by
  simp only [cc0_fox_prompt_eq_skeleton]; unfold cc0_fox_prompt_skel
  simp only [k0_part27_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part28_eq_skeleton, k0_part29_eq_skeleton]
  unfold owns
  iintro ⟨⟨%f0, %hf0, H0⟩, ⟨%f1, %hf1, H1⟩, ⟨%f2, %hf2, H2⟩, ⟨%f3, %hf3, H3⟩, ⟨%f4, %hf4, H4⟩, ⟨%vf5, %f5, %hf5, H5⟩, ⟨%fs0, %hfs0, HS0⟩, ⟨%fs1, %hfs1, HS1⟩, ⟨%fs2, %hfs2, HS2⟩, ⟨%fs3, %hfs3, HS3⟩, Hk⟩
  obtain rfl := hf0; obtain rfl := hf1; obtain rfl := hf2; obtain rfl := hf3; obtain rfl := hf4; obtain rfl := hf5; obtain rfl := hfs0; obtain rfl := hfs1; obtain rfl := hfs2; obtain rfl := hfs3
  (set_option sl_exec.stopBefore "k0_part28" in
    sl_exec (disch := first | sl_exact hc0 | sl_exact hc1 | sl_exact hc2 | sl_exact hc3))
  generalize hg0 : arg9.view.writes (Elt F) fs0 _ = a0
  generalize hg1 : arg10.view.writes (Elt F) fs1 _ = a1
  generalize hg2 : arg11.view.writes (Elt F) fs2 _ = a2
  have hr0 : View.read (Elt F) arg9.view a0 = (step true (View.read (Elt F) arg3.view f0) (View.read (Elt F) arg4.view f1) (View.read (Elt F) arg5.view f2) (View.read (Elt F) arg7.view f4) ⟨View.read (Elt F) arg9.view fs0, View.read (Elt F) arg10.view fs1, View.read (Elt F) arg11.view fs2, View.read (Elt F) arg12.view fs3⟩).m := by
    rw [← hg0]
    refine (View.read_writes_eq_canon _ _ _ ?_).trans ?_
    · exact View.cover_of_tiledL _ S1x512x128.size (by sl_kernel_rfl)
    refine funext fun y => View.canon_apply_of_pieces _ _ (View.PiecesOf.mem ?_) y ?_
    · rw [step_m]
      refine ⟨stack_piece _ 7 rfl inb_S8x512x128_S1x512x128_7_0_0 _ ?_, stack_piece _ 6 rfl inb_S8x512x128_S1x512x128_6_0_0 _ ?_, stack_piece _ 5 rfl inb_S8x512x128_S1x512x128_5_0_0 _ ?_, stack_piece _ 4 rfl inb_S8x512x128_S1x512x128_4_0_0 _ ?_, stack_piece _ 3 rfl inb_S8x512x128_S1x512x128_3_0_0 _ ?_, stack_piece _ 2 rfl inb_S8x512x128_S1x512x128_2_0_0 _ ?_, stack_piece _ 1 rfl inb_S8x512x128_S1x512x128_1_0_0 _ ?_, stack_piece _ 0 rfl inb_S8x512x128_S1x512x128_0_0_0 _ ?_, trivial⟩ <;> rfl
    · revert y; exact View.cover_of_tiledL _ S1x512x128.size (by sl_kernel_rfl)
  clear hg0
  have hr1 : View.read (Elt F) arg10.view a1 = (step true (View.read (Elt F) arg3.view f0) (View.read (Elt F) arg4.view f1) (View.read (Elt F) arg5.view f2) (View.read (Elt F) arg7.view f4) ⟨View.read (Elt F) arg9.view fs0, View.read (Elt F) arg10.view fs1, View.read (Elt F) arg11.view fs2, View.read (Elt F) arg12.view fs3⟩).l := by
    rw [← hg1]
    refine (View.read_writes_eq_canon _ _ _ ?_).trans ?_
    · exact View.cover_of_tiledL _ S1x512x128.size (by sl_kernel_rfl)
    refine funext fun y => View.canon_apply_of_pieces _ _ (View.PiecesOf.mem ?_) y ?_
    · rw [step_l]
      refine ⟨stack_piece _ 7 rfl inb_S8x512x128_S1x512x128_7_0_0 _ ?_, stack_piece _ 6 rfl inb_S8x512x128_S1x512x128_6_0_0 _ ?_, stack_piece _ 5 rfl inb_S8x512x128_S1x512x128_5_0_0 _ ?_, stack_piece _ 4 rfl inb_S8x512x128_S1x512x128_4_0_0 _ ?_, stack_piece _ 3 rfl inb_S8x512x128_S1x512x128_3_0_0 _ ?_, stack_piece _ 2 rfl inb_S8x512x128_S1x512x128_2_0_0 _ ?_, stack_piece _ 1 rfl inb_S8x512x128_S1x512x128_1_0_0 _ ?_, stack_piece _ 0 rfl inb_S8x512x128_S1x512x128_0_0_0 _ ?_, trivial⟩ <;> rfl
    · revert y; exact View.cover_of_tiledL _ S1x512x128.size (by sl_kernel_rfl)
  clear hg1
  have hr2 : View.read (Elt F) arg11.view a2 = (step true (View.read (Elt F) arg3.view f0) (View.read (Elt F) arg4.view f1) (View.read (Elt F) arg5.view f2) (View.read (Elt F) arg7.view f4) ⟨View.read (Elt F) arg9.view fs0, View.read (Elt F) arg10.view fs1, View.read (Elt F) arg11.view fs2, View.read (Elt F) arg12.view fs3⟩).acc := by
    rw [← hg2]
    refine (View.read_writes_eq_canon _ _ _ ?_).trans ?_
    · exact View.cover_of_tiledL _ S512x128.size (by sl_kernel_rfl)
    refine funext fun y => View.canon_apply_of_pieces _ _ (View.PiecesOf.mem ?_) y ?_
    · rw [step_acc]
      refine ⟨beside_piece _ 7 rfl inb_S512x1024_S512x128_0_896 _ ?_, beside_piece _ 6 rfl inb_S512x1024_S512x128_0_768 _ ?_, beside_piece _ 5 rfl inb_S512x1024_S512x128_0_640 _ ?_, beside_piece _ 4 rfl inb_S512x1024_S512x128_0_512 _ ?_, beside_piece _ 3 rfl inb_S512x1024_S512x128_0_384 _ ?_, beside_piece _ 2 rfl inb_S512x1024_S512x128_0_256 _ ?_, beside_piece _ 1 rfl inb_S512x1024_S512x128_0_128 _ ?_, beside_piece _ 0 rfl inb_S512x1024_S512x128_0_0 _ ?_, trivial⟩ <;> rfl
    · revert y; exact View.cover_of_tiledL _ S512x128.size (by sl_kernel_rfl)
  clear hg2
  have hs : (step true (View.read (Elt F) arg3.view f0) (View.read (Elt F) arg4.view f1) (View.read (Elt F) arg5.view f2) (View.read (Elt F) arg7.view f4) ⟨View.read (Elt F) arg9.view fs0, View.read (Elt F) arg10.view fs1, View.read (Elt F) arg11.view fs2, View.read (Elt F) arg12.view fs3⟩) = ⟨View.read (Elt F) arg9.view a0, View.read (Elt F) arg10.view a1, View.read (Elt F) arg11.view a2, View.read (Elt F) arg12.view fs3⟩ := by rw [hr0, hr1, hr2]; rfl
  rw [hs]
  clear hs hr0 hr1 hr2
  sl_exec (disch := first | sl_exact hc0 | sl_exact hc1 | sl_exact hc2 | sl_exact hc3)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro
    refine (View.read_writes_eq_canon _ _ _ ?_).trans ?_
    · exact View.cover_of_tiledL _ S512x128.size (by sl_kernel_rfl)
    refine funext fun y => View.canon_apply_of_pieces _ _ (View.PiecesOf.mem ?_) y ?_
    · rw [result]
      refine ⟨beside_piece _ 7 rfl inb_S512x1024_S512x128_0_896 _ ?_, beside_piece _ 6 rfl inb_S512x1024_S512x128_0_768 _ ?_, beside_piece _ 5 rfl inb_S512x1024_S512x128_0_640 _ ?_, beside_piece _ 4 rfl inb_S512x1024_S512x128_0_512 _ ?_, beside_piece _ 3 rfl inb_S512x1024_S512x128_0_384 _ ?_, beside_piece _ 2 rfl inb_S512x1024_S512x128_0_256 _ ?_, beside_piece _ 1 rfl inb_S512x1024_S512x128_0_128 _ ?_, beside_piece _ 0 rfl inb_S512x1024_S512x128_0_0 _ ?_, trivial⟩ <;> rfl
    · revert y; exact View.cover_of_tiledL _ S512x128.size (by sl_kernel_rfl)
  isplitl [HS0]
  · iexists _; isplitr; · ipureintro; rfl
    iexact HS0
  isplitl [HS1]
  · iexists _; isplitr; · ipureintro; rfl
    iexact HS1
  isplitl [HS2]
  · iexists _; isplitr; · ipureintro; rfl
    iexact HS2
  iexists _; isplitr; · ipureintro; rfl
  iexact HS3

end Cert.KernelIdeal.Fox

end
-- ==== Proof.CaseE.lean ====
/-
The kernel body at a grid point of case E: what it leaves in the scratch arrays and in the result block.
-/
module

public import proofs.«01_k».proof.Proof.Heads
public import proofs.«01_k».proof.Proof.Conds

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

set_option maxHeartbeats 1600000 in
/-- A key block strictly between: one unmasked tile is taken. -/
theorem run_E (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : ¬cond0_0 i) (hc1 : cond0_1 i) (hc2 : ¬cond0_2 i) (hc3 : ¬cond0_3 i)
    (x0 x1 x2 : Vec F S512x1024 .f32) (x3 : Vec F S512x128 .f32) (x4 : Vec F S1x8x512 .f32) (xs0 xs1 : Vec F S8x512x128 .f32) (xs2 : Vec F S512x1024 .f32) (xs3 : Vec F S8x512x128 .f32) (E : Set ℕ) (K : PUnit → sProp 𝕄) :
    iprop(owns (c : Thread nD τ) arg3 fullShare x0
      ∗ owns (c : Thread nD τ) arg4 fullShare x1
      ∗ owns (c : Thread nD τ) arg5 fullShare x2
      ∗ owns (c : Thread nD τ) arg6 fullShare x3
      ∗ owns (c : Thread nD τ) arg7 fullShare x4
      ∗ owns (c : Thread nD τ) arg9 fullShare xs0
      ∗ owns (c : Thread nD τ) arg10 fullShare xs1
      ∗ owns (c : Thread nD τ) arg11 fullShare xs2
      ∗ owns (c : Thread nD τ) arg12 fullShare xs3
      ∗ (iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ owns (c : Thread nD τ) arg9 fullShare (step false x0 x1 x2 x4 ⟨xs0, xs1, xs2, xs3⟩).m
        ∗ owns (c : Thread nD τ) arg10 fullShare (step false x0 x1 x2 x4 ⟨xs0, xs1, xs2, xs3⟩).l
        ∗ owns (c : Thread nD τ) arg11 fullShare (step false x0 x1 x2 x4 ⟨xs0, xs1, xs2, xs3⟩).acc
        ∗ owns (c : Thread nD τ) arg12 fullShare (step false x0 x1 x2 x4 ⟨xs0, xs1, xs2, xs3⟩).cq) -∗ K ⟨⟩))
      ⊢ wp frame (wpE (defs₀ (F := F)) Variants.none c none) E (cc0_fox_prompt i arg3 harg3 arg4 harg4 arg5 harg5 arg6 harg6 arg7 harg7 arg8 harg8 arg9 harg9 arg10 harg10 arg11 harg11 arg12 harg12) K := by
  simp only [cc0_fox_prompt_eq_skeleton]; unfold cc0_fox_prompt_skel
  simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
  obtain rfl := hf0; obtain rfl := hf1; obtain rfl := hf2; obtain rfl := hf3; obtain rfl := hf4; obtain rfl := hfs0; obtain rfl := hfs1; obtain rfl := hfs2; obtain rfl := hfs3
  sl_exec (disch := first | sl_exact hc0 | sl_exact hc1 | sl_exact hc2 | sl_exact hc3)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [HS0]
  · iexists _; isplitr
    swap; · iexact HS0
    ipureintro
    refine (View.read_writes_eq_canon _ _ _ ?_).trans ?_
    · exact View.cover_of_tiledL _ S1x512x128.size (by sl_kernel_rfl)
    refine funext fun y => View.canon_apply_of_pieces _ _ (View.PiecesOf.mem ?_) y ?_
    · rw [step_m]
      refine ⟨stack_piece _ 7 rfl inb_S8x512x128_S1x512x128_7_0_0 _ ?_, stack_piece _ 6 rfl inb_S8x512x128_S1x512x128_6_0_0 _ ?_, stack_piece _ 5 rfl inb_S8x512x128_S1x512x128_5_0_0 _ ?_, stack_piece _ 4 rfl inb_S8x512x128_S1x512x128_4_0_0 _ ?_, stack_piece _ 3 rfl inb_S8x512x128_S1x512x128_3_0_0 _ ?_, stack_piece _ 2 rfl inb_S8x512x128_S1x512x128_2_0_0 _ ?_, stack_piece _ 1 rfl inb_S8x512x128_S1x512x128_1_0_0 _ ?_, stack_piece _ 0 rfl inb_S8x512x128_S1x512x128_0_0_0 _ ?_, trivial⟩ <;> rfl
    · revert y; exact View.cover_of_tiledL _ S1x512x128.size (by sl_kernel_rfl)
  isplitl [HS1]
  · iexists _; isplitr
    swap; · iexact HS1
    ipureintro
    refine (View.read_writes_eq_canon _ _ _ ?_).trans ?_
    · exact View.cover_of_tiledL _ S1x512x128.size (by sl_kernel_rfl)
    refine funext fun y => View.canon_apply_of_pieces _ _ (View.PiecesOf.mem ?_) y ?_
    · rw [step_l]
      refine ⟨stack_piece _ 7 rfl inb_S8x512x128_S1x512x128_7_0_0 _ ?_, stack_piece _ 6 rfl inb_S8x512x128_S1x512x128_6_0_0 _ ?_, stack_piece _ 5 rfl inb_S8x512x128_S1x512x128_5_0_0 _ ?_, stack_piece _ 4 rfl inb_S8x512x128_S1x512x128_4_0_0 _ ?_, stack_piece _ 3 rfl inb_S8x512x128_S1x512x128_3_0_0 _ ?_, stack_piece _ 2 rfl inb_S8x512x128_S1x512x128_2_0_0 _ ?_, stack_piece _ 1 rfl inb_S8x512x128_S1x512x128_1_0_0 _ ?_, stack_piece _ 0 rfl inb_S8x512x128_S1x512x128_0_0_0 _ ?_, trivial⟩ <;> rfl
    · revert y; exact View.cover_of_tiledL _ S1x512x128.size (by sl_kernel_rfl)
  isplitl [HS2]
  · iexists _; isplitr
    swap; · iexact HS2
    ipureintro
    refine (View.read_writes_eq_canon _ _ _ ?_).trans ?_
    · exact View.cover_of_tiledL _ S512x128.size (by sl_kernel_rfl)
    refine funext fun y => View.canon_apply_of_pieces _ _ (View.PiecesOf.mem ?_) y ?_
    · rw [step_acc]
      refine ⟨beside_piece _ 7 rfl inb_S512x1024_S512x128_0_896 _ ?_, beside_piece _ 6 rfl inb_S512x1024_S512x128_0_768 _ ?_, beside_piece _ 5 rfl inb_S512x1024_S512x128_0_640 _ ?_, beside_piece _ 4 rfl inb_S512x1024_S512x128_0_512 _ ?_, beside_piece _ 3 rfl inb_S512x1024_S512x128_0_384 _ ?_, beside_piece _ 2 rfl inb_S512x1024_S512x128_0_256 _ ?_, beside_piece _ 1 rfl inb_S512x1024_S512x128_0_128 _ ?_, beside_piece _ 0 rfl inb_S512x1024_S512x128_0_0 _ ?_, trivial⟩ <;> rfl
    · revert y; exact View.cover_of_tiledL _ S512x128.size (by sl_kernel_rfl)
  iexists _; isplitr; · ipureintro; rfl
  iexact HS3

end Cert.KernelIdeal.Fox

end
-- ==== Proof.Run.lean ====
/-
The kernel's run with named contents: what the scratch arrays hold after each grid point, the body's obligation at
every point, and the run from launch to end.
-/
module

public import proofs.«01_k».proof.Proof.Gen.KernelIdeal.Frame
public import proofs.«01_k».proof.Proof.CaseA
public import proofs.«01_k».proof.Proof.CaseB
public import proofs.«01_k».proof.Proof.CaseC
public import proofs.«01_k».proof.Proof.CaseD
public import proofs.«01_k».proof.Proof.CaseE
public import Idealize.ShloMosaic.Lib.Claim

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Which points take which branch -/

theorem points : cfg0.N = 128 := N_0

/-- The first key block of each query block. -/
theorem hcond0_0 : ∀ t : Fin cfg0.N, cond0_0 (grid0.coords t) ↔ t.val % 8 = 0 :=
  (by decide +kernel : ∀ t : Fin grid0.N, cond0_0 (grid0.coords t) ↔ t.val % 8 = 0)
/-- The key blocks before the query block. -/
theorem hcond0_1 : ∀ t : Fin cfg0.N, cond0_1 (grid0.coords t) ↔ t.val % 8 + 1 ≤ t.val / 8 % 8 :=
  (by decide +kernel : ∀ t : Fin grid0.N, cond0_1 (grid0.coords t) ↔ t.val % 8 + 1 ≤ t.val / 8 % 8)
/-- The diagonal. -/
theorem hcond0_2 : ∀ t : Fin cfg0.N, cond0_2 (grid0.coords t) ↔ t.val / 8 % 8 = t.val % 8 :=
  (by decide +kernel : ∀ t : Fin grid0.N, cond0_2 (grid0.coords t) ↔ t.val / 8 % 8 = t.val % 8)
/-- The results are written on the diagonal. -/
theorem hcond0_3 : ∀ t : Fin cfg0.N, cond0_3 (grid0.coords t) ↔ t.val / 8 % 8 = t.val % 8 :=
  (by decide +kernel : ∀ t : Fin grid0.N, cond0_3 (grid0.coords t) ↔ t.val / 8 % 8 = t.val % 8)

/-- The result block is left alone off the diagonal. -/
theorem idle5 (t : Fin cfg0.N) (h : ¬t.val / 8 % 8 = t.val % 8) : cfg0.idle 5 (grid0.coords t) = true := by
  have h' : ¬(k0_cond4 (grid0.coords t) = 1#1) := fun e => h ((hcond0_3 t).mp e)
  show (!(k0_cond4 (grid0.coords t) == 1#1)) = true
  rw [beq_false_of_ne h']; rfl

theorem live5 (t : Fin cfg0.N) (h : t.val / 8 % 8 = t.val % 8) : cfg0.idle 5 (grid0.coords t) = false := by
  have h' : k0_cond4 (grid0.coords t) = 1#1 := (hcond0_3 t).mpr h
  show (!(k0_cond4 (grid0.coords t) == 1#1)) = false
  rw [h']; rfl

/-- The result block is written back at the last key block. -/
theorem flush5 (t : Fin cfg0.N) (h : ¬t.val % 8 = 7) : (cfg0.win 5).flush t = false := by
  refine Bool.eq_false_iff.mpr fun e => h ?_
  exact (flush0_5 t).mp e

/-! ## The arguments of the body -/

/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S8x512x128 .f32 := Memref.whole cc0_scratch0
abbrev scM0_1 : Memref sig .tc .vmem S8x512x128 .f32 := Memref.whole cc0_scratch1
abbrev scM0_2 : Memref sig .tc .vmem S512x1024 .f32 := Memref.whole cc0_scratch2
abbrev scM0_3 : Memref sig .tc .vmem S8x512x128 .f32 := Memref.whole cc0_scratch3

/-- The invariant of the scratch arrays, spelled out. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## The state after each point -/

/-- One grid point: start a query block at its first key block, then take the tile if it lies on or before the diagonal. -/
def point (c : Dev nD) (t : Fin cfg0.N) (s : State F) : State F :=
  if t.val % 8 + 1 ≤ t.val / 8 % 8 then
    step false (iblk m c 0 t) (iblk m c 1 t) (iblk m c 2 t) (iblk m c 4 t)
      (if t.val % 8 = 0 then start (iblk m c 3 t) else s)
  else if t.val / 8 % 8 = t.val % 8 then
    step true (iblk m c 0 t) (iblk m c 1 t) (iblk m c 2 t) (iblk m c 4 t)
      (if t.val % 8 = 0 then start (iblk m c 3 t) else s)
  else s

/-- The state after point `n`. -/
def St (c : Dev nD) : (n : ℕ) → n < cfg0.N → State F
  | 0, h => point m c ⟨0, h⟩ (start (iblk m c 3 ⟨0, h⟩))
  | n + 1, h => point m c ⟨n + 1, h⟩ (St c n (Nat.lt_of_succ_lt h))

theorem St_pos (c : Dev nD) (n : ℕ) (h : n < cfg0.N) (hz : n ≠ 0) :
    St m c n h = point m c ⟨n, h⟩ (St m c (n - 1) (by omega)) := by
  cases n with
  | zero => exact absurd rfl hz
  | succ n => rfl

theorem point_off (c : Dev nD) (t : Fin cfg0.N) (s : State F) (h1 : t.val % 8 + 1 ≤ t.val / 8 % 8) :
    point m c t s = step false (iblk m c 0 t) (iblk m c 1 t) (iblk m c 2 t) (iblk m c 4 t)
      (if t.val % 8 = 0 then start (iblk m c 3 t) else s) := by
  unfold point; rw [if_pos h1]

theorem point_on (c : Dev nD) (t : Fin cfg0.N) (s : State F) (h2 : t.val / 8 % 8 = t.val % 8) :
    point m c t s = step true (iblk m c 0 t) (iblk m c 1 t) (iblk m c 2 t) (iblk m c 4 t)
      (if t.val % 8 = 0 then start (iblk m c 3 t) else s) := by
  unfold point; rw [if_neg (by omega), if_pos h2]

theorem point_past (c : Dev nD) (t : Fin cfg0.N) (s : State F) (h : t.val / 8 % 8 < t.val % 8) :
    point m c t s = s := by
  unfold point; rw [if_neg (by omega), if_neg (by omega)]

/-- At a query block's first key block the state before does not matter. -/
theorem St_first_off (c : Dev nD) (t : Fin cfg0.N) (h0 : t.val % 8 = 0) (h1 : t.val % 8 + 1 ≤ t.val / 8 % 8) :
    St m c t.val t.isLt = step false (iblk m c 0 t) (iblk m c 1 t) (iblk m c 2 t) (iblk m c 4 t) (start (iblk m c 3 t)) := by
  rw [St_pos m c t.val t.isLt (fun e => by rw [e] at h1; omega)]
  exact (point_off m c t _ h1).trans (by rw [if_pos h0])

theorem St_first_on (c : Dev nD) (t : Fin cfg0.N) (h0 : t.val % 8 = 0) (h2 : t.val / 8 % 8 = t.val % 8) :
    St m c t.val t.isLt = step true (iblk m c 0 t) (iblk m c 1 t) (iblk m c 2 t) (iblk m c 4 t) (start (iblk m c 3 t)) := by
  obtain ⟨n, hn⟩ := t
  cases n with
  | zero => exact (point_on m c ⟨0, hn⟩ _ h2).trans (by rw [if_pos h0])
  | succ n => exact (point_on m c ⟨n + 1, hn⟩ _ h2).trans (by rw [if_pos h0])

theorem St_next_off (c : Dev nD) (t : Fin cfg0.N) (h0 : ¬t.val % 8 = 0) (h1 : t.val % 8 + 1 ≤ t.val / 8 % 8) :
    St m c t.val t.isLt = step false (iblk m c 0 t) (iblk m c 1 t) (iblk m c 2 t) (iblk m c 4 t)
      (St m c (t.val - 1) (by omega)) := by
  rw [St_pos m c t.val t.isLt (fun e => by rw [e] at h0; omega)]
  exact (point_off m c t _ h1).trans (by rw [if_neg h0])

theorem St_next_on (c : Dev nD) (t : Fin cfg0.N) (h0 : ¬t.val % 8 = 0) (h2 : t.val / 8 % 8 = t.val % 8) :
    St m c t.val t.isLt = step true (iblk m c 0 t) (iblk m c 1 t) (iblk m c 2 t) (iblk m c 4 t)
      (St m c (t.val - 1) (by omega)) := by
  rw [St_pos m c t.val t.isLt (fun e => by rw [e] at h0; omega)]
  exact (point_on m c t _ h2).trans (by rw [if_neg h0])

/-- Past the diagonal the state stays. -/
theorem St_past (c : Dev nD) (t : Fin cfg0.N) (h : t.val / 8 % 8 < t.val % 8) :
    St m c t.val t.isLt = St m c (t.val - 1) (by omega) := by
  rw [St_pos m c t.val t.isLt (fun e => by rw [e] at h; omega)]
  exact point_past m c t _ h

/-! ## The invariant -/

/-- The scratch arrays hold a state. -/
def Held (c : Dev nD) (s : State F) : sProp 𝕄 :=
  iprop(iprop(owns (c : Thread nD τ) scM0_0 fullShare s.m ∗ owns (c : Thread nD τ) scM0_1 fullShare s.l
    ∗ owns (c : Thread nD τ) scM0_2 fullShare s.acc ∗ owns (c : Thread nD τ) scM0_3 fullShare s.cq) ∗ (∃ r, prngReg c r))

/-- Before the first point the scratch arrays hold anything, later the state after the point before. -/
def PhiS (c : Dev nD) : (n : ℕ) → n ≤ cfg0.N → sProp 𝕄
  | 0, _ => Pipeline.ΦA spec0 c
  | n + 1, hn => Held c (St m c n hn)

theorem PhiS_pos (c : Dev nD) (n : ℕ) (h : n ≤ cfg0.N) (hz : n ≠ 0) :
    PhiS m c n h = Held c (St m c (n - 1) (by omega)) := by
  cases n with
  | zero => exact absurd rfl hz
  | succ n => rfl

theorem held_any (c : Dev nD) (s : State F) : Held c s ⊢ (Pipeline.ΦA spec0 c : sProp 𝕄) := by
  unfold Held; rw [PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

theorem PhiS_any (c : Dev nD) (n : ℕ) (h : n ≤ cfg0.N) : PhiS m c n h ⊢ Pipeline.ΦA spec0 c := by
  cases n with
  | zero => exact Idealize.SL.BI.Entails.refl _
  | succ n => exact held_any c _

/-! ## The proof data -/

/-- The arrays as the region finds them; after each point every input block in place and the result block at the
    state's results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => result (St m c t.val t.isLt)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = result (St m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Past the diagonal the result block still holds the results stored on it. -/
theorem before0_5 (c : Dev nD) (d) : ∀ (n : ℕ) (h : n < cfg0.N), n / 8 % 8 < n % 8 →
    (dats m 0 c).before 5 ⟨n, h⟩ d = result (St m c n h) := by
  intro n
  induction n with
  | zero => intro h hj; omega
  | succ n ih =>
    intro h hj
    have hn : n < cfg0.N := Nat.lt_of_succ_lt h
    rw [Dat.before_of_pos (dats m 0 c) 5 ⟨n + 1, h⟩ (Nat.succ_ne_zero n) rfl d]
    have hf : (cfg0.win 5).flush (⟨n + 1 - 1, by omega⟩ : Fin cfg0.N) = false := flush5 ⟨n, hn⟩ (by show ¬n % 8 = 7; omega)
    rw [St_past m c ⟨n + 1, h⟩ hj]
    rw [if_neg (by rw [hf]; exact Bool.false_ne_true)]
    show (dats m 0 c).left 5 ⟨n, hn⟩ d = result (St m c n hn)
    by_cases hd : n / 8 % 8 = n % 8
    · unfold Dat.left
      rw [live5 ⟨n, hn⟩ hd]
      show (dats m 0 c).after 5 ⟨n, hn⟩ = _
      rw [after0_5]
    · unfold Dat.left
      rw [idle5 ⟨n, hn⟩ hd]
      exact ih hn (by omega)

/-! ## The body at every point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0_0 (c : Dev nD) (t : Fin cfg0.N) :
    (dats m 0 c).leavesExact 0 t = owns (c : Thread nD τ) (ms0_0 t) fullShare (iblk m c 0 t) := by
  rw [← after0_0]
theorem leaves0_1 (c : Dev nD) (t : Fin cfg0.N) :
    (dats m 0 c).leavesExact 1 t = owns (c : Thread nD τ) (ms0_1 t) fullShare (iblk m c 1 t) := by
  rw [← after0_1]
theorem leaves0_2 (c : Dev nD) (t : Fin cfg0.N) :
    (dats m 0 c).leavesExact 2 t = owns (c : Thread nD τ) (ms0_2 t) fullShare (iblk m c 2 t) := by
  rw [← after0_2]
theorem leaves0_3 (c : Dev nD) (t : Fin cfg0.N) :
    (dats m 0 c).leavesExact 3 t = owns (c : Thread nD τ) (ms0_3 t) fullShare (iblk m c 3 t) := by
  rw [← after0_3]
theorem leaves0_4 (c : Dev nD) (t : Fin cfg0.N) :
    (dats m 0 c).leavesExact 4 t = owns (c : Thread nD τ) (ms0_4 t) fullShare (iblk m c 4 t) := by
  rw [← after0_4]
theorem leaves0_5_live (c : Dev nD) (t : Fin cfg0.N) (h : t.val / 8 % 8 = t.val % 8) :
    (dats m 0 c).leavesExact 5 t = owns (c : Thread nD τ) (ms0_5 t) fullShare (result (St m c t.val t.isLt)) := by
  rw [← after0_5]; unfold Dat.leavesExact; rw [show cfg0.idle 5 (cfg0.grid.coords t) = false from live5 t h]
theorem leaves0_5_idle (c : Dev nD) (t : Fin cfg0.N) (h : ¬t.val / 8 % 8 = t.val % 8) (hf : ¬t.val % 8 = 7) :
    (dats m 0 c).leavesExact 5 t
      = iprop(∃ d, owns (c : Thread nD τ) (ms0_5 t) fullShare ((dats m 0 c).before 5 t d)) :=
  Dat.leavesExact_idle (dats m 0 c) 5 t (idle5 t h) (flush5 t hf)
theorem leaves0_5_last (c : Dev nD) (t : Fin cfg0.N) (h : ¬t.val / 8 % 8 = t.val % 8) (hf : t.val % 8 = 7) :
    (dats m 0 c).leavesExact 5 t = owns (c : Thread nD τ) (ms0_5 t) fullShare (result (St m c t.val t.isLt)) := by
  rw [← after0_5]; unfold Dat.leavesExact
  rw [show cfg0.idle 5 (cfg0.grid.coords t) = true from idle5 t h, show (cfg0.win 5).flush t = true from (flush0_5 t).mpr hf]

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = Held c (St m c t.val t.isLt) from rfl]
  rw [leaves0_0, leaves0_1, leaves0_2, leaves0_3, leaves0_4, PhiS_castSucc m c t]
  have hN : t.val < 128 := lt_of_lt_of_eq t.isLt points
  by_cases h1 : t.val % 8 + 1 ≤ t.val / 8 % 8
  · have h2 : ¬t.val / 8 % 8 = t.val % 8 := by omega
    rw [leaves0_5_idle m c t h2 (by omega)]
    by_cases h0 : t.val % 8 = 0
    · refine (Laws.sep_mono (PhiS_any m c _ _) (Idealize.SL.BI.Entails.refl _)).trans ?_
      rw [PhiA0_eq, St_first_off m c t h0 h1]; unfold Held
      iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩⟩
      iapply (run_C c (grid0.coords t) _ _ _ _ _ _ _ _ _ _ _ _ _ _ _ _ _ _ _ _ ((hcond0_0 t).mpr h0) ((hcond0_1 t).mpr h1) (fun h => h2 ((hcond0_2 t).mp h)) (fun h => h2 ((hcond0_3 t).mp h)) (iblk m c 0 t) (iblk m c 1 t) (iblk m c 2 t) (iblk m c 3 t) (iblk m c 4 t)  Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · have hz : t.val ≠ 0 := fun e => h0 (by rw [e])
      rw [PhiS_pos m c _ _ hz, St_next_off m c t h0 h1]; unfold Held
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      iapply (run_E c (grid0.coords t) _ _ _ _ _ _ _ _ _ _ _ _ _ _ _ _ _ _ _ _ (fun h => h0 ((hcond0_0 t).mp h)) ((hcond0_1 t).mpr h1) (fun h => h2 ((hcond0_2 t).mp h)) (fun h => h2 ((hcond0_3 t).mp h)) (iblk m c 0 t) (iblk m c 1 t) (iblk m c 2 t) (iblk m c 3 t) (iblk m c 4 t) (St m c (t.val - 1) (by omega)).m (St m c (t.val - 1) (by omega)).l (St m c (t.val - 1) (by omega)).acc (St m c (t.val - 1) (by omega)).cq Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · by_cases h2 : t.val / 8 % 8 = t.val % 8
    · rw [leaves0_5_live m c t h2]
      by_cases h0 : t.val % 8 = 0
      · refine (Laws.sep_mono (PhiS_any m c _ _) (Idealize.SL.BI.Entails.refl _)).trans ?_
        rw [PhiA0_eq, St_first_on m c t h0 h2]; unfold Held
        iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩⟩
        iapply (run_A c (grid0.coords t) _ _ _ _ _ _ _ _ _ _ _ _ _ _ _ _ _ _ _ _ ((hcond0_0 t).mpr h0) (fun h => h1 ((hcond0_1 t).mp h)) ((hcond0_2 t).mpr h2) ((hcond0_3 t).mpr h2) (iblk m c 0 t) (iblk m c 1 t) (iblk m c 2 t) (iblk m c 3 t) (iblk m c 4 t)  Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexists _; iexact HS0
        isplitl [HS1]; · iexists _; iexact HS1
        isplitl [HS2]; · iexists _; iexact HS2
        isplitl [HS3]; · iexists _; iexact HS3
        iintro ⟨H0, H1, H2, H3, H4, H5, HS0, HS1, HS2, HS3⟩
        isplitl [HS0 HS1 HS2 HS3 Hg]
        · isplitl [HS0 HS1 HS2 HS3]
          · isplitl [HS0]; · iexact HS0
            isplitl [HS1]; · iexact HS1
            isplitl [HS2]; · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        iexact H5
      · have hz : t.val ≠ 0 := fun e => h0 (by rw [e])
        rw [PhiS_pos m c _ _ hz, St_next_on m c t h0 h2]; unfold Held
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply (run_D c (grid0.coords t) _ _ _ _ _ _ _ _ _ _ _ _ _ _ _ _ _ _ _ _ (fun h => h0 ((hcond0_0 t).mp h)) (fun h => h1 ((hcond0_1 t).mp h)) ((hcond0_2 t).mpr h2) ((hcond0_3 t).mpr h2) (iblk m c 0 t) (iblk m c 1 t) (iblk m c 2 t) (iblk m c 3 t) (iblk m c 4 t) (St m c (t.val - 1) (by omega)).m (St m c (t.val - 1) (by omega)).l (St m c (t.val - 1) (by omega)).acc (St m c (t.val - 1) (by omega)).cq Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        isplitl [HS3]; · iexact HS3
        iintro ⟨H0, H1, H2, H3, H4, H5, HS0, HS1, HS2, HS3⟩
        isplitl [HS0 HS1 HS2 HS3 Hg]
        · isplitl [HS0 HS1 HS2 HS3]
          · isplitl [HS0]; · iexact HS0
            isplitl [HS1]; · iexact HS1
            isplitl [HS2]; · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        iexact H5
    · have h0 : ¬t.val % 8 = 0 := by omega
      have hz : t.val ≠ 0 := fun e => h0 (by rw [e])
      have hp : t.val / 8 % 8 < t.val % 8 := by omega
      rw [PhiS_pos m c _ _ hz, ← St_past m c t hp]
      refine BIBase.Entails.trans ?_ (run_B c (grid0.coords t) _ _ _ _ _ _ _ _ _ _ _ _ _ _ _ _ _ _ _ _ (fun h => h0 ((hcond0_0 t).mp h)) (fun h => h1 ((hcond0_1 t).mp h)) (fun h => h2 ((hcond0_2 t).mp h)) (fun h => h2 ((hcond0_3 t).mp h)) Set.univ _)
      by_cases hf : t.val % 8 = 7
      · rw [leaves0_5_last m c t h2 hf]
        simp only [show ∀ d, (dats m 0 c).before 5 t d = result (St m c t.val t.isLt) from
          fun d => before0_5 m c d t.val t.isLt hp]
        iintro ⟨HP, Ho, ⟨%d0, H0⟩, ⟨%d1, H1⟩, ⟨%d2, H2⟩, ⟨%d3, H3⟩, ⟨%d4, H4⟩, ⟨%d5, H5⟩⟩
        isplitl [HP]; · iexact HP
        isplitl [Ho]; · iexact Ho
        isplitl [H0]; · iexact H0
        isplitl [H1]; · iexact H1
        isplitl [H2]; · iexact H2
        isplitl [H3]; · iexact H3
        isplitl [H4]; · iexact H4
        iexact H5
      · rw [leaves0_5_idle m c t h2 hf]
        iintro ⟨HP, Ho, ⟨%d0, H0⟩, ⟨%d1, H1⟩, ⟨%d2, H2⟩, ⟨%d3, H3⟩, ⟨%d4, H4⟩, ⟨%d5, H5⟩⟩
        isplitl [HP]; · iexact HP
        isplitl [Ho]; · iexact Ho
        isplitl [H0]; · iexact H0
        isplitl [H1]; · iexact H1
        isplitl [H2]; · iexact H2
        isplitl [H3]; · iexact H3
        isplitl [H4]; · iexact H4
        iexists _; iexact H5

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl]
  exact PhiS_any m c _ _

/-! ## The run -/

set_option backward.isDefEq.respectTransparency.types false in
/-- The run from launch: every array at the proof data's final contents, every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Fox

end
-- ==== Proof.Whole.Runs.lean ====
/-
The grid points of the kernel as written: which of them take which branch, and the scratch arrays as owned cells.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Whole

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post, over any float values. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 128 := Nat.lt_of_lt_of_eq t.isLt N_0
    have e0 : (grid0.coords t 0).val = t.val / 64 % 2 := Pipeline.Grid.coords_val t 0 (by decide) rfl
    have e1 : (grid0.coords t 1).val = t.val / 8 % 8 := Pipeline.Grid.coords_val t 1 (by decide) rfl
    have e2 : (grid0.coords t 2).val = t.val / 1 % 8 := Pipeline.Grid.coords_val t 2 (by decide) rfl
    simp only [cond0_0, e0, e1, e2]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := (Scalar.cmpi .ne (Scalar.extui (Scalar.cmpi .slt (BitVec.ofNat 32 (i 2).val) (BitVec.ofNat 32 (i 1).val))) 0#32) = 1#1
/-- It holds at the points whose coordinates have i2 + 1 ≤ i1 — decided over the grid. -/
theorem hcond0_1 : ∀ t : Fin cfg0.N, cond0_1 (grid0.coords t) ↔ t.val % 8 + 1 ≤ t.val / 8 % 8 :=
  (by decide +kernel : ∀ t : Fin grid0.N, cond0_1 (grid0.coords t) ↔ t.val % 8 + 1 ≤ t.val / 8 % 8)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 2).val) (BitVec.ofNat 32 (i 1).val))) 0#32) = 1#1
/-- It holds at the points whose coordinates have i1 = i2 — decided over the grid. -/
theorem hcond0_2 : ∀ t : Fin cfg0.N, cond0_2 (grid0.coords t) ↔ t.val / 8 % 8 = t.val % 8 :=
  (by decide +kernel : ∀ t : Fin grid0.N, cond0_2 (grid0.coords t) ↔ t.val / 8 % 8 = t.val % 8)

/-- The condition of the body's `scf.if` 3 (`k0_h4`), from the grid coordinates (the skeleton's scalar
    chain substituted). -/
abbrev cond0_3 (i : grid0.Coords) : Prop := k0_cond4 i = 1#1
/-- It holds at the points whose coordinates have i1 = i2 — decided over the grid. -/
theorem hcond0_3 : ∀ t : Fin cfg0.N, cond0_3 (grid0.coords t) ↔ t.val / 8 % 8 = t.val % 8 :=
  (by decide +kernel : ∀ t : Fin grid0.N, cond0_3 (grid0.coords t) ↔ t.val / 8 % 8 = t.val % 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S8x512x128 .f32 := Memref.whole cc0_scratch0
abbrev scM0_1 : Memref sig .tc .vmem S8x512x128 .f32 := Memref.whole cc0_scratch1
abbrev scM0_2 : Memref sig .tc .vmem S512x1024 .f32 := Memref.whole cc0_scratch2
abbrev scM0_3 : Memref sig .tc .vmem S8x512x128 .f32 := Memref.whole cc0_scratch3
/-- The scratch `arg9` the kernel carries between points, as a view: what it holds is stated through it. -/
abbrev VS0_0 : View sig .tc .vmem S8x512x128 .f32 := scM0_0.view
/-- The scratch `arg10` the kernel carries between points, as a view: what it holds is stated through it. -/
abbrev VS0_1 : View sig .tc .vmem S8x512x128 .f32 := scM0_1.view
/-- The scratch `arg11` the kernel carries between points, as a view: what it holds is stated through it. -/
abbrev VS0_2 : View sig .tc .vmem S512x1024 .f32 := scM0_2.view
/-- The scratch `arg12` the kernel carries between points, as a view: what it holds is stated through it. -/
abbrev VS0_3 : View sig .tc .vmem S8x512x128 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Whole

end
-- ==== Proof.Whole.RunA.lean ====
/-
One case of a grid point of the kernel as written: its memory accesses are in bounds and hand back what they were given.
-/
module

public import proofs.«01_k».proof.Proof.Whole.Runs

@[expose] public section

-- membership in a rectangle of production extents (`View.cover_of_tiled`): the elaborator's structural look
-- recurses once per coordinate of the long axes
set_option maxRecDepth 16384

noncomputable section

namespace Cert.Kernel.Whole

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1148000 in
/-- What the body's stores leave in each output's staging memref, as pieces (last first) IN CASE A (`scf.if` 0 taken, `scf.if` 1 not taken, `scf.if` 2 taken, `scf.if` 3 taken: points 0, 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5) at anything, handed back at some contents nothing names. -/
noncomputable def kernelRun0_A (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : cond0_0 i) (hc1 : ¬cond0_1 i) (hc2 : cond0_2 i) (hc3 : cond0_3 i)
    (x0 : Vec F S512x1024 .f32) (x1 : Vec F S512x1024 .f32) (x2 : Vec F S512x1024 .f32) (x3 : Vec F S512x128 .f32) (x4 : Vec F S1x8x512 .f32) :
    Σ' (LS0 : List (View.Piece (Elt F) S8x512x128 .f32)), Σ' (LS1 : List (View.Piece (Elt F) S8x512x128 .f32)), Σ' (LS2 : List (View.Piece (Elt F) S512x1024 .f32)), { LS3 : List (View.Piece (Elt F) S8x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0_fox_prompt i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_fox_prompt_eq_skeleton]; unfold cc0_fox_prompt_skel
    simp only [k0_part1_eq_skeleton, k0_part2_eq_skeleton, k0_part27_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [HS0]; · iexists _; iexact HS0
    isplitl [HS1]; · iexists _; iexact HS1
    isplitl [HS2]; · iexists _; iexact HS2
    iexists _; iexact HS3

end Cert.Kernel.Whole

end
-- ==== Proof.Whole.RunB.lean ====
/-
One case of a grid point of the kernel as written: its memory accesses are in bounds and hand back what they were given.
-/
module

public import proofs.«01_k».proof.Proof.Whole.RunA

@[expose] public section

-- membership in a rectangle of production extents (`View.cover_of_tiled`): the elaborator's structural look
-- recurses once per coordinate of the long axes
set_option maxRecDepth 16384

noncomputable section

namespace Cert.Kernel.Whole

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken, `scf.if` 2 not taken, `scf.if` 3 not taken: points 1, 2, … 119: 56 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5) at anything, handed back at some contents nothing names. -/
noncomputable def kernelRun0_B (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : ¬cond0_0 i) (hc1 : ¬cond0_1 i) (hc2 : ¬cond0_2 i) (hc3 : ¬cond0_3 i)
    (x0 : Vec F S512x1024 .f32) (x1 : Vec F S512x1024 .f32) (x2 : Vec F S512x1024 .f32) (x3 : Vec F S512x128 .f32) (x4 : Vec F S1x8x512 .f32) (xs0 : Vec F S8x512x128 .f32) (xs1 : Vec F S8x512x128 .f32) (xs2 : Vec F S512x1024 .f32) (xs3 : Vec F S8x512x128 .f32) :
    Σ' (LS0 : List (View.Piece (Elt F) S8x512x128 .f32)), Σ' (LS1 : List (View.Piece (Elt F) S8x512x128 .f32)), Σ' (LS2 : List (View.Piece (Elt F) S512x1024 .f32)), { LS3 : List (View.Piece (Elt F) S8x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3) -∗ K ⟨⟩))
          ⊢ wp frame (wpE (defs₀ (F := F)) Variants.none c none) E (cc0_fox_prompt i arg3 harg3 arg4 harg4 arg5 harg5 arg6 harg6 arg7 harg7 arg8 harg8 arg9 harg9 arg10 harg10 arg11 harg11 arg12 harg12) K } := by
  refine ⟨[], [], [], [], fun E K => ?run⟩
  case run =>
    simp only [cc0_fox_prompt_eq_skeleton]; unfold cc0_fox_prompt_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1; obtain rfl := harg11.eq_unread hfs2; obtain rfl := harg12.eq_unread hfs3
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [HS0]
    · iexists _; isplitr; · ipureintro; exact harg9.read_unread _
      iexact HS0
    isplitl [HS1]
    · iexists _; isplitr; · ipureintro; exact harg10.read_unread _
      iexact HS1
    isplitl [HS2]
    · iexists _; isplitr; · ipureintro; exact harg11.read_unread _
      iexact HS2
    iexists _; isplitr; · ipureintro; exact harg12.read_unread _
    iexact HS3

end Cert.Kernel.Whole

end
-- ==== Proof.Whole.RunC.lean ====
/-
One case of a grid point of the kernel as written: its memory accesses are in bounds and hand back what they were given.
-/
module

public import proofs.«01_k».proof.Proof.Whole.RunB

@[expose] public section

-- membership in a rectangle of production extents (`View.cover_of_tiled`): the elaborator's structural look
-- recurses once per coordinate of the long axes
set_option maxRecDepth 16384

noncomputable section

namespace Cert.Kernel.Whole

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 taken, `scf.if` 1 taken, `scf.if` 2 not taken, `scf.if` 3 not taken: points 8, 16, … 120: 14 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5) at anything, handed back at some contents nothing names. -/
noncomputable def kernelRun0_C (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : cond0_0 i) (hc1 : cond0_1 i) (hc2 : ¬cond0_2 i) (hc3 : ¬cond0_3 i)
    (x0 : Vec F S512x1024 .f32) (x1 : Vec F S512x1024 .f32) (x2 : Vec F S512x1024 .f32) (x3 : Vec F S512x128 .f32) (x4 : Vec F S1x8x512 .f32) :
    Σ' (LS0 : List (View.Piece (Elt F) S8x512x128 .f32)), Σ' (LS1 : List (View.Piece (Elt F) S8x512x128 .f32)), Σ' (LS2 : List (View.Piece (Elt F) S512x1024 .f32)), { LS3 : List (View.Piece (Elt F) S8x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0_fox_prompt i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_fox_prompt_eq_skeleton]; unfold cc0_fox_prompt_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [HS0]; · iexists _; iexact HS0
    isplitl [HS1]; · iexists _; iexact HS1
    isplitl [HS2]; · iexists _; iexact HS2
    iexists _; iexact HS3

end Cert.Kernel.Whole

end
-- ==== Proof.Whole.RunD.lean ====
/-
One case of a grid point of the kernel as written: its memory accesses are in bounds and hand back what they were given.
-/
module

public import proofs.«01_k».proof.Proof.Whole.RunC

@[expose] public section

-- membership in a rectangle of production extents (`View.cover_of_tiled`): the elaborator's structural look
-- recurses once per coordinate of the long axes
set_option maxRecDepth 16384

noncomputable section

namespace Cert.Kernel.Whole

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE D (`scf.if` 0 not taken, `scf.if` 1 not taken, `scf.if` 2 taken, `scf.if` 3 taken: points 9, 18, … 127: 14 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5) at anything, handed back at some contents nothing names. -/
noncomputable def kernelRun0_D (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : ¬cond0_0 i) (hc1 : ¬cond0_1 i) (hc2 : cond0_2 i) (hc3 : cond0_3 i)
    (x0 : Vec F S512x1024 .f32) (x1 : Vec F S512x1024 .f32) (x2 : Vec F S512x1024 .f32) (x3 : Vec F S512x128 .f32) (x4 : Vec F S1x8x512 .f32) (xs0 : Vec F S8x512x128 .f32) (xs1 : Vec F S8x512x128 .f32) (xs2 : Vec F S512x1024 .f32) (xs3 : Vec F S8x512x128 .f32) :
    Σ' (LS0 : List (View.Piece (Elt F) S8x512x128 .f32)), Σ' (LS1 : List (View.Piece (Elt F) S8x512x128 .f32)), Σ' (LS2 : List (View.Piece (Elt F) S512x1024 .f32)), { LS3 : List (View.Piece (Elt F) S8x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ owns (c : Thread nD τ) arg12 fullShare xs3) -∗ K ⟨⟩))
          ⊢ wp frame (wpE (defs₀ (F := F)) Variants.none c none) E (cc0_fox_prompt i arg3 harg3 arg4 harg4 arg5 harg5 arg6 harg6 arg7 harg7 arg8 harg8 arg9 harg9 arg10 harg10 arg11 harg11 arg12 harg12) K } := by
  refine ⟨?_, ?_, ?_, [], fun E K => ?run⟩
  case run =>
    simp only [cc0_fox_prompt_eq_skeleton]; unfold cc0_fox_prompt_skel
    simp only [k0_part27_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1; obtain rfl := harg11.eq_unread hfs2; obtain rfl := harg12.eq_unread hfs3
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [HS0]; · iexists _; iexact HS0
    isplitl [HS1]; · iexists _; iexact HS1
    isplitl [HS2]; · iexists _; iexact HS2
    iexists _; isplitr; · ipureintro; exact harg12.read_unread _
    iexact HS3

end Cert.Kernel.Whole

end
-- ==== Proof.Whole.RunE.lean ====
/-
One case of a grid point of the kernel as written: its memory accesses are in bounds and hand back what they were given.
-/
module

public import proofs.«01_k».proof.Proof.Whole.RunD

@[expose] public section

-- membership in a rectangle of production extents (`View.cover_of_tiled`): the elaborator's structural look
-- recurses once per coordinate of the long axes
set_option maxRecDepth 16384

noncomputable section

namespace Cert.Kernel.Whole

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE E (`scf.if` 0 not taken, `scf.if` 1 taken, `scf.if` 2 not taken, `scf.if` 3 not taken: points 17, 25, … 126: 42 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5) at anything, handed back at some contents nothing names. -/
noncomputable def kernelRun0_E (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : ¬cond0_0 i) (hc1 : cond0_1 i) (hc2 : ¬cond0_2 i) (hc3 : ¬cond0_3 i)
    (x0 : Vec F S512x1024 .f32) (x1 : Vec F S512x1024 .f32) (x2 : Vec F S512x1024 .f32) (x3 : Vec F S512x128 .f32) (x4 : Vec F S1x8x512 .f32) (xs0 : Vec F S8x512x128 .f32) (xs1 : Vec F S8x512x128 .f32) (xs2 : Vec F S512x1024 .f32) (xs3 : Vec F S8x512x128 .f32) :
    Σ' (LS0 : List (View.Piece (Elt F) S8x512x128 .f32)), Σ' (LS1 : List (View.Piece (Elt F) S8x512x128 .f32)), Σ' (LS2 : List (View.Piece (Elt F) S512x1024 .f32)), { LS3 : List (View.Piece (Elt F) S8x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ owns (c : Thread nD τ) arg12 fullShare xs3) -∗ K ⟨⟩))
          ⊢ wp frame (wpE (defs₀ (F := F)) Variants.none c none) E (cc0_fox_prompt i arg3 harg3 arg4 harg4 arg5 harg5 arg6 harg6 arg7 harg7 arg8 harg8 arg9 harg9 arg10 harg10 arg11 harg11 arg12 harg12) K } := by
  refine ⟨?_, ?_, ?_, [], fun E K => ?run⟩
  case run =>
    simp only [cc0_fox_prompt_eq_skeleton]; unfold cc0_fox_prompt_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1; obtain rfl := harg11.eq_unread hfs2; obtain rfl := harg12.eq_unread hfs3
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [HS0]; · iexists _; iexact HS0
    isplitl [HS1]; · iexists _; iexact HS1
    isplitl [HS2]; · iexists _; iexact HS2
    iexists _; isplitr; · ipureintro; exact harg12.read_unread _
    iexact HS3

end Cert.Kernel.Whole

end
-- ==== Proof.Whole.Frame.lean ====
/-
The kernel as written runs to its end and leaves its arguments as launched.
-/
module

public import proofs.«01_k».proof.Proof.Whole.RunE
public import Idealize.ShloMosaic.Lib.Claim

@[expose] public section

-- membership in a rectangle of production extents (`View.cover_of_tiled`): the elaborator's structural look
-- recurses once per coordinate of the long axes
set_option maxRecDepth 16384

noncomputable section

namespace Cert.Kernel.Whole

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg9`, which the kernel carries between points, cover it: one of them a store of the WHOLE buffer (Lib/Ring.lean `sl_whole_mem`). -/
theorem scover0_A_0 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : cond0_0 i) (hc1 : ¬cond0_1 i) (hc2 : cond0_2 i) (hc3 : cond0_3 i)
    (x0 : Vec F S512x1024 .f32) (x1 : Vec F S512x1024 .f32) (x2 : Vec F S512x1024 .f32) (x3 : Vec F S512x128 .f32) (x4 : Vec F S1x8x512 .f32) (y : S8x512x128.Idx) :
    ∃ pc ∈ (kernelRun0_A c i arg3 harg3 arg4 harg4 arg5 harg5 arg6 harg6 arg7 harg7 arg8 harg8 arg9 harg9 arg10 harg10 arg11 harg11 arg12 harg12 hc0 hc1 hc2 hc3 x0 x1 x2 x3 x4).1, y ∈ pc.1.set :=
  View.cover_of_wholeMem (kernelRun0_A c i arg3 harg3 arg4 harg4 arg5 harg5 arg6 harg6 arg7 harg7 arg8 harg8 arg9 harg9 arg10 harg10 arg11 harg11 arg12 harg12 hc0 hc1 hc2 hc3 x0 x1 x2 x3 x4).1 (by sl_whole_mem) y

/-- What case A leaves in scratch `arg9`: its pieces read back over junk. -/
def sout0_A_0 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : cond0_0 i) (hc1 : ¬cond0_1 i) (hc2 : cond0_2 i) (hc3 : cond0_3 i)
    (x0 : Vec F S512x1024 .f32) (x1 : Vec F S512x1024 .f32) (x2 : Vec F S512x1024 .f32) (x3 : Vec F S512x128 .f32) (x4 : Vec F S1x8x512 .f32) : Vec F S8x512x128 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 hc0 hc1 hc2 hc3 x0 x1 x2 x3 x4).1)

/-- Case A's pieces for scratch `arg10`, which the kernel carries between points, cover it: one of them a store of the WHOLE buffer (Lib/Ring.lean `sl_whole_mem`). -/
theorem scover0_A_1 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : cond0_0 i) (hc1 : ¬cond0_1 i) (hc2 : cond0_2 i) (hc3 : cond0_3 i)
    (x0 : Vec F S512x1024 .f32) (x1 : Vec F S512x1024 .f32) (x2 : Vec F S512x1024 .f32) (x3 : Vec F S512x128 .f32) (x4 : Vec F S1x8x512 .f32) (y : S8x512x128.Idx) :
    ∃ pc ∈ (kernelRun0_A c i arg3 harg3 arg4 harg4 arg5 harg5 arg6 harg6 arg7 harg7 arg8 harg8 arg9 harg9 arg10 harg10 arg11 harg11 arg12 harg12 hc0 hc1 hc2 hc3 x0 x1 x2 x3 x4).2.1, y ∈ pc.1.set :=
  View.cover_of_wholeMem (kernelRun0_A c i arg3 harg3 arg4 harg4 arg5 harg5 arg6 harg6 arg7 harg7 arg8 harg8 arg9 harg9 arg10 harg10 arg11 harg11 arg12 harg12 hc0 hc1 hc2 hc3 x0 x1 x2 x3 x4).2.1 (by sl_whole_mem) y

/-- What case A leaves in scratch `arg10`: its pieces read back over junk. -/
def sout0_A_1 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : cond0_0 i) (hc1 : ¬cond0_1 i) (hc2 : cond0_2 i) (hc3 : cond0_3 i)
    (x0 : Vec F S512x1024 .f32) (x1 : Vec F S512x1024 .f32) (x2 : Vec F S512x1024 .f32) (x3 : Vec F S512x128 .f32) (x4 : Vec F S1x8x512 .f32) : Vec F S8x512x128 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 hc0 hc1 hc2 hc3 x0 x1 x2 x3 x4).2.1)

/-- Case A's pieces for scratch `arg11`, which the kernel carries between points, cover it: one of them a store of the WHOLE buffer (Lib/Ring.lean `sl_whole_mem`). -/
theorem scover0_A_2 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : cond0_0 i) (hc1 : ¬cond0_1 i) (hc2 : cond0_2 i) (hc3 : cond0_3 i)
    (x0 : Vec F S512x1024 .f32) (x1 : Vec F S512x1024 .f32) (x2 : Vec F S512x1024 .f32) (x3 : Vec F S512x128 .f32) (x4 : Vec F S1x8x512 .f32) (y : S512x1024.Idx) :
    ∃ pc ∈ (kernelRun0_A c i arg3 harg3 arg4 harg4 arg5 harg5 arg6 harg6 arg7 harg7 arg8 harg8 arg9 harg9 arg10 harg10 arg11 harg11 arg12 harg12 hc0 hc1 hc2 hc3 x0 x1 x2 x3 x4).2.2.1, y ∈ pc.1.set :=
  View.cover_of_wholeMem (kernelRun0_A c i arg3 harg3 arg4 harg4 arg5 harg5 arg6 harg6 arg7 harg7 arg8 harg8 arg9 harg9 arg10 harg10 arg11 harg11 arg12 harg12 hc0 hc1 hc2 hc3 x0 x1 x2 x3 x4).2.2.1 (by sl_whole_mem) y

/-- What case A leaves in scratch `arg11`: its pieces read back over junk. -/
def sout0_A_2 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : cond0_0 i) (hc1 : ¬cond0_1 i) (hc2 : cond0_2 i) (hc3 : cond0_3 i)
    (x0 : Vec F S512x1024 .f32) (x1 : Vec F S512x1024 .f32) (x2 : Vec F S512x1024 .f32) (x3 : Vec F S512x128 .f32) (x4 : Vec F S1x8x512 .f32) : Vec F S512x1024 .f32 :=
  VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 hc0 hc1 hc2 hc3 x0 x1 x2 x3 x4).2.2.1)

/-- Case A's pieces for scratch `arg12`, which the kernel carries between points, cover it: 8 pieces of `S1x512x128` tiling it (Lib/Ring.lean `Piece.tiledL`). -/
theorem scover0_A_3 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : cond0_0 i) (hc1 : ¬cond0_1 i) (hc2 : cond0_2 i) (hc3 : cond0_3 i)
    (x0 : Vec F S512x1024 .f32) (x1 : Vec F S512x1024 .f32) (x2 : Vec F S512x1024 .f32) (x3 : Vec F S512x128 .f32) (x4 : Vec F S1x8x512 .f32) (y : S8x512x128.Idx) :
    ∃ pc ∈ (kernelRun0_A c i arg3 harg3 arg4 harg4 arg5 harg5 arg6 harg6 arg7 harg7 arg8 harg8 arg9 harg9 arg10 harg10 arg11 harg11 arg12 harg12 hc0 hc1 hc2 hc3 x0 x1 x2 x3 x4).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 hc0 hc1 hc2 hc3 x0 x1 x2 x3 x4).2.2.2.1 S1x512x128.size (by sl_kernel_rfl) y

/-- What case A leaves in scratch `arg12`: its pieces read back over junk. -/
def sout0_A_3 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : cond0_0 i) (hc1 : ¬cond0_1 i) (hc2 : cond0_2 i) (hc3 : cond0_3 i)
    (x0 : Vec F S512x1024 .f32) (x1 : Vec F S512x1024 .f32) (x2 : Vec F S512x1024 .f32) (x3 : Vec F S512x128 .f32) (x4 : Vec F S1x8x512 .f32) : Vec F S8x512x128 .f32 :=
  VS0_3.read (Elt F) (VS0_3.writes (Elt F) VS0_3.junk (kernelRun0_A c i arg3 harg3 arg4 harg4 arg5 harg5 arg6 harg6 arg7 harg7 arg8 harg8 arg9 harg9 arg10 harg10 arg11 harg11 arg12 harg12 hc0 hc1 hc2 hc3 x0 x1 x2 x3 x4).2.2.2.1)

/-- Case B stores nothing into scratch `arg9`: it holds what the point before left. -/
def sout0_B_0 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : ¬cond0_0 i) (hc1 : ¬cond0_1 i) (hc2 : ¬cond0_2 i) (hc3 : ¬cond0_3 i)
    (x0 : Vec F S512x1024 .f32) (x1 : Vec F S512x1024 .f32) (x2 : Vec F S512x1024 .f32) (x3 : Vec F S512x128 .f32) (x4 : Vec F S1x8x512 .f32) (xs0 : Vec F S8x512x128 .f32) (xs1 : Vec F S8x512x128 .f32) (xs2 : Vec F S512x1024 .f32) (xs3 : Vec F S8x512x128 .f32) : Vec F S8x512x128 .f32 := xs0

/-- Case B stores nothing into scratch `arg10`: it holds what the point before left. -/
def sout0_B_1 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : ¬cond0_0 i) (hc1 : ¬cond0_1 i) (hc2 : ¬cond0_2 i) (hc3 : ¬cond0_3 i)
    (x0 : Vec F S512x1024 .f32) (x1 : Vec F S512x1024 .f32) (x2 : Vec F S512x1024 .f32) (x3 : Vec F S512x128 .f32) (x4 : Vec F S1x8x512 .f32) (xs0 : Vec F S8x512x128 .f32) (xs1 : Vec F S8x512x128 .f32) (xs2 : Vec F S512x1024 .f32) (xs3 : Vec F S8x512x128 .f32) : Vec F S8x512x128 .f32 := xs1

/-- Case B stores nothing into scratch `arg11`: it holds what the point before left. -/
def sout0_B_2 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : ¬cond0_0 i) (hc1 : ¬cond0_1 i) (hc2 : ¬cond0_2 i) (hc3 : ¬cond0_3 i)
    (x0 : Vec F S512x1024 .f32) (x1 : Vec F S512x1024 .f32) (x2 : Vec F S512x1024 .f32) (x3 : Vec F S512x128 .f32) (x4 : Vec F S1x8x512 .f32) (xs0 : Vec F S8x512x128 .f32) (xs1 : Vec F S8x512x128 .f32) (xs2 : Vec F S512x1024 .f32) (xs3 : Vec F S8x512x128 .f32) : Vec F S512x1024 .f32 := xs2

/-- Case B stores nothing into scratch `arg12`: it holds what the point before left. -/
def sout0_B_3 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : ¬cond0_0 i) (hc1 : ¬cond0_1 i) (hc2 : ¬cond0_2 i) (hc3 : ¬cond0_3 i)
    (x0 : Vec F S512x1024 .f32) (x1 : Vec F S512x1024 .f32) (x2 : Vec F S512x1024 .f32) (x3 : Vec F S512x128 .f32) (x4 : Vec F S1x8x512 .f32) (xs0 : Vec F S8x512x128 .f32) (xs1 : Vec F S8x512x128 .f32) (xs2 : Vec F S512x1024 .f32) (xs3 : Vec F S8x512x128 .f32) : Vec F S8x512x128 .f32 := xs3

/-- Case C's pieces for scratch `arg9`, which the kernel carries between points, cover it: one of them a store of the WHOLE buffer (Lib/Ring.lean `sl_whole_mem`). -/
theorem scover0_C_0 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : cond0_0 i) (hc1 : cond0_1 i) (hc2 : ¬cond0_2 i) (hc3 : ¬cond0_3 i)
    (x0 : Vec F S512x1024 .f32) (x1 : Vec F S512x1024 .f32) (x2 : Vec F S512x1024 .f32) (x3 : Vec F S512x128 .f32) (x4 : Vec F S1x8x512 .f32) (y : S8x512x128.Idx) :
    ∃ pc ∈ (kernelRun0_C c i arg3 harg3 arg4 harg4 arg5 harg5 arg6 harg6 arg7 harg7 arg8 harg8 arg9 harg9 arg10 harg10 arg11 harg11 arg12 harg12 hc0 hc1 hc2 hc3 x0 x1 x2 x3 x4).1, y ∈ pc.1.set :=
  View.cover_of_wholeMem (kernelRun0_C c i arg3 harg3 arg4 harg4 arg5 harg5 arg6 harg6 arg7 harg7 arg8 harg8 arg9 harg9 arg10 harg10 arg11 harg11 arg12 harg12 hc0 hc1 hc2 hc3 x0 x1 x2 x3 x4).1 (by sl_whole_mem) y

/-- What case C leaves in scratch `arg9`: its pieces read back over junk. -/
def sout0_C_0 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : cond0_0 i) (hc1 : cond0_1 i) (hc2 : ¬cond0_2 i) (hc3 : ¬cond0_3 i)
    (x0 : Vec F S512x1024 .f32) (x1 : Vec F S512x1024 .f32) (x2 : Vec F S512x1024 .f32) (x3 : Vec F S512x128 .f32) (x4 : Vec F S1x8x512 .f32) : Vec F S8x512x128 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 hc0 hc1 hc2 hc3 x0 x1 x2 x3 x4).1)

/-- Case C's pieces for scratch `arg10`, which the kernel carries between points, cover it: one of them a store of the WHOLE buffer (Lib/Ring.lean `sl_whole_mem`). -/
theorem scover0_C_1 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : cond0_0 i) (hc1 : cond0_1 i) (hc2 : ¬cond0_2 i) (hc3 : ¬cond0_3 i)
    (x0 : Vec F S512x1024 .f32) (x1 : Vec F S512x1024 .f32) (x2 : Vec F S512x1024 .f32) (x3 : Vec F S512x128 .f32) (x4 : Vec F S1x8x512 .f32) (y : S8x512x128.Idx) :
    ∃ pc ∈ (kernelRun0_C c i arg3 harg3 arg4 harg4 arg5 harg5 arg6 harg6 arg7 harg7 arg8 harg8 arg9 harg9 arg10 harg10 arg11 harg11 arg12 harg12 hc0 hc1 hc2 hc3 x0 x1 x2 x3 x4).2.1, y ∈ pc.1.set :=
  View.cover_of_wholeMem (kernelRun0_C c i arg3 harg3 arg4 harg4 arg5 harg5 arg6 harg6 arg7 harg7 arg8 harg8 arg9 harg9 arg10 harg10 arg11 harg11 arg12 harg12 hc0 hc1 hc2 hc3 x0 x1 x2 x3 x4).2.1 (by sl_whole_mem) y

/-- What case C leaves in scratch `arg10`: its pieces read back over junk. -/
def sout0_C_1 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : cond0_0 i) (hc1 : cond0_1 i) (hc2 : ¬cond0_2 i) (hc3 : ¬cond0_3 i)
    (x0 : Vec F S512x1024 .f32) (x1 : Vec F S512x1024 .f32) (x2 : Vec F S512x1024 .f32) (x3 : Vec F S512x128 .f32) (x4 : Vec F S1x8x512 .f32) : Vec F S8x512x128 .f32 :=
  VS0_1.read (Elt F) (VS0_1.writes (Elt F) VS0_1.junk (kernelRun0_C c i arg3 harg3 arg4 harg4 arg5 harg5 arg6 harg6 arg7 harg7 arg8 harg8 arg9 harg9 arg10 harg10 arg11 harg11 arg12 harg12 hc0 hc1 hc2 hc3 x0 x1 x2 x3 x4).2.1)

/-- Case C's pieces for scratch `arg11`, which the kernel carries between points, cover it: one of them a store of the WHOLE buffer (Lib/Ring.lean `sl_whole_mem`). -/
theorem scover0_C_2 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : cond0_0 i) (hc1 : cond0_1 i) (hc2 : ¬cond0_2 i) (hc3 : ¬cond0_3 i)
    (x0 : Vec F S512x1024 .f32) (x1 : Vec F S512x1024 .f32) (x2 : Vec F S512x1024 .f32) (x3 : Vec F S512x128 .f32) (x4 : Vec F S1x8x512 .f32) (y : S512x1024.Idx) :
    ∃ pc ∈ (kernelRun0_C c i arg3 harg3 arg4 harg4 arg5 harg5 arg6 harg6 arg7 harg7 arg8 harg8 arg9 harg9 arg10 harg10 arg11 harg11 arg12 harg12 hc0 hc1 hc2 hc3 x0 x1 x2 x3 x4).2.2.1, y ∈ pc.1.set :=
  View.cover_of_wholeMem (kernelRun0_C c i arg3 harg3 arg4 harg4 arg5 harg5 arg6 harg6 arg7 harg7 arg8 harg8 arg9 harg9 arg10 harg10 arg11 harg11 arg12 harg12 hc0 hc1 hc2 hc3 x0 x1 x2 x3 x4).2.2.1 (by sl_whole_mem) y

/-- What case C leaves in scratch `arg11`: its pieces read back over junk. -/
def sout0_C_2 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : cond0_0 i) (hc1 : cond0_1 i) (hc2 : ¬cond0_2 i) (hc3 : ¬cond0_3 i)
    (x0 : Vec F S512x1024 .f32) (x1 : Vec F S512x1024 .f32) (x2 : Vec F S512x1024 .f32) (x3 : Vec F S512x128 .f32) (x4 : Vec F S1x8x512 .f32) : Vec F S512x1024 .f32 :=
  VS0_2.read (Elt F) (VS0_2.writes (Elt F) VS0_2.junk (kernelRun0_C c i arg3 harg3 arg4 harg4 arg5 harg5 arg6 harg6 arg7 harg7 arg8 harg8 arg9 harg9 arg10 harg10 arg11 harg11 arg12 harg12 hc0 hc1 hc2 hc3 x0 x1 x2 x3 x4).2.2.1)

/-- Case C's pieces for scratch `arg12`, which the kernel carries between points, cover it: 8 pieces of `S1x512x128` tiling it (Lib/Ring.lean `Piece.tiledL`). -/
theorem scover0_C_3 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : cond0_0 i) (hc1 : cond0_1 i) (hc2 : ¬cond0_2 i) (hc3 : ¬cond0_3 i)
    (x0 : Vec F S512x1024 .f32) (x1 : Vec F S512x1024 .f32) (x2 : Vec F S512x1024 .f32) (x3 : Vec F S512x128 .f32) (x4 : Vec F S1x8x512 .f32) (y : S8x512x128.Idx) :
    ∃ pc ∈ (kernelRun0_C c i arg3 harg3 arg4 harg4 arg5 harg5 arg6 harg6 arg7 harg7 arg8 harg8 arg9 harg9 arg10 harg10 arg11 harg11 arg12 harg12 hc0 hc1 hc2 hc3 x0 x1 x2 x3 x4).2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 hc2 hc3 x0 x1 x2 x3 x4).2.2.2.1 S1x512x128.size (by sl_kernel_rfl) y

/-- What case C leaves in scratch `arg12`: its pieces read back over junk. -/
def sout0_C_3 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : cond0_0 i) (hc1 : cond0_1 i) (hc2 : ¬cond0_2 i) (hc3 : ¬cond0_3 i)
    (x0 : Vec F S512x1024 .f32) (x1 : Vec F S512x1024 .f32) (x2 : Vec F S512x1024 .f32) (x3 : Vec F S512x128 .f32) (x4 : Vec F S1x8x512 .f32) : Vec F S8x512x128 .f32 :=
  VS0_3.read (Elt F) (VS0_3.writes (Elt F) VS0_3.junk (kernelRun0_C c i arg3 harg3 arg4 harg4 arg5 harg5 arg6 harg6 arg7 harg7 arg8 harg8 arg9 harg9 arg10 harg10 arg11 harg11 arg12 harg12 hc0 hc1 hc2 hc3 x0 x1 x2 x3 x4).2.2.2.1)

/-- Case D's pieces for scratch `arg9`, which the kernel carries between points, cover it: 8 pieces of `S1x512x128` tiling it (Lib/Ring.lean `Piece.tiledL`). -/
theorem scover0_D_0 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : ¬cond0_0 i) (hc1 : ¬cond0_1 i) (hc2 : cond0_2 i) (hc3 : cond0_3 i)
    (x0 : Vec F S512x1024 .f32) (x1 : Vec F S512x1024 .f32) (x2 : Vec F S512x1024 .f32) (x3 : Vec F S512x128 .f32) (x4 : Vec F S1x8x512 .f32) (xs0 : Vec F S8x512x128 .f32) (xs1 : Vec F S8x512x128 .f32) (xs2 : Vec F S512x1024 .f32) (xs3 : Vec F S8x512x128 .f32) (y : S8x512x128.Idx) :
    ∃ pc ∈ (kernelRun0_D c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3).1, y ∈ pc.1.set :=
  View.cover_of_tiledL (kernelRun0_D c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3).1 S1x512x128.size (by sl_kernel_rfl) y

/-- What case D leaves in scratch `arg9`: its pieces read back over junk. -/
def sout0_D_0 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : ¬cond0_0 i) (hc1 : ¬cond0_1 i) (hc2 : cond0_2 i) (hc3 : cond0_3 i)
    (x0 : Vec F S512x1024 .f32) (x1 : Vec F S512x1024 .f32) (x2 : Vec F S512x1024 .f32) (x3 : Vec F S512x128 .f32) (x4 : Vec F S1x8x512 .f32) (xs0 : Vec F S8x512x128 .f32) (xs1 : Vec F S8x512x128 .f32) (xs2 : Vec F S512x1024 .f32) (xs3 : Vec F S8x512x128 .f32) : Vec F S8x512x128 .f32 :=
  VS0_0.read (Elt F) (VS0_0.writes (Elt F) VS0_0.junk (kernelRun0_D c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3).1)

/-- Case D's pieces for scratch `arg10`, which the kernel carries between points, cover it: 8 pieces of `S1x512x128` tiling it (Lib/Ring.lean `Piece.tiledL`). -/
theorem scover0_D_1 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : ¬cond0_0 i) (hc1 : ¬cond0_1 i) (hc2 : cond0_2 i) (hc3 : cond0_3 i)
    (x0 : Vec F S512x1024 .f32) (x1 : Vec F S512x1024 .f32) (x2 : Vec F S512x1024 .f32) (x3 : Vec F S512x128 .f32) (x4 : Vec F S1x8x512 .f32) (xs0 : Vec F S8x512x128 .f32) (xs1 : Vec F S8x512x128 .f32) (xs2 : Vec F S512x1024 .f32) (xs3 : Vec F S8x512x128 .f32) (y : S8x512x128.Idx) :
    ∃ pc ∈ (kernelRun0_D c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3).2.1, y ∈ pc.1.set :=
  View.cover_of_tiledL (kernelRun0_D c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3).2.1 S1x512x128.size (by sl_kernel_rfl) y

/-- What case D leaves in scratch `arg10`: its pieces read back over junk. -/
def sout0_D_1 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : ¬cond0_0 i) (hc1 : ¬cond0_1 i) (hc2 : cond0_2 i) (hc3 : cond0_3 i)
    (x0 : Vec F S512x1024 .f32) (x1 : Vec F S512x1024 .f32) (x2 : Vec F S512x1024 .f32) (x3 : Vec F S512x128 .f32) (x4 : Vec F S1x8x512 .f32) (xs0 : Vec F S8x512x128 .f32) (xs1 : Vec F S8x512x128 .f32) (xs2 : Vec F S512x1024 .f32) (xs3 : Vec F S8x512x128 .f32) : Vec F S8x512x128 .f32 :=
  VS0_1.read (Elt F) (VS0_1.writes (Elt F) VS0_1.junk (kernelRun0_D c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3).2.1)

/-- Case D's pieces for scratch `arg11`, which the kernel carries between points, cover it: 8 pieces of `S512x128` tiling it (Lib/Ring.lean `Piece.tiledL`). -/
theorem scover0_D_2 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : ¬cond0_0 i) (hc1 : ¬cond0_1 i) (hc2 : cond0_2 i) (hc3 : cond0_3 i)
    (x0 : Vec F S512x1024 .f32) (x1 : Vec F S512x1024 .f32) (x2 : Vec F S512x1024 .f32) (x3 : Vec F S512x128 .f32) (x4 : Vec F S1x8x512 .f32) (xs0 : Vec F S8x512x128 .f32) (xs1 : Vec F S8x512x128 .f32) (xs2 : Vec F S512x1024 .f32) (xs3 : Vec F S8x512x128 .f32) (y : S512x1024.Idx) :
    ∃ pc ∈ (kernelRun0_D c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3).2.2.1, y ∈ pc.1.set :=
  View.cover_of_tiledL (kernelRun0_D c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3).2.2.1 S512x128.size (by sl_kernel_rfl) y

/-- What case D leaves in scratch `arg11`: its pieces read back over junk. -/
def sout0_D_2 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : ¬cond0_0 i) (hc1 : ¬cond0_1 i) (hc2 : cond0_2 i) (hc3 : cond0_3 i)
    (x0 : Vec F S512x1024 .f32) (x1 : Vec F S512x1024 .f32) (x2 : Vec F S512x1024 .f32) (x3 : Vec F S512x128 .f32) (x4 : Vec F S1x8x512 .f32) (xs0 : Vec F S8x512x128 .f32) (xs1 : Vec F S8x512x128 .f32) (xs2 : Vec F S512x1024 .f32) (xs3 : Vec F S8x512x128 .f32) : Vec F S512x1024 .f32 :=
  VS0_2.read (Elt F) (VS0_2.writes (Elt F) VS0_2.junk (kernelRun0_D c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3).2.2.1)

/-- Case D stores nothing into scratch `arg12`: it holds what the point before left. -/
def sout0_D_3 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : ¬cond0_0 i) (hc1 : ¬cond0_1 i) (hc2 : cond0_2 i) (hc3 : cond0_3 i)
    (x0 : Vec F S512x1024 .f32) (x1 : Vec F S512x1024 .f32) (x2 : Vec F S512x1024 .f32) (x3 : Vec F S512x128 .f32) (x4 : Vec F S1x8x512 .f32) (xs0 : Vec F S8x512x128 .f32) (xs1 : Vec F S8x512x128 .f32) (xs2 : Vec F S512x1024 .f32) (xs3 : Vec F S8x512x128 .f32) : Vec F S8x512x128 .f32 := xs3

/-- Case E's pieces for scratch `arg9`, which the kernel carries between points, cover it: 8 pieces of `S1x512x128` tiling it (Lib/Ring.lean `Piece.tiledL`). -/
theorem scover0_E_0 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : ¬cond0_0 i) (hc1 : cond0_1 i) (hc2 : ¬cond0_2 i) (hc3 : ¬cond0_3 i)
    (x0 : Vec F S512x1024 .f32) (x1 : Vec F S512x1024 .f32) (x2 : Vec F S512x1024 .f32) (x3 : Vec F S512x128 .f32) (x4 : Vec F S1x8x512 .f32) (xs0 : Vec F S8x512x128 .f32) (xs1 : Vec F S8x512x128 .f32) (xs2 : Vec F S512x1024 .f32) (xs3 : Vec F S8x512x128 .f32) (y : S8x512x128.Idx) :
    ∃ pc ∈ (kernelRun0_E c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3).1, y ∈ pc.1.set :=
  View.cover_of_tiledL (kernelRun0_E c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3).1 S1x512x128.size (by sl_kernel_rfl) y

/-- What case E leaves in scratch `arg9`: its pieces read back over junk. -/
def sout0_E_0 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : ¬cond0_0 i) (hc1 : cond0_1 i) (hc2 : ¬cond0_2 i) (hc3 : ¬cond0_3 i)
    (x0 : Vec F S512x1024 .f32) (x1 : Vec F S512x1024 .f32) (x2 : Vec F S512x1024 .f32) (x3 : Vec F S512x128 .f32) (x4 : Vec F S1x8x512 .f32) (xs0 : Vec F S8x512x128 .f32) (xs1 : Vec F S8x512x128 .f32) (xs2 : Vec F S512x1024 .f32) (xs3 : Vec F S8x512x128 .f32) : Vec F S8x512x128 .f32 :=
  VS0_0.read (Elt F) (VS0_0.writes (Elt F) VS0_0.junk (kernelRun0_E c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3).1)

/-- Case E's pieces for scratch `arg10`, which the kernel carries between points, cover it: 8 pieces of `S1x512x128` tiling it (Lib/Ring.lean `Piece.tiledL`). -/
theorem scover0_E_1 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : ¬cond0_0 i) (hc1 : cond0_1 i) (hc2 : ¬cond0_2 i) (hc3 : ¬cond0_3 i)
    (x0 : Vec F S512x1024 .f32) (x1 : Vec F S512x1024 .f32) (x2 : Vec F S512x1024 .f32) (x3 : Vec F S512x128 .f32) (x4 : Vec F S1x8x512 .f32) (xs0 : Vec F S8x512x128 .f32) (xs1 : Vec F S8x512x128 .f32) (xs2 : Vec F S512x1024 .f32) (xs3 : Vec F S8x512x128 .f32) (y : S8x512x128.Idx) :
    ∃ pc ∈ (kernelRun0_E c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3).2.1, y ∈ pc.1.set :=
  View.cover_of_tiledL (kernelRun0_E c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3).2.1 S1x512x128.size (by sl_kernel_rfl) y

/-- What case E leaves in scratch `arg10`: its pieces read back over junk. -/
def sout0_E_1 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : ¬cond0_0 i) (hc1 : cond0_1 i) (hc2 : ¬cond0_2 i) (hc3 : ¬cond0_3 i)
    (x0 : Vec F S512x1024 .f32) (x1 : Vec F S512x1024 .f32) (x2 : Vec F S512x1024 .f32) (x3 : Vec F S512x128 .f32) (x4 : Vec F S1x8x512 .f32) (xs0 : Vec F S8x512x128 .f32) (xs1 : Vec F S8x512x128 .f32) (xs2 : Vec F S512x1024 .f32) (xs3 : Vec F S8x512x128 .f32) : Vec F S8x512x128 .f32 :=
  VS0_1.read (Elt F) (VS0_1.writes (Elt F) VS0_1.junk (kernelRun0_E c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3).2.1)

/-- Case E's pieces for scratch `arg11`, which the kernel carries between points, cover it: 8 pieces of `S512x128` tiling it (Lib/Ring.lean `Piece.tiledL`). -/
theorem scover0_E_2 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : ¬cond0_0 i) (hc1 : cond0_1 i) (hc2 : ¬cond0_2 i) (hc3 : ¬cond0_3 i)
    (x0 : Vec F S512x1024 .f32) (x1 : Vec F S512x1024 .f32) (x2 : Vec F S512x1024 .f32) (x3 : Vec F S512x128 .f32) (x4 : Vec F S1x8x512 .f32) (xs0 : Vec F S8x512x128 .f32) (xs1 : Vec F S8x512x128 .f32) (xs2 : Vec F S512x1024 .f32) (xs3 : Vec F S8x512x128 .f32) (y : S512x1024.Idx) :
    ∃ pc ∈ (kernelRun0_E c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3).2.2.1, y ∈ pc.1.set :=
  View.cover_of_tiledL (kernelRun0_E c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3).2.2.1 S512x128.size (by sl_kernel_rfl) y

/-- What case E leaves in scratch `arg11`: its pieces read back over junk. -/
def sout0_E_2 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : ¬cond0_0 i) (hc1 : cond0_1 i) (hc2 : ¬cond0_2 i) (hc3 : ¬cond0_3 i)
    (x0 : Vec F S512x1024 .f32) (x1 : Vec F S512x1024 .f32) (x2 : Vec F S512x1024 .f32) (x3 : Vec F S512x128 .f32) (x4 : Vec F S1x8x512 .f32) (xs0 : Vec F S8x512x128 .f32) (xs1 : Vec F S8x512x128 .f32) (xs2 : Vec F S512x1024 .f32) (xs3 : Vec F S8x512x128 .f32) : Vec F S512x1024 .f32 :=
  VS0_2.read (Elt F) (VS0_2.writes (Elt F) VS0_2.junk (kernelRun0_E c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3).2.2.1)

/-- Case E stores nothing into scratch `arg12`: it holds what the point before left. -/
def sout0_E_3 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x8x512 .f32) (harg7 : arg7.IsWhole) (arg8 : Memref sig .tc .vmem S512x1024 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S8x512x128 .f32) (harg12 : arg12.IsWhole) (hc0 : ¬cond0_0 i) (hc1 : cond0_1 i) (hc2 : ¬cond0_2 i) (hc3 : ¬cond0_3 i)
    (x0 : Vec F S512x1024 .f32) (x1 : Vec F S512x1024 .f32) (x2 : Vec F S512x1024 .f32) (x3 : Vec F S512x128 .f32) (x4 : Vec F S1x8x512 .f32) (xs0 : Vec F S8x512x128 .f32) (xs1 : Vec F S8x512x128 .f32) (xs2 : Vec F S512x1024 .f32) (xs3 : Vec F S8x512x128 .f32) : Vec F S8x512x128 .f32 := xs3

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x512x128 .f32 × Vec F S8x512x128 .f32 × Vec F S512x1024 .f32 × Vec F S8x512x128 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only) <;> omega)) ((hcond0_3 ⟨0, hn⟩).mpr (by (try dsimp only) <;> omega)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only) <;> omega)) ((hcond0_3 ⟨0, hn⟩).mpr (by (try dsimp only) <;> omega)) (iblk m c 0 ⟨0, hn⟩) (iblk m c 1 ⟨0, hn⟩) (iblk m c 2 ⟨0, hn⟩) (iblk m c 3 ⟨0, hn⟩) (iblk m c 4 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only) <;> omega)) ((hcond0_3 ⟨0, hn⟩).mpr (by (try dsimp only) <;> omega)) (iblk m c 0 ⟨0, hn⟩) (iblk m c 1 ⟨0, hn⟩) (iblk m c 2 ⟨0, hn⟩) (iblk m c 3 ⟨0, hn⟩) (iblk m c 4 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only) <;> omega)) ((hcond0_3 ⟨0, hn⟩).mpr (by (try dsimp only) <;> omega)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 8 = 0 then
      if h1 : (n + 1) % 8 + 1 ≤ (n + 1) / 8 % 8 then
        if h2 : (n + 1) / 8 % 8 = (n + 1) % 8 then
          False.elim (by have hN : n + 1 < 128 := lt_of_lt_of_eq hn (show cfg0.N = 128 from N_0); omega)
        else
          if h3 : (n + 1) / 8 % 8 = (n + 1) % 8 then
            False.elim (by have hN : n + 1 < 128 := lt_of_lt_of_eq hn (show cfg0.N = 128 from N_0); omega)
          else
            (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
      else
        if h2 : (n + 1) / 8 % 8 = (n + 1) % 8 then
          if h3 : (n + 1) / 8 % 8 = (n + 1) % 8 then
            (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩))
          else
            False.elim (by have hN : n + 1 < 128 := lt_of_lt_of_eq hn (show cfg0.N = 128 from N_0); omega)
        else
          False.elim (by have hN : n + 1 < 128 := lt_of_lt_of_eq hn (show cfg0.N = 128 from N_0); omega)
    else
      if h1 : (n + 1) % 8 + 1 ≤ (n + 1) / 8 % 8 then
        if h2 : (n + 1) / 8 % 8 = (n + 1) % 8 then
          False.elim (by have hN : n + 1 < 128 := lt_of_lt_of_eq hn (show cfg0.N = 128 from N_0); omega)
        else
          if h3 : (n + 1) / 8 % 8 = (n + 1) % 8 then
            False.elim (by have hN : n + 1 < 128 := lt_of_lt_of_eq hn (show cfg0.N = 128 from N_0); omega)
          else
            (sout0_E_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, sout0_E_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, sout0_E_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, sout0_E_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2)
      else
        if h2 : (n + 1) / 8 % 8 = (n + 1) % 8 then
          if h3 : (n + 1) / 8 % 8 = (n + 1) % 8 then
            (sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, sout0_D_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, sout0_D_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2)
          else
            False.elim (by have hN : n + 1 < 128 := lt_of_lt_of_eq hn (show cfg0.N = 128 from N_0); omega)
        else
          if h3 : (n + 1) / 8 % 8 = (n + 1) % 8 then
            False.elim (by have hN : n + 1 < 128 := lt_of_lt_of_eq hn (show cfg0.N = 128 from N_0); omega)
          else
            (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 8 = 0) (h1 : ¬t.val % 8 + 1 ≤ t.val / 8 % 8) (h2 : t.val / 8 % 8 = t.val % 8) (h3 : t.val / 8 % 8 = t.val % 8) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) ((hcond0_2 t).mpr h2) ((hcond0_3 t).mpr h3) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) ((hcond0_2 t).mpr h2) ((hcond0_3 t).mpr h3) (iblk m c 0 t) (iblk m c 1 t) (iblk m c 2 t) (iblk m c 3 t) (iblk m c 4 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) ((hcond0_2 t).mpr h2) ((hcond0_3 t).mpr h3) (iblk m c 0 t) (iblk m c 1 t) (iblk m c 2 t) (iblk m c 3 t) (iblk m c 4 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) ((hcond0_2 t).mpr h2) ((hcond0_3 t).mpr h3) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans ((dif_pos h2).trans ((dif_pos h3).trans rfl)))

/-- `outsAt0` at a point of case B: that case's contents, over what the point before left. -/
theorem outsAt0_B (c : Dev nD) (t : Fin cfg0.N) (h0 : ¬t.val % 8 = 0) (h1 : ¬t.val % 8 + 1 ≤ t.val / 8 % 8) (h2 : ¬t.val / 8 % 8 = t.val % 8) (h3 : ¬t.val / 8 % 8 = t.val % 8) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans rfl)))

/-- `outsAt0` at a point of case C: that case's contents. -/
theorem outsAt0_C (c : Dev nD) (t : Fin cfg0.N) (h0 : t.val % 8 = 0) (h1 : t.val % 8 + 1 ≤ t.val / 8 % 8) (h2 : ¬t.val / 8 % 8 = t.val % 8) (h3 : ¬t.val / 8 % 8 = t.val % 8) :
    outsAt0 m c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t), sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t), sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t), sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t)) := by
  obtain ⟨n, hn⟩ := t
  cases n with
  | zero => exact (by exfalso; (try dsimp only at h1); exact by omega)
  | succ n => exact (dif_pos h0).trans ((dif_pos h1).trans ((dif_neg h2).trans ((dif_neg h3).trans rfl)))

/-- `outsAt0` at a point of case D: that case's contents, over what the point before left. -/
theorem outsAt0_D (c : Dev nD) (t : Fin cfg0.N) (h0 : ¬t.val % 8 = 0) (h1 : ¬t.val % 8 + 1 ≤ t.val / 8 % 8) (h2 : t.val / 8 % 8 = t.val % 8) (h3 : t.val / 8 % 8 = t.val % 8) :
    outsAt0 m c t.val t.isLt = (sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_D_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_pos h3).trans rfl)))

/-- `outsAt0` at a point of case E: that case's contents, over what the point before left. -/
theorem outsAt0_E (c : Dev nD) (t : Fin cfg0.N) (h0 : ¬t.val % 8 = 0) (h1 : t.val % 8 + 1 ≤ t.val / 8 % 8) (h2 : ¬t.val / 8 % 8 = t.val % 8) (h3 : ¬t.val / 8 % 8 = t.val % 8) :
    outsAt0 m c t.val t.isLt = (sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_E_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_E_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2.1) ∗ owns (c : Thread nD τ) scM0_3 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2.1) ∗ owns (c : Thread nD τ) scM0_3 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2.1) ∗ owns (c : Thread nD τ) scM0_2 fullShare ((outsAt0 m c (n - 1) (by omega)).2.2.1) ∗ owns (c : Thread nD τ) scM0_3 fullShare ((outsAt0 m c (n - 1) (by omega)).2.2.2)) ∗ (∃ r, prngReg c r)) := by
  cases n with
  | zero => exact absurd rfl hz
  | succ n => rfl

/-! ## The pipeline's proof data -/

/-- The output windows whose contents are not named (5): nothing reads what the kernel leaves in them, so nothing
    of it is named (Lib/Pipeline/Dat.lean `Dat.toRForget`). -/
def forgets0 : Fin 6 → Bool := fun w => w.val == 5

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d))

set_option maxHeartbeats 16000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 8 = 0
  · by_cases h1 : t.val % 8 + 1 ≤ t.val / 8 % 8
    · by_cases h2 : t.val / 8 % 8 = t.val % 8
      · exfalso; omega
      · by_cases h3 : t.val / 8 % 8 = t.val % 8
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          by_cases hz : t.val = 0
          · exfalso; have hN : t.val < 128 := lt_of_lt_of_eq t.isLt (show cfg0.N = 128 from N_0); omega
          · rw [PhiS_castSucc m c t, PhiS_pos m c _ _ hz]
            rw [outsAt0_C m c t h0 h1 h2 h3]
            unfold sout0_C_0 sout0_C_1 sout0_C_2 sout0_C_3; (try dsimp only)
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
            iapply ((kernelRun0_C c (grid0.coords t) _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t)).2.2.2.2 Set.univ _)
            isplitl [H0]; · iexact H0
            isplitl [H1]; · iexact H1
            isplitl [H2]; · iexact H2
            isplitl [H3]; · iexact H3
            isplitl [H4]; · iexact H4
            isplitl [H5]; · iexists _; iexact H5
            isplitl [HS0]; · iexists _; iexact HS0
            isplitl [HS1]; · iexists _; iexact HS1
            isplitl [HS2]; · iexists _; iexact HS2
            isplitl [HS3]; · iexists _; iexact HS3
            iintro ⟨H0, H1, H2, H3, H4, H5, ⟨%es0, HS0⟩, ⟨%es1, HS1⟩, ⟨%es2, HS2⟩, ⟨%es3, HS3⟩⟩
            isplitl [HS0 HS1 HS2 HS3 Hg]
            · isplitl [HS0 HS1 HS2 HS3]
              · isplitl [HS0]
                · unfold owns; iexists _; isplitr
                  swap; · iexact HS0
                  ipureintro; exact View.read_writes_of_cover _ _ _ _ _ (scover0_C_0 c _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_C_1 c _ _ _ _ _ _ _ _ _ _ _ _ _ _ _ _ _ _ _ _ _ _ _ _ _ _ _ _ _ _)
                isplitl [HS2]
                · unfold owns; iexists _; isplitr
                  swap; · iexact HS2
                  ipureintro; exact View.read_writes_of_cover _ _ _ _ _ (scover0_C_2 c _ _ _ _ _ _ _ _ _ _ _ _ _ _ _ _ _ _ _ _ _ _ _ _ _ _ _ _ _ _)
                unfold owns; iexists _; isplitr
                swap; · iexact HS3
                ipureintro; exact View.read_writes_of_cover _ _ _ _ _ (scover0_C_3 c _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            iexact H5
    · by_cases h2 : t.val / 8 % 8 = t.val % 8
      · by_cases h3 : t.val / 8 % 8 = t.val % 8
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          by_cases hz : t.val = 0
          · rw [PhiS_castSucc m c t, PhiS_zero m c _ _ hz, PhiA0_eq]
            rw [outsAt0_A m c t h0 h1 h2 h3]
            unfold sout0_A_0 sout0_A_1 sout0_A_2 sout0_A_3; (try dsimp only)
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
            iapply ((kernelRun0_A c (grid0.coords t) _ _ _ _ _ _ _ _ _ _ _ _ _ _ _ _ _ _ _ _ ((hcond0_0 t).mpr h0) (fun h => h1 ((hcond0_1 t).mp h)) ((hcond0_2 t).mpr h2) ((hcond0_3 t).mpr h3) (iblk m c 0 t) (iblk m c 1 t) (iblk m c 2 t) (iblk m c 3 t) (iblk m c 4 t)).2.2.2.2 Set.univ _)
            isplitl [H0]; · iexact H0
            isplitl [H1]; · iexact H1
            isplitl [H2]; · iexact H2
            isplitl [H3]; · iexact H3
            isplitl [H4]; · iexact H4
            isplitl [H5]; · iexists _; iexact H5
            isplitl [HS0]; · iexact HS0
            isplitl [HS1]; · iexact HS1
            isplitl [HS2]; · iexact HS2
            isplitl [HS3]; · iexact HS3
            iintro ⟨H0, H1, H2, H3, H4, H5, ⟨%es0, HS0⟩, ⟨%es1, HS1⟩, ⟨%es2, HS2⟩, ⟨%es3, HS3⟩⟩
            isplitl [HS0 HS1 HS2 HS3 Hg]
            · isplitl [HS0 HS1 HS2 HS3]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _ _ _)
                isplitl [HS2]
                · unfold owns; iexists _; isplitr
                  swap; · iexact HS2
                  ipureintro; exact View.read_writes_of_cover _ _ _ _ _ (scover0_A_2 c _ _ _ _ _ _ _ _ _ _ _ _ _ _ _ _ _ _ _ _ _ _ _ _ _ _ _ _ _ _)
                unfold owns; iexists _; isplitr
                swap; · iexact HS3
                ipureintro; exact View.read_writes_of_cover _ _ _ _ _ (scover0_A_3 c _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            iexact H5
          · rw [PhiS_castSucc m c t, PhiS_pos m c _ _ hz]
            rw [outsAt0_A m c t h0 h1 h2 h3]
            unfold sout0_A_0 sout0_A_1 sout0_A_2 sout0_A_3; (try dsimp only)
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
            iapply ((kernelRun0_A c (grid0.coords t) _ _ _ _ _ _ _ _ _ _ _ _ _ _ _ _ _ _ _ _ ((hcond0_0 t).mpr h0) (fun h => h1 ((hcond0_1 t).mp h)) ((hcond0_2 t).mpr h2) ((hcond0_3 t).mpr h3) (iblk m c 0 t) (iblk m c 1 t) (iblk m c 2 t) (iblk m c 3 t) (iblk m c 4 t)).2.2.2.2 Set.univ _)
            isplitl [H0]; · iexact H0
            isplitl [H1]; · iexact H1
            isplitl [H2]; · iexact H2
            isplitl [H3]; · iexact H3
            isplitl [H4]; · iexact H4
            isplitl [H5]; · iexists _; iexact H5
            isplitl [HS0]; · iexists _; iexact HS0
            isplitl [HS1]; · iexists _; iexact HS1
            isplitl [HS2]; · iexists _; iexact HS2
            isplitl [HS3]; · iexists _; iexact HS3
            iintro ⟨H0, H1, H2, H3, H4, H5, ⟨%es0, HS0⟩, ⟨%es1, HS1⟩, ⟨%es2, HS2⟩, ⟨%es3, HS3⟩⟩
            isplitl [HS0 HS1 HS2 HS3 Hg]
            · isplitl [HS0 HS1 HS2 HS3]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _ _ _)
                isplitl [HS2]
                · unfold owns; iexists _; isplitr
                  swap; · iexact HS2
                  ipureintro; exact View.read_writes_of_cover _ _ _ _ _ (scover0_A_2 c _ _ _ _ _ _ _ _ _ _ _ _ _ _ _ _ _ _ _ _ _ _ _ _ _ _ _ _ _ _)
                unfold owns; iexists _; isplitr
                swap; · iexact HS3
                ipureintro; exact View.read_writes_of_cover _ _ _ _ _ (scover0_A_3 c _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            iexact H5
        · exfalso; omega
      · exfalso; omega
  · by_cases h1 : t.val % 8 + 1 ≤ t.val / 8 % 8
    · by_cases h2 : t.val / 8 % 8 = t.val % 8
      · exfalso; omega
      · by_cases h3 : t.val / 8 % 8 = t.val % 8
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          by_cases hz : t.val = 0
          · exfalso; have hN : t.val < 128 := lt_of_lt_of_eq t.isLt (show cfg0.N = 128 from N_0); omega
          · rw [PhiS_castSucc m c t, PhiS_pos m c _ _ hz]
            rw [outsAt0_E m c t h0 h1 h2 h3]
            unfold sout0_E_0 sout0_E_1 sout0_E_2 sout0_E_3; (try dsimp only)
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
            iapply ((kernelRun0_E c (grid0.coords t) _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) _ _ _ _).2.2.2.2 Set.univ _)
            isplitl [H0]; · iexact H0
            isplitl [H1]; · iexact H1
            isplitl [H2]; · iexact H2
            isplitl [H3]; · iexact H3
            isplitl [H4]; · iexact H4
            isplitl [H5]; · iexists _; iexact H5
            isplitl [HS0]; · iexact HS0
            isplitl [HS1]; · iexact HS1
            isplitl [HS2]; · iexact HS2
            isplitl [HS3]; · iexact HS3
            iintro ⟨H0, H1, H2, H3, H4, H5, ⟨%es0, HS0⟩, ⟨%es1, HS1⟩, ⟨%es2, HS2⟩, HS3⟩
            isplitl [HS0 HS1 HS2 HS3 Hg]
            · isplitl [HS0 HS1 HS2 HS3]
              · isplitl [HS0]
                · unfold owns; iexists _; isplitr
                  swap; · iexact HS0
                  ipureintro; exact View.read_writes_of_cover _ _ _ _ _ (scover0_E_0 c _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_E_1 c _ _ _ _ _ _ _ _ _ _ _ _ _ _ _ _ _ _ _ _ _ _ _ _ _ _ _ _ _ _ _ _ _ _)
                isplitl [HS2]
                · unfold owns; iexists _; isplitr
                  swap; · iexact HS2
                  ipureintro; exact View.read_writes_of_cover _ _ _ _ _ (scover0_E_2 c _ _ _ _ _ _ _ _ _ _ _ _ _ _ _ _ _ _ _ _ _ _ _ _ _ _ _ _ _ _ _ _ _ _)
                iexact HS3
              iexact Hg
            isplitl [Ho]; · iexact Ho
            isplitl [H0]; · iexact H0
            isplitl [H1]; · iexact H1
            isplitl [H2]; · iexact H2
            isplitl [H3]; · iexact H3
            isplitl [H4]; · iexact H4
            iexact H5
    · by_cases h2 : t.val / 8 % 8 = t.val % 8
      · by_cases h3 : t.val / 8 % 8 = t.val % 8
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          by_cases hz : t.val = 0
          · exfalso; have hN : t.val < 128 := lt_of_lt_of_eq t.isLt (show cfg0.N = 128 from N_0); omega
          · rw [PhiS_castSucc m c t, PhiS_pos m c _ _ hz]
            rw [outsAt0_D m c t h0 h1 h2 h3]
            unfold sout0_D_0 sout0_D_1 sout0_D_2 sout0_D_3; (try dsimp only)
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
            iapply ((kernelRun0_D c (grid0.coords t) _ _ _ _ _ _ _ _ _ _ _ _ _ _ _ _ _ _ _ _ (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) _ _ _ _).2.2.2.2 Set.univ _)
            isplitl [H0]; · iexact H0
            isplitl [H1]; · iexact H1
            isplitl [H2]; · iexact H2
            isplitl [H3]; · iexact H3
            isplitl [H4]; · iexact H4
            isplitl [H5]; · iexists _; iexact H5
            isplitl [HS0]; · iexact HS0
            isplitl [HS1]; · iexact HS1
            isplitl [HS2]; · iexact HS2
            isplitl [HS3]; · iexact HS3
            iintro ⟨H0, H1, H2, H3, H4, H5, ⟨%es0, HS0⟩, ⟨%es1, HS1⟩, ⟨%es2, HS2⟩, HS3⟩
            isplitl [HS0 HS1 HS2 HS3 Hg]
            · isplitl [HS0 HS1 HS2 HS3]
              · isplitl [HS0]
                · unfold owns; iexists _; isplitr
                  swap; · iexact HS0
                  ipureintro; exact View.read_writes_of_cover _ _ _ _ _ (scover0_D_0 c _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_D_1 c _ _ _ _ _ _ _ _ _ _ _ _ _ _ _ _ _ _ _ _ _ _ _ _ _ _ _ _ _ _ _ _ _ _)
                isplitl [HS2]
                · unfold owns; iexists _; isplitr
                  swap; · iexact HS2
                  ipureintro; exact View.read_writes_of_cover _ _ _ _ _ (scover0_D_2 c _ _ _ _ _ _ _ _ _ _ _ _ _ _ _ _ _ _ _ _ _ _ _ _ _ _ _ _ _ _ _ _ _ _)
                iexact HS3
              iexact Hg
            isplitl [Ho]; · iexact Ho
            isplitl [H0]; · iexact H0
            isplitl [H1]; · iexact H1
            isplitl [H2]; · iexact H2
            isplitl [H3]; · iexact H3
            isplitl [H4]; · iexact H4
            iexact H5
        · exfalso; omega
      · by_cases h3 : t.val / 8 % 8 = t.val % 8
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          by_cases hz : t.val = 0
          · exfalso; have hN : t.val < 128 := lt_of_lt_of_eq t.isLt (show cfg0.N = 128 from N_0); omega
          · rw [PhiS_castSucc m c t, PhiS_pos m c _ _ hz]
            rw [outsAt0_B m c t h0 h1 h2 h3]
            unfold sout0_B_0 sout0_B_1 sout0_B_2 sout0_B_3; (try dsimp only)
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
            iapply ((kernelRun0_B c (grid0.coords t) _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) _ _ _ _).2.2.2.2 Set.univ _)
            isplitl [H0]; · iexact H0
            isplitl [H1]; · iexact H1
            isplitl [H2]; · iexact H2
            isplitl [H3]; · iexact H3
            isplitl [H4]; · iexact H4
            isplitl [H5]; · iexists _; iexact H5
            isplitl [HS0]; · iexact HS0
            isplitl [HS1]; · iexact HS1
            isplitl [HS2]; · iexact HS2
            isplitl [HS3]; · iexact HS3
            iintro ⟨H0, H1, H2, H3, H4, H5, HS0, HS1, HS2, HS3⟩
            isplitl [HS0 HS1 HS2 HS3 Hg]
            · isplitl [HS0 HS1 HS2 HS3]
              · isplitl [HS0]
                · iexact HS0
                isplitl [HS1]
                · iexact HS1
                isplitl [HS2]
                · iexact HS2
                iexact HS3
              iexact Hg
            isplitl [Ho]; · iexact Ho
            isplitl [H0]; · iexact H0
            isplitl [H1]; · iexact H1
            isplitl [H2]; · iexact H2
            isplitl [H3]; · iexact H3
            isplitl [H4]; · iexact H4
            iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

-- `θ_run_frame_track_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- The kernel's frame, over any float values: the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Whole

end
-- ==== Proof.Online.lean ====
/-
The softmax of one query row, taken a tile of keys at a time, over the extended reals.

`L k` is key `k`'s score in base two without the query's own gate, `⊥` where the key is masked; `c` is the query's gate,
`V k` the key's value in one lane. `Inv` is what the running maximum, sum and weighted sum mean after `n` keys.
-/
module

public import Idealize.ShloMosaic.PureOps.Ideal

@[expose] public section

noncomputable section

namespace Cert.Online

open Idealize.ShloMosaic

/-- The greatest score among the first `n` keys. -/
def top (L : ℕ → EReal) (n : ℕ) : EReal := (Finset.range n).sup L

theorem le_top (L : ℕ → EReal) {n k : ℕ} (h : k < n) : L k ≤ top L n := Finset.le_sup (Finset.mem_range.mpr h)

theorem top_add (L : ℕ → EReal) (n b : ℕ) : top L (n + b) = max (top L n) (Finset.univ.sup fun k : Fin b => L (n + k.val)) := by
  refine le_antisymm (Finset.sup_le fun k hk => ?_) (max_le (Finset.sup_mono (Finset.range_mono (Nat.le_add_right n b))) (Finset.sup_le fun k _ => le_top L (Nat.add_lt_add_left k.isLt n)))
  have hk' : k < n + b := Finset.mem_range.mp hk
  by_cases h : k < n
  · exact le_max_of_le_left (le_top L h)
  · refine le_max_of_le_right ?_
    have e : L k = (fun k : Fin b => L (n + k.val)) ⟨k - n, by omega⟩ := by
      show L k = L (n + (k - n)); rw [Nat.add_sub_cancel' (by omega)]
    rw [e]; exact Finset.le_sup (f := fun k : Fin b => L (n + k.val)) (Finset.mem_univ _)

theorem sum_add (f : ℕ → EReal) (n b : ℕ) :
    ∑ k ∈ Finset.range (n + b), f k = ∑ k ∈ Finset.range n, f k + ∑ k : Fin b, f (n + k.val) := by
  rw [Finset.sum_range_add, ← Fin.sum_univ_eq_sum_range (fun k => f (n + k)) b]

/-- A factor that is not negative and not infinite goes into a sum. -/
theorem mul_sum {ι : Type} (s : Finset ι) (f : ι → EReal) {a : EReal} (h0 : 0 ≤ a) (ht : a ≠ ⊤) :
    a * ∑ k ∈ s, f k = ∑ k ∈ s, a * f k := by
  classical
  induction s using Finset.induction_on with
  | empty => simp
  | insert x s hx ih => rw [Finset.sum_insert hx, Finset.sum_insert hx, EReal.left_distrib_of_nonneg_of_ne_top h0 ht, ih]

theorem exp2_nonneg (x : EReal) : 0 ≤ Ideal.exp2 x := by
  induction x with
  | bot => exact le_refl _
  | top => exact le_top'
  | coe r => exact EReal.coe_nonneg.mpr (Real.rpow_nonneg (by norm_num) r)
where le_top' {x : EReal} : x ≤ ⊤ := _root_.le_top

theorem sub_top (x : EReal) : x - ⊤ = ⊥ := by rw [sub_eq_add_neg, EReal.neg_top, EReal.add_bot]

theorem bot_sub (x : EReal) : (⊥ : EReal) - x = ⊥ := by rw [sub_eq_add_neg, EReal.bot_add]

/-- What a rescaling factor does to a weight taken against the old maximum. -/
theorem decay_mul {x S S' : EReal} (h : x ≤ S) (h' : S ≤ S') (r : ℝ) :
    Ideal.exp2 ((S + r) - (S' + r)) * Ideal.exp2 (x - S) = Ideal.exp2 (x - S') := by
  induction S' with
  | bot =>
    obtain rfl : S = ⊥ := le_bot_iff.mp h'
    obtain rfl : x = ⊥ := le_bot_iff.mp h
    rw [bot_sub, Ideal.exp2_bot, mul_zero]
  | top =>
    rw [EReal.top_add_coe, sub_top, sub_top, Ideal.exp2_bot, zero_mul]
  | coe t =>
    induction S with
    | bot =>
      obtain rfl : x = ⊥ := le_bot_iff.mp h
      rw [bot_sub, bot_sub, Ideal.exp2_bot, mul_zero]
    | top => exact absurd (top_le_iff.mp h') (EReal.coe_ne_top t)
    | coe s =>
      induction x with
      | bot => rw [bot_sub, bot_sub, Ideal.exp2_bot, mul_zero]
      | top => exact absurd (top_le_iff.mp h) (EReal.coe_ne_top s)
      | coe y =>
        rw [← EReal.coe_add, ← EReal.coe_add, ← EReal.coe_sub, ← EReal.coe_sub, ← EReal.coe_sub, Ideal.exp2_coe,
          Ideal.exp2_coe, Ideal.exp2_coe, ← EReal.coe_mul]
        refine congrArg _ ?_
        show (2 : ℝ) ^ (s + r - (t + r)) * (2 : ℝ) ^ (y - s) = (2 : ℝ) ^ (y - t)
        rw [← Real.rpow_add (by norm_num)]
        congr 1; ring

theorem decay_ne_top {S S' : EReal} (h' : S ≤ S') (r : ℝ) : Ideal.exp2 ((S + r) - (S' + r)) ≠ ⊤ := by
  induction S' with
  | bot => obtain rfl : S = ⊥ := le_bot_iff.mp h'; rw [EReal.bot_add, bot_sub, Ideal.exp2_bot]; exact EReal.zero_ne_top
  | top => rw [EReal.top_add_coe, sub_top, Ideal.exp2_bot]; exact EReal.zero_ne_top
  | coe t =>
    induction S with
    | bot => rw [EReal.bot_add, bot_sub, Ideal.exp2_bot]; exact EReal.zero_ne_top
    | top => exact absurd (top_le_iff.mp h') (EReal.coe_ne_top t)
    | coe s =>
      rw [← EReal.coe_add, ← EReal.coe_add, ← EReal.coe_sub, Ideal.exp2_coe]; exact EReal.coe_ne_top _

theorem add_sub_coe (S : EReal) (r : ℝ) : S + r - r = S := by
  induction S with
  | bot => rw [EReal.bot_add, bot_sub]
  | top => rw [EReal.top_add_coe]; exact EReal.top_sub_coe r
  | coe s => rw [← EReal.coe_add, ← EReal.coe_sub, add_sub_cancel_right]

/-- What the running maximum `m`, sum `l` and weighted sum `a` mean after `n` keys. At a real gate they are the maximum
    plus the gate and the sums against the maximum; at an infinite gate every weight is zero or infinite. -/
def Inv (L V : ℕ → EReal) (c : EReal) (n : ℕ) (m l a : EReal) : Prop :=
  (∀ r : ℝ, c = r → m = top L n + c ∧ l = ∑ k ∈ Finset.range n, Ideal.exp2 (L k - top L n)
    ∧ a = ∑ k ∈ Finset.range n, Ideal.exp2 (L k - top L n) * V k)
  ∧ ((c = ⊤ ∨ c = ⊥) → (m = ⊥ ∨ (c = ⊤ ∧ m = ⊤)) ∧ (l = ⊤ ∨ (l = 0 ∧ a = 0)))

theorem Inv.init (L V : ℕ → EReal) (c : EReal) : Inv L V c 0 ⊥ 0 0 := by
  refine ⟨fun r hr => ⟨?_, ?_, ?_⟩, fun _ => ⟨.inl rfl, .inr ⟨rfl, rfl⟩⟩⟩
  · subst hr; show (⊥ : EReal) = ⊥ + _; rw [EReal.bot_add]
  · rfl
  · rfl

/-- One tile of `b` keys. -/
theorem Inv.step {L V : ℕ → EReal} {c : EReal} {n b : ℕ} {m l a : EReal} (h : Inv L V c n m l a) {m' : EReal}
    (hm : m' = max m ((Finset.univ.sup fun k : Fin b => L (n + k.val)) + c)) :
    Inv L V c (n + b) m'
      (Ideal.exp2 (m - m') * l + ∑ k : Fin b, Ideal.exp2 (L (n + k.val) - (m' - c)))
      (Ideal.exp2 (m - m') * a + ∑ k : Fin b, Ideal.exp2 (L (n + k.val) - (m' - c)) * V (n + k.val)) := by
  refine ⟨fun r hr => ?_, fun hc => ?_⟩
  · subst hr
    obtain ⟨e1, e2, e3⟩ := h.1 r rfl
    have hm' : m' = top L (n + b) + r := by
      rw [hm, e1, top_add]
      exact ((Monotone.map_max (f := fun x : EReal => x + (r : EReal)) fun x y hxy => add_le_add_left hxy _)).symm
    have hle : top L n ≤ top L (n + b) := Finset.sup_mono (Finset.range_mono (Nat.le_add_right n b))
    have hw : ∀ x : EReal, x - (m' - r) = x - top L (n + b) := fun x => by rw [hm', add_sub_coe]
    have ha : Ideal.exp2 (m - m') = Ideal.exp2 ((top L n + r) - (top L (n + b) + r)) := by rw [e1, hm']
    refine ⟨hm', ?_, ?_⟩
    · rw [sum_add, ha, e2, mul_sum _ _ (exp2_nonneg _) (decay_ne_top hle r)]
      simp only [hw]
      congr 1
      exact Finset.sum_congr rfl fun k hk => decay_mul (le_top L (Finset.mem_range.mp hk)) hle r
    · rw [sum_add, ha, e3, mul_sum _ _ (exp2_nonneg _) (decay_ne_top hle r)]
      simp only [hw]
      congr 1
      refine Finset.sum_congr rfl fun k hk => ?_
      rw [← mul_assoc, decay_mul (le_top L (Finset.mem_range.mp hk)) hle r]
  · obtain ⟨h1, -⟩ := h.2 hc
    have hs : ∀ x : EReal, x - ⊥ = if x = ⊥ then ⊥ else ⊤ := fun x => by
      rw [sub_eq_add_neg, EReal.neg_bot]
      split
      · next e => rw [e, EReal.bot_add]
      · next e => exact EReal.add_top_of_ne_bot e
    have key : (m' = ⊥ ∨ (c = ⊤ ∧ m' = ⊤)) ∧ m - m' = ⊥ ∧ m' - c = ⊥ := by
      rcases hc with rfl | rfl
      · have hx : ∀ x : EReal, x + ⊤ = ⊥ ∨ x + ⊤ = ⊤ := fun x => by
          by_cases e : x = ⊥
          · exact .inl (by rw [e, EReal.bot_add])
          · exact .inr (EReal.add_top_of_ne_bot e)
        have hm1 : m' = ⊥ ∨ m' = ⊤ := by
          rw [hm]
          rcases h1 with rfl | ⟨-, rfl⟩
          · rw [max_eq_right bot_le]; exact hx _
          · exact .inr (max_eq_left _root_.le_top)
        refine ⟨hm1.imp id fun e => ⟨rfl, e⟩, ?_, sub_top _⟩
        rcases hm1 with e | e
        · have : m ≤ ⊥ := by rw [← e, hm]; exact le_max_left _ _
          rw [le_bot_iff.mp this, bot_sub]
        · rw [e, sub_top]
      · have hm0 : m = ⊥ := h1.elim id fun e => absurd e.1 (by simp)
        have hm1 : m' = ⊥ := by rw [hm, hm0, EReal.add_bot, max_self]
        exact ⟨.inl hm1, by rw [hm0, bot_sub], by rw [hm1, bot_sub]⟩
    obtain ⟨k1, k2, k3⟩ := key
    refine ⟨k1, ?_⟩
    rw [k2, k3, Ideal.exp2_bot, zero_mul, zero_mul, zero_add, zero_add]
    by_cases hb : ∀ k : Fin b, L (n + k.val) = ⊥
    · refine .inr ⟨Finset.sum_eq_zero fun k _ => ?_, Finset.sum_eq_zero fun k _ => ?_⟩
      · rw [hb k, bot_sub, Ideal.exp2_bot]
      · rw [hb k, bot_sub, Ideal.exp2_bot, zero_mul]
    · obtain ⟨k, hk⟩ := not_forall.mp hb
      refine .inl (top_le_iff.mp ?_)
      have e : Ideal.exp2 (L (n + k.val) - ⊥) = ⊤ := by rw [hs, if_neg hk, Ideal.exp2_top]
      rw [← e]
      exact Finset.single_le_sum (f := fun k : Fin b => Ideal.exp2 (L (n + k.val) - ⊥))
        (fun k _ => exp2_nonneg _) (Finset.mem_univ k)

/-! ## The reference's row -/

/-- The reference's scores at gate `c`: the base-two scores in base `e`, plus the gate. -/
def logit (L : ℕ → EReal) (c : EReal) (k : ℕ) : EReal := L k * (Real.log 2 : ℝ) + c

/-- The reference's maximum, zero where every key is masked. -/
def guard (M : EReal) : EReal := if M > ⊥ then M else 0

theorem log_two_pos : (0 : ℝ) < Real.log 2 := Real.log_pos (by norm_num)

theorem bot_mul_log : (⊥ : EReal) * (Real.log 2 : ℝ) = ⊥ := EReal.bot_mul_of_pos (EReal.coe_pos.mpr log_two_pos)

theorem logit_bot {L : ℕ → EReal} {k : ℕ} (h : L k = ⊥) (c : EReal) : logit L c k = ⊥ := by
  unfold logit; rw [h, bot_mul_log, EReal.bot_add]

theorem top_logit (L : ℕ → EReal) (r : ℝ) (n : ℕ) : top (logit L r) n = top L n * (Real.log 2 : ℝ) + r := by
  have hmono : Monotone fun x : EReal => x * (Real.log 2 : ℝ) + r := fun x y hxy =>
    add_le_add_left (mul_le_mul_of_nonneg_right hxy (EReal.coe_nonneg.mpr log_two_pos.le)) _
  exact (Finset.comp_sup_eq_sup_comp_of_is_total (fun x : EReal => x * (Real.log 2 : ℝ) + r) hmono
    (by show ⊥ * _ + _ = ⊥; rw [bot_mul_log, EReal.bot_add])).symm

theorem top_masked {L : ℕ → EReal} {n N : ℕ} (hn : n ≤ N) (h : ∀ k, n ≤ k → L k = ⊥) : top L N = top L n := by
  refine le_antisymm (Finset.sup_le fun k _ => ?_) (Finset.sup_mono (Finset.range_mono hn))
  by_cases hk : k < n
  · exact le_top L hk
  · rw [h k (by omega)]; exact bot_le

/-- The reference's weight of a key is the base-two one. -/
theorem weight_eq {x T : EReal} (h : x ≤ T) (r : ℝ) :
    Ideal.exp (x * (Real.log 2 : ℝ) + r - guard (T * (Real.log 2 : ℝ) + r)) = Ideal.exp2 (x - T) := by
  induction T with
  | bot =>
    obtain rfl : x = ⊥ := le_bot_iff.mp h
    rw [bot_mul_log, EReal.bot_add, bot_sub, bot_sub]; rfl
  | top =>
    have e : (⊤ : EReal) * (Real.log 2 : ℝ) + r = ⊤ := by
      rw [EReal.top_mul_of_pos (EReal.coe_pos.mpr log_two_pos), EReal.top_add_coe]
    rw [e, show guard ⊤ = ⊤ from if_pos bot_lt_top, sub_top, sub_top]; rfl
  | coe t =>
    have e : guard ((t : EReal) * (Real.log 2 : ℝ) + r) = ((t * Real.log 2 + r : ℝ) : EReal) := by
      rw [← EReal.coe_mul, ← EReal.coe_add]; exact if_pos (EReal.bot_lt_coe _)
    rw [e]
    induction x with
    | bot => rw [bot_mul_log, EReal.bot_add, bot_sub, bot_sub]; rfl
    | top => exact absurd (top_le_iff.mp h) (EReal.coe_ne_top t)
    | coe y =>
      rw [← EReal.coe_mul, ← EReal.coe_add, ← EReal.coe_sub, ← EReal.coe_sub, Ideal.exp2_coe, Ideal.exp_coe]
      refine congrArg _ ?_
      show Real.exp (y * Real.log 2 + r - (t * Real.log 2 + r)) = (2 : ℝ) ^ (y - t)
      rw [Real.rpow_def_of_pos (by norm_num)]
      congr 1; ring

/-- The reference's result in one lane: the weights over their sum, the latter kept away from zero, times the values. -/
def refOut (L V : ℕ → EReal) (c eps : EReal) (N : ℕ) : EReal :=
  ∑ k ∈ Finset.range N, V k * Ideal.div (Ideal.exp (logit L c k - guard (top (logit L c) N)))
    (max (∑ k ∈ Finset.range N, Ideal.exp (logit L c k - guard (top (logit L c) N))) eps)

/-- After every unmasked key, the running weighted sum over the running sum is the reference's result. `γ` is the gate
    in base two, `c` the gate in base `e`. -/
theorem Inv.result {L V : ℕ → EReal} {c γ : EReal} (hγ : γ = c * (((Real.log 2)⁻¹ : ℝ) : EReal)) {n N : ℕ} {m l a eps : EReal}
    (heps : 0 < eps) (hn : n ≤ N) (hL : ∀ k, n ≤ k → L k = ⊥) (h : Inv L V γ n m l a) :
    Ideal.div a (max l eps) = refOut L V c eps N := by
  have hpos : (0 : EReal) < (((Real.log 2)⁻¹ : ℝ) : EReal) := EReal.coe_pos.mpr (inv_pos.mpr log_two_pos)
  have hD : ∀ x : EReal, max x eps ≠ 0 := fun x => ne_of_gt (lt_of_lt_of_le heps (le_max_right _ _))
  have hinf : (c = ⊤ ∨ c = ⊥) → refOut L V c eps N = 0 := fun hc => by
    have e0 : ∀ k ∈ Finset.range N, Ideal.exp (logit L c k - guard (top (logit L c) N)) = 0 := fun k hk => by
      have hk2 : logit L c k = ⊥ ∨ logit L c k = ⊤ := by
        unfold logit
        rcases hc with rfl | rfl
        · by_cases e : L k * (Real.log 2 : ℝ) = ⊥
          · exact .inl (by rw [e, EReal.bot_add])
          · exact .inr (EReal.add_top_of_ne_bot e)
        · exact .inl (EReal.add_bot _)
      rcases hk2 with e | e
      · rw [e, bot_sub]; rfl
      · have : top (logit L c) N = ⊤ := top_le_iff.mp (e ▸ le_top (logit L c) (Finset.mem_range.mp hk))
        rw [this, show guard ⊤ = ⊤ from if_pos bot_lt_top, sub_top]; rfl
    refine Finset.sum_eq_zero fun k hk => ?_
    rw [e0 k hk]
    unfold Ideal.div
    rw [if_neg (hD _), zero_mul, mul_zero]
  have hzero : (l = ⊤ ∨ (l = 0 ∧ a = 0)) → Ideal.div a (max l eps) = 0 := fun hl => by
    unfold Ideal.div
    rw [if_neg (hD _)]
    rcases hl with rfl | ⟨rfl, rfl⟩
    · rw [max_eq_left _root_.le_top, EReal.inv_top, mul_zero]
    · rw [zero_mul]
  induction c with
  | bot =>
    rw [hinf (.inr rfl), hzero (h.2 (.inr (hγ.trans (EReal.bot_mul_of_pos hpos)))).2]
  | top =>
    rw [hinf (.inl rfl), hzero (h.2 (.inl (hγ.trans (EReal.top_mul_of_pos hpos)))).2]
  | coe r =>
    obtain ⟨-, e2, e3⟩ := h.1 (r * (Real.log 2)⁻¹) (by rw [hγ, EReal.coe_mul])
    have hw : ∀ k, k < n → Ideal.exp (logit L r k - guard (top (logit L r) N)) = Ideal.exp2 (L k - top L n) := fun k hk => by
      rw [top_logit, top_masked hn hL]; exact weight_eq (le_top L hk) r
    have hm : ∀ k, n ≤ k → Ideal.exp (logit L r k - guard (top (logit L r) N)) = 0 := fun k hk => by
      rw [logit_bot (hL k hk), bot_sub]; rfl
    have hsub : Finset.range n ⊆ Finset.range N := Finset.range_mono hn
    have hden : ∑ k ∈ Finset.range N, Ideal.exp (logit L r k - guard (top (logit L r) N)) = l := by
      rw [e2, ← Finset.sum_subset hsub fun k _ hk => hm k (by simpa using hk)]
      exact Finset.sum_congr rfl fun k hk => hw k (Finset.mem_range.mp hk)
    unfold refOut
    rw [hden]
    unfold Ideal.div
    simp only [if_neg (hD l)]
    have hi0 : 0 ≤ (max l eps)⁻¹ := EReal.inv_nonneg_of_nonneg (le_trans heps.le (le_max_right _ _))
    have hit : (max l eps)⁻¹ ≠ ⊤ := by
      have h0 : 0 < max l eps := lt_of_lt_of_le heps (le_max_right _ _)
      generalize max l eps = D at h0
      induction D with
      | bot => exact absurd h0 (by simp)
      | top => rw [EReal.inv_top]; exact EReal.zero_ne_top
      | coe d => rw [← EReal.coe_inv]; exact EReal.coe_ne_top _
    rw [e3, mul_comm, mul_sum _ _ hi0 hit]
    rw [← Finset.sum_subset hsub fun k _ hk => by rw [hm k (by simpa using hk), zero_mul, mul_zero]]
    refine Finset.sum_congr rfl fun k hk => ?_
    rw [hw k (Finset.mem_range.mp hk), mul_comm, mul_comm (Ideal.exp2 _) (V k), mul_assoc]

end Cert.Online

end
-- ==== Proof.KernelAt.lean ====
/-
One grid point of the idealized kernel, read at an index: over the extended reals one tile of keys takes a row's
running maximum, sum of weights and weighted sum from the keys before the tile to the keys through it.
-/
module

public import proofs.«01_k».proof.Proof.Heads
public import proofs.«01_k».proof.Proof.Online
public import Idealize.ShloMosaic.Lib.Pointwise
public import Idealize.ShloMosaic.Lib.WordCmp
public import Idealize.ShloMosaic.PureOps.IdealRules

@[expose] public section

set_option maxRecDepth 16384

noncomputable section

namespace Cert.KernelIdeal.Fox

open Idealize.ShloMosaic Idealize.SL.Sem
open Cert.KernelIdeal Cert.KernelIdeal.Gen

/-! ## Constants -/

/-- The constant `log₂ e`, as an extended real. -/
abbrev lam : EReal := (((Real.log 2)⁻¹ : ℝ) : EReal)

theorem log2e_val : Named.named (F := Ideal) κ "log2e" (φ := .f32) 0x3FB8AA3B#32 = lam :=
  IdealRules.named_const.ideal_named_scalar _ _ _ _ rfl

theorem scale2_val : Named.named (F := Ideal) κ "scale2" (φ := .f32) 0x3E0293EE#32
    = (((Real.sqrt 128)⁻¹ * (Real.log 2)⁻¹ : ℝ) : EReal) :=
  IdealRules.named_const.ideal_named_scalar _ _ _ _ rfl

theorem mask_val : Named.named (F := Ideal) κ "mask" (φ := .f32) 0xF149F2CA#32 = (⊥ : EReal) :=
  IdealRules.named_const.ideal_named_scalar _ _ _ _ rfl

theorem ninf_val : Ideal.ofBits .f32 0xFF800000#32 = (⊥ : EReal) := by
  simp [Ideal.ofBits, Ideal.ieee]

/-! ## A tile -/

theorem scores_at (q k : FVec Ideal S512x128 .f32) (ck : FVec Ideal S1x1x512 .f32) (r c : Fin 512) :
    scores q k ck (ix2 r c) = (∑ x : Fin 128, q (ix2 r x) * k (ix2 c x)) * (((Real.sqrt 128)⁻¹ * (Real.log 2)⁻¹ : ℝ) : EReal)
      - ck (ix3 0 0 c) * lam := by
  rw [← scale2_val, ← log2e_val]
  pointwise [scores]

theorem causal_at (u : FVec Ideal S512x512 .f32) (r c : Fin 512) :
    causal u (ix2 r c) = if c.val ≤ r.val then u (ix2 r c) else ⊥ := by
  have h : causal u (ix2 r c) = Scalar.select (IntOp.cmpi .sge (BitVec.ofNat 32 r.val) (BitVec.ofNat 32 c.val))
      (u (ix2 r c)) (Named.named (F := Ideal) κ "mask" (φ := .f32) 0xF149F2CA#32) := by pointwise [causal]
  rw [h, mask_val, WordCmp.cmpi_sge_ofNat (by have := r.isLt; omega) (by have := c.isLt; omega)]
  by_cases hc : c.val ≤ r.val <;> simp [hc, Scalar.select]

variable {u : FVec Ideal S512x512 .f32} {cq m l : FVec Ideal S1x512x128 .f32} {acc v : FVec Ideal S512x128 .f32}
variable {r : Fin 512} {μ γ : EReal}

theorem newMax_at (hm : ∀ d, m (ix3 0 r d) = μ) (hc : ∀ d, cq (ix3 0 r d) = γ) (d : Fin 128) :
    newMax u cq m (ix2 r d) = max μ ((Finset.univ.sup fun x : Fin 512 => u (ix2 r x)) + γ) := by
  have h : newMax u cq m (ix2 r d) = max (m (ix3 0 r d))
      (Finset.fold max (Ideal.ofBits .f32 0xFF800000#32) (fun x : Fin 512 => u (ix2 r x)) Finset.univ + cq (ix3 0 r d)) := by
    pointwise [newMax, flat, spread]
  rw [h, hm, hc, ninf_val]; rfl

theorem flat_at (x : FVec Ideal S1x512x128 .f32) (r : Fin 512) (d : Fin 128) : flat x (ix2 r d) = x (ix3 0 r d) := by
  pointwise [flat]

theorem weights_at (hm : ∀ d, m (ix3 0 r d) = μ) (hc : ∀ d, cq (ix3 0 r d) = γ) (c : Fin 512) :
    weights u cq m (ix2 r c)
      = Ideal.exp2 (u (ix2 r c) - (max μ ((Finset.univ.sup fun x : Fin 512 => u (ix2 r x)) + γ) - γ)) := by
  pointwise [weights]
  simp only [newMax_at hm hc, flat_at, hc, dite_eq_ite, ite_self]
  rfl

theorem decay_at (hm : ∀ d, m (ix3 0 r d) = μ) (hc : ∀ d, cq (ix3 0 r d) = γ) (d : Fin 128) :
    decay u cq m (ix2 r d) = Ideal.exp2 (μ - max μ ((Finset.univ.sup fun x : Fin 512 => u (ix2 r x)) + γ)) := by
  have h : decay u cq m (ix2 r d) = Ideal.exp2 (m (ix3 0 r d) - newMax u cq m (ix2 r d)) := by
    pointwise [decay, flat]
    rfl
  rw [h, hm, newMax_at hm hc]

theorem newSum_at (hm : ∀ d, m (ix3 0 r d) = μ) (hc : ∀ d, cq (ix3 0 r d) = γ) (d : Fin 128) :
    newSum u cq m l (ix2 r d)
      = Ideal.exp2 (μ - max μ ((Finset.univ.sup fun x : Fin 512 => u (ix2 r x)) + γ)) * l (ix3 0 r d)
        + ∑ x : Fin 512, Ideal.exp2 (u (ix2 r x) - (max μ ((Finset.univ.sup fun x : Fin 512 => u (ix2 r x)) + γ) - γ)) := by
  have h : newSum u cq m l (ix2 r d) = decay u cq m (ix2 r d) * l (ix3 0 r d) + ∑ x : Fin 512, weights u cq m (ix2 r x) := by
    pointwise [newSum, flat, spread]
  rw [h, decay_at hm hc]
  simp only [weights_at hm hc]

theorem newAcc_at (hm : ∀ d, m (ix3 0 r d) = μ) (hc : ∀ d, cq (ix3 0 r d) = γ) (d : Fin 128) :
    newAcc u cq m acc v (ix2 r d)
      = Ideal.exp2 (μ - max μ ((Finset.univ.sup fun x : Fin 512 => u (ix2 r x)) + γ)) * acc (ix2 r d)
        + ∑ x : Fin 512, Ideal.exp2 (u (ix2 r x) - (max μ ((Finset.univ.sup fun x : Fin 512 => u (ix2 r x)) + γ) - γ))
            * v (ix2 x d) := by
  have h : newAcc u cq m acc v (ix2 r d)
      = decay u cq m (ix2 r d) * acc (ix2 r d) + ∑ x : Fin 512, weights u cq m (ix2 r x) * v (ix2 x d) := by
    pointwise [newAcc]
  rw [h, decay_at hm hc]
  simp only [weights_at hm hc]

theorem quot_at (d : Fin 128) : quot acc l (ix2 r d)
    = Ideal.div (acc (ix2 r d)) (max (l (ix3 0 r d)) (Ideal.ofBits .f32 0x0DA24260#32)) := by
  pointwise [quot, flat]

theorem gate_at (c : FVec Ideal S512x1 .f32) (d : Fin 128) : gate c (ix2 r d) = c (ix2 r 0) * lam := by
  rw [← log2e_val]
  pointwise [gate]

/-- One tile moves a row's three running quantities past the tile's keys. -/
theorem tile_row {L V : ℕ → EReal} {n : ℕ} (hu : ∀ x : Fin 512, u (ix2 r x) = L (n + x.val)) {d : Fin 128}
    (hv : ∀ x : Fin 512, v (ix2 x d) = V (n + x.val)) (hm : ∀ d, m (ix3 0 r d) = μ) (hc : ∀ d, cq (ix3 0 r d) = γ)
    (h : Cert.Online.Inv L V γ n μ (l (ix3 0 r d)) (acc (ix2 r d))) :
    Cert.Online.Inv L V γ (n + 512) (max μ ((Finset.univ.sup fun x : Fin 512 => L (n + x.val)) + γ))
      (newSum u cq m l (ix2 r d)) (newAcc u cq m acc v (ix2 r d)) := by
  rw [newSum_at hm hc, newAcc_at hm hc]
  simp only [hu, hv]
  exact h.step rfl

/-! ## A row of the state -/

/-- The column of lane `d` of head `h`. -/
abbrev lane (h : Fin 8) (d : Fin 128) : Fin 1024 := ⟨128 * h.val + d.val, by have := h.isLt; have := d.isLt; omega⟩

/-- Row `r` of head `h` has been taken over the first `n` keys, whose scores are `L` and whose values are `V`; the
row's own term is `γ`. -/
def RowInv (S : State Ideal) (h : Fin 8) (r : Fin 512) (L : ℕ → EReal) (V : Fin 128 → ℕ → EReal) (γ : EReal) (n : ℕ) : Prop :=
  (∀ d : Fin 128, S.cq (ix3 h r d) = γ) ∧ ∃ μ : EReal, (∀ d : Fin 128, S.m (ix3 h r d) = μ)
    ∧ ∀ d : Fin 128, Cert.Online.Inv L (V d) γ n μ (S.l (ix3 h r d)) (S.acc (ix2 r (lane h d)))

theorem slab_at (x : Vec Ideal S8x512x128 .f32) (h : Fin 8) (r : Fin 512) (d : Fin 128) :
    slab x h (ix3 0 r d) = x (ix3 h r d) := slab_apply x h _

theorem cut_at (x : Vec Ideal S512x1024 .f32) (h : Fin 8) (r : Fin 512) (d : Fin 128) :
    cut x h (ix2 r d) = x (ix2 r (lane h d)) := cut_apply x h _

theorem row_at (x : Vec Ideal S1x8x512 .f32) (h : Fin 8) (c : Fin 512) :
    row x h (ix3 0 0 c) = x (ix3 0 h c) := row_apply x h _

theorem col_at (x : Vec Ideal S512x128 .f32) (h : Fin 8) (r : Fin 512) :
    col x h (ix2 r 0) = x (ix2 r ⟨h.val, by omega⟩) := col_apply x h _

theorem stack_at (g : Fin 8 → FVec Ideal S512x128 .f32) (h : Fin 8) (r : Fin 512) (d : Fin 128) :
    stack g (ix3 h r d) = g h (ix2 r d) := rfl

theorem beside_at (g : Fin 8 → FVec Ideal S512x128 .f32) (h : Fin 8) (r : Fin 512) (d : Fin 128) :
    beside g (ix2 r (lane h d)) = g h (ix2 r d) := by
  exact (cut_at (beside g) h r d).symm.trans (congrFun (cut_beside g h) _)

theorem RowInv.start (c : Vec Ideal S512x128 .f32) (h : Fin 8) (r : Fin 512) (L : ℕ → EReal) (V : Fin 128 → ℕ → EReal) :
    RowInv (start c) h r L V (c (ix2 r ⟨h.val, by omega⟩) * lam) 0 := by
  have e0 : Ideal.ofBits .f32 0x00000000#32 = (0 : EReal) := by simp [Ideal.ofBits, Ideal.ieee]
  refine ⟨fun d => ?_, ⊥, fun d => ?_, fun d => ?_⟩
  · show stack (fun h => gate (col c h)) (ix3 h r d) = _
    rw [stack_at, gate_at, col_at]
  · show Named.named (F := Ideal) κ "mask" (φ := .f32) 0xF149F2CA#32 = (⊥ : EReal)
    exact mask_val
  · have hl : (Fox.start c).l (ix3 h r d) = (0 : EReal) := e0
    have ha : (Fox.start c).acc (ix2 r (lane h d)) = (0 : EReal) := e0
    rw [hl, ha]
    exact Cert.Online.Inv.init _ _ _

theorem RowInv.step {S : State Ideal} {h : Fin 8} {r : Fin 512} {L : ℕ → EReal} {V : Fin 128 → ℕ → EReal} {γ : EReal} {n : ℕ}
    (H : RowInv S h r L V γ n) {diag : Bool} {q k v : Vec Ideal S512x1024 .f32} {ck : Vec Ideal S1x8x512 .f32}
    (hu : ∀ x : Fin 512, tileScores diag (cut q h) (cut k h) (row ck h) (ix2 r x) = L (n + x.val))
    (hv : ∀ (d : Fin 128) (x : Fin 512), v (ix2 x (lane h d)) = V d (n + x.val)) :
    RowInv (step diag q k v ck S) h r L V γ (n + 512) := by
  obtain ⟨hc, μ, hm, hi⟩ := H
  have hc' : ∀ d, slab S.cq h (ix3 0 r d) = γ := fun d => (slab_at _ _ _ _).trans (hc d)
  have hm' : ∀ d, slab S.m h (ix3 0 r d) = μ := fun d => (slab_at _ _ _ _).trans (hm d)
  refine ⟨hc, max μ ((Finset.univ.sup fun x : Fin 512 => L (n + x.val)) + γ), fun d => ?_, fun d => ?_⟩
  · rw [step_m, stack_at, newMax_at hm' hc']
    simp only [hu]
  · rw [step_l, step_acc, stack_at, beside_at]
    refine tile_row hu (fun x => ?_) hm' hc' ?_
    · rw [cut_at]; exact hv d x
    · rw [slab_at, cut_at]; exact hi d

theorem eps_pos : (0 : EReal) < Ideal.ofBits .f32 0x0DA24260#32 := by
  simp [Ideal.ofBits, Ideal.ieee]
  first
    | exact EReal.mul_pos (by exact_mod_cast (by positivity)) (by exact_mod_cast (by positivity))
    | (rw [← EReal.coe_mul]; exact EReal.coe_pos.mpr (by positivity))

theorem RowInv.result {S : State Ideal} {h : Fin 8} {r : Fin 512} {L : ℕ → EReal} {V : Fin 128 → ℕ → EReal} {c : EReal} {n N : ℕ}
    (H : RowInv S h r L V (c * lam) n) (hn : n ≤ N) (hL : ∀ k, n ≤ k → L k = ⊥) (d : Fin 128) :
    Fox.result S (ix2 r (lane h d)) = Cert.Online.refOut L (V d) c (Ideal.ofBits .f32 0x0DA24260#32) N := by
  obtain ⟨-, μ, -, hi⟩ := H
  show beside (fun h => quot (cut S.acc h) (slab S.l h)) (ix2 r (lane h d)) = _
  rw [beside_at, quot_at, cut_at, slab_at]
  exact (hi d).result rfl eps_pos hn hL

end Cert.KernelIdeal.Fox

end
-- ==== Proof.Blocks.lean ====
/-
The blocks of the arguments that a grid point reads, as entries of the arguments: 4096 positions of a batch are eight
tiles of 512; point `t` has batch `t / 64`, query tile `t / 8 % 8` and key tile `t % 8`.
-/
module

public import proofs.«01_k».proof.Proof.Run
public import proofs.«01_k».proof.Proof.KernelAt
public import Idealize.ShloMosaic.Lib.Pipeline.ValueKit
public import Idealize.ShloMosaic.Lib.KernelVsHost

@[expose] public section

set_option maxRecDepth 16384

noncomputable section

namespace Cert.KernelIdeal.Fox

open Idealize.ShloMosaic Idealize.ShloMosaic.TcCoe Idealize.ShloMosaic.Tactic
open Idealize.SL.Sem
open Cert.KernelIdeal Cert.KernelIdeal.Gen

variable (m : (ℓ : Loc nD τ sig) → Buf (Elt Ideal) ℓ)

theorem idx0 : ∀ t : Fin cfg0.N, win0_0.index t = ![8 * (t.val / 64) + t.val / 8 % 8, 0] := by decide +kernel
theorem idx1 : ∀ t : Fin cfg0.N, win0_1.index t = ![8 * (t.val / 64) + min (t.val % 8) (t.val / 8 % 8), 0] := by decide +kernel
theorem idx2 : ∀ t : Fin cfg0.N, win0_2.index t = ![8 * (t.val / 64) + min (t.val % 8) (t.val / 8 % 8), 1] := by decide +kernel
theorem idx3 : ∀ t : Fin cfg0.N, win0_3.index t = ![8 * (t.val / 64) + t.val / 8 % 8, 0] := by decide +kernel
theorem idx4 : ∀ t : Fin cfg0.N, win0_4.index t = ![t.val / 64, 0, min (t.val % 8) (t.val / 8 % 8)] := by decide +kernel
theorem idx5 : ∀ t : Fin cfg0.N, win0_5.index t = ![8 * (t.val / 64) + t.val / 8 % 8, 0] := by decide +kernel

theorem V_v5 (c : Dev nD) : V m c main_v5 = shapeCast S8192x1024 (m ((c : Thread nD τ).loc main_arg0)) shapeCasts_S2x4096x8x128_S8192x1024 := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  after_results_simp
  rfl

theorem V_v6 (c : Dev nD) : V m c main_v6 = shapeCast S8192x2048 (m ((c : Thread nD τ).loc main_arg1)) shapeCasts_S2x4096x2x8x128_S8192x2048 := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  after_results_simp
  rfl

theorem V_v1 (c : Dev nD) : V m c main_v1 = pad S8192x128 ![0, 0] ![0, 120] ![0, 0]
    (shapeCast S8192x8 (m ((c : Thread nD τ).loc main_arg2)) shapeCasts_S2x4096x8_S8192x8) (sitofp (F := Ideal) .f32 (constantI S_ 32 0#32))
    pads_S8192x8_S8192x128_000_01200 h_S_ := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  after_results_simp
  rfl

theorem V_v4 (c : Dev nD) : V m c main_v4 = transpose S2x8x4096 [0, 2, 1] (shapeCast S2x4096x8
    (extractStridedSlice S8192x8 ![0, 0] (V m c main_v1 : FVec Ideal S8192x128 .f32) slices_S8192x128_S8192x8_0_0) shapeCasts_S8192x8_S2x4096x8)
    transposes_S2x4096x8_S2x8x4096_0_2_1 := by
  rw [V_v1]
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  after_results_simp
  rfl

theorem v5_at (c : Dev nD) (b : Fin 2) (q : Fin 4096) (h : Fin 8) (d : Fin 128) :
    V m c main_v5 (ix2 (⟨4096 * b.val + q.val, by omega⟩ : Fin 8192) (lane h d)) = m ((c : Thread nD τ).loc main_arg0) (ix4 b q h d) := by
  rw [V_v5]
  refine shapeCast_apply _ _ _ (ix4 b q h d) ?_
  rw [Shape.rowMajor_val_four, Shape.rowMajor_val_two]
  show ((b.val * 4096 + q.val) * 8 + h.val) * 128 + d.val = (4096 * b.val + q.val) * 1024 + (128 * h.val + d.val)
  omega

theorem v6_at (c : Dev nD) (b : Fin 2) (q : Fin 4096) (s : Fin 2) (h : Fin 8) (d : Fin 128) :
    V m c main_v6 (ix2 (⟨4096 * b.val + q.val, by omega⟩ : Fin 8192) (⟨1024 * s.val + (128 * h.val + d.val), by omega⟩ : Fin 2048))
      = m ((c : Thread nD τ).loc main_arg1) (ix5 b q s h d) := by
  rw [V_v6]
  refine shapeCast_apply _ _ _ (ix5 b q s h d) ?_
  rw [Shape.rowMajor_val_five, Shape.rowMajor_val_two]
  show (((b.val * 4096 + q.val) * 2 + s.val) * 8 + h.val) * 128 + d.val
    = (4096 * b.val + q.val) * 2048 + (1024 * s.val + (128 * h.val + d.val))
  omega

theorem v1_at (c : Dev nD) (b : Fin 2) (q : Fin 4096) (h : Fin 8) :
    V m c main_v1 (ix2 (⟨4096 * b.val + q.val, by omega⟩ : Fin 8192) (⟨h.val, by omega⟩ : Fin 128))
      = m ((c : Thread nD τ).loc main_arg2) (ix3 b q h) := by
  rw [V_v1]
  refine (pad_apply_of_inside _ _ _ _ _ _ _ _ (ix2 (⟨4096 * b.val + q.val, by omega⟩ : Fin 8192) h) fun a => ?_).trans ?_
  · match a with
    | ⟨0, _⟩ => show 4096 * b.val + q.val = 0 + (4096 * b.val + q.val) * (0 + 1); omega
    | ⟨1, _⟩ => show h.val = 0 + h.val * (0 + 1); omega
  refine shapeCast_apply _ _ _ (ix3 b q h) ?_
  rw [Shape.rowMajor_val_three, Shape.rowMajor_val_two]
  show (b.val * 4096 + q.val) * 8 + h.val = (4096 * b.val + q.val) * 8 + h.val
  omega

theorem v4_at (c : Dev nD) (b : Fin 2) (h : Fin 8) (q : Fin 4096) :
    V m c main_v4 (ix3 b h q) = m ((c : Thread nD τ).loc main_arg2) (ix3 b q h) := by
  rw [V_v4, ← v1_at m c b q h]
  pointwise
  congr 2
  · apply Fin.ext; show b.val * 4096 + q.val = 4096 * b.val + q.val; omega

variable (c : Dev nD) (t : Fin cfg0.N)

theorem blk0_at {b : Fin 2} {i : Fin 8} (hb : t.val / 64 = b.val) (hi : t.val / 8 % 8 = i.val) (r : Fin 512) (h : Fin 8) (d : Fin 128) :
    iblk m c 0 t (ix2 r (lane h d)) = m ((c : Thread nD τ).loc main_arg0) (ix4 b (⟨512 * i.val + r.val, by omega⟩ : Fin 4096) h d) := by
  refine Eq.trans ?_ (v5_at m c b _ h d)
  blk_ext [iblk, idx0 t]

theorem blk1_at {b : Fin 2} {j : Fin 8} (hb : t.val / 64 = b.val) (hj : min (t.val % 8) (t.val / 8 % 8) = j.val)
    (x : Fin 512) (h : Fin 8) (d : Fin 128) :
    iblk m c 1 t (ix2 x (lane h d)) = m ((c : Thread nD τ).loc main_arg1) (ix5 b (⟨512 * j.val + x.val, by omega⟩ : Fin 4096) 0 h d) := by
  refine Eq.trans ?_ (v6_at m c b _ 0 h d)
  blk_ext [iblk, idx1 t]

theorem blk2_at {b : Fin 2} {j : Fin 8} (hb : t.val / 64 = b.val) (hj : min (t.val % 8) (t.val / 8 % 8) = j.val)
    (x : Fin 512) (h : Fin 8) (d : Fin 128) :
    iblk m c 2 t (ix2 x (lane h d)) = m ((c : Thread nD τ).loc main_arg1) (ix5 b (⟨512 * j.val + x.val, by omega⟩ : Fin 4096) 1 h d) := by
  refine Eq.trans ?_ (v6_at m c b _ 1 h d)
  blk_ext [iblk, idx2 t]

theorem blk3_at {b : Fin 2} {i : Fin 8} (hb : t.val / 64 = b.val) (hi : t.val / 8 % 8 = i.val) (r : Fin 512) (h : Fin 8) :
    iblk m c 3 t (ix2 r (⟨h.val, by omega⟩ : Fin 128)) = m ((c : Thread nD τ).loc main_arg2) (ix3 b (⟨512 * i.val + r.val, by omega⟩ : Fin 4096) h) := by
  refine Eq.trans ?_ (v1_at m c b _ h)
  blk_ext [iblk, idx3 t]

theorem blk4_at {b : Fin 2} {j : Fin 8} (hb : t.val / 64 = b.val) (hj : min (t.val % 8) (t.val / 8 % 8) = j.val)
    (h : Fin 8) (x : Fin 512) :
    iblk m c 4 t (ix3 0 h x) = m ((c : Thread nD τ).loc main_arg2) (ix3 b (⟨512 * j.val + x.val, by omega⟩ : Fin 4096) h) := by
  refine Eq.trans ?_ (v4_at m c b h _)
  blk_ext [iblk, idx4 t]

end Cert.KernelIdeal.Fox

end
-- ==== Proof.Value.lean ====
/-
What the idealized kernel computes: every entry of its result is the masked softmax sum over the keys of its batch and head.
-/
module

public import proofs.«01_k».proof.Proof.Blocks

@[expose] public section

set_option maxRecDepth 16384

noncomputable section

namespace Cert.KernelIdeal.Fox

open Idealize.ShloMosaic Idealize.ShloMosaic.TcCoe Idealize.ShloMosaic.Tactic
open Idealize.SL.Sem
open Cert.KernelIdeal Cert.KernelIdeal.Gen

variable (m : (ℓ : Loc nD τ sig) → Buf (Elt Ideal) ℓ)

/-- The score of key `k` for query `q` of batch `b` and head `h`, in base two and without the query's own term; a key
after the query has none. -/
def score (A : Vec Ideal S2x4096x8x128 .f32) (B : Vec Ideal S2x4096x2x8x128 .f32) (C : Vec Ideal S2x4096x8 .f32)
    (b : Fin 2) (q : Fin 4096) (h : Fin 8) (k : ℕ) : EReal :=
  if hk : k ≤ q.val then
    (∑ x : Fin 128, A (ix4 b q h x) * B (ix5 b (⟨k, by omega⟩ : Fin 4096) 0 h x)) * (((Real.sqrt 128)⁻¹ * (Real.log 2)⁻¹ : ℝ) : EReal)
      - C (ix3 b (⟨k, by omega⟩ : Fin 4096) h) * lam
  else ⊥

/-- Column `d` of the value of key `k` of batch `b` and head `h`. -/
def val (B : Vec Ideal S2x4096x2x8x128 .f32) (b : Fin 2) (h : Fin 8) (d : Fin 128) (k : ℕ) : EReal :=
  if hk : k < 4096 then B (ix5 b (⟨k, hk⟩ : Fin 4096) 1 h d) else 0

/-- The attention of query `q` of batch `b` and head `h`, column `d`. -/
def attend (A : Vec Ideal S2x4096x8x128 .f32) (B : Vec Ideal S2x4096x2x8x128 .f32) (C : Vec Ideal S2x4096x8 .f32)
    (b : Fin 2) (q : Fin 4096) (h : Fin 8) (d : Fin 128) : EReal :=
  Cert.Online.refOut (score A B C b q h) (val B b h d) (C (ix3 b q h)) (Ideal.ofBits .f32 0x0DA24260#32) 4096

variable (c : Dev nD)

/-- The three arguments on a device. -/
abbrev argQ : Vec Ideal S2x4096x8x128 .f32 := m ((c : Thread nD τ).loc main_arg0)
abbrev argKV : Vec Ideal S2x4096x2x8x128 .f32 := m ((c : Thread nD τ).loc main_arg1)
abbrev argC : Vec Ideal S2x4096x8 .f32 := m ((c : Thread nD τ).loc main_arg2)

/-- Row `r` of query tile `i`. -/
abbrev pos (i : Fin 8) (r : Fin 512) : Fin 4096 := ⟨512 * i.val + r.val, by omega⟩

theorem tile_at (t : Fin cfg0.N) {b : Fin 2} {i j : Fin 8} (hb : t.val / 64 = b.val) (hi : t.val / 8 % 8 = i.val) (hj : t.val % 8 = j.val)
    (hji : j.val ≤ i.val) (h : Fin 8) (r x : Fin 512) :
    scores (cut (iblk m c 0 t) h) (cut (iblk m c 1 t) h) (row (iblk m c 4 t) h) (ix2 r x)
      = (∑ d : Fin 128, argQ m c (ix4 b (pos i r) h d) * argKV m c (ix5 b (pos j x) 0 h d)) * (((Real.sqrt 128)⁻¹ * (Real.log 2)⁻¹ : ℝ) : EReal)
        - argC m c (ix3 b (pos j x) h) * lam := by
  have hj' : min (t.val % 8) (t.val / 8 % 8) = j.val := by omega
  rw [scores_at, row_at, blk4_at m c t hb hj' h x]
  refine congrArg (fun z => z * _ - _) (Finset.sum_congr rfl fun d _ => ?_)
  rw [cut_at, cut_at, blk0_at m c t hb hi r h d, blk1_at m c t hb hj' x h d]

theorem step_at (t : Fin cfg0.N) {b : Fin 2} {i j : Fin 8} (hb : t.val / 64 = b.val) (hi : t.val / 8 % 8 = i.val) (hj : t.val % 8 = j.val)
    (hji : j.val ≤ i.val) (h : Fin 8) (r : Fin 512) {S : State Ideal} {γ : EReal}
    (H : RowInv S h r (score (argQ m c) (argKV m c) (argC m c) b (pos i r) h) (val (argKV m c) b h) γ (512 * j.val))
    {diag : Bool} (hd : diag = decide (j = i)) :
    RowInv (step diag (iblk m c 0 t) (iblk m c 1 t) (iblk m c 2 t) (iblk m c 4 t) S) h r
      (score (argQ m c) (argKV m c) (argC m c) b (pos i r) h) (val (argKV m c) b h) γ (512 * (j.val + 1)) := by
  have hj' : min (t.val % 8) (t.val / 8 % 8) = j.val := by omega
  refine H.step (fun x => ?_) (fun d x => ?_)
  · have hx := x.isLt
    have hr := r.isLt
    by_cases e : j = i
    · subst e
      subst hd
      rw [show decide (j = j) = true from decide_eq_true rfl]
      show causal (scores (F := Ideal) _ _ _) (ix2 r x) = _
      rw [causal_at, tile_at m c t hb hi hj hji]
      unfold score
      by_cases hc : x.val ≤ r.val
      · rw [if_pos hc, dif_pos (show 512 * j.val + x.val ≤ 512 * j.val + r.val by omega)]
      · rw [if_neg hc, dif_neg (show ¬512 * j.val + x.val ≤ 512 * j.val + r.val by omega)]
    · have hlt : j.val < i.val := lt_of_le_of_ne hji fun h => e (Fin.ext h)
      have hd' : diag = false := by rw [hd]; exact decide_eq_false e
      subst hd'
      show scores (F := Ideal) _ _ _ (ix2 r x) = _
      rw [tile_at m c t hb hi hj hji]
      unfold score
      rw [dif_pos (show 512 * j.val + x.val ≤ 512 * i.val + r.val by omega)]
  · unfold val
    rw [dif_pos (by have := x.isLt; have := j.isLt; omega)]
    exact blk2_at m c t hb hj' x h d

/-- After key tile `j`, up to the diagonal, every row has been taken over the keys through that tile. -/
theorem inv_at (b : Fin 2) (i : Fin 8) (h : Fin 8) (r : Fin 512) : ∀ (j : ℕ) (hji : j ≤ i.val)
    (ht : 64 * b.val + 8 * i.val + j < cfg0.N),
    RowInv (St m c (64 * b.val + 8 * i.val + j) ht) h r (score (argQ m c) (argKV m c) (argC m c) b (pos i r) h) (val (argKV m c) b h)
      (argC m c (ix3 b (pos i r) h) * lam) (512 * (j + 1))
  | 0, hji, ht => by
    have hi := i.isLt
    have hb : (64 * b.val + 8 * i.val + 0) / 64 = b.val := by omega
    have hi' : (64 * b.val + 8 * i.val + 0) / 8 % 8 = i.val := by omega
    have hj : (64 * b.val + 8 * i.val + 0) % 8 = (0 : Fin 8).val := by show _ = 0; omega
    have H := RowInv.start (iblk m c 3 ⟨64 * b.val + 8 * i.val + 0, ht⟩) h r
      (score (argQ m c) (argKV m c) (argC m c) b (pos i r) h) (val (argKV m c) b h)
    rw [blk3_at m c ⟨64 * b.val + 8 * i.val + 0, ht⟩ hb hi' r h] at H
    by_cases e : (0 : Fin 8) = i
    · have e' : i.val = 0 := by rw [← e]; rfl
      rw [St_first_on m c ⟨64 * b.val + 8 * i.val + 0, ht⟩ hj (by show (64 * b.val + 8 * i.val + 0) / 8 % 8 = (64 * b.val + 8 * i.val + 0) % 8; omega)]
      exact step_at m c _ (j := 0) hb hi' hj hji h r H (decide_eq_true e).symm
    · have e' : i.val ≠ 0 := fun h => e (Fin.ext h.symm)
      rw [St_first_off m c ⟨64 * b.val + 8 * i.val + 0, ht⟩ hj (by show (64 * b.val + 8 * i.val + 0) % 8 + 1 ≤ (64 * b.val + 8 * i.val + 0) / 8 % 8; omega)]
      exact step_at m c _ (j := 0) hb hi' hj hji h r H (decide_eq_false e).symm
  | j + 1, hji, ht => by
    have hi := i.isLt
    have hb : (64 * b.val + 8 * i.val + (j + 1)) / 64 = b.val := by omega
    have hi' : (64 * b.val + 8 * i.val + (j + 1)) / 8 % 8 = i.val := by omega
    have hj : (64 * b.val + 8 * i.val + (j + 1)) % 8 = (⟨j + 1, by omega⟩ : Fin 8).val := by show _ = j + 1; omega
    have h0 : ¬(64 * b.val + 8 * i.val + (j + 1)) % 8 = 0 := by omega
    have H := inv_at b i h r j (by omega) (by omega)
    by_cases e : (⟨j + 1, by omega⟩ : Fin 8) = i
    · have e' : i.val = j + 1 := by rw [← e]
      rw [St_next_on m c ⟨64 * b.val + 8 * i.val + (j + 1), ht⟩ h0 (by
        show (64 * b.val + 8 * i.val + (j + 1)) / 8 % 8 = (64 * b.val + 8 * i.val + (j + 1)) % 8; omega)]
      exact step_at m c _ (j := ⟨j + 1, by omega⟩) hb hi' hj hji h r H (decide_eq_true e).symm
    · have e' : i.val ≠ j + 1 := fun h => e (Fin.ext h.symm)
      rw [St_next_off m c ⟨64 * b.val + 8 * i.val + (j + 1), ht⟩ h0 (by
        show (64 * b.val + 8 * i.val + (j + 1)) % 8 + 1 ≤ (64 * b.val + 8 * i.val + (j + 1)) / 8 % 8; omega)]
      exact step_at m c _ (j := ⟨j + 1, by omega⟩) hb hi' hj hji h r H (decide_eq_false e).symm

/-- Past the diagonal the state stays what it was there. -/
theorem St_stays (b : Fin 2) (i : Fin 8) : ∀ (k : ℕ) (_ : i.val + k < 8) (ht : 64 * b.val + 8 * i.val + (i.val + k) < cfg0.N)
    (ht' : 64 * b.val + 8 * i.val + i.val < cfg0.N),
    St m c (64 * b.val + 8 * i.val + (i.val + k)) ht = St m c (64 * b.val + 8 * i.val + i.val) ht'
  | 0, _, _, _ => rfl
  | k + 1, hk, ht, ht' => by
    rw [St_past m c ⟨64 * b.val + 8 * i.val + (i.val + (k + 1)), ht⟩ (by
      show (64 * b.val + 8 * i.val + (i.val + (k + 1))) / 8 % 8 < (64 * b.val + 8 * i.val + (i.val + (k + 1))) % 8; omega)]
    exact St_stays b i k (by omega) _ _

/-- The block of results after the last key tile. -/
theorem result_at (b : Fin 2) (i : Fin 8) (h : Fin 8) (r : Fin 512) (d : Fin 128) (t : Fin cfg0.N)
    (ht : t.val = 64 * b.val + 8 * i.val + 7) :
    result (St m c t.val t.isLt) (ix2 r (lane h d)) = attend (argQ m c) (argKV m c) (argC m c) b (pos i r) h d := by
  have hi := i.isLt
  have hb := b.isLt
  have hN := points
  have e : St m c t.val t.isLt = St m c (64 * b.val + 8 * i.val + i.val) (by omega) := by
    rw [← St_stays m c b i (7 - i.val) (by omega) (by omega) (by omega)]
    congr 1; omega
  rw [e]
  refine (inv_at m c b i h r i.val le_rfl (by omega)).result (by omega) (fun k hk => ?_) d
  have hr := r.isLt
  unfold score
  rw [dif_neg (show ¬k ≤ 512 * i.val + r.val by omega)]

/-- The result array. -/
def out : Vec Ideal S8192x1024 .f32 := fun y =>
  attend (argQ m c) (argKV m c) (argC m c)
    (⟨(y 0).val / 4096, by have : (y 0).val < 8192 := (y 0).isLt; omega⟩ : Fin 2)
    (⟨(y 0).val % 4096, by omega⟩ : Fin 4096)
    (⟨(y 1).val / 128, by have : (y 1).val < 1024 := (y 1).isLt; omega⟩ : Fin 8)
    (⟨(y 1).val % 128, by omega⟩ : Fin 128)

theorem out_at (b : Fin 2) (q : Fin 4096) (h : Fin 8) (d : Fin 128) (y : S8192x1024.Idx)
    (h0 : (y 0).val = 4096 * b.val + q.val) (h1 : (y 1).val = 128 * h.val + d.val) :
    out m c y = attend (argQ m c) (argKV m c) (argC m c) b q h d := by
  have e0 : (⟨(y 0).val / 4096, by have : (y 0).val < 8192 := (y 0).isLt; omega⟩ : Fin 2) = b := Fin.ext (by show (y 0).val / 4096 = _; omega)
  have e1 : (⟨(y 0).val % 4096, by omega⟩ : Fin 4096) = q := Fin.ext (by show (y 0).val % 4096 = _; omega)
  have e2 : (⟨(y 1).val / 128, by have : (y 1).val < 1024 := (y 1).isLt; omega⟩ : Fin 8) = h := Fin.ext (by show (y 1).val / 128 = _; omega)
  have e3 : (⟨(y 1).val % 128, by omega⟩ : Fin 128) = d := Fin.ext (by show (y 1).val % 128 = _; omega)
  unfold out
  rw [e0, e1, e2, e3]

theorem arr5 : (dats m 0 c).arrAt 5 cfg0.N = out m c := by
  refine (dats m 0 c).arrAt_eq_of_covers 5 _ (by decide +kernel) fun t hf y => ?_
  have h7 := (flush0_5 t).mp hf
  have hN := points
  have htl := t.isLt
  blk_simp
  rw [after0_5]
  have y0 : (y 0).val < 512 := (y 0).isLt
  have y1 : (y 1).val < 1024 := (y 1).isLt
  have ey : y = (ix2 (⟨(y 0).val, y0⟩ : Fin 512) (lane (⟨(y 1).val / 128, by omega⟩ : Fin 8) (⟨(y 1).val % 128, by omega⟩ : Fin 128)) : S512x1024.Idx) := by
    funext a
    match a with
    | ⟨0, _⟩ => rfl
    | ⟨1, _⟩ => exact Fin.ext (by show (y 1).val = 128 * ((y 1).val / 128) + (y 1).val % 128; omega)
  have h0 : (((win0_5.blk t).view.emb y) 0 : ℕ) = (8 * (t.val / 64) + t.val / 8 % 8) * 512 + (y 0).val := by blk_simp [idx5 t]
  have h1 : (((win0_5.blk t).view.emb y) 1 : ℕ) = 0 * 1024 + (y 1).val := by blk_simp [idx5 t]
  have hr := result_at m c (⟨t.val / 64, by omega⟩ : Fin 2) (⟨t.val / 8 % 8, by omega⟩ : Fin 8) (⟨(y 1).val / 128, by omega⟩ : Fin 8)
    (⟨(y 0).val, y0⟩ : Fin 512) (⟨(y 1).val % 128, by omega⟩ : Fin 128) t
    (by show t.val = 64 * (t.val / 64) + 8 * (t.val / 8 % 8) + 7; omega)
  have ho := out_at m c (⟨t.val / 64, by omega⟩ : Fin 2) (pos (⟨t.val / 8 % 8, by omega⟩ : Fin 8) (⟨(y 0).val, y0⟩ : Fin 512))
    (⟨(y 1).val / 128, by omega⟩ : Fin 8) (⟨(y 1).val % 128, by omega⟩ : Fin 128) ((win0_5.blk t).view.emb y)
    (by rw [h0]; show _ = 4096 * (t.val / 64) + (512 * (t.val / 8 % 8) + (y 0).val); omega)
    (by rw [h1]; show _ = 128 * ((y 1).val / 128) + (y 1).val % 128; omega)
  exact (congrArg (result (St m c t.val t.isLt)) ey).trans (hr.trans ho.symm)

end Cert.KernelIdeal.Fox

end
-- ==== Proof.RefAt.lean ====
/-
The reference at an index: its stages one by one, and the whole as the softmax sum that the kernel's rows arrive at.
-/
module

public import proofs.«01_k».proof.Proof.Gen.ReferenceIdeal.Run
public import proofs.«01_k».proof.Proof.Online
public import Idealize.ShloMosaic.Lib.Pointwise
public import Idealize.ShloMosaic.Lib.WordCmp
public import Idealize.ShloMosaic.Lib.Tactic.CleanTypes

@[expose] public section

set_option maxRecDepth 16384

noncomputable section

namespace Cert.ReferenceIdeal.Fox

open Idealize.ShloMosaic Idealize.SL.Sem
open Cert.ReferenceIdeal Cert.ReferenceIdeal.Gen

/-! ## The stages -/

variable (A : FVec Ideal S2x4096x8x128 .f32) (B : FVec Ideal S2x4096x2x8x128 .f32) (C : FVec Ideal S2x4096x8 .f32)

/-- The keys. -/
def keys : FVec Ideal S2x4096x8x128 .f32 :=
  shapeCast S2x4096x8x128 (extractStridedSlice S2x4096x1x8x128 ![0, 0, 0, 0, 0] B slices_S2x4096x2x8x128_S2x4096x1x8x128_0_0_0_0_0)
    shapeCasts_S2x4096x1x8x128_S2x4096x8x128

/-- The values. -/
def values : FVec Ideal S2x4096x8x128 .f32 :=
  shapeCast S2x4096x8x128 (extractStridedSlice S2x4096x1x8x128 ![0, 0, 1, 0, 0] B slices_S2x4096x2x8x128_S2x4096x1x8x128_0_0_1_0_0)
    shapeCasts_S2x4096x1x8x128_S2x4096x8x128

/-- The products of queries and keys. -/
def products : FVec Ideal S2x8x4096x4096 .f32 :=
  Host.dotGeneral dot_S2x4096x8x128_S2x4096x8x128_S2x8x4096x4096_3_3_1_1_02_02 none A (keys B)

/-- The scores before the mask. -/
def raw : FVec Ideal S2x8x4096x4096 .f32 :=
  addf
    (Host.divf (products A B) (broadcastInDim S2x8x4096x4096 ![] bcast_S_S2x8x4096x4096 (Host.sqrt (constant S_ .f32 0x43000000#32))))
    (subf
      (broadcastInDim S2x8x4096x4096 ![0, 1, 2, 3] bcast_S2x8x4096x1_S2x8x4096x4096_0_1_2_3
        (broadcastInDim S2x8x4096x1 ![0, 1, 2] bcast_S2x8x4096_S2x8x4096x1_0_1_2
          (transpose S2x8x4096 [0, 2, 1] C transposes_S2x4096x8_S2x8x4096_0_2_1)))
      (broadcastInDim S2x8x4096x4096 ![0, 1, 2, 3] bcast_S2x8x1x4096_S2x8x4096x4096_0_1_2_3
        (broadcastInDim S2x8x1x4096 ![0, 1, 3] bcast_S2x8x4096_S2x8x1x4096_0_1_3
          (transpose S2x8x4096 [0, 2, 1] C transposes_S2x4096x8_S2x8x4096_0_2_1))))

/-- The mask. -/
def mask : IVec S4096x4096 1 :=
  cmpi .sge
    (broadcastInDim S4096x4096 ![0, 1] bcast_S4096x1_S4096x4096_0_1 (broadcastInDim S4096x1 ![0] bcast_S4096_S4096x1_0 (iotaInDim S4096 32 0)))
    (broadcastInDim S4096x4096 ![0, 1] bcast_S1x4096_S4096x4096_0_1 (broadcastInDim S1x4096 ![1] bcast_S4096_S1x4096_1 (iotaInDim S4096 32 0)))

/-- The scores. -/
def masked : FVec Ideal S2x8x4096x4096 .f32 :=
  select (broadcastInDim S2x8x4096x4096 ![2, 3] bcast_S4096x4096_S2x8x4096x4096_2_3 mask) (raw A B C)
    (broadcastInDim S2x8x4096x4096 ![] bcast_S_S2x8x4096x4096 (id (constant S_ .f32 0xFF800000#32)))

/-- Each row's greatest score. -/
def peak : FVec Ideal S2x8x4096x1 .f32 :=
  broadcastInDim S2x8x4096x1 ![0, 1, 2] bcast_S2x8x4096_S2x8x4096x1_0_1_2
    (Host.reduce FloatOps.maximumf (masked A B C) (constant S_ .f32 0xFF800000#32) reducesTo_S2x8x4096x4096_S2x8x4096_d3 h_S_)

/-- Each row's greatest score, zero in its place where there is none. -/
def guarded : FVec Ideal S2x8x4096x1 .f32 :=
  select (cmpf .ogt (peak A B C) (broadcastInDim S2x8x4096x1 ![] bcast_S_S2x8x4096x1 (constant S_ .f32 0xFF800000#32))) (peak A B C)
    (broadcastInDim S2x8x4096x1 ![] bcast_S_S2x8x4096x1 (id (constant S_ .f32 0x00000000#32)))

/-- The exponentials. -/
def expo : FVec Ideal S2x8x4096x4096 .f32 :=
  Host.exp (subf (masked A B C)
    (broadcastInDim S2x8x4096x4096 ![0, 1, 2, 3] bcast_S2x8x4096x1_S2x8x4096x4096_0_1_2_3 (guarded A B C)))

/-- Each row's sum of exponentials. -/
def den : FVec Ideal S2x8x4096x1 .f32 :=
  broadcastInDim S2x8x4096x1 ![0, 1, 2] bcast_S2x8x4096_S2x8x4096x1_0_1_2
    (Host.reduceAdd (expo A B C) (constant S_ .f32 0x00000000#32) reducesTo_S2x8x4096x4096_S2x8x4096_d3 h_S_)

/-- The probabilities. -/
def prob : FVec Ideal S2x8x4096x4096 .f32 :=
  Host.divf (expo A B C)
    (broadcastInDim S2x8x4096x4096 ![0, 1, 2, 3] bcast_S2x8x4096x1_S2x8x4096x4096_0_1_2_3
      (maximumf (den A B C) (broadcastInDim S2x8x4096x1 ![] bcast_S_S2x8x4096x1 (constant S_ .f32 0x0DA24260#32))))

/-- The weighted sums of the values. -/
def mixed : FVec Ideal S2x8x128x4096 .f32 :=
  Host.dotGeneral dot_S2x4096x8x128_S2x8x4096x4096_S2x8x128x4096_1_3_3_2_02_01 none (values B) (prob A B C)

theorem res_eq (m : (ℓ : Loc nD τ sig) → Buf (Elt Ideal) ℓ) (c : Dev nD) : Value.res_main_v39 m c
    = shapeCast S8192x1024 (transpose S2x4096x8x128 [0, 3, 1, 2]
        (mixed (m ((c.tc : Thread nD τ).loc main_arg0)) (m ((c.tc : Thread nD τ).loc main_arg1)) (m ((c.tc : Thread nD τ).loc main_arg2)))
        transposes_S2x8x128x4096_S2x4096x8x128_0_3_1_2) shapeCasts_S2x4096x8x128_S8192x1024 := rfl

variable (b : Fin 2) (h : Fin 8) (q k : Fin 4096)

theorem keys_at (d : Fin 128) : keys B (ix4 b q h d) = B (ix5 b q 0 h d) := by
  pointwise [keys]

theorem values_at (d : Fin 128) : values B (ix4 b q h d) = B (ix5 b q 1 h d) := by
  pointwise [values]

theorem products_at : products A B (ix4 b h q k) = ∑ d : Fin 128, A (ix4 b q h d) * keys B (ix4 b k h d) := by
  pointwise [products]

theorem raw_at : raw A B C (ix4 b h q k)
    = Ideal.div (products A B (ix4 b h q k)) (Ideal.sqrt (Ideal.ofBits .f32 0x43000000#32)) + (C (ix3 b q h) - C (ix3 b k h)) := by
  pointwise [raw]

theorem ninf_val : Ideal.ofBits .f32 0xFF800000#32 = (⊥ : EReal) := by simp [Ideal.ofBits, Ideal.ieee]
theorem zero_val : Ideal.ofBits .f32 0x00000000#32 = (0 : EReal) := by simp [Ideal.ofBits, Ideal.ieee]
theorem ninf_at : (id (constant (F := Ideal) S_ .f32 0xFF800000#32)) ix0 = (⊥ : EReal) := ninf_val
theorem zero_at : (id (constant (F := Ideal) S_ .f32 0x00000000#32)) ix0 = (0 : EReal) := zero_val

theorem masked_at : masked A B C (ix4 b h q k) = if k.val ≤ q.val then raw A B C (ix4 b h q k) else ⊥ := by
  have e : masked A B C (ix4 b h q k)
      = Scalar.select (IntOp.cmpi .sge (BitVec.ofNat 32 q.val) (BitVec.ofNat 32 k.val)) (raw A B C (ix4 b h q k))
          ((id (constant (F := Ideal) S_ .f32 0xFF800000#32)) ix0) := by
    pointwise [masked, mask]
  rw [e, ninf_at, WordCmp.cmpi_sge_ofNat (by have := q.isLt; omega) (by have := k.isLt; omega)]
  by_cases hc : k.val ≤ q.val <;> simp [hc, Scalar.select]

theorem rowMax_at (X : FVec Ideal S2x8x4096x4096 .f32) :
    broadcastInDim S2x8x4096x1 ![0, 1, 2] bcast_S2x8x4096_S2x8x4096x1_0_1_2
      (Host.reduce FloatOps.maximumf X (constant S_ .f32 0xFF800000#32) reducesTo_S2x8x4096x4096_S2x8x4096_d3 h_S_) (ix4 b h q 0)
    = Finset.fold max (Ideal.ofBits .f32 0xFF800000#32) (fun x : Fin 4096 => X (ix4 b h q x)) Finset.univ := by
  pointwise

theorem peak_at : peak A B C (ix4 b h q 0) = Finset.univ.sup fun x : Fin 4096 => masked A B C (ix4 b h q x) := by
  refine (rowMax_at b h q (masked A B C)).trans ?_
  rw [ninf_val]; rfl

theorem guard_at (X : FVec Ideal S2x8x4096x1 .f32) :
    select (cmpf .ogt X (broadcastInDim S2x8x4096x1 ![] bcast_S_S2x8x4096x1 (constant S_ .f32 0xFF800000#32))) X
      (broadcastInDim S2x8x4096x1 ![] bcast_S_S2x8x4096x1 (id (constant S_ .f32 0x00000000#32))) (ix4 b h q 0)
    = Cert.Online.guard (X (ix4 b h q 0)) := by
  pointwise
  rw [ninf_val, zero_at]
  rfl

theorem guarded_at : guarded A B C (ix4 b h q 0) = Cert.Online.guard (peak A B C (ix4 b h q 0)) := guard_at b h q (peak A B C)

theorem expo_at : expo A B C (ix4 b h q k) = Ideal.exp (masked A B C (ix4 b h q k) - guarded A B C (ix4 b h q 0)) := by
  pointwise [expo]

theorem rowSum_at (X : FVec Ideal S2x8x4096x4096 .f32) :
    broadcastInDim S2x8x4096x1 ![0, 1, 2] bcast_S2x8x4096_S2x8x4096x1_0_1_2
      (Host.reduceAdd X (constant S_ .f32 0x00000000#32) reducesTo_S2x8x4096x4096_S2x8x4096_d3 h_S_) (ix4 b h q 0)
    = ∑ x : Fin 4096, X (ix4 b h q x) := by
  pointwise

theorem den_at : den A B C (ix4 b h q 0) = ∑ x : Fin 4096, expo A B C (ix4 b h q x) := rowSum_at b h q (expo A B C)

theorem prob_at : prob A B C (ix4 b h q k)
    = Ideal.div (expo A B C (ix4 b h q k)) (max (den A B C (ix4 b h q 0)) (Ideal.ofBits .f32 0x0DA24260#32)) := by
  pointwise [prob]

theorem mixed_at (d : Fin 128) : mixed A B C (ix4 b h d q) = ∑ x : Fin 4096, values B (ix4 b x h d) * prob A B C (ix4 b h q x) := by
  pointwise [mixed]

/-! ## The whole -/

theorem top_eq (L : ℕ → EReal) (n : ℕ) : Cert.Online.top L n = Finset.univ.sup fun x : Fin n => L x.val := by
  have e := Cert.Online.top_add L 0 n
  rw [Nat.zero_add] at e
  rw [e]
  simp [Cert.Online.top]

/-- The reference's row from any scores in base two and values it agrees with. -/
theorem mixed_eq {L V : ℕ → EReal} {γ : EReal} (d : Fin 128)
    (hL : ∀ x : Fin 4096, masked A B C (ix4 b h q x) = Cert.Online.logit L γ x.val)
    (hV : ∀ x : Fin 4096, values B (ix4 b x h d) = V x.val) :
    mixed A B C (ix4 b h d q) = Cert.Online.refOut L V γ (Ideal.ofBits .f32 0x0DA24260#32) 4096 := by
  rw [mixed_at]
  simp only [prob_at, den_at, expo_at, guarded_at, peak_at, hL, hV]
  unfold Cert.Online.refOut
  rw [top_eq, Finset.sum_range, Finset.sum_range]

end Cert.ReferenceIdeal.Fox

end
-- ==== Proof.Tie.lean ====
/-
The kernel's result and the reference's, entry by entry: the kernel's scores in base two are the reference's in base e.
-/
module

public import proofs.«01_k».proof.Proof.Value
public import proofs.«01_k».proof.Proof.RefAt

@[expose] public section

set_option maxRecDepth 16384

noncomputable section

namespace Cert.Proof

open Idealize.ShloMosaic

theorem root_val : Ideal.sqrt (Ideal.ofBits .f32 0x43000000#32) = ((Real.sqrt 128 : ℝ) : EReal) := by
  have e : Ideal.ofBits .f32 0x43000000#32 = ((128 : ℝ) : EReal) := by
    simp [Ideal.ofBits, Ideal.ieee]
    rw [← EReal.coe_mul]
    norm_num
  rw [e, Ideal.sqrt_coe, if_neg (by norm_num)]

/-- A score in base two, taken back to base e with the query's own term added, is the reference's score. -/
theorem score_eq (S k c : EReal) :
    (S * (((Real.sqrt 128)⁻¹ * (Real.log 2)⁻¹ : ℝ) : EReal) - k * (((Real.log 2)⁻¹ : ℝ) : EReal)) * (Real.log 2 : ℝ) + c
      = Ideal.div S ((Real.sqrt 128 : ℝ) : EReal) + (c - k) := by
  have hl : Real.log 2 ≠ 0 := Cert.Online.log_two_pos.ne'
  have h0 : (0 : EReal) ≤ ((Real.log 2 : ℝ) : EReal) := EReal.coe_nonneg.mpr Cert.Online.log_two_pos.le
  have e1 : (((Real.sqrt 128)⁻¹ * (Real.log 2)⁻¹ : ℝ) : EReal) * (Real.log 2 : ℝ) = (((1 / Real.sqrt 128 : ℝ)) : EReal) := by
    rw [← EReal.coe_mul, mul_assoc, inv_mul_cancel₀ hl, mul_one, one_div]
  have e2 : (((Real.log 2)⁻¹ : ℝ) : EReal) * (Real.log 2 : ℝ) = 1 := by
    rw [← EReal.coe_mul, inv_mul_cancel₀ hl, EReal.coe_one]
  rw [Ideal.div_coe (Real.sqrt_pos.mpr (by norm_num)).ne', sub_eq_add_neg, EReal.right_distrib_of_nonneg_of_ne_top h0 (EReal.coe_ne_top _),
    EReal.neg_mul, mul_assoc, mul_assoc, e1, e2, mul_one, add_assoc, add_comm (-k) c, ← sub_eq_add_neg]

variable (A : FVec Ideal Cert.ReferenceIdeal.S2x4096x8x128 .f32) (B : FVec Ideal Cert.ReferenceIdeal.S2x4096x2x8x128 .f32)
  (C : FVec Ideal Cert.ReferenceIdeal.S2x4096x8 .f32) (b : Fin 2) (h : Fin 8) (q : Fin 4096)

theorem masked_eq (k : Fin 4096) : Cert.ReferenceIdeal.Fox.masked A B C (ix4 b h q k)
    = Cert.Online.logit (Cert.KernelIdeal.Fox.score A B C b q h) (C (ix3 b q h)) k.val := by
  rw [Cert.ReferenceIdeal.Fox.masked_at]
  by_cases hk : k.val ≤ q.val
  · rw [if_pos hk]
    unfold Cert.Online.logit Cert.KernelIdeal.Fox.score
    rw [dif_pos hk, score_eq, Cert.ReferenceIdeal.Fox.raw_at, root_val, Cert.ReferenceIdeal.Fox.products_at]
    simp only [Cert.ReferenceIdeal.Fox.keys_at]
  · rw [if_neg hk, Cert.Online.logit_bot]
    unfold Cert.KernelIdeal.Fox.score
    rw [dif_neg hk]

theorem mixed_attend (d : Fin 128) :
    Cert.ReferenceIdeal.Fox.mixed A B C (ix4 b h d q) = Cert.KernelIdeal.Fox.attend A B C b q h d :=
  Cert.ReferenceIdeal.Fox.mixed_eq A B C b h q d (masked_eq A B C b h q) fun x => by
    rw [Cert.ReferenceIdeal.Fox.values_at]
    unfold Cert.KernelIdeal.Fox.val
    rw [dif_pos x.isLt]

/-- The reference's result, entry by entry. -/
theorem ref_entry (b : Fin 2) (q : Fin 4096) (h : Fin 8) (d : Fin 128) (y : Cert.ReferenceIdeal.S8192x1024.Idx)
    (h0 : (y 0).val = 4096 * b.val + q.val) (h1 : (y 1).val = 128 * h.val + d.val) :
    shapeCast Cert.ReferenceIdeal.S8192x1024 (transpose Cert.ReferenceIdeal.S2x4096x8x128 [0, 3, 1, 2] (Cert.ReferenceIdeal.Fox.mixed A B C)
      Cert.ReferenceIdeal.Gen.transposes_S2x8x128x4096_S2x4096x8x128_0_3_1_2) Cert.ReferenceIdeal.Gen.shapeCasts_S2x4096x8x128_S8192x1024 y
      = Cert.KernelIdeal.Fox.attend A B C b q h d := by
  refine (shapeCast_apply _ _ _ (ix4 b q h d) ?_).trans ?_
  · rw [Shape.rowMajor_val_four, Shape.rowMajor_val_two]
    show ((b.val * 4096 + q.val) * 8 + h.val) * 128 + d.val = (y 0).val * 1024 + (y 1).val
    omega
  · rw [← mixed_attend]
    pointwise

end Cert.Proof

end
-- ==== Proof.Main.lean ====
/-
The claims, each proved on its own: the reference's frame, the named constants, and the equation of the two results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Whole.Frame
public import proofs.«01_k».proof.Proof.Tie
public import Idealize.ShloMosaic.Lib.Quiescent

@[expose] public section

set_option maxRecDepth 16384

noncomputable section

namespace Cert.Proof

open Idealize.ShloMosaic Idealize.SL.Sem

/-- The three named constants: each literal's word and the extended real it stands for. -/
theorem preserves : Cert.preserves_Kernel_KernelIdeal :=
  ⟨IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl,
    IdealRules.named_const.statement Cert.KernelIdeal.κ "scale2" .f32 0x3E0293EE#32 (((Real.sqrt 128)⁻¹ * (Real.log 2)⁻¹ : ℝ) : EReal) rfl⟩

/-- The reference ends with its arguments unchanged; it declares no semaphore, so every counter is zero. -/
theorem ref_frame : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-- The reference's array is the kernel's, from the kernel's arguments. -/
theorem arrays_eq (m : (ℓ : Loc Cert.KernelIdeal.nD Cert.KernelIdeal.τ Cert.KernelIdeal.sig) → Buf (Elt Ideal) ℓ) (c : Dev Cert.KernelIdeal.nD)
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = Cert.KernelIdeal.Fox.argQ m c)
    (h1 : m' ((c.tc : Thread Cert.ReferenceIdeal.nD Cert.ReferenceIdeal.τ).loc Cert.ReferenceIdeal.main_arg1) = Cert.KernelIdeal.Fox.argKV m c)
    (h2 : m' ((c.tc : Thread Cert.ReferenceIdeal.nD Cert.ReferenceIdeal.τ).loc Cert.ReferenceIdeal.main_arg2) = Cert.KernelIdeal.Fox.argC m c) :
    Cert.ReferenceIdeal.Value.res_main_v39 m' c = Cert.KernelIdeal.Fox.out m c := by
  rw [Cert.ReferenceIdeal.Fox.res_eq, h0, h1, h2]
  funext y
  have y0 : (y 0).val < 8192 := (y 0).isLt
  have y1 : (y 1).val < 1024 := (y 1).isLt
  exact ref_entry (Cert.KernelIdeal.Fox.argQ m c) (Cert.KernelIdeal.Fox.argKV m c) (Cert.KernelIdeal.Fox.argC m c)
    (⟨(y 0).val / 4096, by omega⟩ : Fin 2) (⟨(y 0).val % 4096, by omega⟩ : Fin 4096)
    (⟨(y 1).val / 128, by omega⟩ : Fin 8) (⟨(y 1).val % 128, by omega⟩ : Fin 128) y
    (by show (y 0).val = 4096 * ((y 0).val / 4096) + (y 0).val % 4096; omega)
    (by show (y 1).val = 128 * ((y 1).val / 128) + (y 1).val % 128; omega)

/-- From equal arguments kernel and reference end with the same array. -/
theorem algebraic : Cert.algebraic_KernelIdeal_ReferenceIdeal (hKernelIdeal := Cert.KernelIdeal.Gen.facts)
    (hReferenceIdeal := Cert.ReferenceIdeal.Gen.facts) := fun m g m' g' _ hag => by
  refine ⟨fun c => Cert.KernelIdeal.Fox.out m c, ?_, ?_⟩
  · refine (θ_run _ _ _).mono (fun r h c => ?_) (θ_run_and (Cert.KernelIdeal.Fox.run_main m g) (Cert.KernelIdeal.Fox.frame m g))
    exact ⟨((h.1 c).1 5).trans (Cert.KernelIdeal.Fox.arr5 m c), h.2.1 c⟩
  · refine (θ_run _ _ _).mono (fun r h c => ?_) (Cert.ReferenceIdeal.Value.run (F := Ideal) m' g')
    exact ⟨(h c).1.trans (arrays_eq m c m' (hag c).1 (hag c).2.1 (hag c).2.2), (h c).2⟩

end Cert.Proof

end
-- ==== Proof.Odd.Heads.lean ====
/-
One grid point of the odd layer's projections: what each of the four calls leaves in its block of results, head by
head. The queries and keys are normalised and rotated, the values and the output gate are not.
-/
module

public import proofs.«01_k».proof.Proof.Gen.Kernel2Ideal.Frame
public import Idealize.ShloMosaic.Lib.Pointwise
public import Idealize.ShloMosaic.Lib.WholeRead
public import Idealize.ShloMosaic.PureOps.IdealRules
public import Idealize.ShloMosaic.Lib.Pipeline.Value

@[expose] public section

set_option maxRecDepth 16384

noncomputable section

namespace Cert.Kernel2Ideal.Odd

open Idealize.ShloMosaic Idealize.ShloMosaic.TcCoe Idealize.ShloMosaic.Tactic
open Idealize.SL.Sem
open Cert.Kernel2Ideal Cert.Kernel2Ideal.Gen

/-! ## A head of 128 columns -/

theorem slices_col : ∀ k : Fin 16, S512x2048.Slices ![0, 128 * k.val] S512x128 := by decide

theorem inb_col : ∀ k : Fin 16, ∀ a, (![0, 128 * k.val] : Fin 2 → ℕ) a + S512x128.size a ≤ S512x2048.size a := by decide

/-- Head `k` of a block. -/
abbrev col (k : Fin 16) (a : FVec Ideal S512x2048 .f32) : FVec Ideal S512x128 .f32 :=
  extractStridedSlice S512x128 ![0, 128 * k.val] a (slices_col k)

/-- A head, each row divided by its root mean square and scaled by `g`. -/
def normed (u : FVec Ideal S512x128 .f32) (g : Vec Ideal S1x128 .f32) : FVec Ideal S512x128 .f32 :=
  mulf (mulf u (broadcastTo S512x128 (rsqrt (addf (divf (shapeCast S512x1
    (multiReduction .add [1] S512 (mulf u u) 0x00000000#32 reduces_S512x128_S512 (.inl rfl) rfl) shapeCasts_S512_S512x1)
    (broadcast S512x1 (Scalar.ofBits .f32 0x43000000#32))) (broadcast S512x1 (Scalar.ofBits .f32 0x358637BD#32)))) broadcasts_S512x1_S512x128))
    (broadcastTo S512x128 (shapeCast S1x128 g shapeCasts_S1x128_S1x128) broadcasts_S1x128_S512x128)

/-- The rotation of a head by the tables of cosines and of signed sines. -/
def turned (n : FVec Ideal S512x128 .f32) (cs sn : Vec Ideal S512x128 .f32) : FVec Ideal S512x128 .f32 :=
  addf (mulf n (shapeCast S512x128 cs shapeCasts_S512x128_S512x128))
    (mulf (dynamicRotate 1 64#32 none n rotates_S512x128_d1) (shapeCast S512x128 sn shapeCasts_S512x128_S512x128))

/-- A head normalised and rotated. -/
abbrev roped (u : FVec Ideal S512x128 .f32) (g : Vec Ideal S1x128 .f32) (cs sn : Vec Ideal S512x128 .f32) : FVec Ideal S512x128 .f32 :=
  turned (normed u g) cs sn

/-- Sixteen heads side by side. -/
def tile (f : Fin 16 → FVec Ideal S512x128 .f32) : FVec Ideal S512x2048 .f32 := fun y =>
  f (⟨(y 1).val / 128, by have : (y 1).val < 2048 := (y 1).isLt; omega⟩ : Fin 16)
    (ix2 (⟨(y 0).val, (y 0).isLt⟩ : Fin 512) (⟨(y 1).val % 128, by omega⟩ : Fin 128))

theorem tile_at (f : Fin 16 → FVec Ideal S512x128 .f32) (r : Fin 512) (k : Fin 16) (d : Fin 128) (y : S512x2048.Idx)
    (h0 : (y 0).val = r.val) (h1 : (y 1).val = 128 * k.val + d.val) : tile f y = f k (ix2 r d) := by
  have e0 : (⟨(y 0).val, (y 0).isLt⟩ : Fin 512) = r := Fin.ext h0
  have e1 : (⟨(y 1).val / 128, by have : (y 1).val < 2048 := (y 1).isLt; omega⟩ : Fin 16) = k := Fin.ext (by show (y 1).val / 128 = _; omega)
  have e2 : (⟨(y 1).val % 128, by omega⟩ : Fin 128) = d := Fin.ext (by show (y 1).val % 128 = _; omega)
  unfold tile
  rw [e0, e1, e2]

theorem piece (f : Fin 16 → FVec Ideal S512x128 .f32) (k : Fin 16) (x : S512x128.Idx) :
    f k x = tile f ((Rect.unit (s := S512x2048) ![0, 128 * k.val] S512x128.size (inb_col k)).emb x) := by
  refine ((tile_at f (⟨(x 0).val, (x 0).isLt⟩ : Fin 512) k (⟨(x 1).val, (x 1).isLt⟩ : Fin 128) _ ?_ ?_).trans (congrArg (f k) ?_)).symm
  · show 0 + 1 * (x 0).val = (x 0).val; omega
  · show 128 * k.val + 1 * (x 1).val = 128 * k.val + (x 1).val; omega
  · funext a
    match a with
    | ⟨0, _⟩ => rfl
    | ⟨1, _⟩ => rfl

/-! ## The four calls -/

theorem out0_eq (x0 : Vec Ideal S512x2048 .f32) (x1 : Vec Ideal S1x2048 .f32) : out0_2 (F := Ideal) x0 x1 = k0_pay1 x0 x1 := by
  have z : (![0, 0] : Fin 2 → ℕ) = fun _ => 0 := by decide
  unfold out0_2
  rw [View.canon_unit_zero (Val := Elt Ideal) (S := S512x2048) z, View.ld_unit_zero (Val := Elt Ideal) (S := S512x2048) z,
    View.ld_unit_zero (Val := Elt Ideal) (S := S1x2048) z]

theorem out1_eq (x0 : Vec Ideal S512x2048 .bf16) (x1 : Vec Ideal S2048x2048 .bf16) (x2 : Vec Ideal S8x128 .f32) (x3 x4 : Vec Ideal S512x128 .f32) :
    out1_5 (F := Ideal) x0 x1 x2 x3 x4 = tile fun k => roped (col k (k1_pay1 x0 x1)) (View.ld x2 r1_2) x3 x4 := by
  have z : (![0, 0] : Fin 2 → ℕ) = fun _ => 0 := by decide
  have l0 : View.ld x0 r1_0 = x0 := View.ld_unit_zero (Val := Elt Ideal) (S := S512x2048) z _ x0
  have l1 : View.ld x1 r1_1 = x1 := View.ld_unit_zero (Val := Elt Ideal) (S := S2048x2048) z _ x1
  have l3 : View.ld x3 r1_3 = x3 := View.ld_unit_zero (Val := Elt Ideal) (S := S512x128) z _ x3
  have l4 : View.ld x4 r1_3 = x4 := View.ld_unit_zero (Val := Elt Ideal) (S := S512x128) z _ x4
  let f : Fin 16 → FVec Ideal S512x128 .f32 := fun k => roped (col k (k1_pay1 (View.ld x0 r1_0) (View.ld x1 r1_1))) (View.ld x2 r1_2) (View.ld x3 r1_3) (View.ld x4 r1_3)
  have h : out1_5 (F := Ideal) x0 x1 x2 x3 x4 = tile f := by
    unfold out1_5
    funext y
    refine View.canon_apply_of_pieces (Val := Elt Ideal) (tile f) _ ?_ y (cover1_5 _ _ _ _ _ _ _ _ _ _ _ _ _ _ _ _ y)
    refine List.forall_mem_cons.2 ⟨fun x => piece f 15 x, ?_⟩
    refine List.forall_mem_cons.2 ⟨fun x => piece f 14 x, ?_⟩
    refine List.forall_mem_cons.2 ⟨fun x => piece f 13 x, ?_⟩
    refine List.forall_mem_cons.2 ⟨fun x => piece f 12 x, ?_⟩
    refine List.forall_mem_cons.2 ⟨fun x => piece f 11 x, ?_⟩
    refine List.forall_mem_cons.2 ⟨fun x => piece f 10 x, ?_⟩
    refine List.forall_mem_cons.2 ⟨fun x => piece f 9 x, ?_⟩
    refine List.forall_mem_cons.2 ⟨fun x => piece f 8 x, ?_⟩
    refine List.forall_mem_cons.2 ⟨fun x => piece f 7 x, ?_⟩
    refine List.forall_mem_cons.2 ⟨fun x => piece f 6 x, ?_⟩
    refine List.forall_mem_cons.2 ⟨fun x => piece f 5 x, ?_⟩
    refine List.forall_mem_cons.2 ⟨fun x => piece f 4 x, ?_⟩
    refine List.forall_mem_cons.2 ⟨fun x => piece f 3 x, ?_⟩
    refine List.forall_mem_cons.2 ⟨fun x => piece f 2 x, ?_⟩
    refine List.forall_mem_cons.2 ⟨fun x => piece f 1 x, ?_⟩
    refine List.forall_mem_cons.2 ⟨fun x => piece f 0 x, ?_⟩
    exact fun _ h => absurd h List.not_mem_nil
  rw [h]
  simp only [f, l0, l1, l3, l4]

theorem out2_A_eq (c : Dev nD) (i : grid2.Coords) (arg2 : Memref sig .tc .vmem S512x2048 .bf16) (harg2 : arg2.IsWhole)
    (arg3 : Memref sig .tc .vmem S2048x2048 .bf16) (harg3 : arg3.IsWhole) (arg4 : Memref sig .tc .vmem S8x128 .f32) (harg4 : arg4.IsWhole)
    (arg5 : Memref sig .tc .vmem S512x128 .f32) (harg5 : arg5.IsWhole) (arg6 : Memref sig .tc .vmem S512x128 .f32) (harg6 : arg6.IsWhole)
    (arg7 : Memref sig .tc .vmem S512x2048 .f32) (harg7 : arg7.IsWhole) (hc0 : cond2_0 i) (hc1 : ¬cond2_1 i)
    (x0 : Vec Ideal S512x2048 .bf16) (x1 : Vec Ideal S2048x2048 .bf16) (x2 : Vec Ideal S8x128 .f32) (x3 x4 : Vec Ideal S512x128 .f32) :
    out2_A_5 (F := Ideal) c i arg2 harg2 arg3 harg3 arg4 harg4 arg5 harg5 arg6 harg6 arg7 harg7 hc0 hc1 x0 x1 x2 x3 x4 = tile fun k => roped (col k (k1_pay1 x0 x1)) (View.ld x2 (Rect.unit (s := S8x128) ![1, 0] S1x128.size inb_S8x128_S1x128_1_0)) x3 x4 := by
  have z : (![0, 0] : Fin 2 → ℕ) = fun _ => 0 := by decide
  have l0 : (View.readAt (Elt Ideal) arg2.view (Rect.unit (s := S512x2048) ![0, 0] S512x2048.size inb_S512x2048_S512x2048_0_0).toLoadRect (harg2.unread x0)) = x0 :=
    (funext fun j => harg2.readAt_unread x0 _ j).trans (View.ld_unit_zero (Val := Elt Ideal) (S := S512x2048) z _ x0)
  have l1 : (View.readAt (Elt Ideal) arg3.view (Rect.unit (s := S2048x2048) ![0, 0] S2048x2048.size inb_S2048x2048_S2048x2048_0_0).toLoadRect (harg3.unread x1)) = x1 :=
    (funext fun j => harg3.readAt_unread x1 _ j).trans (View.ld_unit_zero (Val := Elt Ideal) (S := S2048x2048) z _ x1)
  have l2 : (View.readAt (Elt Ideal) arg4.view (Rect.unit (s := S8x128) ![1, 0] S1x128.size inb_S8x128_S1x128_1_0).toLoadRect (harg4.unread x2))
      = (View.ld x2 (Rect.unit (s := S8x128) ![1, 0] S1x128.size inb_S8x128_S1x128_1_0)) := funext fun j => harg4.readAt_unread x2 _ j
  have l3 : (View.readAt (Elt Ideal) arg5.view (Rect.unit (s := S512x128) ![0, 0] S512x128.size inb_S512x128_S512x128_0_0).toLoadRect (harg5.unread x3)) = x3 :=
    (funext fun j => harg5.readAt_unread x3 _ j).trans (View.ld_unit_zero (Val := Elt Ideal) (S := S512x128) z _ x3)
  have l4 : (View.readAt (Elt Ideal) arg6.view (Rect.unit (s := S512x128) ![0, 0] S512x128.size inb_S512x128_S512x128_0_0).toLoadRect (harg6.unread x4)) = x4 :=
    (funext fun j => harg6.readAt_unread x4 _ j).trans (View.ld_unit_zero (Val := Elt Ideal) (S := S512x128) z _ x4)
  let f : Fin 16 → FVec Ideal S512x128 .f32 := fun k => roped (col k (k1_pay1 (View.readAt (Elt Ideal) arg2.view (Rect.unit (s := S512x2048) ![0, 0] S512x2048.size inb_S512x2048_S512x2048_0_0).toLoadRect (harg2.unread x0)) (View.readAt (Elt Ideal) arg3.view (Rect.unit (s := S2048x2048) ![0, 0] S2048x2048.size inb_S2048x2048_S2048x2048_0_0).toLoadRect (harg3.unread x1)))) (View.readAt (Elt Ideal) arg4.view (Rect.unit (s := S8x128) ![1, 0] S1x128.size inb_S8x128_S1x128_1_0).toLoadRect (harg4.unread x2)) (View.readAt (Elt Ideal) arg5.view (Rect.unit (s := S512x128) ![0, 0] S512x128.size inb_S512x128_S512x128_0_0).toLoadRect (harg5.unread x3)) (View.readAt (Elt Ideal) arg6.view (Rect.unit (s := S512x128) ![0, 0] S512x128.size inb_S512x128_S512x128_0_0).toLoadRect (harg6.unread x4))
  have h : out2_A_5 (F := Ideal) c i arg2 harg2 arg3 harg3 arg4 harg4 arg5 harg5 arg6 harg6 arg7 harg7 hc0 hc1 x0 x1 x2 x3 x4 = tile f := by
    unfold out2_A_5
    rw [View.read_writes_junk_eq_canon]
    funext y
    refine View.canon_apply_of_pieces (Val := Elt Ideal) (tile f) _ ?_ y
      (cover2_A_5 c i arg2 harg2 arg3 harg3 arg4 harg4 arg5 harg5 arg6 harg6 arg7 harg7 hc0 hc1 x0 x1 x2 x3 x4 y)
    unfold kernelRun2_A
    dsimp only
    refine List.forall_mem_cons.2 ⟨fun x => piece f 15 x, ?_⟩
    refine List.forall_mem_cons.2 ⟨fun x => piece f 14 x, ?_⟩
    refine List.forall_mem_cons.2 ⟨fun x => piece f 13 x, ?_⟩
    refine List.forall_mem_cons.2 ⟨fun x => piece f 12 x, ?_⟩
    refine List.forall_mem_cons.2 ⟨fun x => piece f 11 x, ?_⟩
    refine List.forall_mem_cons.2 ⟨fun x => piece f 10 x, ?_⟩
    refine List.forall_mem_cons.2 ⟨fun x => piece f 9 x, ?_⟩
    refine List.forall_mem_cons.2 ⟨fun x => piece f 8 x, ?_⟩
    refine List.forall_mem_cons.2 ⟨fun x => piece f 7 x, ?_⟩
    refine List.forall_mem_cons.2 ⟨fun x => piece f 6 x, ?_⟩
    refine List.forall_mem_cons.2 ⟨fun x => piece f 5 x, ?_⟩
    refine List.forall_mem_cons.2 ⟨fun x => piece f 4 x, ?_⟩
    refine List.forall_mem_cons.2 ⟨fun x => piece f 3 x, ?_⟩
    refine List.forall_mem_cons.2 ⟨fun x => piece f 2 x, ?_⟩
    refine List.forall_mem_cons.2 ⟨fun x => piece f 1 x, ?_⟩
    refine List.forall_mem_cons.2 ⟨fun x => piece f 0 x, ?_⟩
    exact fun _ h => absurd h List.not_mem_nil
  rw [h]
  simp only [f, l0, l1, l2, l3, l4]

theorem out2_B_eq (c : Dev nD) (i : grid2.Coords) (arg2 : Memref sig .tc .vmem S512x2048 .bf16) (harg2 : arg2.IsWhole)
    (arg3 : Memref sig .tc .vmem S2048x2048 .bf16) (harg3 : arg3.IsWhole) (arg4 : Memref sig .tc .vmem S8x128 .f32) (harg4 : arg4.IsWhole)
    (arg5 : Memref sig .tc .vmem S512x128 .f32) (harg5 : arg5.IsWhole) (arg6 : Memref sig .tc .vmem S512x128 .f32) (harg6 : arg6.IsWhole)
    (arg7 : Memref sig .tc .vmem S512x2048 .f32) (harg7 : arg7.IsWhole) (hc0 : ¬cond2_0 i) (hc1 : cond2_1 i)
    (x0 : Vec Ideal S512x2048 .bf16) (x1 : Vec Ideal S2048x2048 .bf16) (x2 : Vec Ideal S8x128 .f32) (x3 x4 : Vec Ideal S512x128 .f32) :
    out2_B_5 (F := Ideal) c i arg2 harg2 arg3 harg3 arg4 harg4 arg5 harg5 arg6 harg6 arg7 harg7 hc0 hc1 x0 x1 x2 x3 x4 = tile fun k => col k (k1_pay1 x0 x1) := by
  have z : (![0, 0] : Fin 2 → ℕ) = fun _ => 0 := by decide
  have l0 : (View.readAt (Elt Ideal) arg2.view (Rect.unit (s := S512x2048) ![0, 0] S512x2048.size inb_S512x2048_S512x2048_0_0).toLoadRect (harg2.unread x0)) = x0 :=
    (funext fun j => harg2.readAt_unread x0 _ j).trans (View.ld_unit_zero (Val := Elt Ideal) (S := S512x2048) z _ x0)
  have l1 : (View.readAt (Elt Ideal) arg3.view (Rect.unit (s := S2048x2048) ![0, 0] S2048x2048.size inb_S2048x2048_S2048x2048_0_0).toLoadRect (harg3.unread x1)) = x1 :=
    (funext fun j => harg3.readAt_unread x1 _ j).trans (View.ld_unit_zero (Val := Elt Ideal) (S := S2048x2048) z _ x1)
  let f : Fin 16 → FVec Ideal S512x128 .f32 := fun k => col k (k1_pay1 (View.readAt (Elt Ideal) arg2.view (Rect.unit (s := S512x2048) ![0, 0] S512x2048.size inb_S512x2048_S512x2048_0_0).toLoadRect (harg2.unread x0)) (View.readAt (Elt Ideal) arg3.view (Rect.unit (s := S2048x2048) ![0, 0] S2048x2048.size inb_S2048x2048_S2048x2048_0_0).toLoadRect (harg3.unread x1)))
  have h : out2_B_5 (F := Ideal) c i arg2 harg2 arg3 harg3 arg4 harg4 arg5 harg5 arg6 harg6 arg7 harg7 hc0 hc1 x0 x1 x2 x3 x4 = tile f := by
    unfold out2_B_5
    rw [View.read_writes_junk_eq_canon]
    funext y
    refine View.canon_apply_of_pieces (Val := Elt Ideal) (tile f) _ ?_ y
      (cover2_B_5 c i arg2 harg2 arg3 harg3 arg4 harg4 arg5 harg5 arg6 harg6 arg7 harg7 hc0 hc1 x0 x1 x2 x3 x4 y)
    unfold kernelRun2_B
    dsimp only
    refine List.forall_mem_cons.2 ⟨fun x => piece f 15 x, ?_⟩
    refine List.forall_mem_cons.2 ⟨fun x => piece f 14 x, ?_⟩
    refine List.forall_mem_cons.2 ⟨fun x => piece f 13 x, ?_⟩
    refine List.forall_mem_cons.2 ⟨fun x => piece f 12 x, ?_⟩
    refine List.forall_mem_cons.2 ⟨fun x => piece f 11 x, ?_⟩
    refine List.forall_mem_cons.2 ⟨fun x => piece f 10 x, ?_⟩
    refine List.forall_mem_cons.2 ⟨fun x => piece f 9 x, ?_⟩
    refine List.forall_mem_cons.2 ⟨fun x => piece f 8 x, ?_⟩
    refine List.forall_mem_cons.2 ⟨fun x => piece f 7 x, ?_⟩
    refine List.forall_mem_cons.2 ⟨fun x => piece f 6 x, ?_⟩
    refine List.forall_mem_cons.2 ⟨fun x => piece f 5 x, ?_⟩
    refine List.forall_mem_cons.2 ⟨fun x => piece f 4 x, ?_⟩
    refine List.forall_mem_cons.2 ⟨fun x => piece f 3 x, ?_⟩
    refine List.forall_mem_cons.2 ⟨fun x => piece f 2 x, ?_⟩
    refine List.forall_mem_cons.2 ⟨fun x => piece f 1 x, ?_⟩
    refine List.forall_mem_cons.2 ⟨fun x => piece f 0 x, ?_⟩
    exact fun _ h => absurd h List.not_mem_nil
  rw [h]
  simp only [f, l0, l1]

theorem out3_eq (x0 : Vec Ideal S512x2048 .bf16) (x1 : Vec Ideal S2048x2048 .bf16) (x2 : Vec Ideal S8x128 .f32) (x3 x4 : Vec Ideal S512x128 .f32) :
    out3_5 (F := Ideal) x0 x1 x2 x3 x4 = tile fun k => col k (k1_pay1 x0 x1) := by
  have z : (![0, 0] : Fin 2 → ℕ) = fun _ => 0 := by decide
  have l0 : View.ld x0 r3_0 = x0 := View.ld_unit_zero (Val := Elt Ideal) (S := S512x2048) z _ x0
  have l1 : View.ld x1 r3_1 = x1 := View.ld_unit_zero (Val := Elt Ideal) (S := S2048x2048) z _ x1
  have l3 : View.ld x3 r1_3 = x3 := View.ld_unit_zero (Val := Elt Ideal) (S := S512x128) z _ x3
  have l4 : View.ld x4 r1_3 = x4 := View.ld_unit_zero (Val := Elt Ideal) (S := S512x128) z _ x4
  let f : Fin 16 → FVec Ideal S512x128 .f32 := fun k => col k (k1_pay1 (View.ld x0 r3_0) (View.ld x1 r3_1))
  have h : out3_5 (F := Ideal) x0 x1 x2 x3 x4 = tile f := by
    unfold out3_5
    funext y
    refine View.canon_apply_of_pieces (Val := Elt Ideal) (tile f) _ ?_ y (cover3_5 _ _ _ _ _ _ _ _ _ _ _ _ _ _ _ _ y)
    refine List.forall_mem_cons.2 ⟨fun x => piece f 15 x, ?_⟩
    refine List.forall_mem_cons.2 ⟨fun x => piece f 14 x, ?_⟩
    refine List.forall_mem_cons.2 ⟨fun x => piece f 13 x, ?_⟩
    refine List.forall_mem_cons.2 ⟨fun x => piece f 12 x, ?_⟩
    refine List.forall_mem_cons.2 ⟨fun x => piece f 11 x, ?_⟩
    refine List.forall_mem_cons.2 ⟨fun x => piece f 10 x, ?_⟩
    refine List.forall_mem_cons.2 ⟨fun x => piece f 9 x, ?_⟩
    refine List.forall_mem_cons.2 ⟨fun x => piece f 8 x, ?_⟩
    refine List.forall_mem_cons.2 ⟨fun x => piece f 7 x, ?_⟩
    refine List.forall_mem_cons.2 ⟨fun x => piece f 6 x, ?_⟩
    refine List.forall_mem_cons.2 ⟨fun x => piece f 5 x, ?_⟩
    refine List.forall_mem_cons.2 ⟨fun x => piece f 4 x, ?_⟩
    refine List.forall_mem_cons.2 ⟨fun x => piece f 3 x, ?_⟩
    refine List.forall_mem_cons.2 ⟨fun x => piece f 2 x, ?_⟩
    refine List.forall_mem_cons.2 ⟨fun x => piece f 1 x, ?_⟩
    refine List.forall_mem_cons.2 ⟨fun x => piece f 0 x, ?_⟩
    exact fun _ h => absurd h List.not_mem_nil
  rw [h]
  simp only [f, l0, l1, l3, l4]

end Cert.Kernel2Ideal.Odd

end
-- ==== Proof.Odd.Math.lean ====
/-
The odd layer's projections written out, entry by entry, for an input of 2 batches of 4096 positions of 2048 columns.
-/
module

public import Idealize.ShloMosaic.Lib.Pointwise
public import Idealize.ShloMosaic.PureOps.IdealRules

@[expose] public section

noncomputable section

namespace Cert.Odd

open Idealize.ShloMosaic

/-- Entry `d` of a row divided by its root mean square and scaled by `g`; `cnt` is the number of entries. -/
def norm {n : ℕ} (cnt : EReal) (u g : Fin n → EReal) (d : Fin n) : EReal :=
  u d * Ideal.rsqrt (Ideal.div (∑ x, u x * u x) cnt + Ideal.ofBits .f32 0x358637BD#32) * g d

/-- Half of the rotation by a table of cosines and one of signed sines: entry `d` of a head. -/
def rot (n cs sn : Fin 128 → EReal) (d : Fin 128) : EReal :=
  n d * cs d + n ⟨(d.val + 128 - 64) % 128, by omega⟩ * sn d

/-- The angle of position `q` for column `d` of a half head. -/
def angle (q : Fin 4096) (d : Fin 64) : EReal :=
  (FloatOps.sitofp (F := Ideal) .f32 (BitVec.ofNat 32 q.val) : EReal) * Ideal.pow (Ideal.ofBits .f32 0x461C4000#32)
    (Ideal.div (-(FloatOps.sitofp (F := Ideal) .f32 (BitVec.ofNat 32 d.val) : EReal)) (Ideal.ofBits .f32 0x42800000#32))

/-- Entry `d` of a head rotated to position `q`. -/
def rope (n : Fin 128 → EReal) (q : Fin 4096) (d : Fin 128) : EReal :=
  if h : d.val < 64 then
    n d * Ideal.cos (angle q ⟨d.val, h⟩) - n ⟨d.val + 64, by omega⟩ * Ideal.sin (angle q ⟨d.val, h⟩)
  else
    n d * Ideal.cos (angle q ⟨d.val - 64, by omega⟩) + n ⟨d.val - 64, by omega⟩ * Ideal.sin (angle q ⟨d.val - 64, by omega⟩)

/-- The two tables' rotation is the rotation of the halves. -/
theorem rot_eq (n cs sn : Fin 128 → EReal) (q : Fin 4096)
    (hc : ∀ d : Fin 128, cs d = Ideal.cos (angle q ⟨d.val % 64, by omega⟩))
    (hs : ∀ d : Fin 128, sn d = if d.val < 64 then -Ideal.sin (angle q ⟨d.val % 64, by omega⟩) else Ideal.sin (angle q ⟨d.val % 64, by omega⟩))
    (d : Fin 128) : rot n cs sn d = rope n q d := by
  unfold rot rope
  rw [hc, hs]
  by_cases h : d.val < 64
  · have e1 : (⟨d.val % 64, by omega⟩ : Fin 64) = ⟨d.val, h⟩ := Fin.ext (by show d.val % 64 = d.val; omega)
    have e2 : (⟨(d.val + 128 - 64) % 128, by omega⟩ : Fin 128) = ⟨d.val + 64, by omega⟩ := Fin.ext (by show (d.val + 128 - 64) % 128 = d.val + 64; omega)
    rw [if_pos h, dif_pos h, e1, e2, mul_neg, sub_eq_add_neg]
  · have e1 : (⟨d.val % 64, by omega⟩ : Fin 64) = ⟨d.val - 64, by omega⟩ := Fin.ext (by show d.val % 64 = d.val - 64; omega)
    have e2 : (⟨(d.val + 128 - 64) % 128, by omega⟩ : Fin 128) = ⟨d.val - 64, by omega⟩ := Fin.ext (by show (d.val + 128 - 64) % 128 = d.val - 64; omega)
    rw [if_neg h, dif_neg h, e1, e2]

variable (X : Fin 2 → Fin 4096 → Fin 2048 → EReal) (g : Fin 2048 → EReal) (W : Fin 2048 → Fin 8192 → EReal) (G : Fin 2 → Fin 128 → EReal)

/-- The normalised input. -/
def hid (b : Fin 2) (q : Fin 4096) : Fin 2048 → EReal := norm (Ideal.ofBits .f32 0x45000000#32) (X b q) g

/-- Column `128 k + d` of part `s` of the projection: the queries, keys, values and gates are parts 0 to 3. -/
def part (s : Fin 4) (b : Fin 2) (q : Fin 4096) (k : Fin 16) (d : Fin 128) : EReal :=
  ∑ x : Fin 2048, hid X g b q x * W x ⟨2048 * s.val + (128 * k.val + d.val), by omega⟩

/-- The same normalised head by head and rotated: the queries (`i = 0`) and the keys (`i = 1`). -/
def roped (i : Fin 2) (b : Fin 2) (q : Fin 4096) (k : Fin 16) (d : Fin 128) : EReal :=
  rope (norm (Ideal.ofBits .f32 0x43000000#32) (part X g W ⟨i.val, by omega⟩ b q k) (G i)) q d

end Cert.Odd

end
-- ==== Proof.Odd.KernelAt.lean ====
/-
What each of the four calls leaves in its array of results, entry by entry, from the arrays it finds.
-/
module

public import proofs.«01_k».proof.Proof.Odd.Heads
public import proofs.«01_k».proof.Proof.Odd.Math
public import Idealize.ShloMosaic.Lib.Pipeline.ValueKit
public import Idealize.ShloMosaic.Lib.KernelVsHost

@[expose] public section

set_option maxRecDepth 16384

noncomputable section

namespace Cert.Kernel2Ideal.Odd

open Idealize.ShloMosaic Idealize.ShloMosaic.TcCoe Idealize.ShloMosaic.Tactic
open Idealize.SL.Sem
open Cert.Kernel2Ideal Cert.Kernel2Ideal.Gen
open Cert.Odd (norm rot)

/-! ## The bodies at an index -/

theorem hidden_at (x0 : Vec Ideal S512x2048 .f32) (x1 : Vec Ideal S1x2048 .f32) (r : Fin 512) (d : Fin 2048) :
    k0_pay1 x0 x1 (ix2 r d) = norm (Ideal.ofBits .f32 0x45000000#32) (fun x => x0 (ix2 r x)) (fun x => x1 (ix2 0 x)) d := by
  pointwise [k0_pay1]
  rfl

theorem col_at (x0 : Vec Ideal S512x2048 .bf16) (x1 : Vec Ideal S2048x2048 .bf16) (k : Fin 16) (r : Fin 512) (d : Fin 128) :
    col k (k1_pay1 x0 x1) (ix2 r d) = ∑ x : Fin 2048, x0 (ix2 r x) * x1 (ix2 x (⟨128 * k.val + d.val, by omega⟩ : Fin 2048)) := by
  pointwise [col, k1_pay1]

theorem normed_at (u : FVec Ideal S512x128 .f32) (g : Vec Ideal S1x128 .f32) (r : Fin 512) (d : Fin 128) :
    normed u g (ix2 r d) = norm (Ideal.ofBits .f32 0x43000000#32) (fun x => u (ix2 r x)) (fun x => g (ix2 0 x)) d := by
  pointwise [normed]
  rfl

theorem turned_at (n : FVec Ideal S512x128 .f32) (cs sn : Vec Ideal S512x128 .f32) (r : Fin 512) (d : Fin 128) :
    turned n cs sn (ix2 r d) = rot (fun x => n (ix2 r x)) (fun x => cs (ix2 r x)) (fun x => sn (ix2 r x)) d := by
  pointwise [turned]
  rfl

/-- A head of the product of row `r` of `h` with `w`, normalised and rotated. -/
def headAt (h : Fin 2048 → EReal) (w : Fin 2048 → Fin 128 → EReal) (g cs sn : Fin 128 → EReal) : Fin 128 → EReal :=
  rot (norm (Ideal.ofBits .f32 0x43000000#32) (fun j => ∑ x : Fin 2048, h x * w x j) g) cs sn

theorem roped_at (x0 : Vec Ideal S512x2048 .bf16) (x1 : Vec Ideal S2048x2048 .bf16) (g : Vec Ideal S1x128 .f32) (cs sn : Vec Ideal S512x128 .f32)
    (k : Fin 16) (r : Fin 512) (d : Fin 128) :
    roped (col k (k1_pay1 x0 x1)) g cs sn (ix2 r d)
      = headAt (fun x => x0 (ix2 r x)) (fun x j => x1 (ix2 x (⟨128 * k.val + j.val, by omega⟩ : Fin 2048)))
        (fun x => g (ix2 0 x)) (fun x => cs (ix2 r x)) (fun x => sn (ix2 r x)) d := by
  show turned _ _ _ _ = _
  rw [turned_at]
  unfold headAt
  refine congrArg (fun n => rot n _ _ d) (funext fun j => ?_)
  rw [normed_at]
  exact congrArg (fun u => norm _ u _ j) (funext fun x => col_at x0 x1 k r x)

/-! ## The blocks at a grid point -/

variable (V : (c : Dev nD) → (b : Ref sig .tc) → Buf (Elt Ideal) ((c : Thread nD τ).loc b)) (c : Dev nD)

theorem idx0_0 : ∀ t : Fin cfg0.N, win0_0.index t = ![t.val, 0] := by decide +kernel
theorem idx0_1 : ∀ t : Fin cfg0.N, win0_1.index t = ![0, 0] := by decide +kernel
theorem idx0_2 : ∀ t : Fin cfg0.N, win0_2.index t = ![t.val, 0] := by decide +kernel

theorem points0 : cfg0.N = 16 := by decide
theorem points1 : cfg1.N = 16 := by decide
theorem points2 : cfg2.N = 32 := by decide
theorem points3 : cfg3.N = 16 := by decide

theorem blk0_0 (t : Fin cfg0.N) (r : Fin 512) (d : Fin 2048) (R : Fin 8192) (hR : R.val = 512 * t.val + r.val) :
    iblk0 V c 0 t (ix2 r d) = V c main_v12 (ix2 R d) := by
  blk_ext [iblk0, idx0_0 t]

theorem blk0_1 (t : Fin cfg0.N) (d : Fin 2048) : iblk0 V c 1 t (ix2 0 d) = V c main_v13 (ix2 0 d) := by
  blk_ext [iblk0, idx0_1 t]

theorem idx1_0 : ∀ t : Fin cfg1.N, win1_0.index t = ![t.val, 0] := by decide +kernel
theorem idx1_1 : ∀ t : Fin cfg1.N, win1_1.index t = ![0, 0] := by decide +kernel
theorem idx1_2 : ∀ t : Fin cfg1.N, win1_2.index t = ![0, 0] := by decide +kernel
theorem idx1_3 : ∀ t : Fin cfg1.N, win1_3.index t = ![t.val, 0] := by decide +kernel
theorem idx1_4 : ∀ t : Fin cfg1.N, win1_4.index t = ![t.val, 0] := by decide +kernel
theorem idx1_5 : ∀ t : Fin cfg1.N, win1_5.index t = ![t.val, 0] := by decide +kernel

theorem blk1_0 (t : Fin cfg1.N) (r : Fin 512) (d : Fin 2048) (R : Fin 8192) (hR : R.val = 512 * t.val + r.val) :
    iblk1 V c 0 t (ix2 r d) = V c main_v14 (ix2 R d) := by
  blk_ext [iblk1, idx1_0 t]
theorem blk1_1 (t : Fin cfg1.N) (x j : Fin 2048) : iblk1 V c 1 t (ix2 x j) = V c main_v3 (ix2 x j) := by
  blk_ext [iblk1, idx1_1 t]
theorem blk1_2 (t : Fin cfg1.N) (d : Fin 128) : View.ld (iblk1 V c 2 t) r1_2 (ix2 0 d) = V c main_v1 (ix2 0 d) := by
  have e : r1_2.idx (ix2 0 d) = (ix2 0 d : S8x128.Idx) := by
    funext a
    match a with
    | ⟨0, _⟩ => rfl
    | ⟨1, _⟩ => exact Fin.ext (by show 0 + 1 * d.val = d.val; omega)
  show iblk1 V c 2 t (r1_2.idx (ix2 0 d)) = _
  rw [e]
  blk_ext [iblk1, idx1_2 t]
theorem blk1_3 (t : Fin cfg1.N) (r : Fin 512) (d : Fin 128) (R : Fin 8192) (hR : R.val = 512 * t.val + r.val) :
    iblk1 V c 3 t (ix2 r d) = V c main_v29 (ix2 R d) := by
  blk_ext [iblk1, idx1_3 t]
theorem blk1_4 (t : Fin cfg1.N) (r : Fin 512) (d : Fin 128) (R : Fin 8192) (hR : R.val = 512 * t.val + r.val) :
    iblk1 V c 4 t (ix2 r d) = V c main_v31 (ix2 R d) := by
  blk_ext [iblk1, idx1_4 t]

theorem idx2_0 : ∀ t : Fin cfg2.N, win2_0.index t = ![t.val % 16, 0] := by decide +kernel
theorem idx2_1 : ∀ t : Fin cfg2.N, win2_1.index t = ![0, t.val / 16] := by decide +kernel
theorem idx2_2 : ∀ t : Fin cfg2.N, win2_2.index t = ![0, 0] := by decide +kernel
theorem idx2_3 : ∀ t : Fin cfg2.N, win2_3.index t = ![t.val % 16, 0] := by decide +kernel
theorem idx2_4 : ∀ t : Fin cfg2.N, win2_4.index t = ![t.val % 16, 0] := by decide +kernel
theorem idx2_5 : ∀ t : Fin cfg2.N, win2_5.index t = ![t.val % 16, t.val / 16] := by decide +kernel

theorem blk2_0 (t : Fin cfg2.N) (r : Fin 512) (d : Fin 2048) (R : Fin 8192) (hR : R.val = 512 * (t.val % 16) + r.val) :
    iblk2 V c 0 t (ix2 r d) = V c main_v14 (ix2 R d) := by
  blk_ext [iblk2, idx2_0 t]
theorem blk2_1 (t : Fin cfg2.N) (x j : Fin 2048) (J : Fin 4096) (hJ : J.val = 2048 * (t.val / 16) + j.val) :
    iblk2 V c 1 t (ix2 x j) = V c main_v5 (ix2 x J) := by
  blk_ext [iblk2, idx2_1 t]
theorem blk2_2 (t : Fin cfg2.N) (d : Fin 128) :
    View.ld (iblk2 V c 2 t) (Rect.unit (s := S8x128) ![1, 0] S1x128.size inb_S8x128_S1x128_1_0) (ix2 0 d) = V c main_v1 (ix2 1 d) := by
  have e : (Rect.unit (s := S8x128) ![1, 0] S1x128.size inb_S8x128_S1x128_1_0).idx (ix2 0 d) = (ix2 1 d : S8x128.Idx) := by
    funext a
    match a with
    | ⟨0, _⟩ => rfl
    | ⟨1, _⟩ => exact Fin.ext (by show 0 + 1 * d.val = d.val; omega)
  show iblk2 V c 2 t ((Rect.unit (s := S8x128) ![1, 0] S1x128.size inb_S8x128_S1x128_1_0).idx (ix2 0 d)) = _
  rw [e]
  blk_ext [iblk2, idx2_2 t]
theorem blk2_3 (t : Fin cfg2.N) (r : Fin 512) (d : Fin 128) (R : Fin 8192) (hR : R.val = 512 * (t.val % 16) + r.val) :
    iblk2 V c 3 t (ix2 r d) = V c main_v29 (ix2 R d) := by
  blk_ext [iblk2, idx2_3 t]
theorem blk2_4 (t : Fin cfg2.N) (r : Fin 512) (d : Fin 128) (R : Fin 8192) (hR : R.val = 512 * (t.val % 16) + r.val) :
    iblk2 V c 4 t (ix2 r d) = V c main_v31 (ix2 R d) := by
  blk_ext [iblk2, idx2_4 t]

theorem idx3_0 : ∀ t : Fin cfg3.N, win3_0.index t = ![t.val, 0] := by decide +kernel
theorem idx3_1 : ∀ t : Fin cfg3.N, win3_1.index t = ![0, 0] := by decide +kernel
theorem idx3_5 : ∀ t : Fin cfg3.N, win3_5.index t = ![t.val, 0] := by decide +kernel

theorem blk3_0 (t : Fin cfg3.N) (r : Fin 512) (d : Fin 2048) (R : Fin 8192) (hR : R.val = 512 * t.val + r.val) :
    iblk3 V c 0 t (ix2 r d) = V c main_v14 (ix2 R d) := by
  blk_ext [iblk3, idx3_0 t]
theorem blk3_1 (t : Fin cfg3.N) (x j : Fin 2048) : iblk3 V c 1 t (ix2 x j) = V c main_v7 (ix2 x j) := by
  blk_ext [iblk3, idx3_1 t]

/-! ## The arrays of results -/

theorem ix_row {n k : ℕ} (y : (⟨2, ![n, k]⟩ : Shape).Idx) : y = ix2 (⟨(y 0).val, (y 0).isLt⟩ : Fin n) (⟨(y 1).val, (y 1).isLt⟩ : Fin k) := by
  funext a
  match a with
  | ⟨0, _⟩ => rfl
  | ⟨1, _⟩ => rfl

/-- The normalised rows. -/
def hiddenOut (x : Vec Ideal S8192x2048 .f32) (g : Vec Ideal S1x2048 .f32) : Vec Ideal S8192x2048 .bf16 := fun y =>
  norm (Ideal.ofBits .f32 0x45000000#32) (fun j => x (ix2 (⟨(y 0).val, (y 0).isLt⟩ : Fin 8192) j)) (fun j => g (ix2 0 j)) (⟨(y 1).val, (y 1).isLt⟩ : Fin 2048)

theorem hiddenOut_at (x : Vec Ideal S8192x2048 .f32) (g : Vec Ideal S1x2048 .f32) (R : Fin 8192) (d : Fin 2048) (y : S8192x2048.Idx)
    (h0 : (y 0).val = R.val) (h1 : (y 1).val = d.val) :
    hiddenOut x g y = norm (Ideal.ofBits .f32 0x45000000#32) (fun j => x (ix2 R j)) (fun j => g (ix2 0 j)) d := by
  have e0 : (⟨(y 0).val, (y 0).isLt⟩ : Fin 8192) = R := Fin.ext h0
  have e1 : (⟨(y 1).val, (y 1).isLt⟩ : Fin 2048) = d := Fin.ext h1
  unfold hiddenOut
  rw [e0, e1]

theorem arr0 : (dat0 V c).arrAt 2 cfg0.N = hiddenOut (V c main_v12) (V c main_v13) := by
  refine (dat0 V c).arrAt_eq_of_covers 2 _ (by decide +kernel) fun t hf y => ?_
  have hN := points0
  have htl : t.val < _ := lt_of_lt_of_eq t.isLt hN
  blk_simp
  rw [after0_2, out0_eq]
  have y0 : (y 0).val < 512 := (y 0).isLt
  have y1 : (y 1).val < 2048 := (y 1).isLt
  have h0 : (((win0_2.blk t).view.emb y) 0 : ℕ) = t.val * 512 + (y 0).val := by blk_simp [idx0_2 t]
  have h1 : (((win0_2.blk t).view.emb y) 1 : ℕ) = 0 * 2048 + (y 1).val := by blk_simp [idx0_2 t]
  refine (congrArg (k0_pay1 _ _) (ix_row y)).trans ((hidden_at _ _ _ _).trans ?_)
  refine Eq.trans ?_ (hiddenOut_at _ _ (⟨512 * t.val + (y 0).val, by omega⟩ : Fin 8192) (⟨(y 1).val, y1⟩ : Fin 2048) _
    (by rw [h0]; show _ = 512 * t.val + (y 0).val; omega) (by rw [h1]; show _ = (y 1).val; omega)).symm
  congr 1
  · funext j; exact blk0_0 V c t _ j _ rfl
  · funext j; exact blk0_1 V c t j

/-- Rows of heads normalised and rotated. -/
def ropedOut (h : Vec Ideal S8192x2048 .bf16) (w : Fin 2048 → Fin 2048 → EReal) (g : Fin 128 → EReal) (cs sn : Vec Ideal S8192x128 .f32)
    (R : Fin 8192) (k : Fin 16) (d : Fin 128) : EReal :=
  headAt (fun x => h (ix2 R x)) (fun x j => w x (⟨128 * k.val + j.val, by omega⟩ : Fin 2048)) g
    (fun x => cs (ix2 R x)) (fun x => sn (ix2 R x)) d

/-- Rows of heads as the product leaves them. -/
def plainOut (h : Vec Ideal S8192x2048 .bf16) (w : Fin 2048 → Fin 2048 → EReal) (R : Fin 8192) (k : Fin 16) (d : Fin 128) : EReal :=
  ∑ x : Fin 2048, h (ix2 R x) * w x (⟨128 * k.val + d.val, by omega⟩ : Fin 2048)

/-- An array of sixteen heads, from its entries. -/
def rows (f : Fin 8192 → Fin 16 → Fin 128 → EReal) : Vec Ideal S8192x2048 .f32 := fun y =>
  f (⟨(y 0).val, (y 0).isLt⟩ : Fin 8192) (⟨(y 1).val / 128, by have : (y 1).val < 2048 := (y 1).isLt; omega⟩ : Fin 16)
    (⟨(y 1).val % 128, by omega⟩ : Fin 128)

theorem rows_at (f : Fin 8192 → Fin 16 → Fin 128 → EReal) (R : Fin 8192) (k : Fin 16) (d : Fin 128) (y : S8192x2048.Idx)
    (h0 : (y 0).val = R.val) (h1 : (y 1).val = 128 * k.val + d.val) : rows f y = f R k d := by
  have e0 : (⟨(y 0).val, (y 0).isLt⟩ : Fin 8192) = R := Fin.ext h0
  have e1 : (⟨(y 1).val / 128, by have : (y 1).val < 2048 := (y 1).isLt; omega⟩ : Fin 16) = k := Fin.ext (by show (y 1).val / 128 = _; omega)
  have e2 : (⟨(y 1).val % 128, by omega⟩ : Fin 128) = d := Fin.ext (by show (y 1).val % 128 = _; omega)
  unfold rows
  rw [e0, e1, e2]

/-- An array of two sets of sixteen heads, from its entries. -/
def rows2 (f : Fin 2 → Fin 8192 → Fin 16 → Fin 128 → EReal) : Vec Ideal S8192x4096 .f32 := fun y =>
  f (⟨(y 1).val / 2048, by have : (y 1).val < 4096 := (y 1).isLt; omega⟩ : Fin 2) (⟨(y 0).val, (y 0).isLt⟩ : Fin 8192)
    (⟨(y 1).val / 128 % 16, by omega⟩ : Fin 16) (⟨(y 1).val % 128, by omega⟩ : Fin 128)

theorem rows2_at (f : Fin 2 → Fin 8192 → Fin 16 → Fin 128 → EReal) (s : Fin 2) (R : Fin 8192) (k : Fin 16) (d : Fin 128) (y : S8192x4096.Idx)
    (h0 : (y 0).val = R.val) (h1 : (y 1).val = 2048 * s.val + (128 * k.val + d.val)) : rows2 f y = f s R k d := by
  have e0 : (⟨(y 0).val, (y 0).isLt⟩ : Fin 8192) = R := Fin.ext h0
  have e1 : (⟨(y 1).val / 2048, by have : (y 1).val < 4096 := (y 1).isLt; omega⟩ : Fin 2) = s := Fin.ext (by show (y 1).val / 2048 = _; omega)
  have e2 : (⟨(y 1).val / 128 % 16, by omega⟩ : Fin 16) = k := Fin.ext (by show (y 1).val / 128 % 16 = _; omega)
  have e3 : (⟨(y 1).val % 128, by omega⟩ : Fin 128) = d := Fin.ext (by show (y 1).val % 128 = _; omega)
  unfold rows2
  rw [e0, e1, e2, e3]

theorem arr1 : (dat1 V c).arrAt 5 cfg1.N = rows (ropedOut (V c main_v14) (fun x j => V c main_v3 (ix2 x j))
    (fun d => V c main_v1 (ix2 0 d)) (V c main_v29) (V c main_v31)) := by
  refine (dat1 V c).arrAt_eq_of_covers 5 _ (by decide +kernel) fun t hf y => ?_
  have hN := points1
  have htl : t.val < _ := lt_of_lt_of_eq t.isLt hN
  blk_simp
  rw [after1_5, out1_eq]
  have y0 : (y 0).val < 512 := (y 0).isLt
  have y1 : (y 1).val < 2048 := (y 1).isLt
  have h0 : (((win1_5.blk t).view.emb y) 0 : ℕ) = t.val * 512 + (y 0).val := by blk_simp [idx1_5 t]
  have h1 : (((win1_5.blk t).view.emb y) 1 : ℕ) = 0 * 2048 + (y 1).val := by blk_simp [idx1_5 t]
  refine (tile_at _ (⟨(y 0).val, y0⟩ : Fin 512) (⟨(y 1).val / 128, by omega⟩ : Fin 16) (⟨(y 1).val % 128, by omega⟩ : Fin 128) _ rfl
    (by show (y 1).val = 128 * ((y 1).val / 128) + (y 1).val % 128; omega)).trans ((roped_at _ _ _ _ _ _ _ _).trans ?_)
  refine Eq.trans ?_ (rows_at _ (⟨512 * t.val + (y 0).val, by omega⟩ : Fin 8192) (⟨(y 1).val / 128, by omega⟩ : Fin 16) (⟨(y 1).val % 128, by omega⟩ : Fin 128) _
    (by rw [h0]; show _ = 512 * t.val + (y 0).val; omega) (by rw [h1]; show _ = 128 * ((y 1).val / 128) + (y 1).val % 128; omega)).symm
  unfold ropedOut
  congr 1
  · funext x; exact blk1_0 V c t _ x _ rfl
  · funext x j; exact blk1_1 V c t x _
  · funext d; exact blk1_2 V c t d
  · funext d; exact blk1_3 V c t _ d _ rfl
  · funext d; exact blk1_4 V c t _ d _ rfl

theorem arr3 : (dat3 V c).arrAt 5 cfg3.N = rows (plainOut (V c main_v14) (fun x j => V c main_v7 (ix2 x j))) := by
  refine (dat3 V c).arrAt_eq_of_covers 5 _ (by decide +kernel) fun t hf y => ?_
  have hN := points3
  have htl : t.val < _ := lt_of_lt_of_eq t.isLt hN
  blk_simp
  rw [after3_5, out3_eq]
  have y0 : (y 0).val < 512 := (y 0).isLt
  have y1 : (y 1).val < 2048 := (y 1).isLt
  have h0 : (((win3_5.blk t).view.emb y) 0 : ℕ) = t.val * 512 + (y 0).val := by blk_simp [idx3_5 t]
  have h1 : (((win3_5.blk t).view.emb y) 1 : ℕ) = 0 * 2048 + (y 1).val := by blk_simp [idx3_5 t]
  refine (tile_at _ (⟨(y 0).val, y0⟩ : Fin 512) (⟨(y 1).val / 128, by omega⟩ : Fin 16) (⟨(y 1).val % 128, by omega⟩ : Fin 128) _ rfl
    (by show (y 1).val = 128 * ((y 1).val / 128) + (y 1).val % 128; omega)).trans ((col_at _ _ _ _ _).trans ?_)
  refine Eq.trans ?_ (rows_at _ (⟨512 * t.val + (y 0).val, by omega⟩ : Fin 8192) (⟨(y 1).val / 128, by omega⟩ : Fin 16) (⟨(y 1).val % 128, by omega⟩ : Fin 128) _
    (by rw [h0]; show _ = 512 * t.val + (y 0).val; omega) (by rw [h1]; show _ = 128 * ((y 1).val / 128) + (y 1).val % 128; omega)).symm
  exact Finset.sum_congr rfl fun x _ => congr (congrArg _ (blk3_0 V c t _ x _ rfl)) (blk3_1 V c t x _)

/-- Keys, then values. -/
def kvOut (h : Vec Ideal S8192x2048 .bf16) (w : Vec Ideal S2048x4096 .bf16) (g : Fin 128 → EReal) (cs sn : Vec Ideal S8192x128 .f32)
    (s : Fin 2) (R : Fin 8192) (k : Fin 16) (d : Fin 128) : EReal :=
  if s.val = 0 then ropedOut h (fun x j => w (ix2 x (⟨2048 * s.val + j.val, by omega⟩ : Fin 4096))) g cs sn R k d
  else plainOut h (fun x j => w (ix2 x (⟨2048 * s.val + j.val, by omega⟩ : Fin 4096))) R k d

theorem arr2 : (dat2 V c).arrAt 5 cfg2.N = rows2 (kvOut (V c main_v14) (V c main_v5)
    (fun d => V c main_v1 (ix2 1 d)) (V c main_v29) (V c main_v31)) := by
  refine (dat2 V c).arrAt_eq_of_covers 5 _ (by decide +kernel) fun t hf y => ?_
  have hN := points2
  have htl : t.val < _ := lt_of_lt_of_eq t.isLt hN
  blk_simp
  rw [after2_5]
  have y0 : (y 0).val < 512 := (y 0).isLt
  have y1 : (y 1).val < 2048 := (y 1).isLt
  have h0 : (((win2_5.blk t).view.emb y) 0 : ℕ) = t.val % 16 * 512 + (y 0).val := by blk_simp [idx2_5 t]
  have h1 : (((win2_5.blk t).view.emb y) 1 : ℕ) = t.val / 16 * 2048 + (y 1).val := by blk_simp [idx2_5 t]
  refine Eq.trans ?_ (rows2_at _ (⟨t.val / 16, by omega⟩ : Fin 2) (⟨512 * (t.val % 16) + (y 0).val, by omega⟩ : Fin 8192)
    (⟨(y 1).val / 128, by omega⟩ : Fin 16) (⟨(y 1).val % 128, by omega⟩ : Fin 128) _
    (by rw [h0]; show _ = 512 * (t.val % 16) + (y 0).val; omega)
    (by rw [h1]; show _ = 2048 * (t.val / 16) + (128 * ((y 1).val / 128) + (y 1).val % 128); omega)).symm
  unfold kvOut
  by_cases ht : t.val < 16
  · rw [if_pos (show t.val / 16 = 0 by omega), outsAt2_A V c t ht (by omega), out2_A_eq]
    refine (tile_at _ (⟨(y 0).val, y0⟩ : Fin 512) (⟨(y 1).val / 128, by omega⟩ : Fin 16) (⟨(y 1).val % 128, by omega⟩ : Fin 128) _ rfl
      (by show (y 1).val = 128 * ((y 1).val / 128) + (y 1).val % 128; omega)).trans ((roped_at _ _ _ _ _ _ _ _).trans ?_)
    unfold ropedOut
    congr 1
    · funext x; exact blk2_0 V c t _ x _ rfl
    · funext x j; exact blk2_1 V c t x _ _ rfl
    · funext d; exact blk2_2 V c t d
    · funext d; exact blk2_3 V c t _ d _ rfl
    · funext d; exact blk2_4 V c t _ d _ rfl
  · rw [if_neg (show ¬t.val / 16 = 0 by omega), outsAt2_B V c t ht (by omega), out2_B_eq]
    refine (tile_at _ (⟨(y 0).val, y0⟩ : Fin 512) (⟨(y 1).val / 128, by omega⟩ : Fin 16) (⟨(y 1).val % 128, by omega⟩ : Fin 128) _ rfl
      (by show (y 1).val = 128 * ((y 1).val / 128) + (y 1).val % 128; omega)).trans ((col_at _ _ _ _ _).trans ?_)
    exact Finset.sum_congr rfl fun x _ => congr (congrArg _ (blk2_0 V c t _ x _ rfl)) (blk2_1 V c t x _ _ rfl)

end Cert.Kernel2Ideal.Odd

end
-- ==== Proof.Odd.Run.lean ====
/-
The run of the odd layer's projections, with every array of the machine's memory as the last call leaves it.
-/
module

public import proofs.«01_k».proof.Proof.Gen.Kernel2Ideal.Frame
public import Idealize.ShloMosaic.PureOps.IdealRules

@[expose] public section

set_option maxRecDepth 16384

noncomputable section

namespace Cert.Kernel2Ideal.Odd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends, with each buffer of the program at the contents after the fourth call. -/
theorem run_all : θ_run defs (onTc (τ := τ) (main (F := Ideal))) ⟨m, fun _ => 0, ρ⟩ (fun r => ∀ (c : Dev nD) (b : Ref sig .tc),
      ¬(Proc.devRef .tc b : DevRef τ sig).isScoped → r.2.mem ((c.tc : Thread nD τ).loc b) = W6 m ρ c (Proc.devRef .tc b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c r hr => h c _ (mem_uc r hr))

end Cert.Kernel2Ideal.Odd

end
-- ==== Proof.Odd.Arrays.lean ====
/-
What the program's host operations leave in the arrays of the four calls, and the three results entry by entry, from the arguments.
-/
module

public import proofs.«01_k».proof.Proof.Odd.KernelAt
public import proofs.«01_k».proof.Proof.Odd.Run

@[expose] public section

set_option maxRecDepth 16384

noncomputable section

namespace Cert.Kernel2Ideal.Odd

open Idealize.ShloMosaic Idealize.ShloMosaic.TcCoe Idealize.ShloMosaic.Tactic
open Idealize.SL.Sem
open Cert.Kernel2Ideal Cert.Kernel2Ideal.Gen
open Cert.Odd (norm rot)

variable (m : (ℓ : Loc nD τ sig) → Buf (Elt Ideal) ℓ) (ρ : Dev nD → PrngReg) (c : Dev nD)

/-! ## The arguments -/

/-- The layer's input. -/
def argX : Vec Ideal S2x4096x2048 .f32 := m ((c.tc : Thread nD τ).loc main_arg0)
/-- The scale of its norm. -/
def argG : Vec Ideal S2048 .f32 := m ((c.tc : Thread nD τ).loc main_arg1)
/-- The projection. -/
def argW : Vec Ideal S2048x8192 .f32 := m ((c.tc : Thread nD τ).loc main_arg2)
/-- The scales of the queries' and the keys' norms. -/
def argN : Vec Ideal S2x128 .f32 := m ((c.tc : Thread nD τ).loc main_arg3)

/-! ## Before the first call -/

theorem W1_v12 : W1 m ρ c (Proc.devRef .tc main_v12) = shapeCast S8192x2048 (argX m c) shapeCasts_S2x4096x2048_S8192x2048 := by
  simp only [W1, hostOps0, List.flatten_cons, List.flatten_nil, List.append_nil, List.cons_append, List.nil_append, StableHlo.TRef.unary,
    StableHlo.TRef.binary, StableHlo.TRef.toBuf, StableHlo.TRef.ofBuf, cast_eq]
  after_results_simp
  rfl

theorem W1_v13 : W1 m ρ c (Proc.devRef .tc main_v13) = shapeCast S1x2048 (argG m c) shapeCasts_S2048_S1x2048 := by
  simp only [W1, hostOps0, List.flatten_cons, List.flatten_nil, List.append_nil, List.cons_append, List.nil_append, StableHlo.TRef.unary,
    StableHlo.TRef.binary, StableHlo.TRef.toBuf, StableHlo.TRef.ofBuf, cast_eq]
  after_results_simp
  rfl

theorem W1_v1 : W1 m ρ c (Proc.devRef .tc main_v1) = concatenate S8x128 0 [⟨S2x128, argN m c⟩,
    ⟨S6x128, broadcastInDim S6x128 ![] bcast_S_S6x128 (constant (F := Ideal) S_ .f32 0x00000000#32)⟩] concatenates_S2x128_S6x128_S8x128_d0 := by
  simp only [W1, hostOps0, List.flatten_cons, List.flatten_nil, List.append_nil, List.cons_append, List.nil_append, StableHlo.TRef.unary,
    StableHlo.TRef.binary, StableHlo.TRef.toBuf, StableHlo.TRef.ofBuf, cast_eq]
  after_results_simp
  rfl

theorem W1_v3 : W1 m ρ c (Proc.devRef .tc main_v3)
    = (truncf .bf16 (extractStridedSlice S2048x2048 ![0, 0] (argW m c) slices_S2048x8192_S2048x2048_0_0 : FVec Ideal S2048x2048 .f32) bitsLt_bf16_f32 : FVec Ideal S2048x2048 .bf16) := by
  simp only [W1, hostOps0, List.flatten_cons, List.flatten_nil, List.append_nil, List.cons_append, List.nil_append, StableHlo.TRef.unary,
    StableHlo.TRef.binary, StableHlo.TRef.toBuf, StableHlo.TRef.ofBuf, cast_eq]
  after_results_simp
  rfl

theorem W1_v5 : W1 m ρ c (Proc.devRef .tc main_v5)
    = (truncf .bf16 (extractStridedSlice S2048x4096 ![0, 2048] (argW m c) slices_S2048x8192_S2048x4096_0_2048 : FVec Ideal S2048x4096 .f32) bitsLt_bf16_f32 : FVec Ideal S2048x4096 .bf16) := by
  simp only [W1, hostOps0, List.flatten_cons, List.flatten_nil, List.append_nil, List.cons_append, List.nil_append, StableHlo.TRef.unary,
    StableHlo.TRef.binary, StableHlo.TRef.toBuf, StableHlo.TRef.ofBuf, cast_eq]
  after_results_simp
  rfl

theorem W1_v7 : W1 m ρ c (Proc.devRef .tc main_v7)
    = (truncf .bf16 (extractStridedSlice S2048x2048 ![0, 6144] (argW m c) slices_S2048x8192_S2048x2048_0_6144 : FVec Ideal S2048x2048 .f32) bitsLt_bf16_f32 : FVec Ideal S2048x2048 .bf16) := by
  simp only [W1, hostOps0, List.flatten_cons, List.flatten_nil, List.append_nil, List.cons_append, List.nil_append, StableHlo.TRef.unary,
    StableHlo.TRef.binary, StableHlo.TRef.toBuf, StableHlo.TRef.ofBuf, cast_eq]
  after_results_simp
  rfl

/-- The position of each row. -/
def places : IVec S8192 32 :=
  shapeCast S8192 (broadcastInDim S2x4096 ![0, 1] bcast_S1x4096_S2x4096_0_1
    (shapeCast S1x4096 (iotaInDim S4096 32 0) shapeCasts_S4096_S1x4096)) shapeCasts_S2x4096_S8192

theorem W1_v11 : W1 m ρ c (Proc.devRef .tc main_v11) = places := by
  simp only [W1, hostOps0, List.flatten_cons, List.flatten_nil, List.append_nil, List.cons_append, List.nil_append, StableHlo.TRef.unary,
    StableHlo.TRef.binary, StableHlo.TRef.toBuf, StableHlo.TRef.ofBuf, cast_eq]
  after_results_simp
  rfl

/-! ## Before the second call -/

/-- The angles. -/
def angles (p : IVec S8192 32) : FVec Ideal S8192x64 .f32 :=
  mulf (broadcastInDim S8192x64 ![0, 1] bcast_S8192x1_S8192x64_0_1
      (broadcastInDim S8192x1 ![0] bcast_S8192_S8192x1_0 (sitofp .f32 p : FVec Ideal S8192 .f32)) : FVec Ideal S8192x64 .f32)
    (broadcastInDim S8192x64 ![0, 1] bcast_S1x64_S8192x64_0_1 (broadcastInDim S1x64 ![1] bcast_S64_S1x64_1
      (Host.powf (broadcastInDim S64 ![] bcast_S_S64 (constant (F := Ideal) S_ .f32 0x461C4000#32))
        (Host.divf (Host.negf (sitofp .f32 (iotaInDim S64 32 0) : FVec Ideal S64 .f32))
          (broadcastInDim S64 ![] bcast_S_S64 (constant (F := Ideal) S_ .f32 0x42800000#32))) : FVec Ideal S64 .f32)))

/-- The table of cosines. -/
def cosines (p : IVec S8192 32) : FVec Ideal S8192x128 .f32 :=
  concatenate S8192x128 1 [⟨S8192x64, (Host.cos (angles p) : FVec Ideal S8192x64 .f32)⟩, ⟨S8192x64, (Host.cos (angles p) : FVec Ideal S8192x64 .f32)⟩]
    concatenates_S8192x64_S8192x64_S8192x128_d1

/-- The table of sines, those of the first half negated. -/
def sines (p : IVec S8192 32) : FVec Ideal S8192x128 .f32 :=
  concatenate S8192x128 1 [⟨S8192x64, (Host.negf (Host.sin (angles p)) : FVec Ideal S8192x64 .f32)⟩, ⟨S8192x64, (Host.sin (angles p) : FVec Ideal S8192x64 .f32)⟩]
    concatenates_S8192x64_S8192x64_S8192x128_d1

theorem W3_v29 : W3 m ρ c (Proc.devRef .tc main_v29) = cosines (W2 m ρ c (Proc.devRef .tc main_v11)) := by
  simp only [W3, hostOps1, List.flatten_cons, List.flatten_nil, List.append_nil, List.cons_append, List.nil_append, StableHlo.TRef.unary,
    StableHlo.TRef.binary, StableHlo.TRef.toBuf, StableHlo.TRef.ofBuf, cast_eq]
  after_results_simp
  rfl

theorem W3_v31 : W3 m ρ c (Proc.devRef .tc main_v31) = sines (W2 m ρ c (Proc.devRef .tc main_v11)) := by
  simp only [W3, hostOps1, List.flatten_cons, List.flatten_nil, List.append_nil, List.cons_append, List.nil_append, StableHlo.TRef.unary,
    StableHlo.TRef.binary, StableHlo.TRef.toBuf, StableHlo.TRef.ofBuf, cast_eq]
  after_results_simp
  rfl

theorem angles_at (p : IVec S8192 32) (R : Fin 8192) (d : Fin 64) :
    angles p (ix2 R d) = (FloatOps.sitofp (F := Ideal) .f32 (p (ix1 R)) : EReal) * Ideal.pow (Ideal.ofBits .f32 0x461C4000#32)
      (Ideal.div (-(FloatOps.sitofp (F := Ideal) .f32 (BitVec.ofNat 32 d.val) : EReal)) (Ideal.ofBits .f32 0x42800000#32)) := by
  pointwise [angles]

theorem places_at (R : Fin 8192) (b : Fin 2) (q : Fin 4096) (h : R.val = 4096 * b.val + q.val) :
    places (ix1 R) = BitVec.ofNat 32 q.val := by
  unfold places
  refine (shapeCast_apply _ _ _ (ix2 b q) ?_).trans ?_
  · rw [Shape.rowMajor_val_two, Shape.rowMajor_val_one]
    show b.val * 4096 + q.val = R.val
    omega
  · pointwise

theorem angles_eq (R : Fin 8192) (b : Fin 2) (q : Fin 4096) (h : R.val = 4096 * b.val + q.val) (d : Fin 64) :
    angles places (ix2 R d) = Cert.Odd.angle q d := by
  rw [angles_at, places_at R b q h]
  rfl

theorem cosines_at (p : IVec S8192 32) (R : Fin 8192) (d : Fin 128) :
    cosines p (ix2 R d) = Ideal.cos (angles p (ix2 R (⟨d.val % 64, by omega⟩ : Fin 64))) := by
  have e : cosines p (ix2 R d) = if h : d.val < 64 then Ideal.cos (angles p (ix2 R (⟨d.val, h⟩ : Fin 64))) else Ideal.cos (angles p (ix2 R (⟨d.val - 64, by omega⟩ : Fin 64))) := by
    pointwise [cosines]
  rw [e]
  by_cases h : d.val < 64
  · rw [dif_pos h]; congr; omega
  · rw [dif_neg h]; congr 4; omega

theorem sines_at (p : IVec S8192 32) (R : Fin 8192) (d : Fin 128) :
    sines p (ix2 R d) = if d.val < 64 then -Ideal.sin (angles p (ix2 R (⟨d.val % 64, by omega⟩ : Fin 64))) else Ideal.sin (angles p (ix2 R (⟨d.val % 64, by omega⟩ : Fin 64))) := by
  have e : sines p (ix2 R d) = if h : d.val < 64 then -Ideal.sin (angles p (ix2 R (⟨d.val, h⟩ : Fin 64))) else Ideal.sin (angles p (ix2 R (⟨d.val - 64, by omega⟩ : Fin 64))) := by
    pointwise [sines]
  rw [e]
  by_cases h : d.val < 64
  · rw [dif_pos h, if_pos h]; congr; omega
  · rw [dif_neg h, if_neg h]; congr 4; omega

/-! ## The arrays at their entries -/

theorem rowsX_at (R : Fin 8192) (b : Fin 2) (q : Fin 4096) (h : R.val = 4096 * b.val + q.val) (x : Fin 2048) :
    shapeCast S8192x2048 (argX m c) shapeCasts_S2x4096x2048_S8192x2048 (ix2 R x) = argX m c (ix3 b q x) := by
  refine shapeCast_apply _ _ _ (ix3 b q x) ?_
  rw [Shape.rowMajor_val_three, Shape.rowMajor_val_two]
  show (b.val * 4096 + q.val) * 2048 + x.val = R.val * 2048 + x.val
  omega

theorem rowG_at (x : Fin 2048) : shapeCast S1x2048 (argG m c) shapeCasts_S2048_S1x2048 (ix2 0 x) = argG m c (ix1 x) := by
  pointwise

theorem scales_at (i : Fin 2) (d : Fin 128) : W1 m ρ c (Proc.devRef .tc main_v1) (ix2 (⟨i.val, by omega⟩ : Fin 8) d) = argN m c (ix2 i d) := by
  rw [W1_v1]
  have e : ∀ (r : Fin 8) (h : r.val < 2), (concatenate S8x128 0 [⟨S2x128, argN m c⟩,
      ⟨S6x128, broadcastInDim S6x128 ![] bcast_S_S6x128 (constant (F := Ideal) S_ .f32 0x00000000#32)⟩] concatenates_S2x128_S6x128_S8x128_d0 : Vec Ideal S8x128 .f32) (ix2 r d)
        = argN m c (ix2 (⟨r.val, h⟩ : Fin 2) d) := fun r h => by
    pointwise
    rw [dif_pos h]
  exact e _ i.isLt

theorem w3_at (x j : Fin 2048) : W1 m ρ c (Proc.devRef .tc main_v3) (ix2 x j) = argW m c (ix2 x (⟨j.val, by omega⟩ : Fin 8192)) := by
  rw [W1_v3]
  pointwise

theorem w5_at (x : Fin 2048) (j : Fin 4096) : W1 m ρ c (Proc.devRef .tc main_v5) (ix2 x j) = argW m c (ix2 x (⟨2048 + j.val, by omega⟩ : Fin 8192)) := by
  rw [W1_v5]
  pointwise

theorem w7_at (x j : Fin 2048) : W1 m ρ c (Proc.devRef .tc main_v7) (ix2 x j) = argW m c (ix2 x (⟨6144 + j.val, by omega⟩ : Fin 8192)) := by
  rw [W1_v7]
  pointwise

/-! ## What the calls find -/

theorem V1_v12 : V1 m ρ c main_v12 = shapeCast S8192x2048 (argX m c) shapeCasts_S2x4096x2048_S8192x2048 := W1_v12 m ρ c
theorem V1_v13 : V1 m ρ c main_v13 = shapeCast S1x2048 (argG m c) shapeCasts_S2048_S1x2048 := W1_v13 m ρ c

/-- The normalised input, as the first call leaves it. -/
def hiddens : Vec Ideal S8192x2048 .bf16 :=
  hiddenOut (shapeCast S8192x2048 (argX m c) shapeCasts_S2x4096x2048_S8192x2048) (shapeCast S1x2048 (argG m c) shapeCasts_S2048_S1x2048)

theorem W2_v14 : W2 m ρ c (Proc.devRef .tc main_v14) = hiddens m c :=
  (W2_arr m ρ c 2).trans ((arr0 (V1 m ρ) c).trans (by rw [V1_v12, V1_v13]; rfl))

theorem W2_v11 : W2 m ρ c (Proc.devRef .tc main_v11) = places := (W2_of m ρ c main_v11 (by decide +kernel)).trans (W1_v11 m ρ c)

theorem W3_v14 : W3 m ρ c (Proc.devRef .tc main_v14) = hiddens m c := (W3_of m ρ c main_v14 (by decide +kernel)).trans (W2_v14 m ρ c)
theorem W3_cos : W3 m ρ c (Proc.devRef .tc main_v29) = cosines places := (W3_v29 m ρ c).trans (by rw [W2_v11])
theorem W3_sin : W3 m ρ c (Proc.devRef .tc main_v31) = sines places := (W3_v31 m ρ c).trans (by rw [W2_v11])

/-- What neither the first call nor the host operations after it write. -/
theorem W3_W1 (r : Ref sig .tc) (h1 : r ∉ hostOps1_W) (h2 : ∀ w : Fin cfg0.W, Pipeline.arrRef spec0 w = r → (cfg0.win w).isOut = false) :
    W3 m ρ c (Proc.devRef .tc r) = W1 m ρ c (Proc.devRef .tc r) := (W3_of m ρ c r h1).trans (W2_of m ρ c r h2)

theorem V3_v14 : V3 m ρ c main_v14 = hiddens m c := W3_v14 m ρ c
theorem V3_v29 : V3 m ρ c main_v29 = cosines places := W3_cos m ρ c
theorem V3_v31 : V3 m ρ c main_v31 = sines places := W3_sin m ρ c
theorem V3_v1 : V3 m ρ c main_v1 = W1 m ρ c (Proc.devRef .tc main_v1) := W3_W1 m ρ c main_v1 (by decide +kernel) (by decide +kernel)
theorem V3_v3 : V3 m ρ c main_v3 = W1 m ρ c (Proc.devRef .tc main_v3) := W3_W1 m ρ c main_v3 (by decide +kernel) (by decide +kernel)
theorem V3_v5 : V3 m ρ c main_v5 = W1 m ρ c (Proc.devRef .tc main_v5) := W3_W1 m ρ c main_v5 (by decide +kernel) (by decide +kernel)
theorem V3_v7 : V3 m ρ c main_v7 = W1 m ρ c (Proc.devRef .tc main_v7) := W3_W1 m ρ c main_v7 (by decide +kernel) (by decide +kernel)
theorem V4_v14 : V4 m ρ c main_v14 = hiddens m c := (W4_of m ρ c main_v14 (by decide +kernel)).trans (V3_v14 m ρ c)
theorem V4_v29 : V4 m ρ c main_v29 = cosines places := (W4_of m ρ c main_v29 (by decide +kernel)).trans (V3_v29 m ρ c)
theorem V4_v31 : V4 m ρ c main_v31 = sines places := (W4_of m ρ c main_v31 (by decide +kernel)).trans (V3_v31 m ρ c)
theorem V4_v1 : V4 m ρ c main_v1 = W1 m ρ c (Proc.devRef .tc main_v1) := (W4_of m ρ c main_v1 (by decide +kernel)).trans (V3_v1 m ρ c)
theorem V4_v5 : V4 m ρ c main_v5 = W1 m ρ c (Proc.devRef .tc main_v5) := (W4_of m ρ c main_v5 (by decide +kernel)).trans (V3_v5 m ρ c)
theorem V4_v7 : V4 m ρ c main_v7 = W1 m ρ c (Proc.devRef .tc main_v7) := (W4_of m ρ c main_v7 (by decide +kernel)).trans (V3_v7 m ρ c)
theorem V5_v14 : V5 m ρ c main_v14 = hiddens m c := (W5_of m ρ c main_v14 (by decide +kernel)).trans (V4_v14 m ρ c)
theorem V5_v7 : V5 m ρ c main_v7 = W1 m ρ c (Proc.devRef .tc main_v7) := (W5_of m ρ c main_v7 (by decide +kernel)).trans (V4_v7 m ρ c)

/-! ## The results, entry by entry -/

/-- The arguments by their entries. -/
abbrev X (b : Fin 2) (q : Fin 4096) (x : Fin 2048) : EReal := argX m c (ix3 b q x)
abbrev G (x : Fin 2048) : EReal := argG m c (ix1 x)
abbrev W (x : Fin 2048) (j : Fin 8192) : EReal := argW m c (ix2 x j)
abbrev N (i : Fin 2) (d : Fin 128) : EReal := argN m c (ix2 i d)

theorem hiddens_at (R : Fin 8192) (b : Fin 2) (q : Fin 4096) (h : R.val = 4096 * b.val + q.val) (x : Fin 2048) :
    hiddens m c (ix2 R x) = Cert.Odd.hid (X m c) (G m c) b q x := by
  refine (hiddenOut_at _ _ R x _ rfl rfl).trans ?_
  unfold Cert.Odd.hid
  congr 1
  · funext j; exact rowsX_at m c R b q h j
  · funext j; exact rowG_at m c j

theorem plain_at (w : Fin 2048 → Fin 2048 → EReal) (s : Fin 4)
    (hw : ∀ x j, w x j = W m c x (⟨2048 * s.val + j.val, by omega⟩ : Fin 8192))
    (R : Fin 8192) (b : Fin 2) (q : Fin 4096) (h : R.val = 4096 * b.val + q.val) (k : Fin 16) (d : Fin 128) :
    plainOut (hiddens m c) w R k d = Cert.Odd.part (X m c) (G m c) (W m c) s b q k d := by
  unfold plainOut Cert.Odd.part
  exact Finset.sum_congr rfl fun x _ => by rw [hiddens_at m c R b q h, hw]

theorem turn_at (w : Fin 2048 → Fin 2048 → EReal) (g : Fin 128 → EReal) (i : Fin 2)
    (hw : ∀ x j, w x j = W m c x (⟨2048 * i.val + j.val, by omega⟩ : Fin 8192)) (hg : ∀ d, g d = N m c i d)
    (R : Fin 8192) (b : Fin 2) (q : Fin 4096) (h : R.val = 4096 * b.val + q.val) (k : Fin 16) (d : Fin 128) :
    ropedOut (hiddens m c) w g (cosines places) (sines places) R k d
      = Cert.Odd.roped (X m c) (G m c) (W m c) (N m c) i b q k d := by
  unfold ropedOut headAt Cert.Odd.roped
  rw [Cert.Odd.rot_eq _ _ _ q (fun d => by rw [cosines_at, angles_eq R b q h]) (fun d => by rw [sines_at, angles_eq R b q h])]
  have e : ∀ j : Fin 128, (∑ x : Fin 2048, hiddens m c (ix2 R x) * w x (⟨128 * k.val + j.val, by omega⟩ : Fin 2048))
      = Cert.Odd.part (X m c) (G m c) (W m c) (⟨i.val, by omega⟩ : Fin 4) b q k j := fun j =>
    plain_at m c w (⟨i.val, by omega⟩ : Fin 4) hw R b q h k j
  rw [funext e, funext hg]

variable (R : Fin 8192) (b : Fin 2) (q : Fin 4096) (hR : R.val = 4096 * b.val + q.val) (k : Fin 16) (d : Fin 128)
include hR

/-- The queries. -/
theorem q_at (y : S8192x2048.Idx) (h0 : (y 0).val = R.val) (h1 : (y 1).val = 128 * k.val + d.val) :
    W6 m ρ c (Proc.devRef .tc main_v32) y = Cert.Odd.roped (X m c) (G m c) (W m c) (N m c) 0 b q k d := by
  have e : W6 m ρ c (Proc.devRef .tc main_v32) = (dat1 (V3 m ρ) c).arrAt 5 cfg1.N :=
    (W6_of m ρ c main_v32 (by decide +kernel)).trans ((W5_of m ρ c main_v32 (by decide +kernel)).trans (W4_arr m ρ c 5))
  rw [e, arr1]
  refine (rows_at _ R k d y h0 h1).trans ?_
  rw [V3_v14, V3_v29, V3_v31, V3_v1, V3_v3]
  refine turn_at m c _ _ 0 (fun x j => (w3_at m ρ c x j).trans ?_) (fun d => scales_at m ρ c 0 d) R b q hR k d
  exact congrArg (fun z => argW m c (ix2 x z)) (Fin.ext (by show j.val = 2048 * 0 + j.val; omega))

/-- The keys. -/
theorem k_at (y : S8192x4096.Idx) (h0 : (y 0).val = R.val) (h1 : (y 1).val = 128 * k.val + d.val) :
    W6 m ρ c (Proc.devRef .tc main_v33) y = Cert.Odd.roped (X m c) (G m c) (W m c) (N m c) 1 b q k d := by
  have e : W6 m ρ c (Proc.devRef .tc main_v33) = (dat2 (V4 m ρ) c).arrAt 5 cfg2.N :=
    (W6_of m ρ c main_v33 (by decide +kernel)).trans (W5_arr m ρ c 5)
  rw [e, arr2]
  refine (rows2_at _ 0 R k d y h0 (by rw [h1]; show _ = 2048 * 0 + _; omega)).trans ?_
  unfold kvOut
  rw [if_pos (show ((0 : Fin 2).val = 0) from rfl), V4_v14, V4_v29, V4_v31, V4_v1, V4_v5]
  refine turn_at m c _ _ 1 (fun x j => (w5_at m ρ c x _).trans ?_) (fun d => scales_at m ρ c 1 d) R b q hR k d
  exact congrArg (fun z => argW m c (ix2 x z)) (Fin.ext (by show 2048 + (2048 * 0 + j.val) = 2048 * 1 + j.val; omega))

/-- The values. -/
theorem v_at (y : S8192x4096.Idx) (h0 : (y 0).val = R.val) (h1 : (y 1).val = 2048 + (128 * k.val + d.val)) :
    W6 m ρ c (Proc.devRef .tc main_v33) y = Cert.Odd.part (X m c) (G m c) (W m c) 2 b q k d := by
  have e : W6 m ρ c (Proc.devRef .tc main_v33) = (dat2 (V4 m ρ) c).arrAt 5 cfg2.N :=
    (W6_of m ρ c main_v33 (by decide +kernel)).trans (W5_arr m ρ c 5)
  rw [e, arr2]
  refine (rows2_at _ 1 R k d y h0 (by rw [h1]; show _ = 2048 * 1 + _; omega)).trans ?_
  unfold kvOut
  rw [if_neg (show ¬((1 : Fin 2).val = 0) by decide), V4_v14, V4_v5]
  refine plain_at m c _ 2 (fun x j => (w5_at m ρ c x _).trans ?_) R b q hR k d
  exact congrArg (fun z => argW m c (ix2 x z)) (Fin.ext (by show 2048 + (2048 * 1 + j.val) = 2048 * 2 + j.val; omega))

/-- The gates. -/
theorem z_at (y : S8192x2048.Idx) (h0 : (y 0).val = R.val) (h1 : (y 1).val = 128 * k.val + d.val) :
    W6 m ρ c (Proc.devRef .tc main_v34) y = Cert.Odd.part (X m c) (G m c) (W m c) 3 b q k d := by
  have e : W6 m ρ c (Proc.devRef .tc main_v34) = (dat3 (V5 m ρ) c).arrAt 5 cfg3.N := W6_arr m ρ c 5
  rw [e, arr3]
  refine (rows_at _ R k d y h0 h1).trans ?_
  rw [V5_v14, V5_v7]
  refine plain_at m c _ 3 (fun x j => (w7_at m ρ c x j).trans ?_) R b q hR k d
  exact congrArg (fun z => argW m c (ix2 x z)) (Fin.ext (by show 6144 + j.val = 2048 * 3 + j.val; omega))

end Cert.Kernel2Ideal.Odd

end
-- ==== Proof.Odd.RefAt.lean ====
/-
The odd layer's reference at an index: its stages one by one, and its three results entry by entry, from the arguments.
-/
module

public import proofs.«01_k».proof.Proof.Gen.Reference2Ideal.Run
public import proofs.«01_k».proof.Proof.Odd.Math
public import Idealize.ShloMosaic.Lib.Pointwise
public import Idealize.ShloMosaic.Lib.Tactic.CleanTypes

@[expose] public section

set_option maxRecDepth 16384

noncomputable section

namespace Cert.Reference2Ideal.Odd

open Idealize.ShloMosaic Idealize.SL.Sem
open Cert.Reference2Ideal Cert.Reference2Ideal.Gen

/-! ## The stages -/

variable (A : FVec Ideal S2x4096x2048 .f32) (B : FVec Ideal S2048 .f32) (C : FVec Ideal S2048x8192 .f32) (D : FVec Ideal S2x128 .f32)

/-- The input, normalised. -/
def hidden : FVec Ideal S2x4096x2048 .f32 :=
  mulf
    (mulf A (broadcastInDim S2x4096x2048 ![0, 1, 2] bcast_S2x4096x1_S2x4096x2048_0_1_2
      (Host.rsqrt (addf
        (Host.divf
          (broadcastInDim S2x4096x1 ![0, 1] bcast_S2x4096_S2x4096x1_0_1
            (Host.reduceAdd (mulf A A) (constant S_ .f32 0x00000000#32) reducesTo_S2x4096x2048_S2x4096_d2 h_S_))
          (broadcastInDim S2x4096x1 ![] bcast_S_S2x4096x1 (constant S_ .f32 0x45000000#32)))
        (broadcastInDim S2x4096x1 ![] bcast_S_S2x4096x1 (constant S_ .f32 0x358637BD#32)) : FVec Ideal S2x4096x1 .f32))))
    (broadcastInDim S2x4096x2048 ![0, 1, 2] bcast_S1x1x2048_S2x4096x2048_0_1_2 (broadcastInDim S1x1x2048 ![2] bcast_S2048_S1x1x2048_2 B))

/-- The projection of it. -/
def projected : FVec Ideal S2x4096x8192 .f32 :=
  Host.dotGeneral dot_S2x4096x2048_S2048x8192_S2x4096x8192_2_0_01_1_n_n none (hidden A B) C

/-- Sixteen heads of 128 columns. -/
def heads (u : FVec Ideal S2x4096x2048 .f32) : FVec Ideal S2x4096x16x128 .f32 :=
  shapeCast S2x4096x16x128 u shapeCasts_S2x4096x2048_S2x4096x16x128

/-- Heads normalised one by one. -/
def scaled (u : FVec Ideal S2x4096x16x128 .f32) (g : FVec Ideal S128 .f32) : FVec Ideal S2x4096x16x128 .f32 :=
  mulf
    (mulf u (broadcastInDim S2x4096x16x128 ![0, 1, 2, 3] bcast_S2x4096x16x1_S2x4096x16x128_0_1_2_3
      (Host.rsqrt (addf
        (Host.divf
          (broadcastInDim S2x4096x16x1 ![0, 1, 2] bcast_S2x4096x16_S2x4096x16x1_0_1_2
            (Host.reduceAdd (mulf u u) (constant S_ .f32 0x00000000#32) reducesTo_S2x4096x16x128_S2x4096x16_d3 h_S_))
          (broadcastInDim S2x4096x16x1 ![] bcast_S_S2x4096x16x1 (constant S_ .f32 0x43000000#32)))
        (broadcastInDim S2x4096x16x1 ![] bcast_S_S2x4096x16x1 (constant S_ .f32 0x358637BD#32)) : FVec Ideal S2x4096x16x1 .f32))))
    (broadcastInDim S2x4096x16x128 ![0, 1, 2, 3] bcast_S1x1x1x128_S2x4096x16x128_0_1_2_3 (broadcastInDim S1x1x1x128 ![3] bcast_S128_S1x1x1x128_3 g))

/-- The angles. -/
def angles : FVec Ideal S4096x64 .f32 :=
  mulf
    (broadcastInDim S4096x64 ![0, 1] bcast_S4096x1_S4096x64_0_1
      (broadcastInDim S4096x1 ![0] bcast_S4096_S4096x1_0 (sitofp .f32 (iotaInDim S4096 32 0) : FVec Ideal S4096 .f32)))
    (broadcastInDim S4096x64 ![0, 1] bcast_S1x64_S4096x64_0_1 (broadcastInDim S1x64 ![1] bcast_S64_S1x64_1
      (Host.powf (broadcastInDim S64 ![] bcast_S_S64 (constant S_ .f32 0x461C4000#32))
        (Host.divf (Host.negf (sitofp .f32 (iotaInDim S64 32 0) : FVec Ideal S64 .f32))
          (broadcastInDim S64 ![] bcast_S_S64 (constant S_ .f32 0x42800000#32))) : FVec Ideal S64 .f32)))

/-- Heads rotated to their positions. -/
def rotated (u : FVec Ideal S2x4096x16x128 .f32) : FVec Ideal S2x4096x16x128 .f32 :=
  concatenate S2x4096x16x128 3
    [⟨S2x4096x16x64, (subf
        (mulf (extractStridedSlice S2x4096x16x64 ![0, 0, 0, 0] u slices_S2x4096x16x128_S2x4096x16x64_0_0_0_0)
          (broadcastInDim S2x4096x16x64 ![0, 1, 2, 3] bcast_S1x4096x1x64_S2x4096x16x64_0_1_2_3
            (broadcastInDim S1x4096x1x64 ![1, 3] bcast_S4096x64_S1x4096x1x64_1_3 (Host.cos angles))))
        (mulf (extractStridedSlice S2x4096x16x64 ![0, 0, 0, 64] u slices_S2x4096x16x128_S2x4096x16x64_0_0_0_64)
          (broadcastInDim S2x4096x16x64 ![0, 1, 2, 3] bcast_S1x4096x1x64_S2x4096x16x64_0_1_2_3
            (broadcastInDim S1x4096x1x64 ![1, 3] bcast_S4096x64_S1x4096x1x64_1_3 (Host.sin angles)))) : FVec Ideal S2x4096x16x64 .f32)⟩,
      ⟨S2x4096x16x64, (addf
        (mulf (extractStridedSlice S2x4096x16x64 ![0, 0, 0, 64] u slices_S2x4096x16x128_S2x4096x16x64_0_0_0_64)
          (broadcastInDim S2x4096x16x64 ![0, 1, 2, 3] bcast_S1x4096x1x64_S2x4096x16x64_0_1_2_3
            (broadcastInDim S1x4096x1x64 ![1, 3] bcast_S4096x64_S1x4096x1x64_1_3 (Host.cos angles))))
        (mulf (extractStridedSlice S2x4096x16x64 ![0, 0, 0, 0] u slices_S2x4096x16x128_S2x4096x16x64_0_0_0_0)
          (broadcastInDim S2x4096x16x64 ![0, 1, 2, 3] bcast_S1x4096x1x64_S2x4096x16x64_0_1_2_3
            (broadcastInDim S1x4096x1x64 ![1, 3] bcast_S4096x64_S1x4096x1x64_1_3 (Host.sin angles)))) : FVec Ideal S2x4096x16x64 .f32)⟩]
    concatenates_S2x4096x16x64_S2x4096x16x64_S2x4096x16x128_d3

/-- The queries. -/
def queries : FVec Ideal S2x4096x16x128 .f32 :=
  rotated (scaled (heads (extractStridedSlice S2x4096x2048 ![0, 0, 0] (projected A B C) slices_S2x4096x8192_S2x4096x2048_0_0_0))
    (shapeCast S128 (extractStridedSlice S1x128 ![0, 0] D slices_S2x128_S1x128_0_0) shapeCasts_S1x128_S128))

/-- The keys. -/
def keys : FVec Ideal S2x4096x16x128 .f32 :=
  rotated (scaled (heads (extractStridedSlice S2x4096x2048 ![0, 0, 2048] (projected A B C) slices_S2x4096x8192_S2x4096x2048_0_0_2048))
    (shapeCast S128 (extractStridedSlice S1x128 ![1, 0] D slices_S2x128_S1x128_1_0) shapeCasts_S1x128_S128))

/-- The values. -/
def values : FVec Ideal S2x4096x16x128 .f32 :=
  heads (extractStridedSlice S2x4096x2048 ![0, 0, 4096] (projected A B C) slices_S2x4096x8192_S2x4096x2048_0_0_4096)

/-- Keys and values together. -/
def both : FVec Ideal S2x4096x2x16x128 .f32 :=
  concatenate S2x4096x2x16x128 2
    [⟨S2x4096x1x16x128, broadcastInDim S2x4096x1x16x128 ![0, 1, 3, 4] bcast_S2x4096x16x128_S2x4096x1x16x128_0_1_3_4 (keys A B C D)⟩,
      ⟨S2x4096x1x16x128, broadcastInDim S2x4096x1x16x128 ![0, 1, 3, 4] bcast_S2x4096x16x128_S2x4096x1x16x128_0_1_3_4 (values A B C)⟩]
    concatenates_S2x4096x1x16x128_S2x4096x1x16x128_S2x4096x2x16x128_d2

/-- The gates. -/
def gates : FVec Ideal S2x4096x2048 .f32 :=
  extractStridedSlice S2x4096x2048 ![0, 0, 6144] (projected A B C) slices_S2x4096x8192_S2x4096x2048_0_0_6144

section results

variable (m : (ℓ : Loc nD τ sig) → Buf (Elt Ideal) ℓ) (c : Dev nD)

theorem res0_eq : Value.res_main_v113 m c = shapeCast S8192x2048
    (queries (m ((c.tc : Thread nD τ).loc main_arg0)) (m ((c.tc : Thread nD τ).loc main_arg1)) (m ((c.tc : Thread nD τ).loc main_arg2))
      (m ((c.tc : Thread nD τ).loc main_arg3))) shapeCasts_S2x4096x16x128_S8192x2048 := rfl

theorem res1_eq : Value.res_main_v114 m c = shapeCast S8192x4096
    (both (m ((c.tc : Thread nD τ).loc main_arg0)) (m ((c.tc : Thread nD τ).loc main_arg1)) (m ((c.tc : Thread nD τ).loc main_arg2))
      (m ((c.tc : Thread nD τ).loc main_arg3))) shapeCasts_S2x4096x2x16x128_S8192x4096 := rfl

end results

/-! ## The stages at an index -/

/-- The arguments by their entries. -/
abbrev X (b : Fin 2) (q : Fin 4096) (x : Fin 2048) : EReal := A (ix3 b q x)
abbrev G (x : Fin 2048) : EReal := B (ix1 x)
abbrev W (x : Fin 2048) (j : Fin 8192) : EReal := C (ix2 x j)
abbrev N (i : Fin 2) (d : Fin 128) : EReal := D (ix2 i d)

variable (b : Fin 2) (q : Fin 4096) (k : Fin 16) (d : Fin 128)

theorem hidden_at (x : Fin 2048) : hidden A B (ix3 b q x) = Cert.Odd.hid (X A) (G B) b q x := by
  pointwise [hidden]
  rfl

theorem projected_at (j : Fin 8192) : projected A B C (ix3 b q j) = ∑ x : Fin 2048, Cert.Odd.hid (X A) (G B) b q x * C (ix2 x j) := by
  have e : projected A B C (ix3 b q j) = ∑ x : Fin 2048, hidden A B (ix3 b q x) * C (ix2 x j) := by
    pointwise [projected]
  rw [e]
  exact Finset.sum_congr rfl fun x _ => by rw [hidden_at]

theorem heads_at (u : FVec Ideal S2x4096x2048 .f32) : heads u (ix4 b q k d) = u (ix3 b q (⟨128 * k.val + d.val, by omega⟩ : Fin 2048)) := by
  unfold heads
  refine shapeCast_apply _ _ _ (ix3 b q (⟨128 * k.val + d.val, by omega⟩ : Fin 2048)) ?_
  rw [Shape.rowMajor_val_three, Shape.rowMajor_val_four]
  show (b.val * 4096 + q.val) * 2048 + (128 * k.val + d.val) = ((b.val * 4096 + q.val) * 16 + k.val) * 128 + d.val
  omega

theorem scaled_at (u : FVec Ideal S2x4096x16x128 .f32) (g : FVec Ideal S128 .f32) :
    scaled u g (ix4 b q k d) = Cert.Odd.norm (Ideal.ofBits .f32 0x43000000#32) (fun x => u (ix4 b q k x)) (fun x => g (ix1 x)) d := by
  pointwise [scaled]
  rfl

theorem rotated_at (u : FVec Ideal S2x4096x16x128 .f32) : rotated u (ix4 b q k d) = Cert.Odd.rope (fun x => u (ix4 b q k x)) q d := by
  pointwise [rotated, angles]
  unfold Cert.Odd.rope
  by_cases h : d.val < 64
  · have e : (⟨64 + d.val, by omega⟩ : Fin 128) = ⟨d.val + 64, by omega⟩ := Fin.ext (by show 64 + d.val = d.val + 64; omega)
    rw [dif_pos h, dif_pos h, e]
    rfl
  · have e : (⟨64 + (d.val - 64), by omega⟩ : Fin 128) = d := Fin.ext (by show 64 + (d.val - 64) = d.val; omega)
    rw [dif_neg h, dif_neg h, e]
    rfl

theorem part0_at : heads (extractStridedSlice S2x4096x2048 ![0, 0, 0] (projected A B C) slices_S2x4096x8192_S2x4096x2048_0_0_0) (ix4 b q k d)
    = Cert.Odd.part (X A) (G B) (W C) 0 b q k d := by
  rw [heads_at]
  have e : ∀ j : Fin 2048, extractStridedSlice S2x4096x2048 ![0, 0, 0] (projected A B C) slices_S2x4096x8192_S2x4096x2048_0_0_0 (ix3 b q j)
      = projected A B C (ix3 b q (⟨2048 * 0 + j.val, by omega⟩ : Fin 8192)) := fun j => by
    pointwise
  rw [e, projected_at]
  rfl

theorem part1_at : heads (extractStridedSlice S2x4096x2048 ![0, 0, 2048] (projected A B C) slices_S2x4096x8192_S2x4096x2048_0_0_2048) (ix4 b q k d)
    = Cert.Odd.part (X A) (G B) (W C) 1 b q k d := by
  rw [heads_at]
  have e : ∀ j : Fin 2048, extractStridedSlice S2x4096x2048 ![0, 0, 2048] (projected A B C) slices_S2x4096x8192_S2x4096x2048_0_0_2048 (ix3 b q j)
      = projected A B C (ix3 b q (⟨2048 * 1 + j.val, by omega⟩ : Fin 8192)) := fun j => by
    pointwise
  rw [e, projected_at]
  rfl

theorem part2_at : values A B C (ix4 b q k d) = Cert.Odd.part (X A) (G B) (W C) 2 b q k d := by
  unfold values
  rw [heads_at]
  have e : ∀ j : Fin 2048, extractStridedSlice S2x4096x2048 ![0, 0, 4096] (projected A B C) slices_S2x4096x8192_S2x4096x2048_0_0_4096 (ix3 b q j)
      = projected A B C (ix3 b q (⟨2048 * 2 + j.val, by omega⟩ : Fin 8192)) := fun j => by
    pointwise
  rw [e, projected_at]
  rfl

theorem part3_at : gates A B C (ix3 b q (⟨128 * k.val + d.val, by omega⟩ : Fin 2048)) = Cert.Odd.part (X A) (G B) (W C) 3 b q k d := by
  have e : ∀ j : Fin 2048, gates A B C (ix3 b q j) = projected A B C (ix3 b q (⟨2048 * 3 + j.val, by omega⟩ : Fin 8192)) := fun j => by
    pointwise [gates]
  rw [e, projected_at]
  rfl

theorem queries_at : queries A B C D (ix4 b q k d) = Cert.Odd.roped (X A) (G B) (W C) (N D) 0 b q k d := by
  unfold queries Cert.Odd.roped
  rw [rotated_at]
  refine congrArg (fun n => Cert.Odd.rope n q d) (funext fun x => ?_)
  rw [scaled_at]
  congr 1
  · funext j; exact part0_at A B C b q k j
  · funext j; pointwise

theorem keys_at : keys A B C D (ix4 b q k d) = Cert.Odd.roped (X A) (G B) (W C) (N D) 1 b q k d := by
  unfold keys Cert.Odd.roped
  rw [rotated_at]
  refine congrArg (fun n => Cert.Odd.rope n q d) (funext fun x => ?_)
  rw [scaled_at]
  congr 1
  · funext j; exact part1_at A B C b q k j
  · funext j; pointwise

theorem both_keys : both A B C D (ix5 b q 0 k d) = keys A B C D (ix4 b q k d) := by
  pointwise [both]

theorem both_values : both A B C D (ix5 b q 1 k d) = values A B C (ix4 b q k d) := by
  pointwise [both]

/-! ## The results at an index -/

theorem q_at (y : S8192x2048.Idx) (h0 : (y 0).val = 4096 * b.val + q.val) (h1 : (y 1).val = 128 * k.val + d.val) :
    shapeCast S8192x2048 (queries A B C D) shapeCasts_S2x4096x16x128_S8192x2048 y = Cert.Odd.roped (X A) (G B) (W C) (N D) 0 b q k d := by
  refine (shapeCast_apply _ _ _ (ix4 b q k d) ?_).trans (queries_at A B C D b q k d)
  rw [Shape.rowMajor_val_four, Shape.rowMajor_val_two]
  show ((b.val * 4096 + q.val) * 16 + k.val) * 128 + d.val = (y 0).val * 2048 + (y 1).val
  omega

theorem k_at (y : S8192x4096.Idx) (h0 : (y 0).val = 4096 * b.val + q.val) (h1 : (y 1).val = 128 * k.val + d.val) :
    shapeCast S8192x4096 (both A B C D) shapeCasts_S2x4096x2x16x128_S8192x4096 y = Cert.Odd.roped (X A) (G B) (W C) (N D) 1 b q k d := by
  refine (shapeCast_apply _ _ _ (ix5 b q 0 k d) ?_).trans ((both_keys A B C D b q k d).trans (keys_at A B C D b q k d))
  rw [Shape.rowMajor_val_five, Shape.rowMajor_val_two]
  show (((b.val * 4096 + q.val) * 2 + 0) * 16 + k.val) * 128 + d.val = (y 0).val * 4096 + (y 1).val
  omega

theorem v_at (y : S8192x4096.Idx) (h0 : (y 0).val = 4096 * b.val + q.val) (h1 : (y 1).val = 2048 + (128 * k.val + d.val)) :
    shapeCast S8192x4096 (both A B C D) shapeCasts_S2x4096x2x16x128_S8192x4096 y = Cert.Odd.part (X A) (G B) (W C) 2 b q k d := by
  refine (shapeCast_apply _ _ _ (ix5 b q 1 k d) ?_).trans ((both_values A B C D b q k d).trans (part2_at A B C b q k d))
  rw [Shape.rowMajor_val_five, Shape.rowMajor_val_two]
  show (((b.val * 4096 + q.val) * 2 + 1) * 16 + k.val) * 128 + d.val = (y 0).val * 4096 + (y 1).val
  omega

theorem z_at (y : S8192x2048.Idx) (h0 : (y 0).val = 4096 * b.val + q.val) (h1 : (y 1).val = 128 * k.val + d.val) :
    shapeCast S8192x2048 (gates A B C) shapeCasts_S2x4096x2048_S8192x2048 y = Cert.Odd.part (X A) (G B) (W C) 3 b q k d := by
  refine (shapeCast_apply _ _ _ (ix3 b q (⟨128 * k.val + d.val, by omega⟩ : Fin 2048)) ?_).trans (part3_at A B C b q k d)
  rw [Shape.rowMajor_val_three, Shape.rowMajor_val_two]
  show (b.val * 4096 + q.val) * 2048 + (128 * k.val + d.val) = (y 0).val * 2048 + (y 1).val
  omega

end Cert.Reference2Ideal.Odd

end
-- ==== Proof.Odd.Main.lean ====
/-
The claims about the odd layer's projections: the reference's frame, and the equation of the three results.
-/
module

public import proofs.«01_k».proof.Defs
public import proofs.«01_k».proof.Proof.Gen.Kernel2Ideal
public import proofs.«01_k».proof.Proof.Gen.Reference2Ideal
public import proofs.«01_k».proof.Proof.Odd.Arrays
public import proofs.«01_k».proof.Proof.Odd.RefAt
public import Idealize.ShloMosaic.Lib.Quiescent

@[expose] public section

set_option maxRecDepth 16384

noncomputable section

namespace Cert.Proof.Odd

open Idealize.ShloMosaic Idealize.SL.Sem

/-- The reference ends with its arguments unchanged; it declares no semaphore, so every counter is zero. -/
theorem ref_frame : Cert.quiescent_Reference2Ideal (hReference2Ideal := Cert.Reference2Ideal.Gen.facts) := fun m g _ =>
  (θ_run _ _ _).mono (fun r h => ⟨fun c => (h c).2.2.2, sem_eq_zero_of_no_sems (by decide) r.2⟩) (Cert.Reference2Ideal.Value.run (F := Ideal) m g)

section arrays

variable (m : (ℓ : Loc Cert.Kernel2Ideal.nD Cert.Kernel2Ideal.τ Cert.Kernel2Ideal.sig) → Buf (Elt Ideal) ℓ) (g : Dev Cert.Kernel2Ideal.nD → PrngReg)
  (c : Dev Cert.Kernel2Ideal.nD)
  (m' : (ℓ : Loc Cert.Reference2Ideal.nD Cert.Reference2Ideal.τ Cert.Reference2Ideal.sig) → Buf (Elt Ideal) ℓ)
  (h0 : m' ((c.tc : Thread Cert.Reference2Ideal.nD Cert.Reference2Ideal.τ).loc Cert.Reference2Ideal.main_arg0) = Cert.Kernel2Ideal.Odd.argX m c)
  (h1 : m' ((c.tc : Thread Cert.Reference2Ideal.nD Cert.Reference2Ideal.τ).loc Cert.Reference2Ideal.main_arg1) = Cert.Kernel2Ideal.Odd.argG m c)
  (h2 : m' ((c.tc : Thread Cert.Reference2Ideal.nD Cert.Reference2Ideal.τ).loc Cert.Reference2Ideal.main_arg2) = Cert.Kernel2Ideal.Odd.argW m c)
  (h3 : m' ((c.tc : Thread Cert.Reference2Ideal.nD Cert.Reference2Ideal.τ).loc Cert.Reference2Ideal.main_arg3) = Cert.Kernel2Ideal.Odd.argN m c)

/-- The kernel's array at a reference once the program has ended. -/
abbrev last (b : Ref Cert.Kernel2Ideal.sig .tc) : Buf (Elt Ideal) ((c.tc : Thread Cert.Kernel2Ideal.nD Cert.Kernel2Ideal.τ).loc b) :=
  Cert.Kernel2Ideal.Gen.W6 m g c (Proc.devRef .tc b)

include h0 h1 h2 h3 in
theorem queries_eq : Cert.Reference2Ideal.Value.res_main_v113 m' c = last m g c Cert.Kernel2Ideal.main_v32 := by
  rw [Cert.Reference2Ideal.Odd.res0_eq, h0, h1, h2, h3]
  funext y
  have y0 : (y 0).val < 8192 := (y 0).isLt
  have y1 : (y 1).val < 2048 := (y 1).isLt
  have e0 : (y 0).val = 4096 * ((y 0).val / 4096) + (y 0).val % 4096 := by omega
  have e1 : (y 1).val = 128 * ((y 1).val / 128) + (y 1).val % 128 := by omega
  exact (Cert.Reference2Ideal.Odd.q_at _ _ _ _ (⟨(y 0).val / 4096, by omega⟩ : Fin 2) (⟨(y 0).val % 4096, by omega⟩ : Fin 4096)
      (⟨(y 1).val / 128, by omega⟩ : Fin 16) (⟨(y 1).val % 128, by omega⟩ : Fin 128) y e0 e1).trans
    (Cert.Kernel2Ideal.Odd.q_at m g c (⟨(y 0).val, y0⟩ : Fin 8192) _ _ e0 _ _ y rfl e1).symm

include h0 h1 h2 in
theorem gates_eq : shapeCast Cert.Reference2Ideal.S8192x2048 (Cert.Reference2Ideal.Odd.gates
    (m' ((c.tc : Thread Cert.Reference2Ideal.nD Cert.Reference2Ideal.τ).loc Cert.Reference2Ideal.main_arg0))
    (m' ((c.tc : Thread Cert.Reference2Ideal.nD Cert.Reference2Ideal.τ).loc Cert.Reference2Ideal.main_arg1))
    (m' ((c.tc : Thread Cert.Reference2Ideal.nD Cert.Reference2Ideal.τ).loc Cert.Reference2Ideal.main_arg2)))
    Cert.Reference2Ideal.Gen.shapeCasts_S2x4096x2048_S8192x2048 = last m g c Cert.Kernel2Ideal.main_v34 := by
  rw [h0, h1, h2]
  funext y
  have y0 : (y 0).val < 8192 := (y 0).isLt
  have y1 : (y 1).val < 2048 := (y 1).isLt
  have e0 : (y 0).val = 4096 * ((y 0).val / 4096) + (y 0).val % 4096 := by omega
  have e1 : (y 1).val = 128 * ((y 1).val / 128) + (y 1).val % 128 := by omega
  exact (Cert.Reference2Ideal.Odd.z_at _ _ _ (⟨(y 0).val / 4096, by omega⟩ : Fin 2) (⟨(y 0).val % 4096, by omega⟩ : Fin 4096)
      (⟨(y 1).val / 128, by omega⟩ : Fin 16) (⟨(y 1).val % 128, by omega⟩ : Fin 128) y e0 e1).trans
    (Cert.Kernel2Ideal.Odd.z_at m g c (⟨(y 0).val, y0⟩ : Fin 8192) _ _ e0 _ _ y rfl e1).symm

include h0 h1 h2 h3 in
theorem rows_eq : Cert.Reference2Ideal.Value.res_main_v114 m' c = last m g c Cert.Kernel2Ideal.main_v33 := by
  rw [Cert.Reference2Ideal.Odd.res1_eq, h0, h1, h2, h3]
  funext y
  have y0 : (y 0).val < 8192 := (y 0).isLt
  have y1 : (y 1).val < 4096 := (y 1).isLt
  have e0 : (y 0).val = 4096 * ((y 0).val / 4096) + (y 0).val % 4096 := by omega
  by_cases hy : (y 1).val < 2048
  · have e1 : (y 1).val = 128 * ((y 1).val / 128) + (y 1).val % 128 := by omega
    exact (Cert.Reference2Ideal.Odd.k_at _ _ _ _ (⟨(y 0).val / 4096, by omega⟩ : Fin 2) (⟨(y 0).val % 4096, by omega⟩ : Fin 4096)
        (⟨(y 1).val / 128, by omega⟩ : Fin 16) (⟨(y 1).val % 128, by omega⟩ : Fin 128) y e0 e1).trans
      (Cert.Kernel2Ideal.Odd.k_at m g c (⟨(y 0).val, y0⟩ : Fin 8192) _ _ e0 _ _ y rfl e1).symm
  · have e1 : (y 1).val = 2048 + (128 * ((y 1).val / 128 - 16) + (y 1).val % 128) := by omega
    exact (Cert.Reference2Ideal.Odd.v_at _ _ _ _ (⟨(y 0).val / 4096, by omega⟩ : Fin 2) (⟨(y 0).val % 4096, by omega⟩ : Fin 4096)
        (⟨(y 1).val / 128 - 16, by omega⟩ : Fin 16) (⟨(y 1).val % 128, by omega⟩ : Fin 128) y e0 e1).trans
      (Cert.Kernel2Ideal.Odd.v_at m g c (⟨(y 0).val, y0⟩ : Fin 8192) _ _ e0 _ _ y rfl e1).symm

end arrays

/-- From equal arguments kernel and reference end with the same three arrays. -/
theorem algebraic : Cert.algebraic_Kernel2Ideal_Reference2Ideal (hKernel2Ideal := Cert.Kernel2Ideal.Gen.facts)
    (hReference2Ideal := Cert.Reference2Ideal.Gen.facts) := fun m g m' g' _ hag => by
  refine ⟨fun c => last m g c Cert.Kernel2Ideal.main_v32, fun c => last m g c Cert.Kernel2Ideal.main_v33,
    fun c => last m g c Cert.Kernel2Ideal.main_v34, ?_, ?_⟩
  · refine (θ_run _ _ _).mono (fun r h c => ?_) (θ_run_and (Cert.Kernel2Ideal.Odd.run_all m g) (Cert.Kernel2Ideal.Gen.frame m g))
    exact ⟨h.1 c Cert.Kernel2Ideal.main_v32 (by decide), h.1 c Cert.Kernel2Ideal.main_v33 (by decide),
      h.1 c Cert.Kernel2Ideal.main_v34 (by decide), h.2.1 c⟩
  · refine (θ_run _ _ _).mono (fun r h c => ?_) (Cert.Reference2Ideal.Value.run (F := Ideal) m' g')
    obtain ⟨a0, a1, a2, a3⟩ := hag c
    exact ⟨(h c).1.trans (queries_eq m g c m' a0 a1 a2 a3), (h c).2.1.trans (rows_eq m g c m' a0 a1 a2 a3),
      (h c).2.2.1.trans (gates_eq m g c m' a0 a1 a2), (h c).2.2.2⟩

end Cert.Proof.Odd

end
-- ==== Proof.Even.Heads.lean ====
/-
One grid point of two of the even layer's projections: what each call leaves in its blocks of results, head by head.
The queries are normalised, the forget gates' logarithms are taken, the rest is the product.
-/
module

public import proofs.«01_k».proof.Proof.Gen.Kernel3Ideal.Frame
public import Idealize.ShloMosaic.Lib.Pointwise
public import Idealize.ShloMosaic.Lib.WholeRead
public import Idealize.ShloMosaic.PureOps.IdealRules
public import Idealize.ShloMosaic.Lib.Pipeline.Value

@[expose] public section

set_option maxRecDepth 16384

noncomputable section

namespace Cert.Kernel3Ideal.Even

open Idealize.ShloMosaic Idealize.ShloMosaic.TcCoe Idealize.ShloMosaic.Tactic
open Idealize.SL.Sem
open Cert.Kernel3Ideal Cert.Kernel3Ideal.Gen

/-! ## A head of 128 columns -/

theorem slices_colB : ∀ k : Fin 16, S512x2048.Slices ![0, 128 * k.val] S512x128 := by decide
theorem slices_colD : ∀ k : Fin 11, S512x1408.Slices ![0, 128 * k.val] S512x128 := by decide

theorem inb_eight : ∀ k : Fin 8, ∀ a, (![0, 128 * k.val] : Fin 2 → ℕ) a + S512x128.size a ≤ S512x1024.size a := by decide
theorem inb_two : ∀ k : Fin 2, ∀ a, (![0, 128 * k.val] : Fin 2 → ℕ) a + S512x128.size a ≤ S512x256.size a := by decide

/-- Head `k` of a block of the first product. -/
abbrev colB (k : Fin 16) (a : FVec Ideal S512x2048 .f32) : FVec Ideal S512x128 .f32 :=
  extractStridedSlice S512x128 ![0, 128 * k.val] a (slices_colB k)

/-- Head `k` of a block of the second product. -/
abbrev colD (k : Fin 11) (a : FVec Ideal S512x1408 .f32) : FVec Ideal S512x128 .f32 :=
  extractStridedSlice S512x128 ![0, 128 * k.val] a (slices_colD k)

/-- A head, each row divided by its root mean square and scaled by `g`. -/
def normed (u : FVec Ideal S512x128 .f32) (g : Vec Ideal S1x128 .f32) : FVec Ideal S512x128 .f32 :=
  mulf (mulf u (broadcastTo S512x128 (rsqrt (addf (divf (shapeCast S512x1
    (multiReduction .add [1] S512 (mulf u u) 0x00000000#32 reduces_S512x128_S512 (.inl rfl) rfl) shapeCasts_S512_S512x1)
    (broadcast S512x1 (Scalar.ofBits .f32 0x43000000#32))) (broadcast S512x1 (Scalar.ofBits .f32 0x358637BD#32)))) broadcasts_S512x1_S512x128))
    (broadcastTo S512x128 (shapeCast S1x128 g shapeCasts_S1x128_S1x128) broadcasts_S1x128_S512x128)

/-- Eight heads side by side. -/
def eight (f : Fin 8 → FVec Ideal S512x128 .f32) : FVec Ideal S512x1024 .f32 := fun y =>
  f (⟨(y 1).val / 128, by have : (y 1).val < 1024 := (y 1).isLt; omega⟩ : Fin 8)
    (ix2 (⟨(y 0).val, (y 0).isLt⟩ : Fin 512) (⟨(y 1).val % 128, by omega⟩ : Fin 128))

/-- Two heads side by side. -/
def two (f : Fin 2 → FVec Ideal S512x128 .f32) : FVec Ideal S512x256 .f32 := fun y =>
  f (⟨(y 1).val / 128, by have : (y 1).val < 256 := (y 1).isLt; omega⟩ : Fin 2)
    (ix2 (⟨(y 0).val, (y 0).isLt⟩ : Fin 512) (⟨(y 1).val % 128, by omega⟩ : Fin 128))

theorem head_at {n : ℕ} (f : Fin n → FVec Ideal S512x128 .f32) (k k' : Fin n) (x : S512x128.Idx) (r : Fin 512) (d : Fin 128)
    (hk : k'.val = k.val) (h0 : r.val = (x 0).val) (h1 : d.val = (x 1).val) : f k x = f k' (ix2 r d) := by
  have e : k' = k := Fin.ext hk
  have ex : x = ix2 r d := by
    funext a
    match a with
    | ⟨0, _⟩ => exact Fin.ext h0.symm
    | ⟨1, _⟩ => exact Fin.ext h1.symm
  rw [e, ex]

theorem piece_eight (f : Fin 8 → FVec Ideal S512x128 .f32) (k : Fin 8) (x : S512x128.Idx) :
    f k x = eight f ((Rect.unit (s := S512x1024) ![0, 128 * k.val] S512x128.size (inb_eight k)).emb x) := by
  have x1 : (x 1).val < 128 := (x 1).isLt
  refine head_at f _ _ _ _ _ ?_ ?_ ?_
  · show (128 * k.val + 1 * (x 1).val) / 128 = k.val; omega
  · show 0 + 1 * (x 0).val = (x 0).val; omega
  · show (128 * k.val + 1 * (x 1).val) % 128 = (x 1).val; omega

theorem piece_two (f : Fin 2 → FVec Ideal S512x128 .f32) (k : Fin 2) (x : S512x128.Idx) :
    f k x = two f ((Rect.unit (s := S512x256) ![0, 128 * k.val] S512x128.size (inb_two k)).emb x) := by
  have x1 : (x 1).val < 128 := (x 1).isLt
  refine head_at f _ _ _ _ _ ?_ ?_ ?_
  · show (128 * k.val + 1 * (x 1).val) / 128 = k.val; omega
  · show 0 + 1 * (x 0).val = (x 0).val; omega
  · show (128 * k.val + 1 * (x 1).val) % 128 = (x 1).val; omega

/-- A list of eight stores, the last first. -/
theorem pieces_eight (f : Fin 8 → FVec Ideal S512x128 .f32) (y : S512x1024.Idx) (l : List (View.Piece (Elt Ideal) S512x1024 .f32))
    (hl : l = (List.finRange 8).reverse.map fun k => ⟨Rect.unit (s := S512x1024) ![0, 128 * k.val] S512x128.size (inb_eight k), f k⟩)
    (hc : ∃ pc ∈ l, y ∈ pc.1.set) : View.canon l y = eight f y := by
  refine View.canon_apply_of_pieces (Val := Elt Ideal) (eight f) l (fun p hp => ?_) y hc
  rw [hl] at hp
  obtain ⟨k, -, rfl⟩ := List.mem_map.1 hp
  exact fun x => piece_eight f k x

/-! ## The three calls -/

theorem out0_eq (x0 : Vec Ideal S512x2048 .f32) (x1 : Vec Ideal S1x2048 .f32) : out0_2 (F := Ideal) x0 x1 = k0_pay1 x0 x1 := by
  have z : (![0, 0] : Fin 2 → ℕ) = fun _ => 0 := by decide
  unfold out0_2
  rw [View.canon_unit_zero (Val := Elt Ideal) (S := S512x2048) z, View.ld_unit_zero (Val := Elt Ideal) (S := S512x2048) z,
    View.ld_unit_zero (Val := Elt Ideal) (S := S1x2048) z]

variable (x0 : Vec Ideal S512x2048 .bf16) (x2 : Vec Ideal S8x128 .f32) (x3 x4 : Vec Ideal S512x128 .f32)

theorem ld_h1 : View.ld x0 r1_0 = x0 := View.ld_unit_zero (Val := Elt Ideal) (S := S512x2048) (by decide) _ x0
theorem ld_h2 : View.ld x0 r2_0 = x0 := View.ld_unit_zero (Val := Elt Ideal) (S := S512x2048) (by decide) _ x0
theorem ld_w1 (x1 : Vec Ideal S2048x2048 .bf16) : View.ld x1 r1_1 = x1 := View.ld_unit_zero (Val := Elt Ideal) (S := S2048x2048) (by decide) _ x1
theorem ld_w2 (x1 : Vec Ideal S2048x1408 .bf16) : View.ld x1 r2_1 = x1 := View.ld_unit_zero (Val := Elt Ideal) (S := S2048x1408) (by decide) _ x1

/-- The output gate of the first branch. -/
theorem out1_5_eq (x1 : Vec Ideal S2048x2048 .bf16) :
    out1_5 (F := Ideal) x0 x1 x2 x3 x4 = eight fun k => colB ⟨k.val, by omega⟩ (k1_pay1 x0 x1) := by
  unfold out1_5
  rw [ld_h1, ld_w1]
  funext y
  exact pieces_eight (fun k => colB ⟨k.val, by omega⟩ (k1_pay1 x0 x1)) y _ rfl (cover1_5 _ _ _ _ _ _ _ _ y)

/-- The queries of the second branch. -/
theorem out1_6_eq (x1 : Vec Ideal S2048x2048 .bf16) :
    out1_6 (F := Ideal) x0 x1 x2 x3 x4 = eight fun k => normed (colB ⟨8 + k.val, by omega⟩ (k1_pay1 x0 x1)) (View.ld x2 r1_10) := by
  unfold out1_6 k1_pay24
  rw [ld_h1, ld_w1]
  funext y
  exact pieces_eight (fun k => normed (colB ⟨8 + k.val, by omega⟩ (k1_pay1 x0 x1)) (View.ld x2 r1_10)) y _ rfl (cover1_6 _ _ _ _ _ _ _ _ y)

/-- The output gate of the second branch. -/
theorem out2_5_eq (x1 : Vec Ideal S2048x1408 .bf16) :
    out2_5 (F := Ideal) x0 x1 x2 x3 x4 = eight fun k => colD ⟨k.val, by omega⟩ (k2_pay4 x0 x1) := by
  unfold out2_5
  rw [ld_h2, ld_w2]
  funext y
  exact pieces_eight (fun k => colD ⟨k.val, by omega⟩ (k2_pay4 x0 x1)) y _ rfl (cover2_5 _ _ _ _ _ _ _ _ y)

/-- The logarithms of the forget gates. -/
theorem out2_6_eq (x1 : Vec Ideal S2048x1408 .bf16) :
    out2_6 (F := Ideal) x0 x1 x2 x3 x4 = k2_pay1 (k2_pay13 x0 x1 (View.ld x2 r2_10)) (Scalar.ofBits .f32 0x00000000#32) := by
  unfold out2_6
  rw [ld_h2, ld_w2, View.canon_unit_zero (Val := Elt Ideal) (S := S512x128) (by decide)]

/-- The gates of the first branch, one head of columns for each of its groups. -/
theorem out2_7_eq (x1 : Vec Ideal S2048x1408 .bf16) :
    out2_7 (F := Ideal) x0 x1 x2 x3 x4 = two fun k => colD ⟨9 + k.val, by omega⟩ (k2_pay4 x0 x1) := by
  unfold out2_7 k2_pay14
  rw [ld_h2, ld_w2]
  funext y
  refine View.canon_apply_of_pieces (Val := Elt Ideal) (two fun k => colD ⟨9 + k.val, by omega⟩ (k2_pay4 x0 x1)) _ ?_ y (cover2_7 _ _ y)
  refine List.forall_mem_cons.2 ⟨fun x => piece_two (fun k => colD ⟨9 + k.val, by omega⟩ (k2_pay4 x0 x1)) 1 x, ?_⟩
  refine List.forall_mem_cons.2 ⟨fun x => piece_two (fun k => colD ⟨9 + k.val, by omega⟩ (k2_pay4 x0 x1)) 0 x, ?_⟩
  exact fun _ h => absurd h List.not_mem_nil

end Cert.Kernel3Ideal.Even

end
-- ==== Proof.Even.Math.lean ====
/-
Two of the even layer's projections written out, entry by entry, for an input of 2 batches of 4096 positions of 2048 columns.
-/
module

public import proofs.«01_k».proof.Proof.Odd.Math

@[expose] public section

noncomputable section

namespace Cert.Even

open Idealize.ShloMosaic

/-- The logarithm of the sigmoid, `-(max(-x, 0) + log(1 + exp(-|x|)))`. -/
def logSig (x : EReal) : EReal :=
  -(max (-x) 0 + Ideal.log (1 + Ideal.exp (-max x (-x))))

variable (X : Fin 2 → Fin 4096 → Fin 2048 → EReal) (g : Fin 2048 → EReal) (W : Fin 2048 → Fin 7712 → EReal) (f : Fin 8 → EReal) (n : Fin 128 → EReal)

/-- Column `j` of the projection of the normalised input. -/
def proj (b : Fin 2) (q : Fin 4096) (j : Fin 7712) : EReal := ∑ x : Fin 2048, Cert.Odd.hid X g b q x * W x j

/-- Column `128 k + d` of the queries: eight heads, normalised one by one. -/
def query (b : Fin 2) (q : Fin 4096) (k : Fin 8) (d : Fin 128) : EReal :=
  Cert.Odd.norm (Ideal.ofBits .f32 0x43000000#32) (fun x => proj X g W b q ⟨3608 + (128 * k.val + x.val), by omega⟩) n d

/-- The logarithm of head `k`'s forget gate. -/
def forget (b : Fin 2) (q : Fin 4096) (k : Fin 8) : EReal := logSig (proj X g W b q ⟨6680 + k.val, by omega⟩ + f k)

end Cert.Even

end
-- ==== Proof.Even.KernelAt.lean ====
/-
What each of the three calls leaves in its arrays of results, entry by entry, from the arrays it finds.
-/
module

public import proofs.«01_k».proof.Proof.Even.Heads
public import proofs.«01_k».proof.Proof.Even.Math
public import Idealize.ShloMosaic.Lib.Pipeline.ValueKit
public import Idealize.ShloMosaic.Lib.KernelVsHost

@[expose] public section

set_option maxRecDepth 16384

noncomputable section

namespace Cert.Kernel3Ideal.Even

open Idealize.ShloMosaic Idealize.ShloMosaic.TcCoe Idealize.ShloMosaic.Tactic
open Idealize.SL.Sem
open Cert.Kernel3Ideal Cert.Kernel3Ideal.Gen
open Cert.Odd (norm)
open Cert.Even (logSig)

/-! ## The bodies at an index -/

theorem hidden_at (x0 : Vec Ideal S512x2048 .f32) (x1 : Vec Ideal S1x2048 .f32) (r : Fin 512) (d : Fin 2048) :
    k0_pay1 x0 x1 (ix2 r d) = norm (Ideal.ofBits .f32 0x45000000#32) (fun x => x0 (ix2 r x)) (fun x => x1 (ix2 0 x)) d := by
  pointwise [k0_pay1]
  rfl

theorem colB_at (x0 : Vec Ideal S512x2048 .bf16) (x1 : Vec Ideal S2048x2048 .bf16) (k : Fin 16) (r : Fin 512) (d : Fin 128) :
    colB k (k1_pay1 x0 x1) (ix2 r d) = ∑ x : Fin 2048, x0 (ix2 r x) * x1 (ix2 x (⟨128 * k.val + d.val, by omega⟩ : Fin 2048)) := by
  pointwise [colB, k1_pay1]

theorem colD_at (x0 : Vec Ideal S512x2048 .bf16) (x1 : Vec Ideal S2048x1408 .bf16) (k : Fin 11) (r : Fin 512) (d : Fin 128) :
    colD k (k2_pay4 x0 x1) (ix2 r d) = ∑ x : Fin 2048, x0 (ix2 r x) * x1 (ix2 x (⟨128 * k.val + d.val, by omega⟩ : Fin 1408)) := by
  pointwise [colD, k2_pay4]

theorem normed_at (u : FVec Ideal S512x128 .f32) (g : Vec Ideal S1x128 .f32) (r : Fin 512) (d : Fin 128) :
    normed u g (ix2 r d) = norm (Ideal.ofBits .f32 0x43000000#32) (fun x => u (ix2 r x)) (fun x => g (ix2 0 x)) d := by
  pointwise [normed]
  rfl

theorem forget_at (x0 : Vec Ideal S512x2048 .bf16) (x1 : Vec Ideal S2048x1408 .bf16) (g : Vec Ideal S1x128 .f32) (r : Fin 512) (d : Fin 128) :
    k2_pay1 (k2_pay13 x0 x1 g) (Scalar.ofBits .f32 0x00000000#32) (ix2 r d)
      = logSig (∑ x : Fin 2048, x0 (ix2 r x) * x1 (ix2 x (⟨1024 + d.val, by omega⟩ : Fin 1408)) + g (ix2 0 d)) := by
  pointwise [k2_pay1, k2_pay13, k2_pay4]
  unfold logSig
  simp only [zero_sub]
  rfl

/-! ## The blocks at a grid point -/

variable (V : (c : Dev nD) → (b : Ref sig .tc) → Buf (Elt Ideal) ((c : Thread nD τ).loc b)) (c : Dev nD)

theorem points0 : cfg0.N = 16 := by decide
theorem points1 : cfg1.N = 16 := by decide
theorem points2 : cfg2.N = 16 := by decide

theorem idx0_0 : ∀ t : Fin cfg0.N, win0_0.index t = ![t.val, 0] := by decide +kernel
theorem idx0_1 : ∀ t : Fin cfg0.N, win0_1.index t = ![0, 0] := by decide +kernel
theorem idx0_2 : ∀ t : Fin cfg0.N, win0_2.index t = ![t.val, 0] := by decide +kernel
theorem idx1_0 : ∀ t : Fin cfg1.N, win1_0.index t = ![t.val, 0] := by decide +kernel
theorem idx1_1 : ∀ t : Fin cfg1.N, win1_1.index t = ![0, 0] := by decide +kernel
theorem idx1_2 : ∀ t : Fin cfg1.N, win1_2.index t = ![0, 0] := by decide +kernel
theorem idx1_5 : ∀ t : Fin cfg1.N, win1_5.index t = ![t.val, 0] := by decide +kernel
theorem idx1_6 : ∀ t : Fin cfg1.N, win1_6.index t = ![t.val, 0] := by decide +kernel
theorem idx2_0 : ∀ t : Fin cfg2.N, win2_0.index t = ![t.val, 0] := by decide +kernel
theorem idx2_1 : ∀ t : Fin cfg2.N, win2_1.index t = ![0, 0] := by decide +kernel
theorem idx2_2 : ∀ t : Fin cfg2.N, win2_2.index t = ![0, 0] := by decide +kernel
theorem idx2_5 : ∀ t : Fin cfg2.N, win2_5.index t = ![t.val, 0] := by decide +kernel
theorem idx2_6 : ∀ t : Fin cfg2.N, win2_6.index t = ![t.val, 0] := by decide +kernel
theorem idx2_7 : ∀ t : Fin cfg2.N, win2_7.index t = ![t.val, 0] := by decide +kernel

theorem blk0_0 (t : Fin cfg0.N) (r : Fin 512) (d : Fin 2048) (R : Fin 8192) (hR : R.val = 512 * t.val + r.val) :
    iblk0 V c 0 t (ix2 r d) = V c main_v42 (ix2 R d) := by
  blk_ext [iblk0, idx0_0 t]
theorem blk0_1 (t : Fin cfg0.N) (d : Fin 2048) : iblk0 V c 1 t (ix2 0 d) = V c main_v43 (ix2 0 d) := by
  blk_ext [iblk0, idx0_1 t]

theorem blk1_0 (t : Fin cfg1.N) (r : Fin 512) (d : Fin 2048) (R : Fin 8192) (hR : R.val = 512 * t.val + r.val) :
    iblk1 V c 0 t (ix2 r d) = V c main_v44 (ix2 R d) := by
  blk_ext [iblk1, idx1_0 t]
theorem blk1_1 (t : Fin cfg1.N) (x j : Fin 2048) : iblk1 V c 1 t (ix2 x j) = V c main_v32 (ix2 x j) := by
  blk_ext [iblk1, idx1_1 t]
theorem blk1_2 (t : Fin cfg1.N) (d : Fin 128) : View.ld (iblk1 V c 2 t) r1_10 (ix2 0 d) = V c main_v28 (ix2 3 d) := by
  have e : r1_10.idx (ix2 0 d) = (ix2 3 d : S8x128.Idx) := by
    funext a
    match a with
    | ⟨0, _⟩ => rfl
    | ⟨1, _⟩ => exact Fin.ext (by show 0 + 1 * d.val = d.val; omega)
  show iblk1 V c 2 t (r1_10.idx (ix2 0 d)) = _
  rw [e]
  blk_ext [iblk1, idx1_2 t]

theorem blk2_0 (t : Fin cfg2.N) (r : Fin 512) (d : Fin 2048) (R : Fin 8192) (hR : R.val = 512 * t.val + r.val) :
    iblk2 V c 0 t (ix2 r d) = V c main_v44 (ix2 R d) := by
  blk_ext [iblk2, idx2_0 t]
theorem blk2_1 (t : Fin cfg2.N) (x : Fin 2048) (j : Fin 1408) : iblk2 V c 1 t (ix2 x j) = V c main_v37 (ix2 x j) := by
  blk_ext [iblk2, idx2_1 t]
theorem blk2_2 (t : Fin cfg2.N) (d : Fin 128) : View.ld (iblk2 V c 2 t) r2_10 (ix2 0 d) = V c main_v28 (ix2 5 d) := by
  have e : r2_10.idx (ix2 0 d) = (ix2 5 d : S8x128.Idx) := by
    funext a
    match a with
    | ⟨0, _⟩ => rfl
    | ⟨1, _⟩ => exact Fin.ext (by show 0 + 1 * d.val = d.val; omega)
  show iblk2 V c 2 t (r2_10.idx (ix2 0 d)) = _
  rw [e]
  blk_ext [iblk2, idx2_2 t]

/-! ## The arrays of results -/

/-- An array of 8192 rows, from its entries. -/
def rows {φ : FTy} {n : ℕ} (f : Fin 8192 → Fin n → EReal) : FVec Ideal (⟨2, ![8192, n]⟩ : Shape) φ := fun y =>
  f (⟨(y 0).val, (y 0).isLt⟩ : Fin 8192) (⟨(y 1).val, (y 1).isLt⟩ : Fin n)

theorem rows_at {φ : FTy} {n : ℕ} (f : Fin 8192 → Fin n → EReal) (R : Fin 8192) (j : Fin n) (y : (⟨2, ![8192, n]⟩ : Shape).Idx)
    (h0 : (y 0).val = R.val) (h1 : (y 1).val = j.val) : (rows f : FVec Ideal (⟨2, ![8192, n]⟩ : Shape) φ) y = f R j := by
  have e0 : (⟨(y 0).val, (y 0).isLt⟩ : Fin 8192) = R := Fin.ext h0
  have e1 : (⟨(y 1).val, (y 1).isLt⟩ : Fin n) = j := Fin.ext h1
  unfold rows
  rw [e0, e1]

theorem ix_row {n k : ℕ} (y : (⟨2, ![n, k]⟩ : Shape).Idx) : y = ix2 (⟨(y 0).val, (y 0).isLt⟩ : Fin n) (⟨(y 1).val, (y 1).isLt⟩ : Fin k) := by
  funext a
  match a with
  | ⟨0, _⟩ => rfl
  | ⟨1, _⟩ => rfl

/-- The normalised rows. -/
def hiddenOut (x : Vec Ideal S8192x2048 .f32) (g : Vec Ideal S1x2048 .f32) (R : Fin 8192) (d : Fin 2048) : EReal :=
  norm (Ideal.ofBits .f32 0x45000000#32) (fun j => x (ix2 R j)) (fun j => g (ix2 0 j)) d

theorem arr0 : (dat0 V c).arrAt 2 cfg0.N = (rows (hiddenOut (V c main_v42) (V c main_v43)) : FVec Ideal S8192x2048 .bf16) := by
  refine (dat0 V c).arrAt_eq_of_covers 2 _ (by decide +kernel) fun t hf y => ?_
  have hN := points0
  have htl : t.val < _ := lt_of_lt_of_eq t.isLt hN
  blk_simp
  rw [after0_2, out0_eq]
  have y0 : (y 0).val < 512 := (y 0).isLt
  have y1 : (y 1).val < 2048 := (y 1).isLt
  have h0 : (((win0_2.blk t).view.emb y) 0 : ℕ) = t.val * 512 + (y 0).val := by blk_simp [idx0_2 t]
  have h1 : (((win0_2.blk t).view.emb y) 1 : ℕ) = 0 * 2048 + (y 1).val := by blk_simp [idx0_2 t]
  refine (congrArg (k0_pay1 _ _) (ix_row y)).trans ((hidden_at _ _ _ _).trans ?_)
  refine Eq.trans ?_ (rows_at _ (⟨512 * t.val + (y 0).val, by omega⟩ : Fin 8192) (⟨(y 1).val, y1⟩ : Fin 2048) _
    (by rw [h0]; show _ = 512 * t.val + (y 0).val; omega) (by rw [h1]; show _ = (y 1).val; omega)).symm
  unfold hiddenOut
  congr 1
  · funext j; exact blk0_0 V c t _ j _ rfl
  · funext j; exact blk0_1 V c t j

/-- Column `j` of the first product, -/
def prodB (h : Vec Ideal S8192x2048 .bf16) (w : Vec Ideal S2048x2048 .bf16) (R : Fin 8192) (j : Fin 2048) : EReal :=
  ∑ x : Fin 2048, h (ix2 R x) * w (ix2 x j)

/-- and of the second. -/
def prodD (h : Vec Ideal S8192x2048 .bf16) (w : Vec Ideal S2048x1408 .bf16) (R : Fin 8192) (j : Fin 1408) : EReal :=
  ∑ x : Fin 2048, h (ix2 R x) * w (ix2 x j)

/-- The first product's last eight heads, normalised. -/
def queryOut (h : Vec Ideal S8192x2048 .bf16) (w : Vec Ideal S2048x2048 .bf16) (g : Vec Ideal S8x128 .f32) (R : Fin 8192) (j : Fin 1024) : EReal :=
  norm (Ideal.ofBits .f32 0x43000000#32) (fun d => prodB h w R (⟨128 * (8 + j.val / 128) + d.val, by omega⟩ : Fin 2048)) (fun d => g (ix2 3 d))
    (⟨j.val % 128, by omega⟩ : Fin 128)

/-- The second product's ninth head, with its bias, through the logarithm of the sigmoid. -/
def forgetOut (h : Vec Ideal S8192x2048 .bf16) (w : Vec Ideal S2048x1408 .bf16) (g : Vec Ideal S8x128 .f32) (R : Fin 8192) (d : Fin 128) : EReal :=
  logSig (prodD h w R (⟨1024 + d.val, by omega⟩ : Fin 1408) + g (ix2 5 d))

theorem prodB_of (u : Vec Ideal S512x2048 .bf16) (v : Vec Ideal S2048x2048 .bf16) (h : Vec Ideal S8192x2048 .bf16) (w : Vec Ideal S2048x2048 .bf16)
    (r : Fin 512) (R : Fin 8192) (j j' : Fin 2048) (hu : ∀ x : Fin 2048, u (ix2 r x) = h (ix2 R x)) (hv : ∀ x : Fin 2048, v (ix2 x j) = w (ix2 x j')) :
    (∑ x : Fin 2048, u (ix2 r x) * v (ix2 x j)) = prodB h w R j' :=
  Finset.sum_congr rfl fun x _ => by rw [hu, hv]

theorem prodD_of (u : Vec Ideal S512x2048 .bf16) (v : Vec Ideal S2048x1408 .bf16) (h : Vec Ideal S8192x2048 .bf16) (w : Vec Ideal S2048x1408 .bf16)
    (r : Fin 512) (R : Fin 8192) (j j' : Fin 1408) (hu : ∀ x : Fin 2048, u (ix2 r x) = h (ix2 R x)) (hv : ∀ x : Fin 2048, v (ix2 x j) = w (ix2 x j')) :
    (∑ x : Fin 2048, u (ix2 r x) * v (ix2 x j)) = prodD h w R j' :=
  Finset.sum_congr rfl fun x _ => by rw [hu, hv]

theorem arr1_5 : (dat1 V c).arrAt 5 cfg1.N
    = (rows (fun R (j : Fin 1024) => prodB (V c main_v44) (V c main_v32) R ⟨j.val, by omega⟩) : FVec Ideal S8192x1024 .f32) := by
  refine (dat1 V c).arrAt_eq_of_covers 5 _ (by decide +kernel) fun t hf y => ?_
  have hN := points1
  have htl : t.val < _ := lt_of_lt_of_eq t.isLt hN
  blk_simp
  rw [after1_5, out1_5_eq]
  have y0 : (y 0).val < 512 := (y 0).isLt
  have y1 : (y 1).val < 1024 := (y 1).isLt
  have h0 : (((win1_5.blk t).view.emb y) 0 : ℕ) = t.val * 512 + (y 0).val := by blk_simp [idx1_5 t]
  have h1 : (((win1_5.blk t).view.emb y) 1 : ℕ) = 0 * 1024 + (y 1).val := by blk_simp [idx1_5 t]
  refine Eq.trans ?_ (rows_at _ (⟨512 * t.val + (y 0).val, by omega⟩ : Fin 8192) (⟨(y 1).val, y1⟩ : Fin 1024) _
    (by rw [h0]; show _ = 512 * t.val + (y 0).val; omega) (by rw [h1]; show _ = (y 1).val; omega)).symm
  refine (colB_at _ _ (⟨(y 1).val / 128, by omega⟩ : Fin 16) (⟨(y 0).val, y0⟩ : Fin 512) (⟨(y 1).val % 128, by omega⟩ : Fin 128)).trans ?_
  exact prodB_of _ _ _ _ _ _ _ _ (fun x => blk1_0 V c t _ x _ rfl) (fun x => (blk1_1 V c t x _).trans
    (congrArg (fun z : Fin 2048 => V c main_v32 (ix2 x z)) (Fin.ext (by show 128 * ((y 1).val / 128) + (y 1).val % 128 = (y 1).val; omega))))

theorem arr1_6 : (dat1 V c).arrAt 6 cfg1.N
    = (rows (queryOut (V c main_v44) (V c main_v32) (V c main_v28)) : FVec Ideal S8192x1024 .f32) := by
  refine (dat1 V c).arrAt_eq_of_covers 6 _ (by decide +kernel) fun t hf y => ?_
  have hN := points1
  have htl : t.val < _ := lt_of_lt_of_eq t.isLt hN
  blk_simp
  rw [after1_6, out1_6_eq]
  have y0 : (y 0).val < 512 := (y 0).isLt
  have y1 : (y 1).val < 1024 := (y 1).isLt
  have h0 : (((win1_6.blk t).view.emb y) 0 : ℕ) = t.val * 512 + (y 0).val := by blk_simp [idx1_6 t]
  have h1 : (((win1_6.blk t).view.emb y) 1 : ℕ) = 0 * 1024 + (y 1).val := by blk_simp [idx1_6 t]
  refine Eq.trans ?_ (rows_at _ (⟨512 * t.val + (y 0).val, by omega⟩ : Fin 8192) (⟨(y 1).val, y1⟩ : Fin 1024) _
    (by rw [h0]; show _ = 512 * t.val + (y 0).val; omega) (by rw [h1]; show _ = (y 1).val; omega)).symm
  refine (normed_at (colB (⟨8 + (y 1).val / 128, by omega⟩ : Fin 16) _) _ (⟨(y 0).val, y0⟩ : Fin 512) (⟨(y 1).val % 128, by omega⟩ : Fin 128)).trans ?_
  unfold queryOut
  congr 1
  · funext d
    rw [colB_at]
    exact prodB_of _ _ _ _ _ _ _ _ (fun x => blk1_0 V c t _ x _ rfl) (fun x => (blk1_1 V c t x _).trans
    (congrArg (fun z : Fin 2048 => V c main_v32 (ix2 x z)) (Fin.ext rfl)))
  · funext d; exact blk1_2 V c t d

theorem arr2_5 : (dat2 V c).arrAt 5 cfg2.N
    = (rows (fun R (j : Fin 1024) => prodD (V c main_v44) (V c main_v37) R ⟨j.val, by omega⟩) : FVec Ideal S8192x1024 .f32) := by
  refine (dat2 V c).arrAt_eq_of_covers 5 _ (by decide +kernel) fun t hf y => ?_
  have hN := points2
  have htl : t.val < _ := lt_of_lt_of_eq t.isLt hN
  blk_simp
  rw [after2_5, out2_5_eq]
  have y0 : (y 0).val < 512 := (y 0).isLt
  have y1 : (y 1).val < 1024 := (y 1).isLt
  have h0 : (((win2_5.blk t).view.emb y) 0 : ℕ) = t.val * 512 + (y 0).val := by blk_simp [idx2_5 t]
  have h1 : (((win2_5.blk t).view.emb y) 1 : ℕ) = 0 * 1024 + (y 1).val := by blk_simp [idx2_5 t]
  refine Eq.trans ?_ (rows_at _ (⟨512 * t.val + (y 0).val, by omega⟩ : Fin 8192) (⟨(y 1).val, y1⟩ : Fin 1024) _
    (by rw [h0]; show _ = 512 * t.val + (y 0).val; omega) (by rw [h1]; show _ = (y 1).val; omega)).symm
  refine (colD_at _ _ (⟨(y 1).val / 128, by omega⟩ : Fin 11) (⟨(y 0).val, y0⟩ : Fin 512) (⟨(y 1).val % 128, by omega⟩ : Fin 128)).trans ?_
  exact prodD_of _ _ _ _ _ _ _ _ (fun x => blk2_0 V c t _ x _ rfl) (fun x => (blk2_1 V c t x _).trans
    (congrArg (fun z : Fin 1408 => V c main_v37 (ix2 x z)) (Fin.ext (by show 128 * ((y 1).val / 128) + (y 1).val % 128 = (y 1).val; omega))))

theorem arr2_6 : (dat2 V c).arrAt 6 cfg2.N
    = (rows (forgetOut (V c main_v44) (V c main_v37) (V c main_v28)) : FVec Ideal S8192x128 .f32) := by
  refine (dat2 V c).arrAt_eq_of_covers 6 _ (by decide +kernel) fun t hf y => ?_
  have hN := points2
  have htl : t.val < _ := lt_of_lt_of_eq t.isLt hN
  blk_simp
  rw [after2_6, out2_6_eq]
  have y0 : (y 0).val < 512 := (y 0).isLt
  have y1 : (y 1).val < 128 := (y 1).isLt
  have h0 : (((win2_6.blk t).view.emb y) 0 : ℕ) = t.val * 512 + (y 0).val := by blk_simp [idx2_6 t]
  have h1 : (((win2_6.blk t).view.emb y) 1 : ℕ) = 0 * 128 + (y 1).val := by blk_simp [idx2_6 t]
  refine (congrArg (k2_pay1 _ _) (ix_row y)).trans ((forget_at _ _ _ _ _).trans ?_)
  refine Eq.trans ?_ (rows_at _ (⟨512 * t.val + (y 0).val, by omega⟩ : Fin 8192) (⟨(y 1).val, y1⟩ : Fin 128) _
    (by rw [h0]; show _ = 512 * t.val + (y 0).val; omega) (by rw [h1]; show _ = (y 1).val; omega)).symm
  unfold forgetOut
  rw [blk2_2]
  exact congrArg (fun z => logSig (z + V c main_v28 (ix2 5 (⟨(y 1).val, y1⟩ : Fin 128))))
    (prodD_of _ _ _ _ _ _ _ _ (fun x => blk2_0 V c t _ x _ rfl) (fun x => blk2_1 V c t x _))

theorem arr2_7 : (dat2 V c).arrAt 7 cfg2.N
    = (rows (fun R (j : Fin 256) => prodD (V c main_v44) (V c main_v37) R ⟨1152 + j.val, by omega⟩) : FVec Ideal S8192x256 .f32) := by
  refine (dat2 V c).arrAt_eq_of_covers 7 _ (by decide +kernel) fun t hf y => ?_
  have hN := points2
  have htl : t.val < _ := lt_of_lt_of_eq t.isLt hN
  blk_simp
  rw [after2_7, out2_7_eq]
  have y0 : (y 0).val < 512 := (y 0).isLt
  have y1 : (y 1).val < 256 := (y 1).isLt
  have h0 : (((win2_7.blk t).view.emb y) 0 : ℕ) = t.val * 512 + (y 0).val := by blk_simp [idx2_7 t]
  have h1 : (((win2_7.blk t).view.emb y) 1 : ℕ) = 0 * 256 + (y 1).val := by blk_simp [idx2_7 t]
  refine Eq.trans ?_ (rows_at _ (⟨512 * t.val + (y 0).val, by omega⟩ : Fin 8192) (⟨(y 1).val, y1⟩ : Fin 256) _
    (by rw [h0]; show _ = 512 * t.val + (y 0).val; omega) (by rw [h1]; show _ = (y 1).val; omega)).symm
  refine (colD_at _ _ (⟨9 + (y 1).val / 128, by omega⟩ : Fin 11) (⟨(y 0).val, y0⟩ : Fin 512) (⟨(y 1).val % 128, by omega⟩ : Fin 128)).trans ?_
  exact prodD_of _ _ _ _ _ _ _ _ (fun x => blk2_0 V c t _ x _ rfl) (fun x => (blk2_1 V c t x _).trans
    (congrArg (fun z : Fin 1408 => V c main_v37 (ix2 x z)) (Fin.ext (by show 128 * (9 + (y 1).val / 128) + (y 1).val % 128 = 1152 + (y 1).val; omega))))

end Cert.Kernel3Ideal.Even

end
-- ==== Proof.Even.Run.lean ====
/-
The run of two of the even layer's projections, with every array of the machine's memory as the program leaves it.
-/
module

public import proofs.«01_k».proof.Proof.Gen.Kernel3Ideal.Frame
public import Idealize.ShloMosaic.PureOps.IdealRules

@[expose] public section

set_option maxRecDepth 16384

noncomputable section

namespace Cert.Kernel3Ideal.Even

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends, with each buffer of the program at the contents after the last operation. -/
theorem run_all : θ_run defs (onTc (τ := τ) (main (F := Ideal))) ⟨m, fun _ => 0, ρ⟩ (fun r => ∀ (c : Dev nD) (b : Ref sig .tc),
      ¬(Proc.devRef .tc b : DevRef τ sig).isScoped → r.2.mem ((c.tc : Thread nD τ).loc b) = W14 m ρ c (Proc.devRef .tc b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h _ c r hr => h c _ (mem_uc r hr))

end Cert.Kernel3Ideal.Even

end
-- ==== Proof.Even.Arrays.lean ====
/-
What the program's host operations leave in the arrays of the three calls, and the five results entry by entry, from the arguments.
-/
module

public import proofs.«01_k».proof.Proof.Even.KernelAt
public import proofs.«01_k».proof.Proof.Even.Run

@[expose] public section

set_option maxRecDepth 16384

noncomputable section

namespace Cert.Kernel3Ideal.Even

open Idealize.ShloMosaic Idealize.ShloMosaic.TcCoe Idealize.ShloMosaic.Tactic
open Idealize.SL.Sem
open Cert.Kernel3Ideal Cert.Kernel3Ideal.Gen
open Cert.Even (logSig proj query forget)

variable (m : (ℓ : Loc nD τ sig) → Buf (Elt Ideal) ℓ) (ρ : Dev nD → PrngReg) (c : Dev nD)

/-! ## The arguments -/

/-- The layer's input. -/
def argX : Vec Ideal S2x4096x2048 .f32 := m ((c.tc : Thread nD τ).loc main_arg0)
/-- The scale of its norm. -/
def argG : Vec Ideal S2048 .f32 := m ((c.tc : Thread nD τ).loc main_arg1)
/-- The projection. -/
def argW : Vec Ideal S2048x7712 .f32 := m ((c.tc : Thread nD τ).loc main_arg2)
/-- The bias of the forget gates. -/
def argF : Vec Ideal S8 .f32 := m ((c.tc : Thread nD τ).loc main_arg3)
/-- The scales of the queries' and the keys' norms. -/
def argN : Vec Ideal S2x128 .f32 := m ((c.tc : Thread nD τ).loc main_arg5)

/-! ## Before the first call -/

/-- The input, the scale of its norm and the first product's columns. -/
theorem W9_found :
    W9 m ρ c (Proc.devRef .tc main_v42) = shapeCast S8192x2048 (argX m c) shapeCasts_S2x4096x2048_S8192x2048
    ∧ W9 m ρ c (Proc.devRef .tc main_v43) = shapeCast S1x2048 (argG m c) shapeCasts_S2048_S1x2048
    ∧ W9 m ρ c (Proc.devRef .tc main_v32) = (truncf .bf16 (extractStridedSlice S2048x2048 ![0, 2584] (argW m c) slices_S2048x7712_S2048x2048_0_2584 : FVec Ideal S2048x2048 .f32) bitsLt_bf16_f32 : FVec Ideal S2048x2048 .bf16) := by
  refine ⟨?_, ?_, ?_⟩ <;>
  · simp only [W9, W8, W7, W6, W5, W4, W3, W2, W1, hostOps0, hostOps0_1, hostOps0_2, hostOps0_3, hostOps0_4, hostOps0_5, hostOps0_6, hostOps0_7,
      hostOps0_8, List.flatten_cons, List.flatten_nil, List.append_nil, List.cons_append, List.nil_append, StableHlo.TRef.unary,
      StableHlo.TRef.binary, StableHlo.TRef.toBuf, StableHlo.TRef.ofBuf, cast_eq]
    after_results_simp
    rfl

/-- The value the pads fill with: no result reads it. -/
def filler : FVec Ideal S_ .f32 := sitofp .f32 (constantI S_ 32 0#32)

/-- The bias of the forget gates in a row of 128. -/
def biasRow : FVec Ideal S128 .f32 := pad S128 ![0] ![120] ![0] (argF m c) filler pads_S8_S128_01200 h_S_

/-- The columns of the forget gates, in 128 columns. -/
def forgetW : FVec Ideal S2048x128 .f32 :=
  pad S2048x128 ![0, 0] ![0, 120] ![0, 0] (extractStridedSlice S2048x8 ![0, 6680] (argW m c) slices_S2048x7712_S2048x8_0_6680 : FVec Ideal S2048x8 .f32)
    filler pads_S2048x8_S2048x128_000_01200 h_S_

/-- Half of the columns of the branches' gates, in 128 columns. -/
def gateW (o : Fin 2 → ℕ) (h : S2048x24.Slices o S2048x12) : FVec Ideal S2048x128 .f32 :=
  pad S2048x128 ![0, 0] ![0, 116] ![0, 0] (extractStridedSlice S2048x12 o
      (extractStridedSlice S2048x24 ![0, 2560] (argW m c) slices_S2048x7712_S2048x24_0_2560 : FVec Ideal S2048x24 .f32) h : FVec Ideal S2048x12 .f32)
    filler pads_S2048x12_S2048x128_000_01160 h_S_

/-- The parts of the second product's columns, the scale of the queries' norm and the bias of the forget gates. -/
theorem W8_found :
    W8 m ρ c (Proc.devRef .tc main_v2) = forgetW m c
    ∧ W8 m ρ c (Proc.devRef .tc main_v4) = gateW m c ![0, 0] slices_S2048x24_S2048x12_0_0
    ∧ W8 m ρ c (Proc.devRef .tc main_v6) = gateW m c ![0, 12] slices_S2048x24_S2048x12_0_12
    ∧ W8 m ρ c (Proc.devRef .tc main_v14) = shapeCast S128 (extractStridedSlice S1x128 ![0, 0] (argN m c) slices_S2x128_S1x128_0_0 : FVec Ideal S1x128 .f32) shapeCasts_S1x128_S128
    ∧ W8 m ρ c (Proc.devRef .tc main_v17) = biasRow m c := by
  refine ⟨?_, ?_, ?_, ?_, ?_⟩ <;>
  · simp only [W8, W7, W6, W5, W4, W3, W2, W1, hostOps0, hostOps0_1, hostOps0_2, hostOps0_3, hostOps0_4, hostOps0_5, hostOps0_6, hostOps0_7,
      List.flatten_cons, List.flatten_nil, List.append_nil, List.cons_append, List.nil_append, StableHlo.TRef.unary,
      StableHlo.TRef.binary, StableHlo.TRef.toBuf, StableHlo.TRef.ofBuf, cast_eq]
    after_results_simp
    rfl

/-- The second product's columns, side by side. -/
def joined (a : FVec Ideal S2048x1024 .f32) (b u v : FVec Ideal S2048x128 .f32) : FVec Ideal S2048x1408 .bf16 :=
  truncf .bf16 (concatenate S2048x1408 1 [⟨S2048x1024, a⟩, ⟨S2048x128, b⟩, ⟨S2048x128, u⟩, ⟨S2048x128, v⟩]
    concatenates_S2048x1024_S2048x128_S2048x128_S2048x128_S2048x1408_d1 : FVec Ideal S2048x1408 .f32) bitsLt_bf16_f32

theorem W9_v37 : W9 m ρ c (Proc.devRef .tc main_v37) = joined
    (extractStridedSlice S2048x1024 ![0, 6688] (W8 m ρ c (Proc.devRef .tc main_arg2) : FVec Ideal S2048x7712 .f32) slices_S2048x7712_S2048x1024_0_6688 : FVec Ideal S2048x1024 .f32)
    (W8 m ρ c (Proc.devRef .tc main_v2)) (W8 m ρ c (Proc.devRef .tc main_v4)) (W8 m ρ c (Proc.devRef .tc main_v6)) := by
  simp only [W9, hostOps0_8, List.flatten_cons, List.flatten_nil, List.append_nil, List.cons_append, List.nil_append, StableHlo.TRef.unary,
    StableHlo.TRef.binary, StableHlo.TRef.toBuf, StableHlo.TRef.ofBuf, cast_eq]
  after_results_simp
  rfl

/-- Eight rows of 128, one below the other. -/
def stacked (a : Fin 8 → FVec Ideal S128 .f32) : FVec Ideal S8x128 .f32 :=
  concatenate S8x128 0 [⟨S1x128, broadcastInDim S1x128 ![1] bcast_S128_S1x128_1 (a 0)⟩, ⟨S1x128, broadcastInDim S1x128 ![1] bcast_S128_S1x128_1 (a 1)⟩,
    ⟨S1x128, broadcastInDim S1x128 ![1] bcast_S128_S1x128_1 (a 2)⟩, ⟨S1x128, broadcastInDim S1x128 ![1] bcast_S128_S1x128_1 (a 3)⟩,
    ⟨S1x128, broadcastInDim S1x128 ![1] bcast_S128_S1x128_1 (a 4)⟩, ⟨S1x128, broadcastInDim S1x128 ![1] bcast_S128_S1x128_1 (a 5)⟩,
    ⟨S1x128, broadcastInDim S1x128 ![1] bcast_S128_S1x128_1 (a 6)⟩, ⟨S1x128, broadcastInDim S1x128 ![1] bcast_S128_S1x128_1 (a 7)⟩]
    concatenates_S1x128_S1x128_S1x128_S1x128_S1x128_S1x128_S1x128_S1x128_S8x128_d0

/-- Two rows of zeros. -/
def zeros : FVec Ideal S128 .f32 := broadcastInDim S128 ![] bcast_S_S128 (constant S_ .f32 0x00000000#32)

theorem W9_v28 : W9 m ρ c (Proc.devRef .tc main_v28) = stacked ![W8 m ρ c (Proc.devRef .tc main_v8), W8 m ρ c (Proc.devRef .tc main_v10),
    W8 m ρ c (Proc.devRef .tc main_v12), W8 m ρ c (Proc.devRef .tc main_v14), W8 m ρ c (Proc.devRef .tc main_v16),
    W8 m ρ c (Proc.devRef .tc main_v17), zeros, zeros] := by
  simp only [W9, hostOps0_8, List.flatten_cons, List.flatten_nil, List.append_nil, List.cons_append, List.nil_append, StableHlo.TRef.unary,
    StableHlo.TRef.binary, StableHlo.TRef.toBuf, StableHlo.TRef.ofBuf, cast_eq]
  after_results_simp
  rfl

/-! ## The arrays at their entries -/

theorem rowsX_at (R : Fin 8192) (b : Fin 2) (q : Fin 4096) (h : R.val = 4096 * b.val + q.val) (x : Fin 2048) :
    shapeCast S8192x2048 (argX m c) shapeCasts_S2x4096x2048_S8192x2048 (ix2 R x) = argX m c (ix3 b q x) := by
  refine shapeCast_apply _ _ _ (ix3 b q x) ?_
  rw [Shape.rowMajor_val_three, Shape.rowMajor_val_two]
  show (b.val * 4096 + q.val) * 2048 + x.val = R.val * 2048 + x.val
  omega

theorem rowG_at (x : Fin 2048) : shapeCast S1x2048 (argG m c) shapeCasts_S2048_S1x2048 (ix2 0 x) = argG m c (ix1 x) := by
  pointwise

theorem stacked_three (a : Fin 8 → FVec Ideal S128 .f32) (d : Fin 128) : stacked a (ix2 3 d) = a 3 (ix1 d) := by
  pointwise [stacked]

theorem stacked_five (a : Fin 8 → FVec Ideal S128 .f32) (d : Fin 128) : stacked a (ix2 5 d) = a 5 (ix1 d) := by
  pointwise [stacked]

theorem joined_at (a : FVec Ideal S2048x1024 .f32) (b u v : FVec Ideal S2048x128 .f32) (x : Fin 2048) (j : Fin 1408) :
    joined a b u v (ix2 x j) = if h : j.val < 1024 then a (ix2 x (⟨j.val, h⟩ : Fin 1024))
      else if h : j.val - 1024 < 128 then b (ix2 x (⟨j.val - 1024, h⟩ : Fin 128))
      else if h : j.val - 1024 - 128 < 128 then u (ix2 x (⟨j.val - 1024 - 128, h⟩ : Fin 128))
      else v (ix2 x (⟨j.val - 1024 - 128 - 128, by omega⟩ : Fin 128)) := by
  pointwise [joined]

theorem scales_at (d : Fin 128) : W9 m ρ c (Proc.devRef .tc main_v28) (ix2 3 d) = argN m c (ix2 0 d) := by
  rw [W9_v28]
  refine (stacked_three _ d).trans ?_
  show W8 m ρ c (Proc.devRef .tc main_v14) (ix1 d) = _
  rw [(W8_found m ρ c).2.2.2.1]
  pointwise

theorem bias_at (k : Fin 8) : W9 m ρ c (Proc.devRef .tc main_v28) (ix2 5 (⟨k.val, by omega⟩ : Fin 128)) = argF m c (ix1 k) := by
  rw [W9_v28]
  refine (stacked_five _ _).trans ?_
  show W8 m ρ c (Proc.devRef .tc main_v17) (ix1 _) = _
  rw [(W8_found m ρ c).2.2.2.2]
  pointwise [biasRow]

theorem w32_at (x j : Fin 2048) : W9 m ρ c (Proc.devRef .tc main_v32) (ix2 x j) = argW m c (ix2 x (⟨2584 + j.val, by omega⟩ : Fin 7712)) := by
  rw [(W9_found m ρ c).2.2]
  pointwise

theorem forgetW_at (x : Fin 2048) (k : Fin 8) : forgetW m c (ix2 x (⟨k.val, by omega⟩ : Fin 128)) = argW m c (ix2 x (⟨6680 + k.val, by omega⟩ : Fin 7712)) := by
  pointwise [forgetW]

theorem gateW_first (x : Fin 2048) (k : Fin 12) : gateW m c ![0, 0] slices_S2048x24_S2048x12_0_0 (ix2 x (⟨k.val, by omega⟩ : Fin 128))
    = argW m c (ix2 x (⟨2560 + k.val, by omega⟩ : Fin 7712)) := by
  pointwise [gateW]

theorem gateW_last (x : Fin 2048) (k : Fin 12) : gateW m c ![0, 12] slices_S2048x24_S2048x12_0_12 (ix2 x (⟨k.val, by omega⟩ : Fin 128))
    = argW m c (ix2 x (⟨2560 + (12 + k.val), by omega⟩ : Fin 7712)) := by
  pointwise [gateW]

theorem w37_gate (x : Fin 2048) (j : Fin 1408) (k : Fin 1024) (h : j.val = k.val) :
    W9 m ρ c (Proc.devRef .tc main_v37) (ix2 x j) = argW m c (ix2 x (⟨6688 + k.val, by omega⟩ : Fin 7712)) := by
  rw [W9_v37, W8_args m ρ c main_arg2 (by decide)]
  refine (joined_at _ _ _ _ x j).trans ?_
  rw [dif_pos (show j.val < 1024 by omega)]
  have e : (⟨j.val, by omega⟩ : Fin 1024) = k := Fin.ext h
  rw [e]
  show extractStridedSlice S2048x1024 ![0, 6688] (argW m c) slices_S2048x7712_S2048x1024_0_6688 (ix2 x k) = _
  pointwise

theorem w37_forget (x : Fin 2048) (j : Fin 1408) (k : Fin 8) (h : j.val = 1024 + k.val) :
    W9 m ρ c (Proc.devRef .tc main_v37) (ix2 x j) = argW m c (ix2 x (⟨6680 + k.val, by omega⟩ : Fin 7712)) := by
  rw [W9_v37, (W8_found m ρ c).1]
  refine (joined_at _ _ _ _ x j).trans ?_
  rw [dif_neg (show ¬j.val < 1024 by omega), dif_pos (show j.val - 1024 < 128 by omega)]
  have e : (⟨j.val - 1024, by omega⟩ : Fin 128) = ⟨k.val, by omega⟩ := Fin.ext (by show j.val - 1024 = k.val; omega)
  rw [e]
  exact forgetW_at m c x k

theorem w37_first (x : Fin 2048) (j : Fin 1408) (k : Fin 12) (h : j.val = 1152 + k.val) :
    W9 m ρ c (Proc.devRef .tc main_v37) (ix2 x j) = argW m c (ix2 x (⟨2560 + k.val, by omega⟩ : Fin 7712)) := by
  rw [W9_v37, (W8_found m ρ c).2.1]
  refine (joined_at _ _ _ _ x j).trans ?_
  rw [dif_neg (show ¬j.val < 1024 by omega), dif_neg (show ¬j.val - 1024 < 128 by omega), dif_pos (show j.val - 1024 - 128 < 128 by omega)]
  have e : (⟨j.val - 1024 - 128, by omega⟩ : Fin 128) = ⟨k.val, by omega⟩ := Fin.ext (by show j.val - 1024 - 128 = k.val; omega)
  rw [e]
  exact gateW_first m c x k

theorem w37_last (x : Fin 2048) (j : Fin 1408) (k : Fin 12) (h : j.val = 1280 + k.val) :
    W9 m ρ c (Proc.devRef .tc main_v37) (ix2 x j) = argW m c (ix2 x (⟨2560 + (12 + k.val), by omega⟩ : Fin 7712)) := by
  rw [W9_v37, (W8_found m ρ c).2.2.1]
  refine (joined_at _ _ _ _ x j).trans ?_
  rw [dif_neg (show ¬j.val < 1024 by omega), dif_neg (show ¬j.val - 1024 < 128 by omega), dif_neg (show ¬j.val - 1024 - 128 < 128 by omega)]
  have e : (⟨j.val - 1024 - 128 - 128, by omega⟩ : Fin 128) = ⟨k.val, by omega⟩ := Fin.ext (by show j.val - 1024 - 128 - 128 = k.val; omega)
  rw [e]
  exact gateW_last m c x k

/-! ## What the calls find -/

theorem V9_v42 : V9 m ρ c main_v42 = shapeCast S8192x2048 (argX m c) shapeCasts_S2x4096x2048_S8192x2048 := (W9_found m ρ c).1
theorem V9_v43 : V9 m ρ c main_v43 = shapeCast S1x2048 (argG m c) shapeCasts_S2048_S1x2048 := (W9_found m ρ c).2.1

/-- The normalised input, as the first call leaves it. -/
def hiddens : Vec Ideal S8192x2048 .bf16 :=
  (rows (hiddenOut (shapeCast S8192x2048 (argX m c) shapeCasts_S2x4096x2048_S8192x2048) (shapeCast S1x2048 (argG m c) shapeCasts_S2048_S1x2048)) :
    FVec Ideal S8192x2048 .bf16)

theorem W10_v44 : W10 m ρ c (Proc.devRef .tc main_v44) = hiddens m c :=
  (W10_arr m ρ c 2).trans ((arr0 (V9 m ρ) c).trans (by rw [V9_v42, V9_v43]; rfl))

theorem V11_v44 : V11 m ρ c main_v44 = hiddens m c := (W11_of m ρ c main_v44 (by decide +kernel)).trans (W10_v44 m ρ c)

/-- What neither the first call nor the host operations after it write. -/
theorem W11_W9 (r : Ref sig .tc) (h1 : r ∉ hostOps1_W) (h2 : ∀ w : Fin cfg0.W, Pipeline.arrRef spec0 w = r → (cfg0.win w).isOut = false) :
    W11 m ρ c (Proc.devRef .tc r) = W9 m ρ c (Proc.devRef .tc r) := (W11_of m ρ c r h1).trans (W10_of m ρ c r h2)

theorem V11_v32 : V11 m ρ c main_v32 = W9 m ρ c (Proc.devRef .tc main_v32) := W11_W9 m ρ c main_v32 (by decide +kernel) (by decide +kernel)
theorem V11_v37 : V11 m ρ c main_v37 = W9 m ρ c (Proc.devRef .tc main_v37) := W11_W9 m ρ c main_v37 (by decide +kernel) (by decide +kernel)
theorem V11_v28 : V11 m ρ c main_v28 = W9 m ρ c (Proc.devRef .tc main_v28) := W11_W9 m ρ c main_v28 (by decide +kernel) (by decide +kernel)
theorem V12_v44 : V12 m ρ c main_v44 = hiddens m c := (W12_of m ρ c main_v44 (by decide +kernel)).trans (V11_v44 m ρ c)
theorem V12_v37 : V12 m ρ c main_v37 = W9 m ρ c (Proc.devRef .tc main_v37) := (W12_of m ρ c main_v37 (by decide +kernel)).trans (V11_v37 m ρ c)
theorem V12_v28 : V12 m ρ c main_v28 = W9 m ρ c (Proc.devRef .tc main_v28) := (W12_of m ρ c main_v28 (by decide +kernel)).trans (V11_v28 m ρ c)

/-! ## After the last call -/

theorem W14_v67 : W14 m ρ c (Proc.devRef .tc main_v67)
    = extractStridedSlice S8192x8 ![0, 0] (W13 m ρ c (Proc.devRef .tc main_v63_1) : FVec Ideal S8192x128 .f32) slices_S8192x128_S8192x8_0_0 := by
  simp only [W14, hostOps3, List.flatten_cons, List.flatten_nil, List.append_nil, List.cons_append, List.nil_append, StableHlo.TRef.unary,
    StableHlo.TRef.binary, StableHlo.TRef.toBuf, StableHlo.TRef.ofBuf, cast_eq]
  after_results_simp

/-- The first twelve columns of each half. -/
def halves (u : FVec Ideal S8192x256 .f32) : FVec Ideal S8192x24 .f32 :=
  concatenate S8192x24 1 [⟨S8192x12, extractStridedSlice S8192x12 ![0, 0] u slices_S8192x256_S8192x12_0_0⟩,
    ⟨S8192x12, extractStridedSlice S8192x12 ![0, 128] u slices_S8192x256_S8192x12_0_128⟩] concatenates_S8192x12_S8192x12_S8192x24_d1

theorem W14_v66 : W14 m ρ c (Proc.devRef .tc main_v66) = halves (W13 m ρ c (Proc.devRef .tc main_v63_2)) := by
  simp only [W14, hostOps3, List.flatten_cons, List.flatten_nil, List.append_nil, List.cons_append, List.nil_append, StableHlo.TRef.unary,
    StableHlo.TRef.binary, StableHlo.TRef.toBuf, StableHlo.TRef.ofBuf, cast_eq]
  after_results_simp
  rfl

theorem first8_at (u : FVec Ideal S8192x128 .f32) (R : Fin 8192) (k : Fin 8) :
    extractStridedSlice S8192x8 ![0, 0] u slices_S8192x128_S8192x8_0_0 (ix2 R k) = u (ix2 R (⟨k.val, by omega⟩ : Fin 128)) := by
  pointwise

theorem halves_first (u : FVec Ideal S8192x256 .f32) (R : Fin 8192) (j : Fin 24) (h : j.val < 12) :
    halves u (ix2 R j) = u (ix2 R (⟨j.val, by omega⟩ : Fin 256)) := by
  pointwise [halves]
  rw [dif_pos h]

theorem halves_last (u : FVec Ideal S8192x256 .f32) (R : Fin 8192) (j : Fin 24) (h : ¬j.val < 12) :
    halves u (ix2 R j) = u (ix2 R (⟨128 + (j.val - 12), by omega⟩ : Fin 256)) := by
  pointwise [halves]
  rw [dif_neg h]

/-! ## The results, entry by entry -/

/-- The arguments by their entries. -/
abbrev X (b : Fin 2) (q : Fin 4096) (x : Fin 2048) : EReal := argX m c (ix3 b q x)
abbrev G (x : Fin 2048) : EReal := argG m c (ix1 x)
abbrev W (x : Fin 2048) (j : Fin 7712) : EReal := argW m c (ix2 x j)
abbrev B (k : Fin 8) : EReal := argF m c (ix1 k)
abbrev N (d : Fin 128) : EReal := argN m c (ix2 0 d)

variable (R : Fin 8192) (b : Fin 2) (q : Fin 4096) (hR : R.val = 4096 * b.val + q.val)
include hR

theorem hiddens_at (x : Fin 2048) : hiddens m c (ix2 R x) = Cert.Odd.hid (X m c) (G m c) b q x := by
  refine (rows_at _ R x _ rfl rfl).trans ?_
  unfold hiddenOut Cert.Odd.hid
  congr 1
  · funext j; exact rowsX_at m c R b q hR j
  · funext j; exact rowG_at m c j

theorem prodB_proj (j : Fin 2048) (j' : Fin 7712) (h : j'.val = 2584 + j.val) :
    prodB (hiddens m c) (W9 m ρ c (Proc.devRef .tc main_v32)) R j = proj (X m c) (G m c) (W m c) b q j' := by
  have e : j' = ⟨2584 + j.val, by omega⟩ := Fin.ext h
  unfold prodB proj
  rw [e]
  exact Finset.sum_congr rfl fun x _ => by rw [hiddens_at m c R b q hR, w32_at]

theorem prodD_proj (j : Fin 1408) (j' : Fin 7712) (h : ∀ x : Fin 2048, W9 m ρ c (Proc.devRef .tc main_v37) (ix2 x j) = argW m c (ix2 x j')) :
    prodD (hiddens m c) (W9 m ρ c (Proc.devRef .tc main_v37)) R j = proj (X m c) (G m c) (W m c) b q j' := by
  unfold prodD proj
  exact Finset.sum_congr rfl fun x _ => by rw [hiddens_at m c R b q hR, h]

/-- The first gates. -/
theorem za_at (j : Fin 1024) (y : S8192x1024.Idx) (h0 : (y 0).val = R.val) (h1 : (y 1).val = j.val) :
    W14 m ρ c (Proc.devRef .tc main_v62_0) y = proj (X m c) (G m c) (W m c) b q ⟨2584 + j.val, by omega⟩ := by
  have e : W14 m ρ c (Proc.devRef .tc main_v62_0) = (dat1 (V11 m ρ) c).arrAt 5 cfg1.N :=
    (W14_of m ρ c main_v62_0 (by decide +kernel)).trans ((W13_of m ρ c main_v62_0 (by decide +kernel)).trans (W12_arr m ρ c 5))
  rw [e, arr1_5]
  refine (rows_at _ R j y h0 h1).trans ?_
  rw [V11_v44, V11_v32]
  exact prodB_proj m ρ c R b q hR _ _ rfl

/-- The queries. -/
theorem qb_at (k : Fin 8) (d : Fin 128) (y : S8192x1024.Idx) (h0 : (y 0).val = R.val) (h1 : (y 1).val = 128 * k.val + d.val) :
    W14 m ρ c (Proc.devRef .tc main_v62_1) y = query (X m c) (G m c) (W m c) (N m c) b q k d := by
  have e : W14 m ρ c (Proc.devRef .tc main_v62_1) = (dat1 (V11 m ρ) c).arrAt 6 cfg1.N :=
    (W14_of m ρ c main_v62_1 (by decide +kernel)).trans ((W13_of m ρ c main_v62_1 (by decide +kernel)).trans (W12_arr m ρ c 6))
  rw [e, arr1_6]
  refine (rows_at _ R (⟨128 * k.val + d.val, by omega⟩ : Fin 1024) y h0 h1).trans ?_
  rw [V11_v44, V11_v32, V11_v28]
  unfold queryOut query
  have ed : (⟨(128 * k.val + d.val) % 128, by omega⟩ : Fin 128) = d := Fin.ext (by show (128 * k.val + d.val) % 128 = d.val; omega)
  have en : (fun x : Fin 128 => prodB (hiddens m c) (W9 m ρ c (Proc.devRef .tc main_v32)) R (⟨128 * (8 + (128 * k.val + d.val) / 128) + x.val, by omega⟩ : Fin 2048))
      = fun x : Fin 128 => proj (X m c) (G m c) (W m c) b q ⟨3608 + (128 * k.val + x.val), by omega⟩ := funext fun x =>
    prodB_proj m ρ c R b q hR _ _ (by
      show 3608 + (128 * k.val + x.val) = 2584 + (128 * (8 + (128 * k.val + d.val) / 128) + x.val)
      omega)
  exact congr (congr (congrArg (Cert.Odd.norm _) en) (funext fun x => scales_at m ρ c x)) ed

/-- The second gates. -/
theorem zb_at (j : Fin 1024) (y : S8192x1024.Idx) (h0 : (y 0).val = R.val) (h1 : (y 1).val = j.val) :
    W14 m ρ c (Proc.devRef .tc main_v63_0) y = proj (X m c) (G m c) (W m c) b q ⟨6688 + j.val, by omega⟩ := by
  have e : W14 m ρ c (Proc.devRef .tc main_v63_0) = (dat2 (V12 m ρ) c).arrAt 5 cfg2.N :=
    (W14_of m ρ c main_v63_0 (by decide +kernel)).trans (W13_arr m ρ c 5)
  rw [e, arr2_5]
  refine (rows_at _ R j y h0 h1).trans ?_
  rw [V12_v44, V12_v37]
  exact prodD_proj m ρ c R b q hR _ _ fun x => w37_gate m ρ c x _ j rfl

/-- The logarithms of the forget gates. -/
theorem forget_last (k : Fin 8) (y : S8192x8.Idx) (h0 : (y 0).val = R.val) (h1 : (y 1).val = k.val) :
    W14 m ρ c (Proc.devRef .tc main_v67) y = forget (X m c) (G m c) (W m c) (B m c) b q k := by
  have ey : y = ix2 R k := by
    funext a
    match a with
    | ⟨0, _⟩ => exact Fin.ext h0
    | ⟨1, _⟩ => exact Fin.ext h1
  have e : W13 m ρ c (Proc.devRef .tc main_v63_1) = (dat2 (V12 m ρ) c).arrAt 6 cfg2.N := W13_arr m ρ c 6
  rw [W14_v67, ey]
  refine (first8_at _ R k).trans ?_
  rw [e, arr2_6]
  refine (rows_at _ R (⟨k.val, by omega⟩ : Fin 128) _ rfl rfl).trans ?_
  rw [V12_v44, V12_v37, V12_v28]
  unfold forgetOut forget
  rw [bias_at m ρ c k, prodD_proj m ρ c R b q hR _ (⟨6680 + k.val, by omega⟩ : Fin 7712) fun x => w37_forget m ρ c x _ k rfl]

/-- The gates of the branches. -/
theorem gates_at (j : Fin 24) (y : S8192x24.Idx) (h0 : (y 0).val = R.val) (h1 : (y 1).val = j.val) :
    W14 m ρ c (Proc.devRef .tc main_v66) y = proj (X m c) (G m c) (W m c) b q ⟨2560 + j.val, by omega⟩ := by
  have ey : y = ix2 R j := by
    funext a
    match a with
    | ⟨0, _⟩ => exact Fin.ext h0
    | ⟨1, _⟩ => exact Fin.ext h1
  have e : W13 m ρ c (Proc.devRef .tc main_v63_2) = (dat2 (V12 m ρ) c).arrAt 7 cfg2.N := W13_arr m ρ c 7
  rw [W14_v66]
  refine (congrArg (halves _) ey).trans ?_
  by_cases h : j.val < 12
  · refine (halves_first _ R j h).trans ?_
    rw [e, arr2_7]
    refine (rows_at _ R (⟨j.val, by omega⟩ : Fin 256) _ rfl rfl).trans ?_
    rw [V12_v44, V12_v37]
    exact prodD_proj m ρ c R b q hR _ _ fun x => w37_first m ρ c x _ (⟨j.val, h⟩ : Fin 12) rfl
  · refine (halves_last _ R j h).trans ?_
    rw [e, arr2_7]
    refine (rows_at _ R (⟨128 + (j.val - 12), by omega⟩ : Fin 256) _ rfl rfl).trans ?_
    rw [V12_v44, V12_v37]
    refine prodD_proj m ρ c R b q hR _ _ fun x => (w37_last m ρ c x _ (⟨j.val - 12, by omega⟩ : Fin 12) ?_).trans ?_
    · show 1152 + (128 + (j.val - 12)) = 1280 + (j.val - 12)
      omega
    · exact congrArg (fun z : Fin 7712 => argW m c (ix2 x z)) (Fin.ext (by show 2560 + (12 + (j.val - 12)) = 2560 + j.val; omega))

end Cert.Kernel3Ideal.Even

end
-- ==== Proof.Even.RefAt.lean ====
/-
The even layer's reference at an index: its stages one by one, and its five results entry by entry, from the arguments.
-/
module

public import proofs.«01_k».proof.Proof.Gen.Reference3Ideal.Run
public import proofs.«01_k».proof.Proof.Even.Math
public import Idealize.ShloMosaic.Lib.Pointwise
public import Idealize.ShloMosaic.Lib.Tactic.CleanTypes

@[expose] public section

set_option maxRecDepth 16384

noncomputable section

namespace Cert.Reference3Ideal.Even

open Idealize.ShloMosaic Idealize.SL.Sem
open Cert.Reference3Ideal Cert.Reference3Ideal.Gen
open Cert.Even (logSig proj query forget)

/-! ## The stages -/

variable (A : FVec Ideal S2x4096x2048 .f32) (B : FVec Ideal S2048 .f32) (C : FVec Ideal S2048x7712 .f32) (D : FVec Ideal S8 .f32) (E : FVec Ideal S2x128 .f32)

/-- The input, normalised. -/
def hidden : FVec Ideal S2x4096x2048 .f32 :=
  mulf
    (mulf A (broadcastInDim S2x4096x2048 ![0, 1, 2] bcast_S2x4096x1_S2x4096x2048_0_1_2
      (Host.rsqrt (addf
        (Host.divf
          (broadcastInDim S2x4096x1 ![0, 1] bcast_S2x4096_S2x4096x1_0_1
            (Host.reduceAdd (mulf A A) (constant S_ .f32 0x00000000#32) reducesTo_S2x4096x2048_S2x4096_d2 h_S_))
          (broadcastInDim S2x4096x1 ![] bcast_S_S2x4096x1 (constant S_ .f32 0x45000000#32)))
        (broadcastInDim S2x4096x1 ![] bcast_S_S2x4096x1 (constant S_ .f32 0x358637BD#32)) : FVec Ideal S2x4096x1 .f32))))
    (broadcastInDim S2x4096x2048 ![0, 1, 2] bcast_S1x1x2048_S2x4096x2048_0_1_2 (broadcastInDim S1x1x2048 ![2] bcast_S2048_S1x1x2048_2 B))

/-- The projection of it. -/
def projected : FVec Ideal S2x4096x7712 .f32 :=
  Host.dotGeneral dot_S2x4096x2048_S2048x7712_S2x4096x7712_2_0_01_1_n_n none (hidden A B) C

/-- Eight heads of 128 columns. -/
def heads (u : FVec Ideal S2x4096x1024 .f32) : FVec Ideal S2x4096x8x128 .f32 :=
  shapeCast S2x4096x8x128 u shapeCasts_S2x4096x1024_S2x4096x8x128

/-- Heads normalised one by one. -/
def scaled (u : FVec Ideal S2x4096x8x128 .f32) (g : FVec Ideal S128 .f32) : FVec Ideal S2x4096x8x128 .f32 :=
  mulf
    (mulf u (broadcastInDim S2x4096x8x128 ![0, 1, 2, 3] bcast_S2x4096x8x1_S2x4096x8x128_0_1_2_3
      (Host.rsqrt (addf
        (Host.divf
          (broadcastInDim S2x4096x8x1 ![0, 1, 2] bcast_S2x4096x8_S2x4096x8x1_0_1_2
            (Host.reduceAdd (mulf u u) (constant S_ .f32 0x00000000#32) reducesTo_S2x4096x8x128_S2x4096x8_d3 h_S_))
          (broadcastInDim S2x4096x8x1 ![] bcast_S_S2x4096x8x1 (constant S_ .f32 0x43000000#32)))
        (broadcastInDim S2x4096x8x1 ![] bcast_S_S2x4096x8x1 (constant S_ .f32 0x358637BD#32)) : FVec Ideal S2x4096x8x1 .f32))))
    (broadcastInDim S2x4096x8x128 ![0, 1, 2, 3] bcast_S1x1x1x128_S2x4096x8x128_0_1_2_3 (broadcastInDim S1x1x1x128 ![3] bcast_S128_S1x1x1x128_3 g))

/-- The queries. -/
def queries : FVec Ideal S2x4096x8x128 .f32 :=
  scaled (heads (extractStridedSlice S2x4096x1024 ![0, 0, 3608] (projected A B C) slices_S2x4096x7712_S2x4096x1024_0_0_3608))
    (shapeCast S128 (extractStridedSlice S1x128 ![0, 0] E slices_S2x128_S1x128_0_0) shapeCasts_S1x128_S128)

/-- The forget gates, negated. -/
def forgets : FVec Ideal S2x4096x8 .f32 :=
  Host.negf (addf (extractStridedSlice S2x4096x8 ![0, 0, 6680] (projected A B C) slices_S2x4096x7712_S2x4096x8_0_0_6680)
    (broadcastInDim S2x4096x8 ![0, 1, 2] bcast_S1x1x8_S2x4096x8_0_1_2 (broadcastInDim S1x1x8 ![2] bcast_S8_S1x1x8_2 D)))

/-- Zeros. -/
def zeros : FVec Ideal S2x4096x8 .f32 := broadcastInDim S2x4096x8 ![] bcast_S_S2x4096x8 (constant S_ .f32 0x00000000#32)

/-- `-log(1 + exp u)`, the logarithm of the sigmoid of `-u`. -/
def softMinus (u : FVec Ideal S2x4096x8 .f32) : FVec Ideal S2x4096x8 .f32 :=
  Host.negf (select (cmpf .une (subf u zeros) (subf u zeros)) (addf u zeros)
    (addf (maximumf u zeros) (Host.log1p (Host.exp (Host.negf (Host.absf (subf u zeros)))))))

section results

variable (m : (ℓ : Loc nD τ sig) → Buf (Elt Ideal) ℓ) (c : Dev nD)

theorem res3_eq : Value.res_main_v51 m c = shapeCast S8192x8
    (softMinus (forgets (m ((c.tc : Thread nD τ).loc main_arg0)) (m ((c.tc : Thread nD τ).loc main_arg1)) (m ((c.tc : Thread nD τ).loc main_arg2))
      (m ((c.tc : Thread nD τ).loc main_arg3)))) shapeCasts_S2x4096x8_S8192x8 := rfl

end results

/-! ## The stages at an index -/

/-- The arguments by their entries. -/
abbrev X (b : Fin 2) (q : Fin 4096) (x : Fin 2048) : EReal := A (ix3 b q x)
abbrev G (x : Fin 2048) : EReal := B (ix1 x)
abbrev W (x : Fin 2048) (j : Fin 7712) : EReal := C (ix2 x j)
abbrev F (k : Fin 8) : EReal := D (ix1 k)
abbrev N (d : Fin 128) : EReal := E (ix2 0 d)

variable (b : Fin 2) (q : Fin 4096) (k : Fin 8) (d : Fin 128)

theorem hidden_at (x : Fin 2048) : hidden A B (ix3 b q x) = Cert.Odd.hid (X A) (G B) b q x := by
  pointwise [hidden]
  rfl

theorem projected_at (j : Fin 7712) : projected A B C (ix3 b q j) = proj (X A) (G B) (W C) b q j := by
  have e : projected A B C (ix3 b q j) = ∑ x : Fin 2048, hidden A B (ix3 b q x) * C (ix2 x j) := by
    pointwise [projected]
  rw [e]
  exact Finset.sum_congr rfl fun x _ => by rw [hidden_at]

theorem heads_at (u : FVec Ideal S2x4096x1024 .f32) : heads u (ix4 b q k d) = u (ix3 b q (⟨128 * k.val + d.val, by omega⟩ : Fin 1024)) := by
  unfold heads
  refine shapeCast_apply _ _ _ (ix3 b q (⟨128 * k.val + d.val, by omega⟩ : Fin 1024)) ?_
  rw [Shape.rowMajor_val_three, Shape.rowMajor_val_four]
  show (b.val * 4096 + q.val) * 1024 + (128 * k.val + d.val) = ((b.val * 4096 + q.val) * 8 + k.val) * 128 + d.val
  omega

theorem scaled_at (u : FVec Ideal S2x4096x8x128 .f32) (g : FVec Ideal S128 .f32) :
    scaled u g (ix4 b q k d) = Cert.Odd.norm (Ideal.ofBits .f32 0x43000000#32) (fun x => u (ix4 b q k x)) (fun x => g (ix1 x)) d := by
  pointwise [scaled]
  rfl

theorem queries_at : queries A B C E (ix4 b q k d) = query (X A) (G B) (W C) (N E) b q k d := by
  unfold queries query
  rw [scaled_at]
  congr 1
  · funext x
    rw [heads_at]
    have e : ∀ j : Fin 1024, extractStridedSlice S2x4096x1024 ![0, 0, 3608] (projected A B C) slices_S2x4096x7712_S2x4096x1024_0_0_3608 (ix3 b q j)
        = projected A B C (ix3 b q (⟨3608 + j.val, by omega⟩ : Fin 7712)) := fun j => by
      pointwise
    rw [e, projected_at]
  · funext x; pointwise

theorem forgets_at : forgets A B C D (ix3 b q k) = -(proj (X A) (G B) (W C) b q ⟨6680 + k.val, by omega⟩ + F D k) := by
  have e : forgets A B C D (ix3 b q k) = -(projected A B C (ix3 b q (⟨6680 + k.val, by omega⟩ : Fin 7712)) + D (ix1 k)) := by
    pointwise [forgets]
  rw [e, projected_at]

theorem softMinus_at (u : FVec Ideal S2x4096x8 .f32) (x : EReal) (h : u (ix3 b q k) = -x) : softMinus u (ix3 b q k) = logSig x := by
  pointwise [softMinus, zeros]
  rw [if_neg (not_not.mpr rfl), h]
  show -(max (-x) 0 + Ideal.log (1 + Ideal.exp (-max (-x) (- -x)))) = logSig x
  rw [neg_neg, max_comm (-x) x]
  rfl

/-! ## The results at an index -/

theorem za_at (j : Fin 1024) (y : S8192x1024.Idx) (h0 : (y 0).val = 4096 * b.val + q.val) (h1 : (y 1).val = j.val) :
    shapeCast S8192x1024 (extractStridedSlice S2x4096x1024 ![0, 0, 2584] (projected A B C) slices_S2x4096x7712_S2x4096x1024_0_0_2584)
      shapeCasts_S2x4096x1024_S8192x1024 y = proj (X A) (G B) (W C) b q ⟨2584 + j.val, by omega⟩ := by
  refine (shapeCast_apply _ _ _ (ix3 b q j) ?_).trans ?_
  · rw [Shape.rowMajor_val_three, Shape.rowMajor_val_two]
    show (b.val * 4096 + q.val) * 1024 + j.val = (y 0).val * 1024 + (y 1).val
    omega
  · rw [← projected_at]
    pointwise

theorem zb_at (j : Fin 1024) (y : S8192x1024.Idx) (h0 : (y 0).val = 4096 * b.val + q.val) (h1 : (y 1).val = j.val) :
    shapeCast S8192x1024 (extractStridedSlice S2x4096x1024 ![0, 0, 6688] (projected A B C) slices_S2x4096x7712_S2x4096x1024_0_0_6688)
      shapeCasts_S2x4096x1024_S8192x1024 y = proj (X A) (G B) (W C) b q ⟨6688 + j.val, by omega⟩ := by
  refine (shapeCast_apply _ _ _ (ix3 b q j) ?_).trans ?_
  · rw [Shape.rowMajor_val_three, Shape.rowMajor_val_two]
    show (b.val * 4096 + q.val) * 1024 + j.val = (y 0).val * 1024 + (y 1).val
    omega
  · rw [← projected_at]
    pointwise

theorem gates_at (j : Fin 24) (y : S8192x24.Idx) (h0 : (y 0).val = 4096 * b.val + q.val) (h1 : (y 1).val = j.val) :
    shapeCast S8192x24 (extractStridedSlice S2x4096x24 ![0, 0, 2560] (projected A B C) slices_S2x4096x7712_S2x4096x24_0_0_2560)
      shapeCasts_S2x4096x24_S8192x24 y = proj (X A) (G B) (W C) b q ⟨2560 + j.val, by omega⟩ := by
  refine (shapeCast_apply _ _ _ (ix3 b q j) ?_).trans ?_
  · rw [Shape.rowMajor_val_three, Shape.rowMajor_val_two]
    show (b.val * 4096 + q.val) * 24 + j.val = (y 0).val * 24 + (y 1).val
    omega
  · rw [← projected_at]
    pointwise

theorem qb_at (y : S8192x1024.Idx) (h0 : (y 0).val = 4096 * b.val + q.val) (h1 : (y 1).val = 128 * k.val + d.val) :
    shapeCast S8192x1024 (queries A B C E) shapeCasts_S2x4096x8x128_S8192x1024 y = query (X A) (G B) (W C) (N E) b q k d := by
  refine (shapeCast_apply _ _ _ (ix4 b q k d) ?_).trans (queries_at A B C E b q k d)
  rw [Shape.rowMajor_val_four, Shape.rowMajor_val_two]
  show ((b.val * 4096 + q.val) * 8 + k.val) * 128 + d.val = (y 0).val * 1024 + (y 1).val
  omega

theorem forget_at (y : S8192x8.Idx) (h0 : (y 0).val = 4096 * b.val + q.val) (h1 : (y 1).val = k.val) :
    shapeCast S8192x8 (softMinus (forgets A B C D)) shapeCasts_S2x4096x8_S8192x8 y = forget (X A) (G B) (W C) (F D) b q k := by
  refine (shapeCast_apply _ _ _ (ix3 b q k) ?_).trans (softMinus_at b q k _ _ (forgets_at A B C D b q k))
  rw [Shape.rowMajor_val_three, Shape.rowMajor_val_two]
  show (b.val * 4096 + q.val) * 8 + k.val = (y 0).val * 8 + (y 1).val
  omega

end Cert.Reference3Ideal.Even

end
-- ==== Proof.Even.Main.lean ====
/-
The claims about the even layer's projections: the reference's frame, and the equation of the five results.
-/
module

public import proofs.«01_k».proof.Defs
public import proofs.«01_k».proof.Proof.Gen.Kernel3Ideal
public import proofs.«01_k».proof.Proof.Gen.Reference3Ideal
public import proofs.«01_k».proof.Proof.Even.Arrays
public import proofs.«01_k».proof.Proof.Even.RefAt
public import Idealize.ShloMosaic.Lib.Quiescent

@[expose] public section

set_option maxRecDepth 16384

noncomputable section

namespace Cert.Proof.Even

open Idealize.ShloMosaic Idealize.SL.Sem

/-- The reference ends with its arguments unchanged; it declares no semaphore, so every counter is zero. -/
theorem ref_frame : Cert.quiescent_Reference3Ideal (hReference3Ideal := Cert.Reference3Ideal.Gen.facts) := fun m g _ =>
  (θ_run _ _ _).mono (fun r h => ⟨fun c => (h c).2.2.2.2.2, sem_eq_zero_of_no_sems (by decide) r.2⟩) (Cert.Reference3Ideal.Value.run (F := Ideal) m g)

section arrays

variable (m : (ℓ : Loc Cert.Kernel3Ideal.nD Cert.Kernel3Ideal.τ Cert.Kernel3Ideal.sig) → Buf (Elt Ideal) ℓ) (g : Dev Cert.Kernel3Ideal.nD → PrngReg)
  (c : Dev Cert.Kernel3Ideal.nD)
  (m' : (ℓ : Loc Cert.Reference3Ideal.nD Cert.Reference3Ideal.τ Cert.Reference3Ideal.sig) → Buf (Elt Ideal) ℓ)
  (h0 : m' ((c.tc : Thread Cert.Reference3Ideal.nD Cert.Reference3Ideal.τ).loc Cert.Reference3Ideal.main_arg0) = Cert.Kernel3Ideal.Even.argX m c)
  (h1 : m' ((c.tc : Thread Cert.Reference3Ideal.nD Cert.Reference3Ideal.τ).loc Cert.Reference3Ideal.main_arg1) = Cert.Kernel3Ideal.Even.argG m c)
  (h2 : m' ((c.tc : Thread Cert.Reference3Ideal.nD Cert.Reference3Ideal.τ).loc Cert.Reference3Ideal.main_arg2) = Cert.Kernel3Ideal.Even.argW m c)
  (h3 : m' ((c.tc : Thread Cert.Reference3Ideal.nD Cert.Reference3Ideal.τ).loc Cert.Reference3Ideal.main_arg3) = Cert.Kernel3Ideal.Even.argF m c)
  (h5 : m' ((c.tc : Thread Cert.Reference3Ideal.nD Cert.Reference3Ideal.τ).loc Cert.Reference3Ideal.main_arg5) = Cert.Kernel3Ideal.Even.argN m c)

/-- The kernel's array at a reference once the program has ended. -/
abbrev last (b : Ref Cert.Kernel3Ideal.sig .tc) : Buf (Elt Ideal) ((c.tc : Thread Cert.Kernel3Ideal.nD Cert.Kernel3Ideal.τ).loc b) :=
  Cert.Kernel3Ideal.Gen.W14 m g c (Proc.devRef .tc b)

/-- The reference's projection of its arguments. -/
abbrev product : FVec Ideal Cert.Reference3Ideal.S2x4096x7712 .f32 := Cert.Reference3Ideal.Even.projected
  (m' ((c.tc : Thread Cert.Reference3Ideal.nD Cert.Reference3Ideal.τ).loc Cert.Reference3Ideal.main_arg0))
  (m' ((c.tc : Thread Cert.Reference3Ideal.nD Cert.Reference3Ideal.τ).loc Cert.Reference3Ideal.main_arg1))
  (m' ((c.tc : Thread Cert.Reference3Ideal.nD Cert.Reference3Ideal.τ).loc Cert.Reference3Ideal.main_arg2))

include h0 h1 h2 in
/-- The first gates. -/
theorem za_eq : shapeCast Cert.Reference3Ideal.S8192x1024 (extractStridedSlice Cert.Reference3Ideal.S2x4096x1024 ![0, 0, 2584] (product c m')
    Cert.Reference3Ideal.Gen.slices_S2x4096x7712_S2x4096x1024_0_0_2584) Cert.Reference3Ideal.Gen.shapeCasts_S2x4096x1024_S8192x1024 = last m g c Cert.Kernel3Ideal.main_v62_0 := by
  unfold product
  rw [h0, h1, h2]
  funext y
  have y0 : (y 0).val < 8192 := (y 0).isLt
  have y1 : (y 1).val < 1024 := (y 1).isLt
  have e0 : (y 0).val = 4096 * ((y 0).val / 4096) + (y 0).val % 4096 := by omega
  exact (Cert.Reference3Ideal.Even.za_at _ _ _ (⟨(y 0).val / 4096, by omega⟩ : Fin 2) (⟨(y 0).val % 4096, by omega⟩ : Fin 4096) (⟨(y 1).val, y1⟩ : Fin 1024) y e0 rfl).trans
    (Cert.Kernel3Ideal.Even.za_at m g c (⟨(y 0).val, y0⟩ : Fin 8192) _ _ e0 _ y rfl rfl).symm

include h0 h1 h2 in
/-- The second gates. -/
theorem zb_eq : shapeCast Cert.Reference3Ideal.S8192x1024 (extractStridedSlice Cert.Reference3Ideal.S2x4096x1024 ![0, 0, 6688] (product c m')
    Cert.Reference3Ideal.Gen.slices_S2x4096x7712_S2x4096x1024_0_0_6688) Cert.Reference3Ideal.Gen.shapeCasts_S2x4096x1024_S8192x1024 = last m g c Cert.Kernel3Ideal.main_v63_0 := by
  unfold product
  rw [h0, h1, h2]
  funext y
  have y0 : (y 0).val < 8192 := (y 0).isLt
  have y1 : (y 1).val < 1024 := (y 1).isLt
  have e0 : (y 0).val = 4096 * ((y 0).val / 4096) + (y 0).val % 4096 := by omega
  exact (Cert.Reference3Ideal.Even.zb_at _ _ _ (⟨(y 0).val / 4096, by omega⟩ : Fin 2) (⟨(y 0).val % 4096, by omega⟩ : Fin 4096) (⟨(y 1).val, y1⟩ : Fin 1024) y e0 rfl).trans
    (Cert.Kernel3Ideal.Even.zb_at m g c (⟨(y 0).val, y0⟩ : Fin 8192) _ _ e0 _ y rfl rfl).symm

include h0 h1 h2 in
/-- The gates of the branches. -/
theorem gates_eq : shapeCast Cert.Reference3Ideal.S8192x24 (extractStridedSlice Cert.Reference3Ideal.S2x4096x24 ![0, 0, 2560] (product c m')
    Cert.Reference3Ideal.Gen.slices_S2x4096x7712_S2x4096x24_0_0_2560) Cert.Reference3Ideal.Gen.shapeCasts_S2x4096x24_S8192x24 = last m g c Cert.Kernel3Ideal.main_v66 := by
  unfold product
  rw [h0, h1, h2]
  funext y
  have y0 : (y 0).val < 8192 := (y 0).isLt
  have y1 : (y 1).val < 24 := (y 1).isLt
  have e0 : (y 0).val = 4096 * ((y 0).val / 4096) + (y 0).val % 4096 := by omega
  exact (Cert.Reference3Ideal.Even.gates_at _ _ _ (⟨(y 0).val / 4096, by omega⟩ : Fin 2) (⟨(y 0).val % 4096, by omega⟩ : Fin 4096) (⟨(y 1).val, y1⟩ : Fin 24) y e0 rfl).trans
    (Cert.Kernel3Ideal.Even.gates_at m g c (⟨(y 0).val, y0⟩ : Fin 8192) _ _ e0 _ y rfl rfl).symm

include h0 h1 h2 h5 in
/-- The queries. -/
theorem queries_eq : shapeCast Cert.Reference3Ideal.S8192x1024 (Cert.Reference3Ideal.Even.queries
    (m' ((c.tc : Thread Cert.Reference3Ideal.nD Cert.Reference3Ideal.τ).loc Cert.Reference3Ideal.main_arg0))
    (m' ((c.tc : Thread Cert.Reference3Ideal.nD Cert.Reference3Ideal.τ).loc Cert.Reference3Ideal.main_arg1))
    (m' ((c.tc : Thread Cert.Reference3Ideal.nD Cert.Reference3Ideal.τ).loc Cert.Reference3Ideal.main_arg2))
    (m' ((c.tc : Thread Cert.Reference3Ideal.nD Cert.Reference3Ideal.τ).loc Cert.Reference3Ideal.main_arg5)))
    Cert.Reference3Ideal.Gen.shapeCasts_S2x4096x8x128_S8192x1024 = last m g c Cert.Kernel3Ideal.main_v62_1 := by
  rw [h0, h1, h2, h5]
  funext y
  have y0 : (y 0).val < 8192 := (y 0).isLt
  have y1 : (y 1).val < 1024 := (y 1).isLt
  have e0 : (y 0).val = 4096 * ((y 0).val / 4096) + (y 0).val % 4096 := by omega
  have e1 : (y 1).val = 128 * ((y 1).val / 128) + (y 1).val % 128 := by omega
  exact (Cert.Reference3Ideal.Even.qb_at _ _ _ _ (⟨(y 0).val / 4096, by omega⟩ : Fin 2) (⟨(y 0).val % 4096, by omega⟩ : Fin 4096)
      (⟨(y 1).val / 128, by omega⟩ : Fin 8) (⟨(y 1).val % 128, by omega⟩ : Fin 128) y e0 e1).trans
    (Cert.Kernel3Ideal.Even.qb_at m g c (⟨(y 0).val, y0⟩ : Fin 8192) _ _ e0 _ _ y rfl e1).symm

include h0 h1 h2 h3 in
/-- The logarithms of the forget gates. -/
theorem forget_eq : Cert.Reference3Ideal.Value.res_main_v51 m' c = last m g c Cert.Kernel3Ideal.main_v67 := by
  rw [Cert.Reference3Ideal.Even.res3_eq, h0, h1, h2, h3]
  funext y
  have y0 : (y 0).val < 8192 := (y 0).isLt
  have y1 : (y 1).val < 8 := (y 1).isLt
  have e0 : (y 0).val = 4096 * ((y 0).val / 4096) + (y 0).val % 4096 := by omega
  exact (Cert.Reference3Ideal.Even.forget_at _ _ _ _ (⟨(y 0).val / 4096, by omega⟩ : Fin 2) (⟨(y 0).val % 4096, by omega⟩ : Fin 4096) (⟨(y 1).val, y1⟩ : Fin 8) y e0 rfl).trans
    (Cert.Kernel3Ideal.Even.forget_last m g c (⟨(y 0).val, y0⟩ : Fin 8192) _ _ e0 _ y rfl rfl).symm

end arrays

/-- From equal arguments kernel and reference end with the same five arrays. -/
theorem algebraic : Cert.algebraic_Kernel3Ideal_Reference3Ideal (hKernel3Ideal := Cert.Kernel3Ideal.Gen.facts)
    (hReference3Ideal := Cert.Reference3Ideal.Gen.facts) := fun m g m' g' _ hag => by
  refine ⟨fun c => last m g c Cert.Kernel3Ideal.main_v62_0, fun c => last m g c Cert.Kernel3Ideal.main_v62_1, fun c => last m g c Cert.Kernel3Ideal.main_v63_0,
    fun c => last m g c Cert.Kernel3Ideal.main_v67, fun c => last m g c Cert.Kernel3Ideal.main_v66, ?_, ?_⟩
  · refine (θ_run _ _ _).mono (fun r h c => ?_) (θ_run_and (Cert.Kernel3Ideal.Even.run_all m g) (Cert.Kernel3Ideal.Gen.frame m g))
    exact ⟨h.1 c Cert.Kernel3Ideal.main_v62_0 (by decide), h.1 c Cert.Kernel3Ideal.main_v62_1 (by decide), h.1 c Cert.Kernel3Ideal.main_v63_0 (by decide),
      h.1 c Cert.Kernel3Ideal.main_v67 (by decide), h.1 c Cert.Kernel3Ideal.main_v66 (by decide), h.2.1 c⟩
  · refine (θ_run _ _ _).mono (fun r h c => ?_) (Cert.Reference3Ideal.Value.run (F := Ideal) m' g')
    obtain ⟨a0, a1, a2, a3, -, a5⟩ := hag c
    exact ⟨(h c).1.trans (za_eq m g c m' a0 a1 a2), (h c).2.1.trans (queries_eq m g c m' a0 a1 a2 a5), (h c).2.2.1.trans (zb_eq m g c m' a0 a1 a2),
      (h c).2.2.2.1.trans (forget_eq m g c m' a0 a1 a2 a3), (h c).2.2.2.2.1.trans (gates_eq m g c m' a0 a1 a2), (h c).2.2.2.2.2⟩

end Cert.Proof.Even

end
-- ==== Proof.Out.Math.lean ====
/-
The ends of the two layers written out, entry by entry: a gated product added to the layer's input.
-/
module

public import Idealize.ShloMosaic.Lib.Pointwise

@[expose] public section

noncomputable section

namespace Cert.Out

open Idealize.ShloMosaic

/-- `o` gated by `z`: `o` times `z` times the sigmoid of `z`. -/
def gated (o z : EReal) : EReal :=
  o * (z * Ideal.div 1 (1 + Ideal.exp (-z)))

/-- A sum of 2048 terms in two halves. -/
theorem sum_halves (f : Fin 2048 → EReal) :
    ∑ x : Fin 2048, f x = ∑ x : Fin 1024, f (⟨x.val, by omega⟩ : Fin 2048) + ∑ x : Fin 1024, f (⟨1024 + x.val, by omega⟩ : Fin 2048) :=
  Fin.sum_univ_add (a := 1024) (b := 1024) f

/-- An entry of the odd layer's end: of the input `a`, row `o` gated by row `z`, and column `w` of the projection. -/
def oddEnd (a : EReal) (o z w : Fin 2048 → EReal) : EReal := a + ∑ x : Fin 2048, gated (o x) (z x) * w x

/-- An entry of the even layer's end: the same, the row in two halves of 1024. -/
def evenEnd (a : EReal) (oa za ob zb : Fin 1024 → EReal) (w : Fin 2048 → EReal) : EReal :=
  a + (∑ x : Fin 1024, gated (oa x) (za x) * w (⟨x.val, by omega⟩ : Fin 2048)
    + ∑ x : Fin 1024, gated (ob x) (zb x) * w (⟨1024 + x.val, by omega⟩ : Fin 2048))

end Cert.Out

end
-- ==== Proof.Out.KernelAt.lean ====
/-
What each of the two calls leaves in its array of results, entry by entry, from the arrays it finds.
-/
module

public import proofs.«01_k».proof.Proof.Gen.Kernel4Ideal.Frame
public import proofs.«01_k».proof.Proof.Out.Math
public import Idealize.ShloMosaic.PureOps.IdealRules
public import Idealize.ShloMosaic.Lib.Pipeline.ValueKit
public import Idealize.ShloMosaic.Lib.KernelVsHost

@[expose] public section

set_option maxRecDepth 16384

noncomputable section

namespace Cert.Kernel4Ideal.Out

open Idealize.ShloMosaic Idealize.ShloMosaic.TcCoe Idealize.ShloMosaic.Tactic
open Idealize.SL.Sem
open Cert.Kernel4Ideal Cert.Kernel4Ideal.Gen
open Cert.Out (gated)

/-! ## The bodies at an index -/

theorem out0_eq (x0 : Vec Ideal S512x2048 .f32) (x1 x2 x3 x4 : Vec Ideal S512x1024 .f32) (x5 x6 : Vec Ideal S1024x2048 .bf16) :
    out0_7 (F := Ideal) x0 x1 x2 x3 x4 x5 x6 = k0_pay1 x0 x1 x3 x5 x2 x4 x6 := by
  have z : (![0, 0] : Fin 2 → ℕ) = fun _ => 0 := by decide
  unfold out0_7
  rw [View.canon_unit_zero (Val := Elt Ideal) (S := S512x2048) z, View.ld_unit_zero (Val := Elt Ideal) (S := S512x2048) z,
    View.ld_unit_zero (Val := Elt Ideal) (S := S512x1024) z, View.ld_unit_zero (Val := Elt Ideal) (S := S512x1024) z,
    View.ld_unit_zero (Val := Elt Ideal) (S := S512x1024) z, View.ld_unit_zero (Val := Elt Ideal) (S := S512x1024) z,
    View.ld_unit_zero (Val := Elt Ideal) (S := S1024x2048) z, View.ld_unit_zero (Val := Elt Ideal) (S := S1024x2048) z]

theorem out1_eq (x0 x1 x2 : Vec Ideal S512x2048 .f32) (x3 : Vec Ideal S2048x2048 .bf16) :
    out1_4 (F := Ideal) x0 x1 x2 x3 = k1_pay1 x0 x1 x2 x3 := by
  have z : (![0, 0] : Fin 2 → ℕ) = fun _ => 0 := by decide
  unfold out1_4
  rw [View.canon_unit_zero (Val := Elt Ideal) (S := S512x2048) z, View.ld_unit_zero (Val := Elt Ideal) (S := S512x2048) z,
    View.ld_unit_zero (Val := Elt Ideal) (S := S512x2048) z, View.ld_unit_zero (Val := Elt Ideal) (S := S512x2048) z,
    View.ld_unit_zero (Val := Elt Ideal) (S := S2048x2048) z]

theorem even_at (x : Vec Ideal S512x2048 .f32) (oa ob za zb : Vec Ideal S512x1024 .f32) (wa wb : Vec Ideal S1024x2048 .bf16) (r : Fin 512) (d : Fin 2048) :
    k0_pay1 x oa za wa ob zb wb (ix2 r d) = x (ix2 r d) + ∑ j : Fin 1024, gated (oa (ix2 r j)) (za (ix2 r j)) * wa (ix2 j d)
      + ∑ j : Fin 1024, gated (ob (ix2 r j)) (zb (ix2 r j)) * wb (ix2 j d) := by
  pointwise [k0_pay1]
  simp only [zero_sub]
  rfl

theorem odd_at (x o z : Vec Ideal S512x2048 .f32) (w : Vec Ideal S2048x2048 .bf16) (r : Fin 512) (d : Fin 2048) :
    k1_pay1 x o z w (ix2 r d) = x (ix2 r d) + ∑ j : Fin 2048, gated (o (ix2 r j)) (z (ix2 r j)) * w (ix2 j d) := by
  pointwise [k1_pay1]
  simp only [zero_sub]
  rfl

/-! ## The blocks at a grid point -/

variable (V : (c : Dev nD) → (b : Ref sig .tc) → Buf (Elt Ideal) ((c : Thread nD τ).loc b)) (c : Dev nD)

theorem points0 : cfg0.N = 16 := by decide
theorem points1 : cfg1.N = 16 := by decide

theorem idx0_0 : ∀ t : Fin cfg0.N, win0_0.index t = ![t.val, 0] := by decide +kernel
theorem idx0_1 : ∀ t : Fin cfg0.N, win0_1.index t = ![t.val, 0] := by decide +kernel
theorem idx0_2 : ∀ t : Fin cfg0.N, win0_2.index t = ![t.val, 0] := by decide +kernel
theorem idx0_3 : ∀ t : Fin cfg0.N, win0_3.index t = ![t.val, 0] := by decide +kernel
theorem idx0_4 : ∀ t : Fin cfg0.N, win0_4.index t = ![t.val, 0] := by decide +kernel
theorem idx0_5 : ∀ t : Fin cfg0.N, win0_5.index t = ![0, 0] := by decide +kernel
theorem idx0_6 : ∀ t : Fin cfg0.N, win0_6.index t = ![0, 0] := by decide +kernel
theorem idx0_7 : ∀ t : Fin cfg0.N, win0_7.index t = ![t.val, 0] := by decide +kernel
theorem idx1_0 : ∀ t : Fin cfg1.N, win1_0.index t = ![t.val, 0] := by decide +kernel
theorem idx1_1 : ∀ t : Fin cfg1.N, win1_1.index t = ![t.val, 0] := by decide +kernel
theorem idx1_2 : ∀ t : Fin cfg1.N, win1_2.index t = ![t.val, 0] := by decide +kernel
theorem idx1_3 : ∀ t : Fin cfg1.N, win1_3.index t = ![0, 0] := by decide +kernel
theorem idx1_4 : ∀ t : Fin cfg1.N, win1_4.index t = ![t.val, 0] := by decide +kernel

theorem blk0_0 (t : Fin cfg0.N) (r : Fin 512) (d : Fin 2048) (R : Fin 8192) (hR : R.val = 512 * t.val + r.val) :
    iblk0 V c 0 t (ix2 r d) = V c main_v0 (ix2 R d) := by
  blk_ext [iblk0, idx0_0 t]
theorem blk0_1 (t : Fin cfg0.N) (r : Fin 512) (d : Fin 1024) (R : Fin 8192) (hR : R.val = 512 * t.val + r.val) :
    iblk0 V c 1 t (ix2 r d) = V c main_arg1 (ix2 R d) := by
  blk_ext [iblk0, idx0_1 t]
theorem blk0_2 (t : Fin cfg0.N) (r : Fin 512) (d : Fin 1024) (R : Fin 8192) (hR : R.val = 512 * t.val + r.val) :
    iblk0 V c 2 t (ix2 r d) = V c main_arg2 (ix2 R d) := by
  blk_ext [iblk0, idx0_2 t]
theorem blk0_3 (t : Fin cfg0.N) (r : Fin 512) (d : Fin 1024) (R : Fin 8192) (hR : R.val = 512 * t.val + r.val) :
    iblk0 V c 3 t (ix2 r d) = V c main_arg3 (ix2 R d) := by
  blk_ext [iblk0, idx0_3 t]
theorem blk0_4 (t : Fin cfg0.N) (r : Fin 512) (d : Fin 1024) (R : Fin 8192) (hR : R.val = 512 * t.val + r.val) :
    iblk0 V c 4 t (ix2 r d) = V c main_arg4 (ix2 R d) := by
  blk_ext [iblk0, idx0_4 t]
theorem blk0_5 (t : Fin cfg0.N) (x : Fin 1024) (j : Fin 2048) : iblk0 V c 5 t (ix2 x j) = V c main_v2 (ix2 x j) := by
  blk_ext [iblk0, idx0_5 t]
theorem blk0_6 (t : Fin cfg0.N) (x : Fin 1024) (j : Fin 2048) : iblk0 V c 6 t (ix2 x j) = V c main_v4 (ix2 x j) := by
  blk_ext [iblk0, idx0_6 t]

theorem blk1_0 (t : Fin cfg1.N) (r : Fin 512) (d : Fin 2048) (R : Fin 8192) (hR : R.val = 512 * t.val + r.val) :
    iblk1 V c 0 t (ix2 r d) = V c main_v6 (ix2 R d) := by
  blk_ext [iblk1, idx1_0 t]
theorem blk1_1 (t : Fin cfg1.N) (r : Fin 512) (d : Fin 2048) (R : Fin 8192) (hR : R.val = 512 * t.val + r.val) :
    iblk1 V c 1 t (ix2 r d) = V c main_arg7 (ix2 R d) := by
  blk_ext [iblk1, idx1_1 t]
theorem blk1_2 (t : Fin cfg1.N) (r : Fin 512) (d : Fin 2048) (R : Fin 8192) (hR : R.val = 512 * t.val + r.val) :
    iblk1 V c 2 t (ix2 r d) = V c main_arg8 (ix2 R d) := by
  blk_ext [iblk1, idx1_2 t]
theorem blk1_3 (t : Fin cfg1.N) (x j : Fin 2048) : iblk1 V c 3 t (ix2 x j) = V c main_v7 (ix2 x j) := by
  blk_ext [iblk1, idx1_3 t]

/-! ## The arrays of results -/

/-- An array of 8192 rows of 2048, from its entries. -/
def rows (f : Fin 8192 → Fin 2048 → EReal) : FVec Ideal S8192x2048 .f32 := fun y =>
  f (⟨(y 0).val, (y 0).isLt⟩ : Fin 8192) (⟨(y 1).val, (y 1).isLt⟩ : Fin 2048)

theorem rows_at (f : Fin 8192 → Fin 2048 → EReal) (R : Fin 8192) (j : Fin 2048) (y : S8192x2048.Idx)
    (h0 : (y 0).val = R.val) (h1 : (y 1).val = j.val) : rows f y = f R j := by
  have e0 : (⟨(y 0).val, (y 0).isLt⟩ : Fin 8192) = R := Fin.ext h0
  have e1 : (⟨(y 1).val, (y 1).isLt⟩ : Fin 2048) = j := Fin.ext h1
  unfold rows
  rw [e0, e1]

theorem ix_row (y : S512x2048.Idx) : y = ix2 (⟨(y 0).val, (y 0).isLt⟩ : Fin 512) (⟨(y 1).val, (y 1).isLt⟩ : Fin 2048) := by
  funext a
  match a with
  | ⟨0, _⟩ => rfl
  | ⟨1, _⟩ => rfl

/-- Row `R` of `o` gated by row `R` of `z`, times column `d` of 1024 rows of weights, -/
def half (o z : Vec Ideal S8192x1024 .f32) (w : Vec Ideal S1024x2048 .bf16) (R : Fin 8192) (d : Fin 2048) : EReal :=
  ∑ j : Fin 1024, gated (o (ix2 R j)) (z (ix2 R j)) * w (ix2 j d)

/-- and of 2048. -/
def full (o z : Vec Ideal S8192x2048 .f32) (w : Vec Ideal S2048x2048 .bf16) (R : Fin 8192) (d : Fin 2048) : EReal :=
  ∑ j : Fin 2048, gated (o (ix2 R j)) (z (ix2 R j)) * w (ix2 j d)

theorem half_of (o z : Vec Ideal S512x1024 .f32) (w : Vec Ideal S1024x2048 .bf16) (o' z' : Vec Ideal S8192x1024 .f32) (w' : Vec Ideal S1024x2048 .bf16)
    (r : Fin 512) (R : Fin 8192) (d : Fin 2048) (ho : ∀ j : Fin 1024, o (ix2 r j) = o' (ix2 R j)) (hz : ∀ j : Fin 1024, z (ix2 r j) = z' (ix2 R j))
    (hw : ∀ j : Fin 1024, w (ix2 j d) = w' (ix2 j d)) : (∑ j : Fin 1024, gated (o (ix2 r j)) (z (ix2 r j)) * w (ix2 j d)) = half o' z' w' R d :=
  Finset.sum_congr rfl fun j _ => by rw [ho, hz, hw]

theorem full_of (o z : Vec Ideal S512x2048 .f32) (w : Vec Ideal S2048x2048 .bf16) (o' z' : Vec Ideal S8192x2048 .f32) (w' : Vec Ideal S2048x2048 .bf16)
    (r : Fin 512) (R : Fin 8192) (d : Fin 2048) (ho : ∀ j : Fin 2048, o (ix2 r j) = o' (ix2 R j)) (hz : ∀ j : Fin 2048, z (ix2 r j) = z' (ix2 R j))
    (hw : ∀ j : Fin 2048, w (ix2 j d) = w' (ix2 j d)) : (∑ j : Fin 2048, gated (o (ix2 r j)) (z (ix2 r j)) * w (ix2 j d)) = full o' z' w' R d :=
  Finset.sum_congr rfl fun j _ => by rw [ho, hz, hw]

/-- What the even layer's call leaves, -/
def evenOut (x : Vec Ideal S8192x2048 .f32) (oa ob za zb : Vec Ideal S8192x1024 .f32) (wa wb : Vec Ideal S1024x2048 .bf16) (R : Fin 8192) (d : Fin 2048) : EReal :=
  x (ix2 R d) + half oa za wa R d + half ob zb wb R d

/-- and the odd layer's. -/
def oddOut (x o z : Vec Ideal S8192x2048 .f32) (w : Vec Ideal S2048x2048 .bf16) (R : Fin 8192) (d : Fin 2048) : EReal := x (ix2 R d) + full o z w R d

theorem evenOut_of {p q s p' q' s' : EReal} (hp : p = p') (hq : q = q') (hs : s = s') : p + q + s = p' + q' + s' := by rw [hp, hq, hs]

theorem oddOut_of {p q p' q' : EReal} (hp : p = p') (hq : q = q') : p + q = p' + q' := by rw [hp, hq]

theorem arr0 : (dat0 V c).arrAt 7 cfg0.N
    = rows (evenOut (V c main_v0) (V c main_arg1) (V c main_arg2) (V c main_arg3) (V c main_arg4) (V c main_v2) (V c main_v4)) := by
  refine (dat0 V c).arrAt_eq_of_covers 7 _ (by decide +kernel) fun t hf y => ?_
  have hN := points0
  have htl : t.val < _ := lt_of_lt_of_eq t.isLt hN
  blk_simp
  rw [after0_7, out0_eq]
  have y0 : (y 0).val < 512 := (y 0).isLt
  have y1 : (y 1).val < 2048 := (y 1).isLt
  have h0 : (((win0_7.blk t).view.emb y) 0 : ℕ) = t.val * 512 + (y 0).val := by blk_simp [idx0_7 t]
  have h1 : (((win0_7.blk t).view.emb y) 1 : ℕ) = 0 * 2048 + (y 1).val := by blk_simp [idx0_7 t]
  refine (congrArg (k0_pay1 _ _ _ _ _ _ _) (ix_row y)).trans ((even_at _ _ _ _ _ _ _ _ _).trans ?_)
  refine Eq.trans ?_ (rows_at _ (⟨512 * t.val + (y 0).val, by omega⟩ : Fin 8192) (⟨(y 1).val, y1⟩ : Fin 2048) _
    (by rw [h0]; show _ = 512 * t.val + (y 0).val; omega) (by rw [h1]; show _ = (y 1).val; omega)).symm
  exact evenOut_of (blk0_0 V c t _ _ _ rfl)
    (half_of _ _ _ _ _ _ _ _ _ (fun j => blk0_1 V c t _ j _ rfl) (fun j => blk0_3 V c t _ j _ rfl) (fun j => blk0_5 V c t j _))
    (half_of _ _ _ _ _ _ _ _ _ (fun j => blk0_2 V c t _ j _ rfl) (fun j => blk0_4 V c t _ j _ rfl) (fun j => blk0_6 V c t j _))

theorem arr1 : (dat1 V c).arrAt 4 cfg1.N = rows (oddOut (V c main_v6) (V c main_arg7) (V c main_arg8) (V c main_v7)) := by
  refine (dat1 V c).arrAt_eq_of_covers 4 _ (by decide +kernel) fun t hf y => ?_
  have hN := points1
  have htl : t.val < _ := lt_of_lt_of_eq t.isLt hN
  blk_simp
  rw [after1_4, out1_eq]
  have y0 : (y 0).val < 512 := (y 0).isLt
  have y1 : (y 1).val < 2048 := (y 1).isLt
  have h0 : (((win1_4.blk t).view.emb y) 0 : ℕ) = t.val * 512 + (y 0).val := by blk_simp [idx1_4 t]
  have h1 : (((win1_4.blk t).view.emb y) 1 : ℕ) = 0 * 2048 + (y 1).val := by blk_simp [idx1_4 t]
  refine (congrArg (k1_pay1 _ _ _ _) (ix_row y)).trans ((odd_at _ _ _ _ _ _).trans ?_)
  refine Eq.trans ?_ (rows_at _ (⟨512 * t.val + (y 0).val, by omega⟩ : Fin 8192) (⟨(y 1).val, y1⟩ : Fin 2048) _
    (by rw [h0]; show _ = 512 * t.val + (y 0).val; omega) (by rw [h1]; show _ = (y 1).val; omega)).symm
  exact oddOut_of (blk1_0 V c t _ _ _ rfl)
    (full_of _ _ _ _ _ _ _ _ _ (fun j => blk1_1 V c t _ j _ rfl) (fun j => blk1_2 V c t _ j _ rfl) (fun j => blk1_3 V c t j _))

end Cert.Kernel4Ideal.Out

end
-- ==== Proof.Out.Run.lean ====
/-
The run of the ends of the two layers, with every array of the machine's memory as the program leaves it.
-/
module

public import proofs.«01_k».proof.Proof.Gen.Kernel4Ideal.Frame
public import Idealize.ShloMosaic.PureOps.IdealRules

@[expose] public section

set_option maxRecDepth 16384

noncomputable section

namespace Cert.Kernel4Ideal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends, with each buffer of the program at the contents after the last operation. -/
theorem run_all : θ_run defs (onTc (τ := τ) (main (F := Ideal))) ⟨m, fun _ => 0, ρ⟩ (fun r => ∀ (c : Dev nD) (b : Ref sig .tc),
      ¬(Proc.devRef .tc b : DevRef τ sig).isScoped → r.2.mem ((c.tc : Thread nD τ).loc b) = W5 m ρ c (Proc.devRef .tc b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c r hr => h c _ (mem_uc r hr))

end Cert.Kernel4Ideal.Out

end
-- ==== Proof.Out.Arrays.lean ====
/-
What the program's host operations leave in the arrays of the two calls, and the two results entry by entry, from the arguments.
-/
module

public import proofs.«01_k».proof.Proof.Out.KernelAt
public import proofs.«01_k».proof.Proof.Out.Run

@[expose] public section

set_option maxRecDepth 16384

noncomputable section

namespace Cert.Kernel4Ideal.Out

open Idealize.ShloMosaic Idealize.ShloMosaic.TcCoe Idealize.ShloMosaic.Tactic
open Idealize.SL.Sem
open Cert.Kernel4Ideal Cert.Kernel4Ideal.Gen
open Cert.Out (gated oddEnd evenEnd)

variable (m : (ℓ : Loc nD τ sig) → Buf (Elt Ideal) ℓ) (ρ : Dev nD → PrngReg) (c : Dev nD)

/-! ## The arguments -/

/-- The even layer's input. -/
def argX : Vec Ideal S2x4096x2048 .f32 := m ((c.tc : Thread nD τ).loc main_arg0)
/-- Its two branches. -/
def argOa : Vec Ideal S8192x1024 .f32 := m ((c.tc : Thread nD τ).loc main_arg1)
def argOb : Vec Ideal S8192x1024 .f32 := m ((c.tc : Thread nD τ).loc main_arg2)
/-- Their gates. -/
def argZa : Vec Ideal S8192x1024 .f32 := m ((c.tc : Thread nD τ).loc main_arg3)
def argZb : Vec Ideal S8192x1024 .f32 := m ((c.tc : Thread nD τ).loc main_arg4)
/-- Its projection. -/
def argW : Vec Ideal S2048x2048 .f32 := m ((c.tc : Thread nD τ).loc main_arg5)
/-- The odd layer's input, branch, gates and projection. -/
def argX' : Vec Ideal S2x4096x2048 .f32 := m ((c.tc : Thread nD τ).loc main_arg6)
def argO' : Vec Ideal S8192x2048 .f32 := m ((c.tc : Thread nD τ).loc main_arg7)
def argZ' : Vec Ideal S8192x2048 .f32 := m ((c.tc : Thread nD τ).loc main_arg8)
def argW' : Vec Ideal S2048x2048 .f32 := m ((c.tc : Thread nD τ).loc main_arg9)

/-! ## What the calls find -/

theorem V1_v0 : V1 m ρ c main_v0 = shapeCast S8192x2048 (argX m c) shapeCasts_S2x4096x2048_S8192x2048 := by
  show W1 m ρ c (Proc.devRef .tc main_v0) = _
  simp only [W1, hostOps0, List.flatten_cons, List.flatten_nil, List.append_nil, List.cons_append, List.nil_append, StableHlo.TRef.unary,
    StableHlo.TRef.binary, StableHlo.TRef.toBuf, StableHlo.TRef.ofBuf, cast_eq]
  after_results_simp
  rfl

theorem V1_v2 : V1 m ρ c main_v2
    = (truncf .bf16 (extractStridedSlice S1024x2048 ![0, 0] (argW m c) slices_S2048x2048_S1024x2048_0_0 : FVec Ideal S1024x2048 .f32) bitsLt_bf16_f32 :
      FVec Ideal S1024x2048 .bf16) := by
  show W1 m ρ c (Proc.devRef .tc main_v2) = _
  simp only [W1, hostOps0, List.flatten_cons, List.flatten_nil, List.append_nil, List.cons_append, List.nil_append, StableHlo.TRef.unary,
    StableHlo.TRef.binary, StableHlo.TRef.toBuf, StableHlo.TRef.ofBuf, cast_eq]
  after_results_simp
  rfl

theorem V1_v4 : V1 m ρ c main_v4
    = (truncf .bf16 (extractStridedSlice S1024x2048 ![1024, 0] (argW m c) slices_S2048x2048_S1024x2048_1024_0 : FVec Ideal S1024x2048 .f32) bitsLt_bf16_f32 :
      FVec Ideal S1024x2048 .bf16) := by
  show W1 m ρ c (Proc.devRef .tc main_v4) = _
  simp only [W1, hostOps0, List.flatten_cons, List.flatten_nil, List.append_nil, List.cons_append, List.nil_append, StableHlo.TRef.unary,
    StableHlo.TRef.binary, StableHlo.TRef.toBuf, StableHlo.TRef.ofBuf, cast_eq]
  after_results_simp
  rfl

theorem V1_oa : V1 m ρ c main_arg1 = argOa m c := W1_args m ρ c main_arg1 (by decide)
theorem V1_ob : V1 m ρ c main_arg2 = argOb m c := W1_args m ρ c main_arg2 (by decide)
theorem V1_za : V1 m ρ c main_arg3 = argZa m c := W1_args m ρ c main_arg3 (by decide)
theorem V1_zb : V1 m ρ c main_arg4 = argZb m c := W1_args m ρ c main_arg4 (by decide)

theorem V3_v6 : V3 m ρ c main_v6
    = shapeCast S8192x2048 (W2 m ρ c (Proc.devRef .tc main_arg6) : FVec Ideal S2x4096x2048 .f32) shapeCasts_S2x4096x2048_S8192x2048 := by
  show W3 m ρ c (Proc.devRef .tc main_v6) = _
  simp only [W3, hostOps1, List.flatten_cons, List.flatten_nil, List.append_nil, List.cons_append, List.nil_append, StableHlo.TRef.unary,
    StableHlo.TRef.binary, StableHlo.TRef.toBuf, StableHlo.TRef.ofBuf, cast_eq]
  after_results_simp
  rfl

theorem V3_v7 : V3 m ρ c main_v7 = (truncf .bf16 (W2 m ρ c (Proc.devRef .tc main_arg9) : FVec Ideal S2048x2048 .f32) bitsLt_bf16_f32 :
    FVec Ideal S2048x2048 .bf16) := by
  show W3 m ρ c (Proc.devRef .tc main_v7) = _
  simp only [W3, hostOps1, List.flatten_cons, List.flatten_nil, List.append_nil, List.cons_append, List.nil_append, StableHlo.TRef.unary,
    StableHlo.TRef.binary, StableHlo.TRef.toBuf, StableHlo.TRef.ofBuf, cast_eq]
  after_results_simp

theorem V3_o : V3 m ρ c main_arg7 = argO' m c := W3_args m ρ c main_arg7 (by decide)
theorem V3_z : V3 m ρ c main_arg8 = argZ' m c := W3_args m ρ c main_arg8 (by decide)

/-! ## After the last call -/

theorem W5_v9 : W5 m ρ c (Proc.devRef .tc main_v9)
    = shapeCast S2x4096x2048 (W4 m ρ c (Proc.devRef .tc main_v5) : FVec Ideal S8192x2048 .f32) shapeCasts_S8192x2048_S2x4096x2048 := by
  simp only [W5, hostOps2, List.flatten_cons, List.flatten_nil, List.append_nil, List.cons_append, List.nil_append, StableHlo.TRef.unary,
    StableHlo.TRef.binary, StableHlo.TRef.toBuf, StableHlo.TRef.ofBuf, cast_eq]
  after_results_simp
  rfl

theorem W5_v10 : W5 m ρ c (Proc.devRef .tc main_v10)
    = shapeCast S2x4096x2048 (W4 m ρ c (Proc.devRef .tc main_v8) : FVec Ideal S8192x2048 .f32) shapeCasts_S8192x2048_S2x4096x2048 := by
  simp only [W5, hostOps2, List.flatten_cons, List.flatten_nil, List.append_nil, List.cons_append, List.nil_append, StableHlo.TRef.unary,
    StableHlo.TRef.binary, StableHlo.TRef.toBuf, StableHlo.TRef.ofBuf, cast_eq]
  after_results_simp
  rfl

theorem W4_v5 : W4 m ρ c (Proc.devRef .tc main_v5)
    = rows (evenOut (V1 m ρ c main_v0) (argOa m c) (argOb m c) (argZa m c) (argZb m c) (V1 m ρ c main_v2) (V1 m ρ c main_v4)) :=
  (W4_of m ρ c main_v5 (by decide +kernel)).trans ((W3_of m ρ c main_v5 (by decide +kernel)).trans
    ((W2_arr m ρ c 7).trans ((arr0 (V1 m ρ) c).trans (by rw [V1_oa, V1_ob, V1_za, V1_zb]))))

theorem W4_v8 : W4 m ρ c (Proc.devRef .tc main_v8) = rows (oddOut (V3 m ρ c main_v6) (argO' m c) (argZ' m c) (V3 m ρ c main_v7)) :=
  (W4_arr m ρ c 4).trans ((arr1 (V3 m ρ) c).trans (by rw [V3_o, V3_z]))

/-! ## The same at an index -/

theorem slice_left (j : Fin 1024) (d : Fin 2048) : V1 m ρ c main_v2 (ix2 j d) = argW m c (ix2 (⟨j.val, by omega⟩ : Fin 2048) d) := by
  rw [V1_v2]
  pointwise

theorem slice_right (j : Fin 1024) (d : Fin 2048) : V1 m ρ c main_v4 (ix2 j d) = argW m c (ix2 (⟨1024 + j.val, by omega⟩ : Fin 2048) d) := by
  rw [V1_v4]
  pointwise

theorem whole_at (j d : Fin 2048) : V3 m ρ c main_v7 (ix2 j d) = argW' m c (ix2 j d) := by
  rw [V3_v7, W2_args m ρ c main_arg9 (by decide)]
  rfl

theorem sum_of {p q s p' q' s' : EReal} (hp : p = p') (hq : q = q') (hs : s = s') : p + q + s = p' + (q' + s') := by rw [hp, hq, hs, add_assoc]

variable (R : Fin 8192) (b : Fin 2) (q : Fin 4096) (hR : R.val = 4096 * b.val + q.val)
include hR

theorem flat_at (x : FVec Ideal S2x4096x2048 .f32) (d : Fin 2048) :
    shapeCast S8192x2048 x shapeCasts_S2x4096x2048_S8192x2048 (ix2 R d) = x (ix3 b q d) := by
  refine shapeCast_apply _ _ _ (ix3 b q d) ?_
  rw [Shape.rowMajor_val_three, Shape.rowMajor_val_two]
  show (b.val * 4096 + q.val) * 2048 + d.val = R.val * 2048 + d.val
  omega

theorem split_at (x : FVec Ideal S8192x2048 .f32) (d : Fin 2048) :
    shapeCast S2x4096x2048 x shapeCasts_S8192x2048_S2x4096x2048 (ix3 b q d) = x (ix2 R d) := by
  refine shapeCast_apply _ _ _ (ix2 R d) ?_
  rw [Shape.rowMajor_val_three, Shape.rowMajor_val_two]
  show R.val * 2048 + d.val = (b.val * 4096 + q.val) * 2048 + d.val
  omega

/-- An entry of the even layer's end. -/
theorem even_last (d : Fin 2048) : W5 m ρ c (Proc.devRef .tc main_v9) (ix3 b q d)
    = evenEnd (argX m c (ix3 b q d)) (fun j => argOa m c (ix2 R j)) (fun j => argZa m c (ix2 R j)) (fun j => argOb m c (ix2 R j))
      (fun j => argZb m c (ix2 R j)) (fun j => argW m c (ix2 j d)) := by
  rw [W5_v9, W4_v5]
  refine (split_at R b q hR _ d).trans ((rows_at _ R d _ rfl rfl).trans ?_)
  refine sum_of ?_ ?_ ?_
  · rw [V1_v0]; exact flat_at R b q hR (argX m c) d
  · exact Finset.sum_congr rfl fun j _ => congrArg (gated _ _ * ·) (slice_left m ρ c j d)
  · exact Finset.sum_congr rfl fun j _ => congrArg (gated _ _ * ·) (slice_right m ρ c j d)

/-- An entry of the odd layer's end. -/
theorem odd_last (d : Fin 2048) : W5 m ρ c (Proc.devRef .tc main_v10) (ix3 b q d)
    = oddEnd (argX' m c (ix3 b q d)) (fun j => argO' m c (ix2 R j)) (fun j => argZ' m c (ix2 R j)) (fun j => argW' m c (ix2 j d)) := by
  rw [W5_v10, W4_v8]
  refine (split_at R b q hR _ d).trans ((rows_at _ R d _ rfl rfl).trans ?_)
  refine oddOut_of ?_ ?_
  · rw [V3_v6, W2_args m ρ c main_arg6 (by decide)]; exact flat_at R b q hR (argX' m c) d
  · exact Finset.sum_congr rfl fun j _ => congrArg (gated _ _ * ·) (whole_at m ρ c j d)

end Cert.Kernel4Ideal.Out

end
-- ==== Proof.Out.RefAt.lean ====
/-
The reference of the layers' ends at an index, from the arguments.
-/
module

public import proofs.«01_k».proof.Proof.Gen.Reference4Ideal.Run
public import proofs.«01_k».proof.Proof.Out.Math
public import Idealize.ShloMosaic.Lib.Pointwise
public import Idealize.ShloMosaic.Lib.Tactic.CleanTypes

@[expose] public section

set_option maxRecDepth 16384

noncomputable section

namespace Cert.Reference4Ideal.Out

open Idealize.ShloMosaic Idealize.SL.Sem
open Cert.Reference4Ideal Cert.Reference4Ideal.Gen
open Cert.Out (gated oddEnd evenEnd sum_halves)

/-- Half of the even layer's branches, gated. -/
def half (o z : FVec Ideal S8192x1024 .f32) : FVec Ideal S2x4096x1024 .f32 :=
  mulf (shapeCast S2x4096x1024 o shapeCasts_S8192x1024_S2x4096x1024)
    (mulf (shapeCast S2x4096x1024 z shapeCasts_S8192x1024_S2x4096x1024)
      (Host.divf (broadcastInDim S2x4096x1024 ![] bcast_S_S2x4096x1024 (constant S_ .f32 0x3F800000#32))
        (addf (broadcastInDim S2x4096x1024 ![] bcast_S_S2x4096x1024 (constant S_ .f32 0x3F800000#32))
          (Host.exp (Host.negf (shapeCast S2x4096x1024 z shapeCasts_S8192x1024_S2x4096x1024))))))

/-- The odd layer's, gated. -/
def full (o z : FVec Ideal S8192x2048 .f32) : FVec Ideal S2x4096x2048 .f32 :=
  mulf (shapeCast S2x4096x2048 o shapeCasts_S8192x2048_S2x4096x2048)
    (mulf (shapeCast S2x4096x2048 z shapeCasts_S8192x2048_S2x4096x2048)
      (Host.divf (broadcastInDim S2x4096x2048 ![] bcast_S_S2x4096x2048 (constant S_ .f32 0x3F800000#32))
        (addf (broadcastInDim S2x4096x2048 ![] bcast_S_S2x4096x2048 (constant S_ .f32 0x3F800000#32))
          (Host.exp (Host.negf (shapeCast S2x4096x2048 z shapeCasts_S8192x2048_S2x4096x2048))))))

/-- The even layer's two halves side by side. -/
def joined (a b : FVec Ideal S2x4096x1024 .f32) : FVec Ideal S2x4096x2048 .f32 :=
  concatenate S2x4096x2048 2 [⟨S2x4096x1024, a⟩, ⟨S2x4096x1024, b⟩] concatenates_S2x4096x1024_S2x4096x1024_S2x4096x2048_d2

/-- A layer's end. -/
def ended (x u : FVec Ideal S2x4096x2048 .f32) (w : FVec Ideal S2048x2048 .f32) : FVec Ideal S2x4096x2048 .f32 :=
  addf x (Host.dotGeneral dot_S2x4096x2048_S2048x2048_S2x4096x2048_2_0_01_1_n_n none u w)

variable (b : Fin 2) (q : Fin 4096) (d : Fin 2048)

theorem ended_at (x u : FVec Ideal S2x4096x2048 .f32) (w : FVec Ideal S2048x2048 .f32) :
    ended x u w (ix3 b q d) = x (ix3 b q d) + ∑ j : Fin 2048, u (ix3 b q j) * w (ix2 j d) := by
  pointwise [ended]

theorem joined_left (u v : FVec Ideal S2x4096x1024 .f32) (j : Fin 1024) : joined u v (ix3 b q (⟨j.val, by omega⟩ : Fin 2048)) = u (ix3 b q j) := by
  pointwise [joined]

theorem joined_right (u v : FVec Ideal S2x4096x1024 .f32) (j : Fin 1024) : joined u v (ix3 b q (⟨1024 + j.val, by omega⟩ : Fin 2048)) = v (ix3 b q j) := by
  pointwise [joined]

variable (R : Fin 8192) (hR : R.val = 4096 * b.val + q.val)

include hR in
theorem cast_half (o : FVec Ideal S8192x1024 .f32) (j : Fin 1024) :
    shapeCast S2x4096x1024 o shapeCasts_S8192x1024_S2x4096x1024 (ix3 b q j) = o (ix2 R j) := by
  refine shapeCast_apply _ _ _ (ix2 R j) ?_
  rw [Shape.rowMajor_val_two, Shape.rowMajor_val_three]
  show R.val * 1024 + j.val = (b.val * 4096 + q.val) * 1024 + j.val
  omega

include hR in
theorem cast_full (o : FVec Ideal S8192x2048 .f32) (j : Fin 2048) :
    shapeCast S2x4096x2048 o shapeCasts_S8192x2048_S2x4096x2048 (ix3 b q j) = o (ix2 R j) := by
  refine shapeCast_apply _ _ _ (ix2 R j) ?_
  rw [Shape.rowMajor_val_two, Shape.rowMajor_val_three]
  show R.val * 2048 + j.val = (b.val * 4096 + q.val) * 2048 + j.val
  omega

include hR in
theorem half_at (o z : FVec Ideal S8192x1024 .f32) (j : Fin 1024) : half o z (ix3 b q j) = gated (o (ix2 R j)) (z (ix2 R j)) := by
  rw [← cast_half b q R hR o j, ← cast_half b q R hR z j]
  pointwise [half]
  rfl

include hR in
theorem full_at (o z : FVec Ideal S8192x2048 .f32) (j : Fin 2048) : full o z (ix3 b q j) = gated (o (ix2 R j)) (z (ix2 R j)) := by
  rw [← cast_full b q R hR o j, ← cast_full b q R hR z j]
  pointwise [full]
  rfl

include hR in
/-- An entry of the odd layer's end. -/
theorem odd_at (x : FVec Ideal S2x4096x2048 .f32) (o z : FVec Ideal S8192x2048 .f32) (w : FVec Ideal S2048x2048 .f32) :
    ended x (full o z) w (ix3 b q d) = oddEnd (x (ix3 b q d)) (fun j => o (ix2 R j)) (fun j => z (ix2 R j)) (fun j => w (ix2 j d)) := by
  rw [ended_at]
  unfold oddEnd
  congr 1
  exact Finset.sum_congr rfl fun j _ => by rw [full_at b q R hR]

include hR in
/-- An entry of the even layer's end. -/
theorem even_at (x : FVec Ideal S2x4096x2048 .f32) (oa za ob zb : FVec Ideal S8192x1024 .f32) (w : FVec Ideal S2048x2048 .f32) :
    ended x (joined (half oa za) (half ob zb)) w (ix3 b q d) = evenEnd (x (ix3 b q d)) (fun j => oa (ix2 R j)) (fun j => za (ix2 R j))
      (fun j => ob (ix2 R j)) (fun j => zb (ix2 R j)) (fun j => w (ix2 j d)) := by
  rw [ended_at, sum_halves]
  unfold evenEnd
  congr 2
  · exact Finset.sum_congr rfl fun j _ => by rw [joined_left, half_at b q R hR]
  · exact Finset.sum_congr rfl fun j _ => by rw [joined_right, half_at b q R hR]

end Cert.Reference4Ideal.Out

end
-- ==== Proof.Out.Main.lean ====
/-
The claims about the ends of the two layers: the reference's frame, and the equation of the two results.
-/
module

public import proofs.«01_k».proof.Defs
public import proofs.«01_k».proof.Proof.Gen.Kernel4Ideal
public import proofs.«01_k».proof.Proof.Gen.Reference4Ideal
public import proofs.«01_k».proof.Proof.Out.Arrays
public import proofs.«01_k».proof.Proof.Out.RefAt
public import Idealize.ShloMosaic.Lib.Quiescent

@[expose] public section

set_option maxRecDepth 16384

noncomputable section

namespace Cert.Proof.Out

open Idealize.ShloMosaic Idealize.SL.Sem
open Cert.Reference4Ideal.Out (ended joined half full)

/-- The reference ends with its arguments unchanged; it declares no semaphore, so every counter is zero. -/
theorem ref_frame : Cert.quiescent_Reference4Ideal (hReference4Ideal := Cert.Reference4Ideal.Gen.facts) := fun m g _ =>
  (θ_run _ _ _).mono (fun r h => ⟨fun c => (h c).2.2, sem_eq_zero_of_no_sems (by decide) r.2⟩) (Cert.Reference4Ideal.Value.run (F := Ideal) m g)

section arrays

variable (m : (ℓ : Loc Cert.Kernel4Ideal.nD Cert.Kernel4Ideal.τ Cert.Kernel4Ideal.sig) → Buf (Elt Ideal) ℓ) (g : Dev Cert.Kernel4Ideal.nD → PrngReg)
  (c : Dev Cert.Kernel4Ideal.nD)

/-- The kernel's array at a reference once the program has ended. -/
abbrev last (b : Ref Cert.Kernel4Ideal.sig .tc) : Buf (Elt Ideal) ((c.tc : Thread Cert.Kernel4Ideal.nD Cert.Kernel4Ideal.τ).loc b) :=
  Cert.Kernel4Ideal.Gen.W5 m g c (Proc.devRef .tc b)

theorem ix_cube (y : Cert.Reference4Ideal.S2x4096x2048.Idx) :
    y = ix3 (⟨(y 0).val, (y 0).isLt⟩ : Fin 2) (⟨(y 1).val, (y 1).isLt⟩ : Fin 4096) (⟨(y 2).val, (y 2).isLt⟩ : Fin 2048) := by
  funext a
  match a with
  | ⟨0, _⟩ => rfl
  | ⟨1, _⟩ => rfl
  | ⟨2, _⟩ => rfl

/-- The row of batch `b`'s position `q` among the 8192. -/
def row (b : Fin 2) (q : Fin 4096) : Fin 8192 := ⟨4096 * b.val + q.val, by omega⟩

/-- The even layer's end. -/
theorem even_eq : ended (Cert.Kernel4Ideal.Out.argX m c) (joined (half (Cert.Kernel4Ideal.Out.argOa m c) (Cert.Kernel4Ideal.Out.argZa m c))
    (half (Cert.Kernel4Ideal.Out.argOb m c) (Cert.Kernel4Ideal.Out.argZb m c))) (Cert.Kernel4Ideal.Out.argW m c) = last m g c Cert.Kernel4Ideal.main_v9 := by
  funext y
  rw [ix_cube y]
  exact (Cert.Reference4Ideal.Out.even_at _ _ _ (row _ _) rfl _ _ _ _ _ _).trans (Cert.Kernel4Ideal.Out.even_last m g c (row _ _) _ _ rfl _).symm

/-- The odd layer's end. -/
theorem odd_eq : ended (Cert.Kernel4Ideal.Out.argX' m c) (full (Cert.Kernel4Ideal.Out.argO' m c) (Cert.Kernel4Ideal.Out.argZ' m c))
    (Cert.Kernel4Ideal.Out.argW' m c) = last m g c Cert.Kernel4Ideal.main_v10 := by
  funext y
  rw [ix_cube y]
  exact (Cert.Reference4Ideal.Out.odd_at _ _ _ (row _ _) rfl _ _ _ _).trans (Cert.Kernel4Ideal.Out.odd_last m g c (row _ _) _ _ rfl _).symm

end arrays

/-- From equal arguments kernel and reference end with the same two arrays. -/
theorem algebraic : Cert.algebraic_Kernel4Ideal_Reference4Ideal (hKernel4Ideal := Cert.Kernel4Ideal.Gen.facts)
    (hReference4Ideal := Cert.Reference4Ideal.Gen.facts) := fun m g m' g' _ hag => by
  refine ⟨fun c => last m g c Cert.Kernel4Ideal.main_v9, fun c => last m g c Cert.Kernel4Ideal.main_v10, ?_, ?_⟩
  · refine (θ_run _ _ _).mono (fun r h c => ?_) (θ_run_and (Cert.Kernel4Ideal.Out.run_all m g) (Cert.Kernel4Ideal.Gen.frame m g))
    exact ⟨h.1 c Cert.Kernel4Ideal.main_v9 (by decide), h.1 c Cert.Kernel4Ideal.main_v10 (by decide), h.2.1 c⟩
  · refine (θ_run _ _ _).mono (fun r h c => ?_) (Cert.Reference4Ideal.Value.run (F := Ideal) m' g')
    obtain ⟨a0, a1, a2, a3, a4, a5, a6, a7, a8, a9⟩ := hag c
    refine ⟨(h c).1.trans ?_, (h c).2.1.trans ?_, (h c).2.2⟩
    · rw [a0, a1, a2, a3, a4, a5]
      exact even_eq m g c
    · rw [a6, a7, a8, a9]
      exact odd_eq m g c

end Cert.Proof.Out

end
-- ==== Proof.Rows.Frame.lean ====
/-
The projection onto the keys and values of the forgetting attention: the program's run, from the launch to the buffers
it leaves, for any float values. The second call stores every head twice, into 128 columns of the rows and into every
sixteenth row of the array that goes head by head.
-/
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Rows

open Cert.Kernel5Ideal Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x2048 := Rect.unit (s := S512x2048) ![0, 0] S512x2048.size inb_S512x2048_S512x2048_0_0
abbrev r0_1 : Rect S1x2048 := Rect.unit (s := S1x2048) ![0, 0] S1x2048.size inb_S1x2048_S1x2048_0_0

def out0_2 (x0 : Vec F S512x2048 .f32) (x1 : Vec F S1x2048 .f32) : Vec F S512x2048 .bf16 :=
  View.canon [⟨r0_0, k0_pay1 (View.ld x0 r0_0) (View.ld x1 r0_1)⟩]

theorem cover0_2 (p0 : Vec F S512x2048 .bf16) (y : S512x2048.Idx) :
    ∃ pc ∈ ([⟨r0_0, p0⟩] : List (View.Piece (Elt F) S512x2048 .bf16)), y ∈ pc.1.set :=
  View.cover_of_tiled [⟨r0_0, p0⟩] S512x2048.size (by rfl) y

set_option maxHeartbeats 1000000 in
theorem sound_kernel0 (c : Dev nD) (E : Set ℕ) (i : grid0.Coords) (arg1 : Memref sig .tc .vmem S512x2048 .f32) (harg1 : arg1.IsWhole) (arg2 : Memref sig .tc .vmem S1x2048 .f32) (harg2 : arg2.IsWhole) (arg3 : Memref sig .tc .vmem S512x2048 .bf16) (harg3 : arg3.IsWhole)
    (x0 : Vec F S512x2048 .f32) (x1 : Vec F S1x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_rmsnorm i arg1 harg1 arg2 harg2 arg3 harg3) K := by
  simp only [cc0_rmsnorm_eq_skeleton]; unfold cc0_rmsnorm_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S512x2048 := Rect.unit (s := S512x2048) ![0, 0] S512x2048.size inb_S512x2048_S512x2048_0_0
abbrev r1_1 : Rect S2048x2048 := Rect.unit (s := S2048x2048) ![0, 0] S2048x2048.size inb_S2048x2048_S2048x2048_0_0
abbrev r1_2 : Rect S8x128 := Rect.unit (s := S8x128) ![4, 0] S1x128.size inb_S8x128_S1x128_4_0
abbrev r1_3 : Rect S512x2048 := Rect.unit (s := S512x2048) ![0, 0] S512x128.size inb_S512x2048_S512x128_0_0
abbrev r1_4 : Rect S512x2048 := Rect.unit (s := S512x2048) ![0, 128] S512x128.size inb_S512x2048_S512x128_0_128
abbrev r1_5 : Rect S512x2048 := Rect.unit (s := S512x2048) ![0, 256] S512x128.size inb_S512x2048_S512x128_0_256
abbrev r1_6 : Rect S512x2048 := Rect.unit (s := S512x2048) ![0, 384] S512x128.size inb_S512x2048_S512x128_0_384
abbrev r1_7 : Rect S512x2048 := Rect.unit (s := S512x2048) ![0, 512] S512x128.size inb_S512x2048_S512x128_0_512
abbrev r1_8 : Rect S512x2048 := Rect.unit (s := S512x2048) ![0, 640] S512x128.size inb_S512x2048_S512x128_0_640
abbrev r1_9 : Rect S512x2048 := Rect.unit (s := S512x2048) ![0, 768] S512x128.size inb_S512x2048_S512x128_0_768
abbrev r1_10 : Rect S512x2048 := Rect.unit (s := S512x2048) ![0, 896] S512x128.size inb_S512x2048_S512x128_0_896
abbrev r1_11 : Rect S512x2048 := Rect.unit (s := S512x2048) ![0, 1024] S512x128.size inb_S512x2048_S512x128_0_1024
abbrev r1_12 : Rect S512x2048 := Rect.unit (s := S512x2048) ![0, 1152] S512x128.size inb_S512x2048_S512x128_0_1152
abbrev r1_13 : Rect S512x2048 := Rect.unit (s := S512x2048) ![0, 1280] S512x128.size inb_S512x2048_S512x128_0_1280
abbrev r1_14 : Rect S512x2048 := Rect.unit (s := S512x2048) ![0, 1408] S512x128.size inb_S512x2048_S512x128_0_1408
abbrev r1_15 : Rect S512x2048 := Rect.unit (s := S512x2048) ![0, 1536] S512x128.size inb_S512x2048_S512x128_0_1536
abbrev r1_16 : Rect S512x2048 := Rect.unit (s := S512x2048) ![0, 1664] S512x128.size inb_S512x2048_S512x128_0_1664
abbrev r1_17 : Rect S512x2048 := Rect.unit (s := S512x2048) ![0, 1792] S512x128.size inb_S512x2048_S512x128_0_1792
abbrev r1_18 : Rect S512x2048 := Rect.unit (s := S512x2048) ![0, 1920] S512x128.size inb_S512x2048_S512x128_0_1920

/-- The product of a block of rows with the columns. -/
def k1_pay43 (x0 : Vec F S512x2048 .bf16) (x1 : Vec F S2048x2048 .bf16) : FVec F S512x2048 .f32 :=
  k1_pay1 (View.ld x0 r1_0) (View.ld x1 r1_1)

def out1_5 (x0 : Vec F S512x2048 .bf16) (x1 : Vec F S2048x2048 .bf16) (x2 : Vec F S8x128 .f32) : Vec F S512x2048 .f32 :=
  View.canon [⟨r1_18, k1_pay20 (k1_pay43 x0 x1)⟩,
    ⟨r1_17, k1_pay19 (k1_pay43 x0 x1)⟩,
    ⟨r1_16, k1_pay18 (k1_pay43 x0 x1)⟩,
    ⟨r1_15, k1_pay17 (k1_pay43 x0 x1)⟩,
    ⟨r1_14, k1_pay16 (k1_pay43 x0 x1)⟩,
    ⟨r1_13, k1_pay15 (k1_pay43 x0 x1)⟩,
    ⟨r1_12, k1_pay14 (k1_pay43 x0 x1)⟩,
    ⟨r1_11, k1_pay13 (k1_pay43 x0 x1)⟩,
    ⟨r1_10, k1_pay12 (k1_pay43 x0 x1) (View.ld x2 r1_2)⟩,
    ⟨r1_9, k1_pay11 (k1_pay43 x0 x1) (View.ld x2 r1_2)⟩,
    ⟨r1_8, k1_pay10 (k1_pay43 x0 x1) (View.ld x2 r1_2)⟩,
    ⟨r1_7, k1_pay9 (k1_pay6 (k1_pay43 x0 x1)) (k1_pay7 (View.ld x2 r1_2)) (k1_pay8 (k1_pay43 x0 x1))⟩,
    ⟨r1_6, k1_pay5 (k1_pay43 x0 x1) (View.ld x2 r1_2)⟩,
    ⟨r1_5, k1_pay4 (k1_pay43 x0 x1) (View.ld x2 r1_2)⟩,
    ⟨r1_4, k1_pay3 (View.ld x0 r1_0) (View.ld x1 r1_1) (View.ld x2 r1_2)⟩,
    ⟨r1_3, k1_pay2 (View.ld x0 r1_0) (View.ld x1 r1_1) (View.ld x2 r1_2)⟩]

theorem cover1_5 (p0 p1 p2 p3 p4 p5 p6 p7 p8 p9 p10 p11 p12 p13 p14 p15 : Vec F S512x128 .f32) (y : S512x2048.Idx) :
    ∃ pc ∈ ([⟨r1_18, p0⟩, ⟨r1_17, p1⟩, ⟨r1_16, p2⟩, ⟨r1_15, p3⟩, ⟨r1_14, p4⟩, ⟨r1_13, p5⟩, ⟨r1_12, p6⟩, ⟨r1_11, p7⟩, ⟨r1_10, p8⟩, ⟨r1_9, p9⟩, ⟨r1_8, p10⟩, ⟨r1_7, p11⟩, ⟨r1_6, p12⟩, ⟨r1_5, p13⟩, ⟨r1_4, p14⟩, ⟨r1_3, p15⟩] : List (View.Piece (Elt F) S512x2048 .f32)), y ∈ pc.1.set :=
  View.cover_of_tiled [⟨r1_18, p0⟩, ⟨r1_17, p1⟩, ⟨r1_16, p2⟩, ⟨r1_15, p3⟩, ⟨r1_14, p4⟩, ⟨r1_13, p5⟩, ⟨r1_12, p6⟩, ⟨r1_11, p7⟩, ⟨r1_10, p8⟩, ⟨r1_9, p9⟩, ⟨r1_8, p10⟩, ⟨r1_7, p11⟩, ⟨r1_6, p12⟩, ⟨r1_5, p13⟩, ⟨r1_4, p14⟩, ⟨r1_3, p15⟩] S512x128.size (by rfl) y

/-- Every sixteenth row from row `k` on: where head `k` of the head-major output lies. -/
abbrev strip (k : ℕ) (h : ∀ a, S512x128.size a = 0 ∨ ![k, 0] a + ![16, 1] a * (S512x128.size a - 1) < S8192x128.size a) : Rect S8192x128 :=
  ⟨(⟨![k, 0], S512x128.size, ![16, 1], h⟩ : LoadRect S8192x128), spos_16_1⟩

theorem mem_strip (k : ℕ) (h) (y : S8192x128.Idx) : y ∈ (strip k h).set ↔ (y 0).val % 16 = k := by
  have hk : k < 16 := by
    rcases h 0 with e | e
    · exact absurd (show (512 : ℕ) = 0 from e) (by decide)
    · have e' : k + 16 * (512 - 1) < 8192 := e
      omega
  have h0 : (y 0).val < 8192 := (y 0).isLt
  have h1 : (y 1).val < 128 := (y 1).isLt
  rw [LoadRect.mem_set]
  constructor
  · intro hy
    obtain ⟨j, _, e⟩ := hy 0
    have e' : (y 0).val = k + 16 * j := e
    omega
  · intro e a
    match a with
    | ⟨0, _⟩ => exact ⟨(y 0).val / 16, (by show (y 0).val / 16 < 512; omega), (by show (y 0).val = k + 16 * ((y 0).val / 16); omega)⟩
    | ⟨1, _⟩ => exact ⟨(y 1).val, h1, (by show (y 1).val = 0 + 1 * (y 1).val; omega)⟩

def out1_6 (x0 : Vec F S512x2048 .bf16) (x1 : Vec F S2048x2048 .bf16) (x2 : Vec F S8x128 .f32) : Vec F S8192x128 .f32 :=
  View.canon [⟨strip 15 inb_S8192x128_S512x128_15_0_s_16_1, k1_pay42 (k1_pay43 x0 x1)⟩,
    ⟨strip 14 inb_S8192x128_S512x128_14_0_s_16_1, k1_pay41 (k1_pay43 x0 x1)⟩,
    ⟨strip 13 inb_S8192x128_S512x128_13_0_s_16_1, k1_pay40 (k1_pay43 x0 x1)⟩,
    ⟨strip 12 inb_S8192x128_S512x128_12_0_s_16_1, k1_pay39 (k1_pay43 x0 x1)⟩,
    ⟨strip 11 inb_S8192x128_S512x128_11_0_s_16_1, k1_pay38 (k1_pay43 x0 x1)⟩,
    ⟨strip 10 inb_S8192x128_S512x128_10_0_s_16_1, k1_pay37 (k1_pay43 x0 x1)⟩,
    ⟨strip 9 inb_S8192x128_S512x128_9_0_s_16_1, k1_pay36 (k1_pay43 x0 x1)⟩,
    ⟨strip 8 inb_S8192x128_S512x128_8_0_s_16_1, k1_pay35 (k1_pay43 x0 x1)⟩,
    ⟨strip 7 inb_S8192x128_S512x128_7_0_s_16_1, k1_pay34 (k1_pay31 (k1_pay43 x0 x1)) (k1_pay32 (View.ld x2 r1_2)) (k1_pay33 (k1_pay43 x0 x1))⟩,
    ⟨strip 6 inb_S8192x128_S512x128_6_0_s_16_1, k1_pay30 (k1_pay43 x0 x1) (View.ld x2 r1_2)⟩,
    ⟨strip 5 inb_S8192x128_S512x128_5_0_s_16_1, k1_pay29 (k1_pay43 x0 x1) (View.ld x2 r1_2)⟩,
    ⟨strip 4 inb_S8192x128_S512x128_4_0_s_16_1, k1_pay28 (k1_pay43 x0 x1) (View.ld x2 r1_2)⟩,
    ⟨strip 3 inb_S8192x128_S512x128_3_0_s_16_1, k1_pay27 (k1_pay43 x0 x1) (View.ld x2 r1_2)⟩,
    ⟨strip 2 inb_S8192x128_S512x128_2_0_s_16_1, k1_pay26 (k1_pay23 (k1_pay43 x0 x1)) (k1_pay24 (View.ld x2 r1_2)) (k1_pay25 (k1_pay43 x0 x1))⟩,
    ⟨strip 1 inb_S8192x128_S512x128_1_0_s_16_1, k1_pay22 (k1_pay43 x0 x1) (View.ld x2 r1_2)⟩,
    ⟨strip 0 inb_S8192x128_S512x128_0_0_s_16_1, k1_pay21 (k1_pay43 x0 x1) (View.ld x2 r1_2)⟩]

theorem cover1_6 (p0 p1 p2 p3 p4 p5 p6 p7 p8 p9 p10 p11 p12 p13 p14 p15 : Vec F S512x128 .f32) (y : S8192x128.Idx) :
    ∃ pc ∈ ([⟨strip 15 inb_S8192x128_S512x128_15_0_s_16_1, p0⟩, ⟨strip 14 inb_S8192x128_S512x128_14_0_s_16_1, p1⟩, ⟨strip 13 inb_S8192x128_S512x128_13_0_s_16_1, p2⟩, ⟨strip 12 inb_S8192x128_S512x128_12_0_s_16_1, p3⟩, ⟨strip 11 inb_S8192x128_S512x128_11_0_s_16_1, p4⟩, ⟨strip 10 inb_S8192x128_S512x128_10_0_s_16_1, p5⟩, ⟨strip 9 inb_S8192x128_S512x128_9_0_s_16_1, p6⟩, ⟨strip 8 inb_S8192x128_S512x128_8_0_s_16_1, p7⟩, ⟨strip 7 inb_S8192x128_S512x128_7_0_s_16_1, p8⟩, ⟨strip 6 inb_S8192x128_S512x128_6_0_s_16_1, p9⟩, ⟨strip 5 inb_S8192x128_S512x128_5_0_s_16_1, p10⟩, ⟨strip 4 inb_S8192x128_S512x128_4_0_s_16_1, p11⟩, ⟨strip 3 inb_S8192x128_S512x128_3_0_s_16_1, p12⟩, ⟨strip 2 inb_S8192x128_S512x128_2_0_s_16_1, p13⟩, ⟨strip 1 inb_S8192x128_S512x128_1_0_s_16_1, p14⟩, ⟨strip 0 inb_S8192x128_S512x128_0_0_s_16_1, p15⟩] : List (View.Piece (Elt F) S8192x128 .f32)), y ∈ pc.1.set := by
  simp only [List.exists_mem_cons_iff, mem_strip 0, mem_strip 1, mem_strip 2, mem_strip 3, mem_strip 4, mem_strip 5, mem_strip 6, mem_strip 7, mem_strip 8, mem_strip 9, mem_strip 10, mem_strip 11, mem_strip 12, mem_strip 13, mem_strip 14, mem_strip 15]
  omega

set_option maxHeartbeats 1000000 in
theorem sound_kernel1 (c : Dev nD) (E : Set ℕ) (i : grid1.Coords) (arg2 : Memref sig .tc .vmem S512x2048 .bf16) (harg2 : arg2.IsWhole) (arg3 : Memref sig .tc .vmem S2048x2048 .bf16) (harg3 : arg3.IsWhole) (arg4 : Memref sig .tc .vmem S8x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x2048 .f32) (harg7 : arg7.IsWhole) (arg8 : Memref sig .tc .vmem S8192x128 .f32) (harg8 : arg8.IsWhole)
    (x0 : Vec F S512x2048 .bf16) (x1 : Vec F S2048x2048 .bf16) (x2 : Vec F S8x128 .f32) (x3 : Vec F S512x128 .f32) (x4 : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out1_5 x0 x1 x2) ∗ owns (c : Thread nD τ) arg8 fullShare (out1_6 x0 x1 x2)) -∗ K ⟨⟩))
      ⊢ wp frame (wpE (defs₀ (F := F)) Variants.none c none) E (cc1_proj i arg2 harg2 arg3 harg3 arg4 harg4 arg5 harg5 arg6 harg6 arg7 harg7 arg8 harg8) K := by
  simp only [cc1_proj_eq_skeleton]; unfold cc1_proj_skel
  simp only [k1_part8_eq_skeleton, k1_part1_eq_skeleton, k1_part2_eq_skeleton, k1_part3_eq_skeleton, k1_part4_eq_skeleton, k1_part5_eq_skeleton, k1_part6_eq_skeleton, k1_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover1_5 _ _ _ _ _ _ _ _ _ _ _ _ _ _ _ _)).trans ?_
    rfl
  iexists _; isplitr
  swap; · iexact H6
  ipureintro
  refine (View.read_writes_eq_canon _ _ _ (cover1_6 _ _ _ _ _ _ _ _ _ _ _ _ _ _ _ _)).trans ?_
  rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t)
    | ⟨6, _⟩ => out1_6 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) := by dsimp only [dat1]
theorem after1_6 (c : Dev nD) (t : Fin cfg1.N) : (dat1 V c).after 6 t = out1_6 (iblk1 V c 0 t) (iblk1 V c 1 t) (iblk1 V c 2 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

abbrev argRefs : List (Ref sig .tc) := [main_arg0, main_arg1, main_arg2, main_arg3]

/-- The operations bring no buffer into being, -/
abbrev Still (l : List (HloOp τ sig (Elt F))) : Prop := l.Forall fun op => op.fresh = ∅
/-- and write at most the buffers of `W`. -/
abbrev Within (l : List (HloOp τ sig (Elt F))) (W : List (Ref sig .tc)) : Prop :=
  l.Forall fun op => op.writes ⊆ (W.map (Proc.devRef (τ := τ) .tc)).toFinset

theorem hostOps0_fresh : Still (F := F) hostOps0 := by
  simp only [List.Forall]; repeat' constructor
abbrev hostOps0_W : List (Ref sig .tc) := [main_cst, main_v0, main_cst_0, main_v1, main_v2, main_v3, main_c]
theorem hostOps0_writes : Within (F := F) hostOps0 hostOps0_W :=
  StableHlo.forall_writes_sub_of_map rfl
theorem hostOps0_args : ∀ a ∈ argRefs, a ∉ hostOps0_W := ListAll.forall_mem_of_all_decide (by decide +kernel)

theorem hostOps0_1_fresh : Still (F := F) hostOps0_1 := by
  simp only [List.Forall]; repeat' constructor
abbrev hostOps0_1_W : List (Ref sig .tc) := [main_call0_v0, main_v4]
theorem hostOps0_1_writes : Within (F := F) hostOps0_1 hostOps0_1_W :=
  StableHlo.forall_writes_sub_of_map rfl
theorem hostOps0_1_args : ∀ a ∈ argRefs, a ∉ hostOps0_1_W := ListAll.forall_mem_of_all_decide (by decide +kernel)

theorem hostOps0_2_fresh : Still (F := F) hostOps0_2 := by
  simp only [List.Forall]; repeat' constructor
abbrev hostOps0_2_W : List (Ref sig .tc) := [main_v5, main_c_1]
theorem hostOps0_2_writes : Within (F := F) hostOps0_2 hostOps0_2_W :=
  StableHlo.forall_writes_sub_of_map rfl
theorem hostOps0_2_args : ∀ a ∈ argRefs, a ∉ hostOps0_2_W := ListAll.forall_mem_of_all_decide (by decide +kernel)

theorem hostOps0_3_fresh : Still (F := F) hostOps0_3 := by
  simp only [List.Forall]; repeat' constructor
abbrev hostOps0_3_W : List (Ref sig .tc) := [main_call1_v0, main_v6]
theorem hostOps0_3_writes : Within (F := F) hostOps0_3 hostOps0_3_W :=
  StableHlo.forall_writes_sub_of_map rfl
theorem hostOps0_3_args : ∀ a ∈ argRefs, a ∉ hostOps0_3_W := ListAll.forall_mem_of_all_decide (by decide +kernel)

theorem hostOps0_4_fresh : Still (F := F) hostOps0_4 := by
  simp only [List.Forall]; repeat' constructor
abbrev hostOps0_4_W : List (Ref sig .tc) := [main_v7, main_c_2]
theorem hostOps0_4_writes : Within (F := F) hostOps0_4 hostOps0_4_W :=
  StableHlo.forall_writes_sub_of_map rfl
theorem hostOps0_4_args : ∀ a ∈ argRefs, a ∉ hostOps0_4_W := ListAll.forall_mem_of_all_decide (by decide +kernel)

theorem hostOps0_5_fresh : Still (F := F) hostOps0_5 := by
  simp only [List.Forall]; repeat' constructor
abbrev hostOps0_5_W : List (Ref sig .tc) := [main_call2_v0, main_v8]
theorem hostOps0_5_writes : Within (F := F) hostOps0_5 hostOps0_5_W :=
  StableHlo.forall_writes_sub_of_map rfl
theorem hostOps0_5_args : ∀ a ∈ argRefs, a ∉ hostOps0_5_W := ListAll.forall_mem_of_all_decide (by decide +kernel)

theorem hostOps0_6_fresh : Still (F := F) hostOps0_6 := by
  simp only [List.Forall]; repeat' constructor
abbrev hostOps0_6_W : List (Ref sig .tc) := [main_v9, main_v10, main_v11, main_v12, main_v13, main_v14, main_v15, main_v16, main_v17, main_v18, main_c_3]
theorem hostOps0_6_writes : Within (F := F) hostOps0_6 hostOps0_6_W :=
  StableHlo.forall_writes_sub_of_map rfl
theorem hostOps0_6_args : ∀ a ∈ argRefs, a ∉ hostOps0_6_W := ListAll.forall_mem_of_all_decide (by decide +kernel)

theorem hostOps0_7_fresh : Still (F := F) hostOps0_7 := by
  simp only [List.Forall]; repeat' constructor
abbrev hostOps0_7_W : List (Ref sig .tc) := [main_call3_v0, main_v19]
theorem hostOps0_7_writes : Within (F := F) hostOps0_7 hostOps0_7_W :=
  StableHlo.forall_writes_sub_of_map rfl
theorem hostOps0_7_args : ∀ a ∈ argRefs, a ∉ hostOps0_7_W := ListAll.forall_mem_of_all_decide (by decide +kernel)

theorem hostOps0_8_fresh : Still (F := F) hostOps0_8 := by
  simp only [List.Forall]; repeat' constructor
abbrev hostOps0_8_W : List (Ref sig .tc) := [main_cst_4, main_v20, main_cst_5, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45]
theorem hostOps0_8_writes : Within (F := F) hostOps0_8 hostOps0_8_W :=
  StableHlo.forall_writes_sub_of_map rfl
theorem hostOps0_8_args : ∀ a ∈ argRefs, a ∉ hostOps0_8_W := ListAll.forall_mem_of_all_decide (by decide +kernel)

theorem hostOps1_fresh : Still (F := F) hostOps1 := by
  simp only [List.Forall]; repeat' constructor
abbrev hostOps1_W : List (Ref sig .tc) := [main_v47, main_v48, main_cst_6, main_v49, main_v50, main_cst_7, main_v51, main_v52, main_v53, main_v54, main_v55, main_v56, main_v57, main_v58, main_v59, main_v60, main_v61, main_v62, main_v63]
theorem hostOps1_writes : Within (F := F) hostOps1 hostOps1_W :=
  StableHlo.forall_writes_sub_of_map rfl
theorem hostOps1_args : ∀ a ∈ argRefs, a ∉ hostOps1_W := ListAll.forall_mem_of_all_decide (by decide +kernel)

theorem hostOps2_fresh : Still (F := F) hostOps2 := by
  simp only [List.Forall]; repeat' constructor
abbrev hostOps2_W : List (Ref sig .tc) := [main_v65]
theorem hostOps2_writes : Within (F := F) hostOps2 hostOps2_W :=
  StableHlo.forall_writes_sub_of_map rfl
theorem hostOps2_args : ∀ a ∈ argRefs, a ∉ hostOps2_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
abbrev W4 : Dev nD → Valuation τ sig (Elt F) := fun c => StableHlo.after hostOps0_3 (W3 m ρ c)
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
abbrev W5 : Dev nD → Valuation τ sig (Elt F) := fun c => StableHlo.after hostOps0_4 (W4 m ρ c)
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
abbrev W6 : Dev nD → Valuation τ sig (Elt F) := fun c => StableHlo.after hostOps0_5 (W5 m ρ c)
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W6_args (c : Dev nD) : ∀ a ∈ argRefs, W6 m ρ c (Proc.devRef .tc a) = m ((c : Thread nD τ).loc a) :=
  fun a ha => (W6_of m ρ c a (hostOps0_5_args a ha)).trans (W5_args m ρ c a ha)
abbrev W7 : Dev nD → Valuation τ sig (Elt F) := fun c => StableHlo.after hostOps0_6 (W6 m ρ c)
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W7_args (c : Dev nD) : ∀ a ∈ argRefs, W7 m ρ c (Proc.devRef .tc a) = m ((c : Thread nD τ).loc a) :=
  fun a ha => (W7_of m ρ c a (hostOps0_6_args a ha)).trans (W6_args m ρ c a ha)
abbrev W8 : Dev nD → Valuation τ sig (Elt F) := fun c => StableHlo.after hostOps0_7 (W7 m ρ c)
theorem W8_of (c : Dev nD) (r : Ref sig .tc) (h : r ∉ hostOps0_7_W) : W8 m ρ c (Proc.devRef .tc r) = W7 m ρ c (Proc.devRef .tc r) :=
  StableHlo.after_of_writes_sub hostOps0_7 _ hostOps0_7_writes h
theorem W8_args (c : Dev nD) : ∀ a ∈ argRefs, W8 m ρ c (Proc.devRef .tc a) = m ((c : Thread nD τ).loc a) :=
  fun a ha => (W8_of m ρ c a (hostOps0_7_args a ha)).trans (W7_args m ρ c a ha)
abbrev W9 : Dev nD → Valuation τ sig (Elt F) := fun c => StableHlo.after hostOps0_8 (W8 m ρ c)
theorem W9_of (c : Dev nD) (r : Ref sig .tc) (h : r ∉ hostOps0_8_W) : W9 m ρ c (Proc.devRef .tc r) = W8 m ρ c (Proc.devRef .tc r) :=
  StableHlo.after_of_writes_sub hostOps0_8 _ hostOps0_8_writes h
theorem W9_args (c : Dev nD) : ∀ a ∈ argRefs, W9 m ρ c (Proc.devRef .tc a) = m ((c : Thread nD τ).loc a) :=
  fun a ha => (W9_of m ρ c a (hostOps0_8_args a ha)).trans (W8_args m ρ c a ha)
abbrev V9 : (c : Dev nD) → (b : Ref sig .tc) → Buf (Elt F) ((c : Thread nD τ).loc b) := fun c b => W9 m ρ c b
def W10 (c : Dev nD) : Valuation τ sig (Elt F) :=
  Pipeline.withArrays spec0 c (W9 m ρ c) fun w => (dat0 (V9 m ρ) c).arrAt w cfg0.N
theorem W10_arr (c : Dev nD) (w : Fin cfg0.W) :
    W10 m ρ c (Proc.devRef .tc (Pipeline.arrRef spec0 w)) = (dat0 (V9 m ρ) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m ρ c (Proc.devRef .tc b) = W9 m ρ c (Proc.devRef .tc b) := by
  unfold W10; exact Pipeline.withArrays_of_ne spec0 c _ _ b hb
theorem W10_of (c : Dev nD) (r : Ref sig .tc) (h : ∀ w : Fin cfg0.W, Pipeline.arrRef spec0 w = r → (cfg0.win w).isOut = false) :
    W10 m ρ c (Proc.devRef .tc r) = W9 m ρ c (Proc.devRef .tc r) := by
  by_cases hw : ∃ w : Fin cfg0.W, Pipeline.arrRef spec0 w = r
  · obtain ⟨w, rfl⟩ := hw
    exact (W10_arr m ρ c w).trans (((dat0 (V9 m ρ) c).arrAt_in w (h w rfl) _).trans (A_eq0 (V9 m ρ) c w))
  · exact W10_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn0 a ha)).trans (W9_args m ρ c a ha)
abbrev V10 : (c : Dev nD) → (b : Ref sig .tc) → Buf (Elt F) ((c : Thread nD τ).loc b) := fun c b => W10 m ρ c b
theorem hF0 (c : Dev nD) (w : Fin cfg0.W) : (dat0 (V9 m ρ) c).arrAt w cfg0.N = V10 m ρ c (Pipeline.arrRef spec0 w) :=
  (W10_arr m ρ c w).symm
theorem hrest0 (c : Dev nD) : ∀ b, b ∉ Finset.univ.image (Pipeline.arrRef spec0) → V10 m ρ c b = V9 m ρ c b :=
  fun b hb => W10_of_ne m ρ c b fun w e => hb (Finset.mem_image.mpr ⟨w, Finset.mem_univ _, e⟩)

abbrev W11 : Dev nD → Valuation τ sig (Elt F) := fun c => StableHlo.after hostOps1 (W10 m ρ c)
theorem W11_of (c : Dev nD) (r : Ref sig .tc) (h : r ∉ hostOps1_W) : W11 m ρ c (Proc.devRef .tc r) = W10 m ρ c (Proc.devRef .tc r) :=
  StableHlo.after_of_writes_sub hostOps1 _ hostOps1_writes h
theorem W11_args (c : Dev nD) : ∀ a ∈ argRefs, W11 m ρ c (Proc.devRef .tc a) = m ((c : Thread nD τ).loc a) :=
  fun a ha => (W11_of m ρ c a (hostOps1_args a ha)).trans (W10_args m ρ c a ha)
abbrev V11 : (c : Dev nD) → (b : Ref sig .tc) → Buf (Elt F) ((c : Thread nD τ).loc b) := fun c b => W11 m ρ c b
def W12 (c : Dev nD) : Valuation τ sig (Elt F) :=
  Pipeline.withArrays spec1 c (W11 m ρ c) fun w => (dat1 (V11 m ρ) c).arrAt w cfg1.N
theorem W12_arr (c : Dev nD) (w : Fin cfg1.W) :
    W12 m ρ c (Proc.devRef .tc (Pipeline.arrRef spec1 w)) = (dat1 (V11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
theorem W12_of (c : Dev nD) (r : Ref sig .tc) (h : ∀ w : Fin cfg1.W, Pipeline.arrRef spec1 w = r → (cfg1.win w).isOut = false) :
    W12 m ρ c (Proc.devRef .tc r) = W11 m ρ c (Proc.devRef .tc r) := by
  by_cases hw : ∃ w : Fin cfg1.W, Pipeline.arrRef spec1 w = r
  · obtain ⟨w, rfl⟩ := hw
    exact (W12_arr m ρ c w).trans (((dat1 (V11 m ρ) c).arrAt_in w (h w rfl) _).trans (A_eq1 (V11 m ρ) c w))
  · exact W12_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W12_args (c : Dev nD) : ∀ a ∈ argRefs, W12 m ρ c (Proc.devRef .tc a) = m ((c : Thread nD τ).loc a) :=
  fun a ha => (W12_of m ρ c a (argsIn1 a ha)).trans (W11_args m ρ c a ha)
abbrev V12 : (c : Dev nD) → (b : Ref sig .tc) → Buf (Elt F) ((c : Thread nD τ).loc b) := fun c b => W12 m ρ c b
theorem hF1 (c : Dev nD) (w : Fin cfg1.W) : (dat1 (V11 m ρ) c).arrAt w cfg1.N = V12 m ρ c (Pipeline.arrRef spec1 w) :=
  (W12_arr m ρ c w).symm
theorem hrest1 (c : Dev nD) : ∀ b, b ∉ Finset.univ.image (Pipeline.arrRef spec1) → V12 m ρ c b = V11 m ρ c b :=
  fun b hb => W12_of_ne m ρ c b fun w e => hb (Finset.mem_image.mpr ⟨w, Finset.mem_univ _, e⟩)

abbrev W13 : Dev nD → Valuation τ sig (Elt F) := fun c => StableHlo.after hostOps2 (W12 m ρ c)
theorem W13_of (c : Dev nD) (r : Ref sig .tc) (h : r ∉ hostOps2_W) : W13 m ρ c (Proc.devRef .tc r) = W12 m ρ c (Proc.devRef .tc r) :=
  StableHlo.after_of_writes_sub hostOps2 _ hostOps2_writes h
theorem W13_args (c : Dev nD) : ∀ a ∈ argRefs, W13 m ρ c (Proc.devRef .tc a) = m ((c : Thread nD τ).loc a) :=
  fun a ha => (W13_of m ρ c a (hostOps2_args a ha)).trans (W12_args m ρ c a ha)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V9 m ρ) c
  | ⟨1, _⟩ => fun c => dat1 (V11 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W13 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V9 m ρ) c).loose
  hwaits := Pipeline.hwaits_of_owed_zero _ _ _ _ L lv 0 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec0 c (V9 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V9 m ρ c) (A_eq0 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V9 m ρ c) (V10 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (V11 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V11 m ρ c) (A_eq1 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V11 m ρ c) (V12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .region (reg0 m ρ),
    .host (hseg hostOps1 hostOps1_sub hostOps1_fresh (W10 m ρ)),
    .region (reg1 m ρ),
    .host (hseg hostOps2 hostOps2_sub hostOps2_fresh (W12 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
theorem ends : θ_run defs (onTc (τ := τ) (main (F := F))) ⟨m, fun _ => 0, ρ⟩ (fun r => (∀ (c : Dev nD) (b : Ref sig .tc),
      ¬(Proc.devRef .tc b : DevRef τ sig).isScoped → r.2.mem ((c.tc : Thread nD τ).loc b) = W13 m ρ c (Proc.devRef .tc b))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => ⟨fun c b hb => h c _ (mem_uc b hb), funext fun g => hz g (.inr (no_unscoped g.2))⟩)

/-- The arguments end as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c _ (by decide)).trans (W13_args m ρ c main_arg0 (by decide)),
    (h.1 c _ (by decide)).trans (W13_args m ρ c main_arg1 (by decide)), (h.1 c _ (by decide)).trans (W13_args m ρ c main_arg2 (by decide)),
    (h.1 c _ (by decide)).trans (W13_args m ρ c main_arg3 (by decide))⟩, h.2⟩) (ends m ρ)

end Cert.Rows

end
-- ==== Proof.Rows.Math.lean ====
/-
The keys and values of the even layer's forgetting attention written out, entry by entry.
-/
module

public import proofs.«01_k».proof.Proof.Even.Math

@[expose] public section

noncomputable section

namespace Cert.Rows

open Idealize.ShloMosaic

variable (X : Fin 2 → Fin 4096 → Fin 2048 → EReal) (g : Fin 2048 → EReal) (W : Fin 2048 → Fin 7712 → EReal) (n : Fin 128 → EReal)

/-- Column `d` of head `k`: eight heads of keys, normalised one by one, then eight heads of values. -/
def entry (b : Fin 2) (q : Fin 4096) (k : Fin 16) (d : Fin 128) : EReal :=
  if k.val < 8 then
    Cert.Odd.norm (Ideal.ofBits .f32 0x43000000#32) (fun x => Cert.Even.proj X g W b q ⟨4632 + (128 * k.val + x.val), by omega⟩) n d
  else Cert.Even.proj X g W b q ⟨4632 + (128 * k.val + d.val), by omega⟩

end Cert.Rows

end
-- ==== Proof.Rows.KernelAt.lean ====
/-
What the two calls of the program leave in their arrays of results, entry by entry, from the arrays they find.
The second call leaves its sixteen heads twice: side by side, and row after row, the head changing fastest.
-/
module

public import proofs.«01_k».proof.Proof.Rows.Frame
public import proofs.«01_k».proof.Proof.Rows.Math
public import Idealize.ShloMosaic.Lib.Pointwise
public import Idealize.ShloMosaic.Lib.WholeRead
public import Idealize.ShloMosaic.PureOps.IdealRules
public import Idealize.ShloMosaic.Lib.Pipeline.Value
public import Idealize.ShloMosaic.Lib.Pipeline.ValueKit
public import Idealize.ShloMosaic.Lib.KernelVsHost

@[expose] public section

set_option maxRecDepth 16384

noncomputable section

namespace Cert.Rows

open Idealize.ShloMosaic Idealize.ShloMosaic.TcCoe Idealize.ShloMosaic.Tactic
open Idealize.SL.Sem
open Cert.Kernel5Ideal Cert.Kernel5Ideal.Gen
open Cert.Odd (norm)

/-! ## The heads of a block -/

theorem slices_col : ∀ k : Fin 16, S512x2048.Slices ![0, 128 * k.val] S512x128 := by decide
theorem inb_col : ∀ k : Fin 16, ∀ a, (![0, 128 * k.val] : Fin 2 → ℕ) a + S512x128.size a ≤ S512x2048.size a := by decide
theorem inb_strip : ∀ k : Fin 16, ∀ a, S512x128.size a = 0 ∨ (![k.val, 0] : Fin 2 → ℕ) a + (![16, 1] : Fin 2 → ℕ) a * (S512x128.size a - 1) < S8192x128.size a := by decide

/-- Head `k` of a block. -/
abbrev col (k : Fin 16) (a : FVec Ideal S512x2048 .f32) : FVec Ideal S512x128 .f32 :=
  extractStridedSlice S512x128 ![0, 128 * k.val] a (slices_col k)

/-- A head, each row divided by its root mean square and scaled by `g`. -/
def normed (u : FVec Ideal S512x128 .f32) (g : Vec Ideal S1x128 .f32) : FVec Ideal S512x128 .f32 :=
  mulf (mulf u (broadcastTo S512x128 (rsqrt (addf (divf (shapeCast S512x1
    (multiReduction .add [1] S512 (mulf u u) 0x00000000#32 reduces_S512x128_S512 (.inl rfl) rfl) shapeCasts_S512_S512x1)
    (broadcast S512x1 (Scalar.ofBits .f32 0x43000000#32))) (broadcast S512x1 (Scalar.ofBits .f32 0x358637BD#32)))) broadcasts_S512x1_S512x128))
    (broadcastTo S512x128 (shapeCast S1x128 g shapeCasts_S1x128_S1x128) broadcasts_S1x128_S512x128)

/-- The heads as the call stores them: the first eight normalised. -/
def head (a : FVec Ideal S512x2048 .f32) (g : Vec Ideal S1x128 .f32) (k : Fin 16) : FVec Ideal S512x128 .f32 :=
  if k.val < 8 then normed (col k a) g else col k a

/-- Sixteen heads side by side, -/
def beside (f : Fin 16 → FVec Ideal S512x128 .f32) : FVec Ideal S512x2048 .f32 := fun y =>
  f (⟨(y 1).val / 128, by have : (y 1).val < 2048 := (y 1).isLt; omega⟩ : Fin 16)
    (ix2 (⟨(y 0).val, (y 0).isLt⟩ : Fin 512) (⟨(y 1).val % 128, by omega⟩ : Fin 128))

/-- and row after row. -/
def woven (f : Fin 16 → FVec Ideal S512x128 .f32) : FVec Ideal S8192x128 .f32 := fun y =>
  f (⟨(y 0).val % 16, by omega⟩ : Fin 16)
    (ix2 (⟨(y 0).val / 16, by have : (y 0).val < 8192 := (y 0).isLt; omega⟩ : Fin 512) (⟨(y 1).val, (y 1).isLt⟩ : Fin 128))

theorem head_eq (f : Fin 16 → FVec Ideal S512x128 .f32) (k k' : Fin 16) (x : S512x128.Idx) (r : Fin 512) (d : Fin 128)
    (hk : k'.val = k.val) (h0 : r.val = (x 0).val) (h1 : d.val = (x 1).val) : f k x = f k' (ix2 r d) := by
  have e : k' = k := Fin.ext hk
  have ex : x = ix2 r d := by
    funext a
    match a with
    | ⟨0, _⟩ => exact Fin.ext h0.symm
    | ⟨1, _⟩ => exact Fin.ext h1.symm
  rw [e, ex]

theorem beside_of (f : Fin 16 → FVec Ideal S512x128 .f32) (y : S512x2048.Idx) (l : List (View.Piece (Elt Ideal) S512x2048 .f32))
    (hl : l = (List.finRange 16).reverse.map fun k => ⟨Rect.unit (s := S512x2048) ![0, 128 * k.val] S512x128.size (inb_col k), f k⟩)
    (hc : ∃ pc ∈ l, y ∈ pc.1.set) : View.canon l y = beside f y := by
  refine View.canon_apply_of_pieces (Val := Elt Ideal) (beside f) l (fun p hp => ?_) y hc
  rw [hl] at hp
  obtain ⟨k, -, rfl⟩ := List.mem_map.1 hp
  intro x
  have x1 : (x 1).val < 128 := (x 1).isLt
  refine head_eq f _ _ _ _ _ ?_ ?_ ?_
  · show (128 * k.val + 1 * (x 1).val) / 128 = k.val; omega
  · show 0 + 1 * (x 0).val = (x 0).val; omega
  · show (128 * k.val + 1 * (x 1).val) % 128 = (x 1).val; omega

theorem woven_of (f : Fin 16 → FVec Ideal S512x128 .f32) (y : S8192x128.Idx) (l : List (View.Piece (Elt Ideal) S8192x128 .f32))
    (hl : l = (List.finRange 16).reverse.map fun k => ⟨strip k.val (inb_strip k), f k⟩)
    (hc : ∃ pc ∈ l, y ∈ pc.1.set) : View.canon l y = woven f y := by
  refine View.canon_apply_of_pieces (Val := Elt Ideal) (woven f) l (fun p hp => ?_) y hc
  rw [hl] at hp
  obtain ⟨k, -, rfl⟩ := List.mem_map.1 hp
  intro x
  refine head_eq f _ _ _ _ _ ?_ ?_ ?_
  · show (k.val + 16 * (x 0).val) % 16 = k.val; omega
  · show (k.val + 16 * (x 0).val) / 16 = (x 0).val; omega
  · show 0 + 1 * (x 1).val = (x 1).val; omega

/-! ## The calls -/

theorem out0_eq (x0 : Vec Ideal S512x2048 .f32) (x1 : Vec Ideal S1x2048 .f32) : out0_2 (F := Ideal) x0 x1 = k0_pay1 x0 x1 := by
  have z : (![0, 0] : Fin 2 → ℕ) = fun _ => 0 := by decide
  unfold out0_2
  rw [View.canon_unit_zero (Val := Elt Ideal) (S := S512x2048) z, View.ld_unit_zero (Val := Elt Ideal) (S := S512x2048) z,
    View.ld_unit_zero (Val := Elt Ideal) (S := S1x2048) z]

variable (x0 : Vec Ideal S512x2048 .bf16) (x1 : Vec Ideal S2048x2048 .bf16) (x2 : Vec Ideal S8x128 .f32)

theorem ld_h : View.ld x0 r1_0 = x0 := View.ld_unit_zero (Val := Elt Ideal) (S := S512x2048) (by decide) _ x0
theorem ld_w : View.ld x1 r1_1 = x1 := View.ld_unit_zero (Val := Elt Ideal) (S := S2048x2048) (by decide) _ x1

theorem out1_5_eq : out1_5 (F := Ideal) x0 x1 x2 = beside (head (k1_pay1 x0 x1) (View.ld x2 r1_2)) := by
  unfold out1_5 k1_pay43
  rw [ld_h, ld_w]
  funext y
  exact beside_of (head (k1_pay1 x0 x1) (View.ld x2 r1_2)) y _ rfl (cover1_5 _ _ _ _ _ _ _ _ _ _ _ _ _ _ _ _ y)

theorem out1_6_eq : out1_6 (F := Ideal) x0 x1 x2 = woven (head (k1_pay1 x0 x1) (View.ld x2 r1_2)) := by
  unfold out1_6 k1_pay43
  rw [ld_h, ld_w]
  funext y
  exact woven_of (head (k1_pay1 x0 x1) (View.ld x2 r1_2)) y _ rfl (cover1_6 _ _ _ _ _ _ _ _ _ _ _ _ _ _ _ _ y)

/-! ## The bodies at an index -/

theorem hidden_at (u : Vec Ideal S512x2048 .f32) (v : Vec Ideal S1x2048 .f32) (r : Fin 512) (d : Fin 2048) :
    k0_pay1 u v (ix2 r d) = norm (Ideal.ofBits .f32 0x45000000#32) (fun x => u (ix2 r x)) (fun x => v (ix2 0 x)) d := by
  pointwise [k0_pay1]
  rfl

theorem col_at (k : Fin 16) (r : Fin 512) (d : Fin 128) :
    col k (k1_pay1 x0 x1) (ix2 r d) = ∑ x : Fin 2048, x0 (ix2 r x) * x1 (ix2 x (⟨128 * k.val + d.val, by omega⟩ : Fin 2048)) := by
  pointwise [col, k1_pay1]

theorem normed_at (u : FVec Ideal S512x128 .f32) (g : Vec Ideal S1x128 .f32) (r : Fin 512) (d : Fin 128) :
    normed u g (ix2 r d) = norm (Ideal.ofBits .f32 0x43000000#32) (fun x => u (ix2 r x)) (fun x => g (ix2 0 x)) d := by
  pointwise [normed]
  rfl

/-! ## The blocks at a grid point -/

variable (V : (c : Dev nD) → (b : Ref sig .tc) → Buf (Elt Ideal) ((c : Thread nD τ).loc b)) (c : Dev nD)

theorem points0 : cfg0.N = 16 := by decide
theorem points1 : cfg1.N = 16 := by decide

theorem idx0_0 : ∀ t : Fin cfg0.N, win0_0.index t = ![t.val, 0] := by decide +kernel
theorem idx0_1 : ∀ t : Fin cfg0.N, win0_1.index t = ![0, 0] := by decide +kernel
theorem idx0_2 : ∀ t : Fin cfg0.N, win0_2.index t = ![t.val, 0] := by decide +kernel
theorem idx1_0 : ∀ t : Fin cfg1.N, win1_0.index t = ![t.val, 0] := by decide +kernel
theorem idx1_1 : ∀ t : Fin cfg1.N, win1_1.index t = ![0, 0] := by decide +kernel
theorem idx1_2 : ∀ t : Fin cfg1.N, win1_2.index t = ![0, 0] := by decide +kernel
theorem idx1_5 : ∀ t : Fin cfg1.N, win1_5.index t = ![t.val, 0] := by decide +kernel
theorem idx1_6 : ∀ t : Fin cfg1.N, win1_6.index t = ![t.val, 0] := by decide +kernel

theorem blk0_0 (t : Fin cfg0.N) (r : Fin 512) (d : Fin 2048) (R : Fin 8192) (hR : R.val = 512 * t.val + r.val) :
    iblk0 V c 0 t (ix2 r d) = V c main_v44 (ix2 R d) := by
  blk_ext [iblk0, idx0_0 t]
theorem blk0_1 (t : Fin cfg0.N) (d : Fin 2048) : iblk0 V c 1 t (ix2 0 d) = V c main_v45 (ix2 0 d) := by
  blk_ext [iblk0, idx0_1 t]
theorem blk1_0 (t : Fin cfg1.N) (r : Fin 512) (d : Fin 2048) (R : Fin 8192) (hR : R.val = 512 * t.val + r.val) :
    iblk1 V c 0 t (ix2 r d) = V c main_v46 (ix2 R d) := by
  blk_ext [iblk1, idx1_0 t]
theorem blk1_1 (t : Fin cfg1.N) (x j : Fin 2048) : iblk1 V c 1 t (ix2 x j) = V c main_v36 (ix2 x j) := by
  blk_ext [iblk1, idx1_1 t]
theorem blk1_2 (t : Fin cfg1.N) (d : Fin 128) : View.ld (iblk1 V c 2 t) r1_2 (ix2 0 d) = V c main_v30 (ix2 4 d) := by
  have e : r1_2.idx (ix2 0 d) = (ix2 4 d : S8x128.Idx) := by
    funext a
    match a with
    | ⟨0, _⟩ => rfl
    | ⟨1, _⟩ => exact Fin.ext (by show 0 + 1 * d.val = d.val; omega)
  show iblk1 V c 2 t (r1_2.idx (ix2 0 d)) = _
  rw [e]
  blk_ext [iblk1, idx1_2 t]

/-! ## The arrays of results -/

/-- An array of two axes, from its entries. -/
def table {φ : FTy} {m n : ℕ} (f : Fin m → Fin n → EReal) : FVec Ideal (⟨2, ![m, n]⟩ : Shape) φ := fun y =>
  f (⟨(y 0).val, (y 0).isLt⟩ : Fin m) (⟨(y 1).val, (y 1).isLt⟩ : Fin n)

theorem table_at {φ : FTy} {m n : ℕ} (f : Fin m → Fin n → EReal) (R : Fin m) (j : Fin n) (y : (⟨2, ![m, n]⟩ : Shape).Idx)
    (h0 : (y 0).val = R.val) (h1 : (y 1).val = j.val) : (table f : FVec Ideal (⟨2, ![m, n]⟩ : Shape) φ) y = f R j := by
  have e0 : (⟨(y 0).val, (y 0).isLt⟩ : Fin m) = R := Fin.ext h0
  have e1 : (⟨(y 1).val, (y 1).isLt⟩ : Fin n) = j := Fin.ext h1
  unfold table
  rw [e0, e1]

theorem ix_row {n k : ℕ} (y : (⟨2, ![n, k]⟩ : Shape).Idx) : y = ix2 (⟨(y 0).val, (y 0).isLt⟩ : Fin n) (⟨(y 1).val, (y 1).isLt⟩ : Fin k) := by
  funext a
  match a with
  | ⟨0, _⟩ => rfl
  | ⟨1, _⟩ => rfl

/-- The normalised rows. -/
def hiddenOut (x : Vec Ideal S8192x2048 .f32) (g : Vec Ideal S1x2048 .f32) (R : Fin 8192) (d : Fin 2048) : EReal :=
  norm (Ideal.ofBits .f32 0x45000000#32) (fun j => x (ix2 R j)) (fun j => g (ix2 0 j)) d

theorem arr0 : (dat0 V c).arrAt 2 cfg0.N = (table (hiddenOut (V c main_v44) (V c main_v45)) : FVec Ideal S8192x2048 .bf16) := by
  refine (dat0 V c).arrAt_eq_of_covers 2 _ (by decide +kernel) fun t hf y => ?_
  have hN := points0
  have htl : t.val < _ := lt_of_lt_of_eq t.isLt hN
  blk_simp
  rw [after0_2, out0_eq]
  have y0 : (y 0).val < 512 := (y 0).isLt
  have y1 : (y 1).val < 2048 := (y 1).isLt
  have h0 : (((win0_2.blk t).view.emb y) 0 : ℕ) = t.val * 512 + (y 0).val := by blk_simp [idx0_2 t]
  have h1 : (((win0_2.blk t).view.emb y) 1 : ℕ) = 0 * 2048 + (y 1).val := by blk_simp [idx0_2 t]
  refine (congrArg (k0_pay1 _ _) (ix_row y)).trans ((hidden_at _ _ _ _).trans ?_)
  refine Eq.trans ?_ (table_at _ (⟨512 * t.val + (y 0).val, by omega⟩ : Fin 8192) (⟨(y 1).val, y1⟩ : Fin 2048) _
    (by rw [h0]; show _ = 512 * t.val + (y 0).val; omega) (by rw [h1]; show _ = (y 1).val; omega)).symm
  unfold hiddenOut
  congr 1
  · funext j; exact blk0_0 V c t _ j _ rfl
  · funext j; exact blk0_1 V c t j

/-- Column `j` of the product. -/
def prod (h : Vec Ideal S8192x2048 .bf16) (w : Vec Ideal S2048x2048 .bf16) (R : Fin 8192) (j : Fin 2048) : EReal :=
  ∑ x : Fin 2048, h (ix2 R x) * w (ix2 x j)

/-- Column `d` of head `k` of the product's row `R`, the first eight heads normalised. -/
def headOut (h : Vec Ideal S8192x2048 .bf16) (w : Vec Ideal S2048x2048 .bf16) (g : Vec Ideal S8x128 .f32) (R : Fin 8192) (k : Fin 16) (d : Fin 128) : EReal :=
  if k.val < 8 then
    norm (Ideal.ofBits .f32 0x43000000#32) (fun x => prod h w R (⟨128 * k.val + x.val, by omega⟩ : Fin 2048)) (fun x => g (ix2 4 x)) d
  else prod h w R (⟨128 * k.val + d.val, by omega⟩ : Fin 2048)

/-- A head of a point's block, from the arrays the call finds. -/
theorem head_at (t : Fin cfg1.N) (k : Fin 16) (r : Fin 512) (d : Fin 128) (R : Fin 8192) (hR : R.val = 512 * t.val + r.val) :
    head (k1_pay1 (iblk1 V c 0 t) (iblk1 V c 1 t)) (View.ld (iblk1 V c 2 t) r1_2) k (ix2 r d)
      = headOut (V c main_v46) (V c main_v36) (V c main_v30) R k d := by
  have e : ∀ x : Fin 128, col k (k1_pay1 (iblk1 V c 0 t) (iblk1 V c 1 t)) (ix2 r x)
      = prod (V c main_v46) (V c main_v36) R (⟨128 * k.val + x.val, by omega⟩ : Fin 2048) := fun x => by
    rw [col_at]
    unfold prod
    exact Finset.sum_congr rfl fun z _ => by rw [blk1_0 V c t r z R hR, blk1_1]
  unfold head headOut
  by_cases h : k.val < 8
  · rw [if_pos h, if_pos h, normed_at]
    congr 1
    · funext x; exact e x
    · funext x; exact blk1_2 V c t x
  · rw [if_neg h, if_neg h]
    exact e d

/-- The heads side by side. -/
theorem arr1_5 : (dat1 V c).arrAt 5 cfg1.N = (table (fun R (j : Fin 2048) => headOut (V c main_v46) (V c main_v36) (V c main_v30) R
    (⟨j.val / 128, by omega⟩ : Fin 16) (⟨j.val % 128, by omega⟩ : Fin 128)) : FVec Ideal S8192x2048 .f32) := by
  refine (dat1 V c).arrAt_eq_of_covers 5 _ (by decide +kernel) fun t hf y => ?_
  have hN := points1
  have htl : t.val < _ := lt_of_lt_of_eq t.isLt hN
  blk_simp
  rw [after1_5, out1_5_eq]
  have y0 : (y 0).val < 512 := (y 0).isLt
  have y1 : (y 1).val < 2048 := (y 1).isLt
  have h0 : (((win1_5.blk t).view.emb y) 0 : ℕ) = t.val * 512 + (y 0).val := by blk_simp [idx1_5 t]
  have h1 : (((win1_5.blk t).view.emb y) 1 : ℕ) = 0 * 2048 + (y 1).val := by blk_simp [idx1_5 t]
  refine Eq.trans ?_ (table_at _ (⟨512 * t.val + (y 0).val, by omega⟩ : Fin 8192) (⟨(y 1).val, y1⟩ : Fin 2048) _
    (by rw [h0]; show _ = 512 * t.val + (y 0).val; omega) (by rw [h1]; show _ = (y 1).val; omega)).symm
  exact head_at V c t _ _ _ _ rfl

/-- The heads row after row. -/
theorem arr1_6 : (dat1 V c).arrAt 6 cfg1.N = (table (fun (R : Fin 131072) (d : Fin 128) => headOut (V c main_v46) (V c main_v36) (V c main_v30)
    (⟨R.val / 16, by omega⟩ : Fin 8192) (⟨R.val % 16, by omega⟩ : Fin 16) d) : FVec Ideal S131072x128 .f32) := by
  refine (dat1 V c).arrAt_eq_of_covers 6 _ (by decide +kernel) fun t hf y => ?_
  have hN := points1
  have htl : t.val < _ := lt_of_lt_of_eq t.isLt hN
  blk_simp
  rw [after1_6, out1_6_eq]
  have y0 : (y 0).val < 8192 := (y 0).isLt
  have y1 : (y 1).val < 128 := (y 1).isLt
  have h0 : (((win1_6.blk t).view.emb y) 0 : ℕ) = t.val * 8192 + (y 0).val := by blk_simp [idx1_6 t]
  have h1 : (((win1_6.blk t).view.emb y) 1 : ℕ) = 0 * 128 + (y 1).val := by blk_simp [idx1_6 t]
  refine Eq.trans ?_ (table_at _ (⟨8192 * t.val + (y 0).val, by omega⟩ : Fin 131072) (⟨(y 1).val, y1⟩ : Fin 128) _
    (by rw [h0]; show _ = 8192 * t.val + (y 0).val; omega) (by rw [h1]; show _ = (y 1).val; omega)).symm
  refine (head_at V c t _ _ _ (⟨512 * t.val + (y 0).val / 16, by omega⟩ : Fin 8192) rfl).trans ?_
  have eR : (⟨512 * t.val + (y 0).val / 16, by omega⟩ : Fin 8192) = ⟨(8192 * t.val + (y 0).val) / 16, by omega⟩ :=
    Fin.ext (by show 512 * t.val + (y 0).val / 16 = (8192 * t.val + (y 0).val) / 16; omega)
  have ek : (⟨(y 0).val % 16, by omega⟩ : Fin 16) = ⟨(8192 * t.val + (y 0).val) % 16, by omega⟩ :=
    Fin.ext (by show (y 0).val % 16 = (8192 * t.val + (y 0).val) % 16; omega)
  rw [eR, ek]

end Cert.Rows

end
-- ==== Proof.Rows.Arrays.lean ====
/-
What the program's host operations leave in the arrays of the two calls, and the two results entry by entry, from the arguments.
-/
module

public import proofs.«01_k».proof.Proof.Rows.KernelAt

@[expose] public section

set_option maxRecDepth 16384

noncomputable section

namespace Cert.Rows

open Idealize.ShloMosaic Idealize.ShloMosaic.TcCoe Idealize.ShloMosaic.Tactic
open Idealize.SL.Sem
open Cert.Kernel5Ideal Cert.Kernel5Ideal.Gen
open Cert.Even (proj)

variable (m : (ℓ : Loc nD τ sig) → Buf (Elt Ideal) ℓ) (ρ : Dev nD → PrngReg) (c : Dev nD)

/-- The layer's input. -/
def argX : Vec Ideal S2x4096x2048 .f32 := m ((c.tc : Thread nD τ).loc main_arg0)
/-- The scale of its norm. -/
def argG : Vec Ideal S2048 .f32 := m ((c.tc : Thread nD τ).loc main_arg1)
/-- The projection. -/
def argW : Vec Ideal S2048x7712 .f32 := m ((c.tc : Thread nD τ).loc main_arg2)
/-- The scales of the queries' and the keys' norms. -/
def argN : Vec Ideal S2x128 .f32 := m ((c.tc : Thread nD τ).loc main_arg3)

/-! ## Before the first call -/

/-- The input, the scale of its norm and the product's columns. -/
theorem W9_found :
    W9 m ρ c (Proc.devRef .tc main_v44) = shapeCast S8192x2048 (argX m c) shapeCasts_S2x4096x2048_S8192x2048
    ∧ W9 m ρ c (Proc.devRef .tc main_v45) = shapeCast S1x2048 (argG m c) shapeCasts_S2048_S1x2048
    ∧ W9 m ρ c (Proc.devRef .tc main_v36) = (truncf .bf16 (extractStridedSlice S2048x2048 ![0, 4632] (argW m c) slices_S2048x7712_S2048x2048_0_4632 : FVec Ideal S2048x2048 .f32) bitsLt_bf16_f32 : FVec Ideal S2048x2048 .bf16) := by
  refine ⟨?_, ?_, ?_⟩ <;>
  · simp only [W9, W8, W7, W6, W5, W4, W3, W2, W1, hostOps0, hostOps0_1, hostOps0_2, hostOps0_3, hostOps0_4, hostOps0_5, hostOps0_6, hostOps0_7,
      hostOps0_8, List.flatten_cons, List.flatten_nil, List.append_nil, List.cons_append, List.nil_append, StableHlo.TRef.unary,
      StableHlo.TRef.binary, StableHlo.TRef.toBuf, StableHlo.TRef.ofBuf, cast_eq]
    after_results_simp
    rfl

theorem W8_v18 : W8 m ρ c (Proc.devRef .tc main_v18)
    = shapeCast S128 (extractStridedSlice S1x128 ![1, 0] (argN m c) slices_S2x128_S1x128_1_0 : FVec Ideal S1x128 .f32) shapeCasts_S1x128_S128 := by
  simp only [W8, W7, W6, W5, W4, W3, W2, W1, hostOps0, hostOps0_1, hostOps0_2, hostOps0_3, hostOps0_4, hostOps0_5, hostOps0_6, hostOps0_7,
    List.flatten_cons, List.flatten_nil, List.append_nil, List.cons_append, List.nil_append, StableHlo.TRef.unary,
    StableHlo.TRef.binary, StableHlo.TRef.toBuf, StableHlo.TRef.ofBuf, cast_eq]
  after_results_simp
  rfl

/-- Eight rows of 128, one below the other. -/
def stacked (a : Fin 8 → FVec Ideal S128 .f32) : FVec Ideal S8x128 .f32 :=
  concatenate S8x128 0 [⟨S1x128, broadcastInDim S1x128 ![1] bcast_S128_S1x128_1 (a 0)⟩, ⟨S1x128, broadcastInDim S1x128 ![1] bcast_S128_S1x128_1 (a 1)⟩,
    ⟨S1x128, broadcastInDim S1x128 ![1] bcast_S128_S1x128_1 (a 2)⟩, ⟨S1x128, broadcastInDim S1x128 ![1] bcast_S128_S1x128_1 (a 3)⟩,
    ⟨S1x128, broadcastInDim S1x128 ![1] bcast_S128_S1x128_1 (a 4)⟩, ⟨S1x128, broadcastInDim S1x128 ![1] bcast_S128_S1x128_1 (a 5)⟩,
    ⟨S1x128, broadcastInDim S1x128 ![1] bcast_S128_S1x128_1 (a 6)⟩, ⟨S1x128, broadcastInDim S1x128 ![1] bcast_S128_S1x128_1 (a 7)⟩]
    concatenates_S1x128_S1x128_S1x128_S1x128_S1x128_S1x128_S1x128_S1x128_S8x128_d0

/-- A row of zeros. -/
def zeros : FVec Ideal S128 .f32 := broadcastInDim S128 ![] bcast_S_S128 (constant S_ .f32 0x00000000#32)

theorem W9_v30 : W9 m ρ c (Proc.devRef .tc main_v30) = stacked ![W8 m ρ c (Proc.devRef .tc main_v10), W8 m ρ c (Proc.devRef .tc main_v12),
    W8 m ρ c (Proc.devRef .tc main_v14), W8 m ρ c (Proc.devRef .tc main_v16), W8 m ρ c (Proc.devRef .tc main_v18),
    W8 m ρ c (Proc.devRef .tc main_v19), zeros, zeros] := by
  simp only [W9, hostOps0_8, List.flatten_cons, List.flatten_nil, List.append_nil, List.cons_append, List.nil_append, StableHlo.TRef.unary,
    StableHlo.TRef.binary, StableHlo.TRef.toBuf, StableHlo.TRef.ofBuf, cast_eq]
  after_results_simp
  rfl

/-! ## The arrays at their entries -/

theorem rowsX_at (R : Fin 8192) (b : Fin 2) (q : Fin 4096) (h : R.val = 4096 * b.val + q.val) (x : Fin 2048) :
    shapeCast S8192x2048 (argX m c) shapeCasts_S2x4096x2048_S8192x2048 (ix2 R x) = argX m c (ix3 b q x) := by
  refine shapeCast_apply _ _ _ (ix3 b q x) ?_
  rw [Shape.rowMajor_val_three, Shape.rowMajor_val_two]
  show (b.val * 4096 + q.val) * 2048 + x.val = R.val * 2048 + x.val
  omega

theorem rowG_at (x : Fin 2048) : shapeCast S1x2048 (argG m c) shapeCasts_S2048_S1x2048 (ix2 0 x) = argG m c (ix1 x) := by
  pointwise

theorem stacked_four (a : Fin 8 → FVec Ideal S128 .f32) (d : Fin 128) : stacked a (ix2 4 d) = a 4 (ix1 d) := by
  pointwise [stacked]

theorem scales_at (d : Fin 128) : W9 m ρ c (Proc.devRef .tc main_v30) (ix2 4 d) = argN m c (ix2 1 d) := by
  rw [W9_v30]
  refine (stacked_four _ d).trans ?_
  show W8 m ρ c (Proc.devRef .tc main_v18) (ix1 d) = _
  rw [W8_v18]
  pointwise

theorem w36_at (x j : Fin 2048) : W9 m ρ c (Proc.devRef .tc main_v36) (ix2 x j) = argW m c (ix2 x (⟨4632 + j.val, by omega⟩ : Fin 7712)) := by
  rw [(W9_found m ρ c).2.2]
  pointwise

/-! ## What the calls find -/

theorem V9_v44 : V9 m ρ c main_v44 = shapeCast S8192x2048 (argX m c) shapeCasts_S2x4096x2048_S8192x2048 := (W9_found m ρ c).1
theorem V9_v45 : V9 m ρ c main_v45 = shapeCast S1x2048 (argG m c) shapeCasts_S2048_S1x2048 := (W9_found m ρ c).2.1

/-- The normalised input, as the first call leaves it. -/
def hiddens : Vec Ideal S8192x2048 .bf16 :=
  (table (hiddenOut (shapeCast S8192x2048 (argX m c) shapeCasts_S2x4096x2048_S8192x2048) (shapeCast S1x2048 (argG m c) shapeCasts_S2048_S1x2048)) :
    FVec Ideal S8192x2048 .bf16)

theorem W10_v46 : W10 m ρ c (Proc.devRef .tc main_v46) = hiddens m c :=
  (W10_arr m ρ c 2).trans ((arr0 (V9 m ρ) c).trans (by rw [V9_v44, V9_v45]; rfl))

theorem V11_v46 : V11 m ρ c main_v46 = hiddens m c := (W11_of m ρ c main_v46 (by decide +kernel)).trans (W10_v46 m ρ c)
theorem V11_v36 : V11 m ρ c main_v36 = W9 m ρ c (Proc.devRef .tc main_v36) :=
  (W11_of m ρ c main_v36 (by decide +kernel)).trans (W10_of m ρ c main_v36 (by decide +kernel))
theorem V11_v30 : V11 m ρ c main_v30 = W9 m ρ c (Proc.devRef .tc main_v30) :=
  (W11_of m ρ c main_v30 (by decide +kernel)).trans (W10_of m ρ c main_v30 (by decide +kernel))

/-! ## The results -/

/-- The arguments by their entries. -/
abbrev X (b : Fin 2) (q : Fin 4096) (x : Fin 2048) : EReal := argX m c (ix3 b q x)
abbrev G (x : Fin 2048) : EReal := argG m c (ix1 x)
abbrev W (x : Fin 2048) (j : Fin 7712) : EReal := argW m c (ix2 x j)
abbrev N (d : Fin 128) : EReal := argN m c (ix2 1 d)

variable (R : Fin 8192) (b : Fin 2) (q : Fin 4096) (hR : R.val = 4096 * b.val + q.val) (k : Fin 16) (d : Fin 128)

include hR in
theorem hiddens_at (x : Fin 2048) : hiddens m c (ix2 R x) = Cert.Odd.hid (X m c) (G m c) b q x := by
  refine (table_at _ R x _ rfl rfl).trans ?_
  unfold hiddenOut Cert.Odd.hid
  congr 1
  · funext j; exact rowsX_at m c R b q hR j
  · funext j; exact rowG_at m c j

include hR in
theorem prod_at (j : Fin 2048) : prod (V11 m ρ c main_v46) (V11 m ρ c main_v36) R j = proj (X m c) (G m c) (W m c) b q ⟨4632 + j.val, by omega⟩ := by
  rw [V11_v46, V11_v36]
  unfold prod proj
  exact Finset.sum_congr rfl fun x _ => by rw [hiddens_at m c R b q hR x, w36_at]

include hR in
theorem headOut_at : headOut (V11 m ρ c main_v46) (V11 m ρ c main_v36) (V11 m ρ c main_v30) R k d
    = entry (X m c) (G m c) (W m c) (N m c) b q k d := by
  have e : ∀ (j : Fin 128) (h : 128 * k.val + j.val < 2048), prod (V11 m ρ c main_v46) (V11 m ρ c main_v36) R ⟨128 * k.val + j.val, h⟩
      = proj (X m c) (G m c) (W m c) b q ⟨4632 + (128 * k.val + j.val), by omega⟩ := fun j h => prod_at m ρ c R b q hR ⟨128 * k.val + j.val, h⟩
  have n : ∀ x : Fin 128, V11 m ρ c main_v30 (ix2 4 x) = N m c x := fun x => by rw [V11_v30]; exact scales_at m ρ c x
  generalize V11 m ρ c main_v46 = a at e ⊢
  generalize V11 m ρ c main_v36 = w at e ⊢
  generalize V11 m ρ c main_v30 = s at n ⊢
  unfold headOut entry
  simp only [e]
  rw [show (fun x => s (ix2 4 x)) = N m c from funext n]

include hR in
/-- The rows. -/
theorem rows_at (y : S8192x2048.Idx) (h0 : (y 0).val = R.val) (h1 : (y 1).val = 128 * k.val + d.val) :
    W13 m ρ c (Proc.devRef .tc main_v64_0) y = entry (X m c) (G m c) (W m c) (N m c) b q k d := by
  rw [W13_of m ρ c main_v64_0 (by decide +kernel)]
  refine (congrFun ((W12_arr m ρ c 5).trans (arr1_5 (V11 m ρ) c)) y).trans ((table_at _ R (⟨128 * k.val + d.val, by omega⟩ : Fin 2048) y h0 h1).trans ?_)
  have ek : (⟨(128 * k.val + d.val) / 128, by omega⟩ : Fin 16) = k := Fin.ext (by show (128 * k.val + d.val) / 128 = k.val; omega)
  have ed : (⟨(128 * k.val + d.val) % 128, by omega⟩ : Fin 128) = d := Fin.ext (by show (128 * k.val + d.val) % 128 = d.val; omega)
  show headOut _ _ _ R (⟨(128 * k.val + d.val) / 128, _⟩ : Fin 16) (⟨(128 * k.val + d.val) % 128, _⟩ : Fin 128) = _
  rw [ek, ed]
  exact headOut_at m ρ c R b q hR k d

theorem W13_v65 : W13 m ρ c (Proc.devRef .tc main_v65)
    = shapeCast S2x4096x2x8x128 (W12 m ρ c (Proc.devRef .tc main_v64_1) : FVec Ideal S131072x128 .f32) shapeCasts_S131072x128_S2x4096x2x8x128 := by
  simp only [W13, hostOps2, List.flatten_cons, List.flatten_nil, List.append_nil, List.cons_append, List.nil_append, StableHlo.TRef.unary,
    StableHlo.TRef.binary, StableHlo.TRef.toBuf, StableHlo.TRef.ofBuf, cast_eq]
  after_results_simp
  rfl

/-- The keys and values by position, kind and head. -/
theorem leaf_at (s : Fin 2) (h : Fin 8) (hk : k.val = 8 * s.val + h.val) :
    W13 m ρ c (Proc.devRef .tc main_v65) (ix5 b q s h d) = entry (X m c) (G m c) (W m c) (N m c) b q k d := by
  rw [W13_v65]
  refine (shapeCast_apply _ _ _ (ix2 (⟨(4096 * b.val + q.val) * 16 + k.val, by omega⟩ : Fin 131072) d) ?_).trans ?_
  · rw [Shape.rowMajor_val_two, Shape.rowMajor_val_five]
    show ((4096 * b.val + q.val) * 16 + k.val) * 128 + d.val = (((b.val * 4096 + q.val) * 2 + s.val) * 8 + h.val) * 128 + d.val
    omega
  refine (congrFun ((W12_arr m ρ c 6).trans (arr1_6 (V11 m ρ) c)) _).trans
    ((table_at _ (⟨(4096 * b.val + q.val) * 16 + k.val, by omega⟩ : Fin 131072) d _ rfl rfl).trans ?_)
  have ek : (⟨((4096 * b.val + q.val) * 16 + k.val) % 16, by omega⟩ : Fin 16) = k := Fin.ext (by show ((4096 * b.val + q.val) * 16 + k.val) % 16 = k.val; omega)
  show headOut _ _ _ (⟨((4096 * b.val + q.val) * 16 + k.val) / 16, _⟩ : Fin 8192) (⟨((4096 * b.val + q.val) * 16 + k.val) % 16, _⟩ : Fin 16) d = _
  rw [ek]
  exact headOut_at m ρ c _ b q (by show ((4096 * b.val + q.val) * 16 + k.val) / 16 = 4096 * b.val + q.val; omega) k d

end Cert.Rows

end
-- ==== Proof.Rows.RefAt.lean ====
/-
The reference's keys and values at an index. Its stages before them are those of the even layer's other reference.
-/
module

public import proofs.«01_k».proof.Proof.Gen.Reference5Ideal.Run
public import proofs.«01_k».proof.Proof.Even.RefAt
public import proofs.«01_k».proof.Proof.Rows.Math

@[expose] public section

set_option maxRecDepth 16384

noncomputable section

namespace Cert.Reference5Ideal.Rows

open Idealize.ShloMosaic Idealize.SL.Sem
open Cert.Reference5Ideal Cert.Reference5Ideal.Gen
open Cert.Reference3Ideal.Even (projected projected_at heads heads_at scaled scaled_at X G W)
open Cert.Rows (entry)

variable (A : FVec Ideal S2x4096x2048 .f32) (B : FVec Ideal S2048 .f32) (C : FVec Ideal S2048x7712 .f32) (E : FVec Ideal S2x128 .f32)

/-- The keys. -/
def keys : FVec Ideal S2x4096x8x128 .f32 :=
  scaled (heads (extractStridedSlice S2x4096x1024 ![0, 0, 4632] (projected A B C) slices_S2x4096x7712_S2x4096x1024_0_0_4632))
    (shapeCast S128 (extractStridedSlice S1x128 ![1, 0] E slices_S2x128_S1x128_1_0) shapeCasts_S1x128_S128)

/-- The values. -/
def values : FVec Ideal S2x4096x8x128 .f32 :=
  heads (extractStridedSlice S2x4096x1024 ![0, 0, 5656] (projected A B C) slices_S2x4096x7712_S2x4096x1024_0_0_5656)

/-- One after the other at every position. -/
def paired (u v : FVec Ideal S2x4096x8x128 .f32) : FVec Ideal S2x4096x2x8x128 .f32 :=
  concatenate S2x4096x2x8x128 2
    [⟨S2x4096x1x8x128, broadcastInDim S2x4096x1x8x128 ![0, 1, 3, 4] bcast_S2x4096x8x128_S2x4096x1x8x128_0_1_3_4 u⟩,
      ⟨S2x4096x1x8x128, broadcastInDim S2x4096x1x8x128 ![0, 1, 3, 4] bcast_S2x4096x8x128_S2x4096x1x8x128_0_1_3_4 v⟩]
    concatenates_S2x4096x1x8x128_S2x4096x1x8x128_S2x4096x2x8x128_d2

section results

variable (m : (ℓ : Loc nD τ sig) → Buf (Elt Ideal) ℓ) (c : Dev nD)

/-- The reference's keys and values from its arguments. -/
abbrev both : FVec Ideal S2x4096x2x8x128 .f32 :=
  paired (keys (m ((c.tc : Thread nD τ).loc main_arg0)) (m ((c.tc : Thread nD τ).loc main_arg1)) (m ((c.tc : Thread nD τ).loc main_arg2))
      (m ((c.tc : Thread nD τ).loc main_arg3)))
    (values (m ((c.tc : Thread nD τ).loc main_arg0)) (m ((c.tc : Thread nD τ).loc main_arg1)) (m ((c.tc : Thread nD τ).loc main_arg2)))

theorem leaf_eq : Value.res_main_v47 m c = both m c := rfl

theorem rows_eq : Value.res_main_v48 m c = shapeCast S8192x2048 (both m c) shapeCasts_S2x4096x2x8x128_S8192x2048 := rfl

end results

/-- The scales of the keys' norm. -/
abbrev N (d : Fin 128) : EReal := E (ix2 1 d)

variable (b : Fin 2) (q : Fin 4096) (h : Fin 8) (d : Fin 128)

theorem keys_at (k : Fin 16) (hk : k.val = h.val) : keys A B C E (ix4 b q h d) = entry (X A) (G B) (W C) (N E) b q k d := by
  unfold keys entry
  rw [scaled_at, if_pos (show k.val < 8 by omega)]
  congr 1
  · funext x
    rw [heads_at]
    have e : ∀ j : Fin 1024, extractStridedSlice S2x4096x1024 ![0, 0, 4632] (projected A B C) slices_S2x4096x7712_S2x4096x1024_0_0_4632 (ix3 b q j)
        = projected A B C (ix3 b q (⟨4632 + j.val, by omega⟩ : Fin 7712)) := fun j => by
      pointwise
    rw [e, projected_at]
    congr 1
    exact Fin.ext (by show 4632 + (128 * h.val + x.val) = 4632 + (128 * k.val + x.val); omega)
  · funext x; pointwise

theorem values_at (k : Fin 16) (hk : k.val = 8 + h.val) : values A B C (ix4 b q h d) = entry (X A) (G B) (W C) (N E) b q k d := by
  unfold values entry
  rw [if_neg (show ¬k.val < 8 by omega), heads_at]
  have e : ∀ j : Fin 1024, extractStridedSlice S2x4096x1024 ![0, 0, 5656] (projected A B C) slices_S2x4096x7712_S2x4096x1024_0_0_5656 (ix3 b q j)
      = projected A B C (ix3 b q (⟨5656 + j.val, by omega⟩ : Fin 7712)) := fun j => by
    pointwise
  rw [e, projected_at]
  congr 1
  exact Fin.ext (by show 5656 + (128 * h.val + d.val) = 4632 + (128 * k.val + d.val); omega)

theorem paired_zero (u v : FVec Ideal S2x4096x8x128 .f32) : paired u v (ix5 b q 0 h d) = u (ix4 b q h d) := by
  pointwise [paired]

theorem paired_one (u v : FVec Ideal S2x4096x8x128 .f32) : paired u v (ix5 b q 1 h d) = v (ix4 b q h d) := by
  pointwise [paired]

theorem paired_at (s : Fin 2) (k : Fin 16) (hk : k.val = 8 * s.val + h.val) :
    paired (keys A B C E) (values A B C) (ix5 b q s h d) = entry (X A) (G B) (W C) (N E) b q k d := by
  match s, hk with
  | ⟨0, _⟩, hk => exact (paired_zero b q h d _ _).trans (keys_at A B C E b q h d k (by simpa using hk))
  | ⟨1, _⟩, hk => exact (paired_one b q h d _ _).trans (values_at A B C E b q h d k (by simpa using hk))

/-- The same side by side. -/
theorem flat_at (k : Fin 16) (y : S8192x2048.Idx) (h0 : (y 0).val = 4096 * b.val + q.val) (h1 : (y 1).val = 128 * k.val + d.val) :
    shapeCast S8192x2048 (paired (keys A B C E) (values A B C)) shapeCasts_S2x4096x2x8x128_S8192x2048 y
      = entry (X A) (G B) (W C) (N E) b q k d := by
  refine (shapeCast_apply _ _ _ (ix5 b q (⟨k.val / 8, by omega⟩ : Fin 2) (⟨k.val % 8, by omega⟩ : Fin 8) d) ?_).trans
    (paired_at A B C E b q _ d _ k (by show k.val = 8 * (k.val / 8) + k.val % 8; omega))
  rw [Shape.rowMajor_val_five, Shape.rowMajor_val_two]
  show (((b.val * 4096 + q.val) * 2 + k.val / 8) * 8 + k.val % 8) * 128 + d.val = (y 0).val * 2048 + (y 1).val
  omega

end Cert.Reference5Ideal.Rows

end
-- ==== Proof.Rows.Main.lean ====
/-
The claims about the keys and values of the forgetting attention: the frames, and the equation of the two results.
The operations of the kernel as written are those of its copy on the extended reals, so the copy's frame, proved for any float
values, is its frame too.
-/
module

public import proofs.«01_k».proof.Defs
public import proofs.«01_k».proof.Proof.Gen.Kernel5
public import proofs.«01_k».proof.Proof.Gen.Kernel5Ideal
public import proofs.«01_k».proof.Proof.Gen.Reference5Ideal
public import proofs.«01_k».proof.Proof.Rows.Arrays
public import proofs.«01_k».proof.Proof.Rows.RefAt
public import Idealize.ShloMosaic.Lib.Quiescent

@[expose] public section

set_option maxRecDepth 65536

noncomputable section

namespace Cert.Proof.Rows

open Idealize.ShloMosaic Idealize.SL.Sem

section same

variable {F : FTy → Type} [FloatOps F]

theorem calls_eq : Cert.Kernel5.defs₀ (F := F) = Cert.Kernel5Ideal.defs₀ (F := F) :=
  congrArg Defs.onTc (funext fun l => match l with
    | ⟨0, _⟩ => funext fun a => match a with | (t, s) => rfl
    | ⟨1, _⟩ => funext fun a => match a with | (t, s) => rfl)

theorem defs_eq : Cert.Kernel5.defs (F := F) = Cert.Kernel5Ideal.defs (F := F) := congrArg (Pipeline.defs Cert.Kernel5.pcfgs) calls_eq

end same

set_option maxHeartbeats 4000000 in
/-- The kernel ends with its arguments unchanged and its counters at zero. -/
theorem kernel_frame : Cert.quiescent_Kernel5 (hKernel5 := Cert.Kernel5.Gen.facts) := fun m g _ => by
  rw [defs_eq]; exact Cert.Rows.frame m g

/-- Its copy likewise. -/
theorem ideal_frame : Cert.quiescent_Kernel5Ideal (hKernel5Ideal := Cert.Kernel5Ideal.Gen.facts) := fun m g _ => Cert.Rows.frame m g

/-- The reference ends with its arguments unchanged; it declares no semaphore, so every counter is zero. -/
theorem ref_frame : Cert.quiescent_Reference5Ideal (hReference5Ideal := Cert.Reference5Ideal.Gen.facts) := fun m g _ =>
  (θ_run _ _ _).mono (fun r h => ⟨fun c => (h c).2.2, sem_eq_zero_of_no_sems (by decide) r.2⟩) (Cert.Reference5Ideal.Value.run (F := Ideal) m g)

section arrays

variable (m : (ℓ : Loc Cert.Kernel5Ideal.nD Cert.Kernel5Ideal.τ Cert.Kernel5Ideal.sig) → Buf (Elt Ideal) ℓ) (g : Dev Cert.Kernel5Ideal.nD → PrngReg)
  (c : Dev Cert.Kernel5Ideal.nD)
  (m' : (ℓ : Loc Cert.Reference5Ideal.nD Cert.Reference5Ideal.τ Cert.Reference5Ideal.sig) → Buf (Elt Ideal) ℓ)
  (h0 : m' ((c.tc : Thread Cert.Reference5Ideal.nD Cert.Reference5Ideal.τ).loc Cert.Reference5Ideal.main_arg0) = Cert.Rows.argX m c)
  (h1 : m' ((c.tc : Thread Cert.Reference5Ideal.nD Cert.Reference5Ideal.τ).loc Cert.Reference5Ideal.main_arg1) = Cert.Rows.argG m c)
  (h2 : m' ((c.tc : Thread Cert.Reference5Ideal.nD Cert.Reference5Ideal.τ).loc Cert.Reference5Ideal.main_arg2) = Cert.Rows.argW m c)
  (h3 : m' ((c.tc : Thread Cert.Reference5Ideal.nD Cert.Reference5Ideal.τ).loc Cert.Reference5Ideal.main_arg3) = Cert.Rows.argN m c)

/-- The kernel's array at a reference once the program has ended. -/
abbrev last (b : Ref Cert.Kernel5Ideal.sig .tc) : Buf (Elt Ideal) ((c.tc : Thread Cert.Kernel5Ideal.nD Cert.Kernel5Ideal.τ).loc b) :=
  Cert.Rows.W13 m g c (Proc.devRef .tc b)

include h0 h1 h2 h3 in
/-- The rows. -/
theorem rows_eq : Cert.Reference5Ideal.Value.res_main_v48 m' c = last m g c Cert.Kernel5Ideal.main_v64_0 := by
  rw [Cert.Reference5Ideal.Rows.rows_eq]
  unfold Cert.Reference5Ideal.Rows.both
  rw [h0, h1, h2, h3]
  funext y
  have y0 : (y 0).val < 8192 := (y 0).isLt
  have y1 : (y 1).val < 2048 := (y 1).isLt
  have e0 : (y 0).val = 4096 * ((y 0).val / 4096) + (y 0).val % 4096 := by omega
  have e1 : (y 1).val = 128 * ((y 1).val / 128) + (y 1).val % 128 := by omega
  exact (Cert.Reference5Ideal.Rows.flat_at _ _ _ _ (⟨(y 0).val / 4096, by omega⟩ : Fin 2) (⟨(y 0).val % 4096, by omega⟩ : Fin 4096)
      (⟨(y 1).val % 128, by omega⟩ : Fin 128) (⟨(y 1).val / 128, by omega⟩ : Fin 16) y e0 e1).trans
    (Cert.Rows.rows_at m g c (⟨(y 0).val, y0⟩ : Fin 8192) _ _ e0 _ _ y rfl e1).symm

include h0 h1 h2 h3 in
/-- The same by position, kind and head. -/
theorem leaf_eq : Cert.Reference5Ideal.Value.res_main_v47 m' c = last m g c Cert.Kernel5Ideal.main_v65 := by
  rw [Cert.Reference5Ideal.Rows.leaf_eq]
  unfold Cert.Reference5Ideal.Rows.both
  rw [h0, h1, h2, h3]
  funext y
  obtain ⟨b, q, s, h, d, rfl⟩ : ∃ (b : Fin 2) (q : Fin 4096) (s : Fin 2) (h : Fin 8) (d : Fin 128), y = ix5 b q s h d :=
    ⟨_, _, _, _, _, eq_ix5 y⟩
  exact (Cert.Reference5Ideal.Rows.paired_at _ _ _ _ b q h d s (⟨8 * s.val + h.val, by omega⟩ : Fin 16) rfl).trans
    (Cert.Rows.leaf_at m g c b q _ d s h rfl).symm

end arrays

/-- From equal arguments kernel and reference end with the same two arrays. -/
theorem algebraic : Cert.algebraic_Kernel5Ideal_Reference5Ideal (hKernel5Ideal := Cert.Kernel5Ideal.Gen.facts)
    (hReference5Ideal := Cert.Reference5Ideal.Gen.facts) := fun m g m' g' _ hag => by
  refine ⟨fun c => last m g c Cert.Kernel5Ideal.main_v64_0, fun c => last m g c Cert.Kernel5Ideal.main_v65, ?_, ?_⟩
  · refine (θ_run _ _ _).mono (fun r h c => ?_) (θ_run_and (Cert.Rows.ends m g) (Cert.Rows.frame m g))
    exact ⟨h.1.1 c Cert.Kernel5Ideal.main_v64_0 (by decide), h.1.1 c Cert.Kernel5Ideal.main_v65 (by decide), h.2.1 c⟩
  · refine (θ_run _ _ _).mono (fun r h c => ?_) (Cert.Reference5Ideal.Value.run (F := Ideal) m' g')
    obtain ⟨a0, a1, a2, a3⟩ := hag c
    exact ⟨(h c).1.trans (rows_eq m g c m' a0 a1 a2 a3), (h c).2.1.trans (leaf_eq m g c m' a0 a1 a2 a3), (h c).2.2⟩

end Cert.Proof.Rows

end
-- ==== Proof.lean ====
/- The claims about the prompt's forgetting attention, about the projections of the odd and of the even layer, about the ends of both and
   about the even layer's keys and values,
   assembled: for each the frames of the kernel, of its ideal program and of the reference, what the ideal program replaces, and the equation of the results. -/
module

public import proofs.«01_k».proof.Defs
public import proofs.«01_k».proof.Proof.Run
public import proofs.«01_k».proof.Proof.Main
public import proofs.«01_k».proof.Proof.Odd.Main
public import proofs.«01_k».proof.Proof.Even.Main
public import proofs.«01_k».proof.Proof.Out.Main
public import proofs.«01_k».proof.Proof.Rows.Main
public import proofs.«01_k».proof.Proof.Gen.Kernel2
public import proofs.«01_k».proof.Proof.Gen.Kernel2.Skeleton
public import proofs.«01_k».proof.Proof.Gen.Kernel2.Launch
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Reference5Ideal
public import proofs.«01_k».proof.Proof.Gen.Reference5Ideal.Run

@[expose] public section

noncomputable section

namespace Cert.Proof

open Idealize.ShloMosaic Idealize.SL.Sem

/-- Everything that is claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    fun m g _ => Cert.Kernel.Whole.frame m g, fun m g _ => Cert.KernelIdeal.Fox.frame m g, ref_frame,
    fun m g _ => Cert.Kernel2.Gen.frame m g, fun m g _ => Cert.Kernel2Ideal.Gen.frame m g, Odd.ref_frame,
    fun m g _ => Cert.Kernel3.Gen.frame m g, fun m g _ => Cert.Kernel3Ideal.Gen.frame m g, Even.ref_frame,
    fun m g _ => Cert.Kernel4.Gen.frame m g, fun m g _ => Cert.Kernel4Ideal.Gen.frame m g, Out.ref_frame,
    Rows.kernel_frame, Rows.ideal_frame, Rows.ref_frame,
    preserves, algebraic, trivial, Odd.algebraic, trivial, Even.algebraic, trivial, Out.algebraic, trivial, Rows.algebraic⟩

end Cert.Proof

end
